-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_sorted_and_scaled [hPre_sorted_and_scaled : Cert.Pre_sorted_and_scaled.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_sorted_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_sorted_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_sorted_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_and_scaled [hPre_sorted_and_scaled : Cert.Pre_sorted_and_scaled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_sorted_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_sorted_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_sorted_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_sorted_and_scaled [hKernelIdeal : Cert.KernelIdeal.Facts] [hPre_sorted_and_scaled : Cert.Pre_sorted_and_scaled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_and_scaled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_sorted_and_scaled [hReferenceIdeal : Cert.ReferenceIdeal.Facts] [hPre_sorted_and_scaled : Cert.Pre_sorted_and_scaled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_and_scaled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((11863283 / 134217728) * (Real.log 2)⁻¹ : ℝ) : EReal)

def algebraic_KernelIdeal_ReferenceIdeal_pre_sorted_and_scaled [hKernelIdeal : Cert.KernelIdeal.Facts] [hReferenceIdeal : Cert.ReferenceIdeal.Facts] [hPre_sorted_and_scaled : Cert.Pre_sorted_and_scaled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_and_scaled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts) (hPre_sorted_and_scaled : Cert.Pre_sorted_and_scaled.Facts),
    quiescent_Kernel (hKernel := hKernel) (hPre_in_range := hPre_in_range)
    ∧ quiescent_KernelIdeal (hKernelIdeal := hKernelIdeal) (hPre_in_range := hPre_in_range)
    ∧ quiescent_KernelIdeal_pre_sorted_and_scaled (hKernelIdeal := hKernelIdeal) (hPre_sorted_and_scaled := hPre_sorted_and_scaled)
    ∧ quiescent_ReferenceIdeal (hReferenceIdeal := hReferenceIdeal)
    ∧ quiescent_ReferenceIdeal_pre_sorted_and_scaled (hReferenceIdeal := hReferenceIdeal) (hPre_sorted_and_scaled := hPre_sorted_and_scaled)
    ∧ preserves_Kernel_KernelIdeal
    ∧ algebraic_KernelIdeal_ReferenceIdeal_pre_sorted_and_scaled (hKernelIdeal := hKernelIdeal) (hReferenceIdeal := hReferenceIdeal) (hPre_sorted_and_scaled := hPre_sorted_and_scaled)
-- ==== Pre_in_range.lean ====
abbrev S4x3584x4096 : Shape := ⟨3, ![4, 3584, 4096]⟩
abbrev S4x5x64x32x128 : Shape := ⟨5, ![4, 5, 64, 32, 128]⟩
abbrev S4x5x32 : Shape := ⟨3, ![4, 5, 32]⟩
abbrev S4x3584 : Shape := ⟨2, ![4, 3584]⟩
abbrev S4x32x3584 : Shape := ⟨3, ![4, 32, 3584]⟩
abbrev S_ : Shape := ⟨0, ![]⟩

class Facts : Prop where
  bcast_S_S4x3584 : S_.BroadcastsInDim S4x3584 (![] : Fin 0 → Fin S4x3584.rank)

variable [Facts]

def fn {F : FTy → Type} [FloatOps F] (main_arg0 : FVec F S4x3584x4096 .bf16) (main_arg1 : FVec F S4x5x64x32x128 .fp8e4m3) (main_arg2 : FVec F S4x5x32 .f32) (main_arg3 : FVec F S4x5x64x32x128 .fp8e4m3) (main_arg4 : FVec F S4x5x32 .f32) (main_arg5 : FVec F S4x3584x4096 .fp8e5m2) (main_arg6 : FVec F S4x3584 .f32) (main_arg7 : FVec F S4x3584x4096 .bf16) (main_arg8 : FVec F S4x32x3584 .f32) (main_arg9 : IVec S4x3584 32) : IVec S4x3584 1 :=
  let main_c : IVec S_ 32 := constantI S_ 32 4294967295#32
  let main_v0 : IVec S4x3584 32 := broadcastInDim S4x3584 ![] bcast_S_S4x3584 main_c
  let main_v1 : IVec S4x3584 1 := cmpi .sge main_arg9 main_v0
  let main_c_0 : IVec S_ 32 := constantI S_ 32 4#32
  let main_v2 : IVec S4x3584 32 := broadcastInDim S4x3584 ![] bcast_S_S4x3584 main_c_0
  let main_v3 : IVec S4x3584 1 := cmpi .sle main_arg9 main_v2
  let main_v4 : IVec S4x3584 1 := andi main_v1 main_v3
  main_v4
-- ==== Pre_sorted_and_scaled.lean ====
abbrev S4x3584x4096 : Shape := ⟨3, ![4, 3584, 4096]⟩
abbrev S4x5x64x32x128 : Shape := ⟨5, ![4, 5, 64, 32, 128]⟩
abbrev S4x5x32 : Shape := ⟨3, ![4, 5, 32]⟩
abbrev S4x3584 : Shape := ⟨2, ![4, 3584]⟩
abbrev S4x32x3584 : Shape := ⟨3, ![4, 32, 3584]⟩
abbrev S_ : Shape := ⟨0, ![]⟩
abbrev S4x3583 : Shape := ⟨2, ![4, 3583]⟩

class Facts : Prop where
  bcast_S_S4x3584 : S_.BroadcastsInDim S4x3584 (![] : Fin 0 → Fin S4x3584.rank)
  slices_S4x3584_S4x3583_0_0 : S4x3584.Slices ![0, 0] S4x3583
  slices_S4x3584_S4x3583_0_1 : S4x3584.Slices ![0, 1] S4x3583
  bcast_S_S4x5x32 : S_.BroadcastsInDim S4x5x32 (![] : Fin 0 → Fin S4x5x32.rank)

variable [Facts]

def fn {F : FTy → Type} [FloatOps F] (main_arg0 : FVec F S4x3584x4096 .bf16) (main_arg1 : FVec F S4x5x64x32x128 .fp8e4m3) (main_arg2 : FVec F S4x5x32 .f32) (main_arg3 : FVec F S4x5x64x32x128 .fp8e4m3) (main_arg4 : FVec F S4x5x32 .f32) (main_arg5 : FVec F S4x3584x4096 .fp8e5m2) (main_arg6 : FVec F S4x3584 .f32) (main_arg7 : FVec F S4x3584x4096 .bf16) (main_arg8 : FVec F S4x32x3584 .f32) (main_arg9 : IVec S4x3584 32) : IVec S4x3584 1 × IVec S4x3583 1 × IVec S4x5x32 1 × IVec S4x3584 1 :=
  let main_c : IVec S_ 32 := constantI S_ 32 4294967295#32
  let main_v0 : IVec S4x3584 32 := broadcastInDim S4x3584 ![] bcast_S_S4x3584 main_c
  let main_v1 : IVec S4x3584 1 := cmpi .sge main_arg9 main_v0
  let main_c_0 : IVec S_ 32 := constantI S_ 32 4#32
  let main_v2 : IVec S4x3584 32 := broadcastInDim S4x3584 ![] bcast_S_S4x3584 main_c_0
  let main_v3 : IVec S4x3584 1 := cmpi .sle main_arg9 main_v2
  let main_v4 : IVec S4x3584 1 := andi main_v1 main_v3
  let main_v5 : IVec S4x3583 32 := (extractStridedSlice S4x3583 ![0, 0] · slices_S4x3584_S4x3583_0_0) main_arg9
  let main_v6 : IVec S4x3583 32 := (extractStridedSlice S4x3583 ![0, 1] · slices_S4x3584_S4x3583_0_1) main_arg9
  let main_v7 : IVec S4x3583 1 := cmpi .sle main_v5 main_v6
  let main_cst : FVec F S_ .f32 := constant S_ .f32 0x00000000#32
  let main_v8 : FVec F S4x5x32 .f32 := broadcastInDim S4x5x32 ![] bcast_S_S4x5x32 main_cst
  let main_v9 : IVec S4x5x32 1 := cmpf .oge main_arg2 main_v8
  let main_cst_1 : FVec F S_ .f32 := constant S_ .f32 0x7F800000#32
  let main_v10 : FVec F S4x5x32 .f32 := broadcastInDim S4x5x32 ![] bcast_S_S4x5x32 main_cst_1
  let main_v11 : IVec S4x5x32 1 := cmpf .olt main_arg2 main_v10
  let main_v12 : IVec S4x5x32 1 := andi main_v9 main_v11
  let main_cst_2 : FVec F S_ .f32 := constant S_ .f32 0x00000000#32
  let main_v13 : FVec F S4x3584 .f32 := broadcastInDim S4x3584 ![] bcast_S_S4x3584 main_cst_2
  let main_v14 : IVec S4x3584 1 := cmpf .oge main_arg6 main_v13
  let main_cst_3 : FVec F S_ .f32 := constant S_ .f32 0x7F800000#32
  let main_v15 : FVec F S4x3584 .f32 := broadcastInDim S4x3584 ![] bcast_S_S4x3584 main_cst_3
  let main_v16 : IVec S4x3584 1 := cmpf .olt main_arg6 main_v15
  let main_v17 : IVec S4x3584 1 := andi main_v14 main_v16
  (main_v4, main_v7, main_v12, main_v17)
-- ==== Kernel.lean ====
abbrev S4x3584x4096 : Shape := ⟨3, ![4, 3584, 4096]⟩
abbrev S4x5x64x32x128 : Shape := ⟨5, ![4, 5, 64, 32, 128]⟩
abbrev S4x5x32 : Shape := ⟨3, ![4, 5, 32]⟩
abbrev S4x3584 : Shape := ⟨2, ![4, 3584]⟩
abbrev S4x32x3584 : Shape := ⟨3, ![4, 32, 3584]⟩
abbrev S1x256x4096 : Shape := ⟨3, ![1, 256, 4096]⟩
abbrev S1x5x64x32x128 : Shape := ⟨5, ![1, 5, 64, 32, 128]⟩
abbrev S4x256 : Shape := ⟨2, ![4, 256]⟩
abbrev S1x32x256 : Shape := ⟨3, ![1, 32, 256]⟩
abbrev S160x64x128 : Shape := ⟨3, ![160, 64, 128]⟩
abbrev S32x256 : Shape := ⟨2, ![32, 256]⟩
abbrev S1x1x64x32x128 : Shape := ⟨5, ![1, 1, 64, 32, 128]⟩
abbrev S64x32x128 : Shape := ⟨3, ![64, 32, 128]⟩
abbrev S32x64x128 : Shape := ⟨3, ![32, 64, 128]⟩
abbrev S1x1 : Shape := ⟨2, ![1, 1]⟩
abbrev S1x256 : Shape := ⟨2, ![1, 256]⟩
abbrev S64x128 : Shape := ⟨2, ![64, 128]⟩
abbrev S1x64x128 : Shape := ⟨3, ![1, 64, 128]⟩
abbrev S64x256 : Shape := ⟨2, ![64, 256]⟩
abbrev S128x256 : Shape := ⟨2, ![128, 256]⟩
abbrev S1x256x256 : Shape := ⟨3, ![1, 256, 256]⟩
abbrev S256x256 : Shape := ⟨2, ![256, 256]⟩
abbrev S1x1x1 : Shape := ⟨3, ![1, 1, 1]⟩
abbrev S1x256x128 : Shape := ⟨3, ![1, 256, 128]⟩
abbrev S256x128 : Shape := ⟨2, ![256, 128]⟩
abbrev S256 : Shape := ⟨1, ![256]⟩
abbrev S1x128 : Shape := ⟨2, ![1, 128]⟩
abbrev S256x4096 : Shape := ⟨2, ![256, 4096]⟩

abbrev nBuf : Space → Nat
  | .hbm => 13
  | .vmem => 27
  | .smem => 3
  | _ => 0

abbrev bufTy : (tb : Table) → Fin (tcTables nBuf tb) → BufTy
  | .hbm, ⟨0, _⟩ => ⟨S4x3584x4096, .bf16⟩
  | .hbm, ⟨1, _⟩ => ⟨S4x5x64x32x128, .fp8e4m3⟩
  | .hbm, ⟨2, _⟩ => ⟨S4x5x32, .f32⟩
  | .hbm, ⟨3, _⟩ => ⟨S4x5x64x32x128, .fp8e4m3⟩
  | .hbm, ⟨4, _⟩ => ⟨S4x5x32, .f32⟩
  | .hbm, ⟨5, _⟩ => ⟨S4x3584x4096, .fp8e5m2⟩
  | .hbm, ⟨6, _⟩ => ⟨S4x3584, .f32⟩
  | .hbm, ⟨7, _⟩ => ⟨S4x3584x4096, .bf16⟩
  | .hbm, ⟨8, _⟩ => ⟨S4x32x3584, .f32⟩
  | .hbm, ⟨9, _⟩ => ⟨S4x3584, .i32⟩
  | .hbm, ⟨10, _⟩ => ⟨S4x3584x4096, .bf16⟩
  | .hbm, ⟨11, _⟩ => ⟨S4x5x64x32x128, .bf16⟩
  | .hbm, ⟨12, _⟩ => ⟨S4x5x64x32x128, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x5x64x32x128, .fp8e4m3⟩
  | .local _ .vmem, ⟨3, _⟩ => ⟨S1x5x64x32x128, .fp8e4m3⟩
  | .local _ .vmem, ⟨4, _⟩ => ⟨S1x5x64x32x128, .fp8e4m3⟩
  | .local _ .vmem, ⟨5, _⟩ => ⟨S1x5x64x32x128, .fp8e4m3⟩
  | .local _ .vmem, ⟨6, _⟩ => ⟨S1x256x4096, .fp8e5m2⟩
  | .local _ .vmem, ⟨7, _⟩ => ⟨S1x256x4096, .fp8e5m2⟩
  | .local _ .vmem, ⟨8, _⟩ => ⟨S4x256, .f32⟩
  | .local _ .vmem, ⟨9, _⟩ => ⟨S4x256, .f32⟩
  | .local _ .vmem, ⟨10, _⟩ => ⟨S1x256x4096, .bf16⟩
  | .local _ .vmem, ⟨11, _⟩ => ⟨S1x256x4096, .bf16⟩
  | .local _ .vmem, ⟨12, _⟩ => ⟨S1x32x256, .f32⟩
  | .local _ .vmem, ⟨13, _⟩ => ⟨S1x32x256, .f32⟩
  | .local _ .vmem, ⟨14, _⟩ => ⟨S4x256, .i32⟩
  | .local _ .vmem, ⟨15, _⟩ => ⟨S4x256, .i32⟩
  | .local _ .vmem, ⟨16, _⟩ => ⟨S1x256x4096, .bf16⟩
  | .local _ .vmem, ⟨17, _⟩ => ⟨S1x256x4096, .bf16⟩
  | .local _ .vmem, ⟨18, _⟩ => ⟨S1x5x64x32x128, .bf16⟩
  | .local _ .vmem, ⟨19, _⟩ => ⟨S1x5x64x32x128, .bf16⟩
  | .local _ .vmem, ⟨20, _⟩ => ⟨S1x5x64x32x128, .bf16⟩
  | .local _ .vmem, ⟨21, _⟩ => ⟨S1x5x64x32x128, .bf16⟩
  | .local _ .vmem, ⟨22, _⟩ => ⟨S160x64x128, .bf16⟩
  | .local _ .vmem, ⟨23, _⟩ => ⟨S160x64x128, .fp8e4m3⟩
  | .local _ .vmem, ⟨24, _⟩ => ⟨S160x64x128, .f32⟩
  | .local _ .vmem, ⟨25, _⟩ => ⟨S160x64x128, .f32⟩
  | .local _ .vmem, ⟨26, _⟩ => ⟨S32x256, .f32⟩
  | .local _ .smem, ⟨0, _⟩ => ⟨S4x3584, .i32⟩
  | .local _ .smem, ⟨1, _⟩ => ⟨S4x5x32, .f32⟩
  | .local _ .smem, ⟨2, _⟩ => ⟨S4x5x32, .f32⟩
  | _, _ => ⟨S4x3584x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c5_i32 : BitVec 32 := 5#32
  let v27 : BitVec 32 := Scalar.addi c0_i32_8 c5_i32
  let c1_i32_9 : BitVec 32 := 1#32
  ⟨c0_i32_8, v27, c1_i32_9⟩
def k0_off1 (k0_t1 : Fin k0_t1_loop.trips) : Fin 5 → Nat :=
  let c0_22 : Index := 0#32
  let c0_i32_8 : BitVec 32 := 0#32
  let c1_i32_9 : BitVec 32 := 1#32
  let arg21 : BitVec 32 := Scf.iv c0_i32_8 c1_i32_9 k0_t1
  let v37 : Index := Scalar.indexCast arg21
  let c0_23 : Index := 0#32
  let c0_24 : Index := 0#32
  let c0_25 : Index := 0#32
  ![0, v37.toNat, 0, 0, 0]
def k0_off2 (k0_t1 : Fin k0_t1_loop.trips) : Fin 3 → Nat :=
  let c0_i32_8 : BitVec 32 := 0#32
  let c1_i32_9 : BitVec 32 := 1#32
  let arg21 : BitVec 32 := Scf.iv c0_i32_8 c1_i32_9 k0_t1
  let c32_i32 : BitVec 32 := 32#32
  let v42 : BitVec 32 := Scalar.muli arg21 c32_i32
  let v43 : Index := Scalar.indexCast v42
  let c0_26 : Index := 0#32
  let c0_27 : Index := 0#32
  ![v43.toNat, 0, 0]
@[reducible] def k0_t2_loop : Scf.Loop 32 :=
  let c0_i32_11 : BitVec 32 := 0#32
  let c5_i32_12 : BitVec 32 := 5#32
  let v28 : BitVec 32 := Scalar.addi c0_i32_11 c5_i32_12
  let c1_i32_13 : BitVec 32 := 1#32
  ⟨c0_i32_11, v28, c1_i32_13⟩
def k0_off3 (k0_t2 : Fin k0_t2_loop.trips) : Fin 5 → Nat :=
  let c0_22 : Index := 0#32
  let c0_i32_11 : BitVec 32 := 0#32
  let c1_i32_13 : BitVec 32 := 1#32
  let arg21 : BitVec 32 := Scf.iv c0_i32_11 c1_i32_13 k0_t2
  let v37 : Index := Scalar.indexCast arg21
  let c0_23 : Index := 0#32
  let c0_24 : Index := 0#32
  let c0_25 : Index := 0#32
  ![0, v37.toNat, 0, 0, 0]
def k0_off4 (k0_t2 : Fin k0_t2_loop.trips) : Fin 3 → Nat :=
  let c0_i32_11 : BitVec 32 := 0#32
  let c1_i32_13 : BitVec 32 := 1#32
  let arg21 : BitVec 32 := Scf.iv c0_i32_11 c1_i32_13 k0_t2
  let c32_i32 : BitVec 32 := 32#32
  let v41 : BitVec 32 := Scalar.muli arg21 c32_i32
  let v42 : Index := Scalar.indexCast v41
  let c0_26 : Index := 0#32
  let c0_27 : Index := 0#32
  ![v42.toNat, 0, 0]
def k0_off5 (i : grid0.Coords) : Fin 2 → Nat :=
  let arg0 : BitVec 32 := BitVec.ofNat 32 (i 0).val
  let v4 : Index := Scalar.indexCast arg0
  let arg1 : BitVec 32 := BitVec.ofNat 32 (i 1).val
  let c256_i32 : BitVec 32 := 256#32
  let v3 : BitVec 32 := Scalar.muli arg1 c256_i32
  let v5 : Index := Scalar.indexCast v3
  ![v4.toNat, v5.toNat]
def k0_off6 (i : grid0.Coords) : Fin 2 → Nat :=
  let arg0 : BitVec 32 := BitVec.ofNat 32 (i 0).val
  let v10 : Index := Scalar.indexCast arg0
  let arg1 : BitVec 32 := BitVec.ofNat 32 (i 1).val
  let c256_i32_1 : BitVec 32 := 256#32
  let v7 : BitVec 32 := Scalar.muli arg1 c256_i32_1
  let c256_i32_2 : BitVec 32 := 256#32
  let v8 : BitVec 32 := Scalar.addi v7 c256_i32_2
  let c1_i32 : BitVec 32 := 1#32
  let v9 : BitVec 32 := Scalar.subi v8 c1_i32
  let v11 : Index := Scalar.indexCast v9
  ![v10.toNat, v11.toNat]
def k0_off7 (i : grid0.Coords) : Fin 2 → Nat :=
  let arg0 : BitVec 32 := BitVec.ofNat 32 (i 0).val
  let v13 : Index := Scalar.indexCast arg0
  let c0 : Index := 0#32
  ![v13.toNat, 0]
def k0_off8 (v12 : BitVec 32) (c0_i32_14 : BitVec 32) : Fin 3 → Nat :=
  let c32_i32 : BitVec 32 := 32#32
  let v40 : BitVec 32 := Scalar.muli v12 c32_i32
  let v41 : BitVec 32 := Scalar.addi v40 c0_i32_14
  let v43 : Index := Scalar.indexCast v41
  let c0_16 : Index := 0#32
  let c0_17 : Index := 0#32
  ![v43.toNat, 0, 0]
def k0_cond2 (v6 : BitVec 32) (v12 : BitVec 32) : BitVec 1 :=
  let c0_i32_4 : BitVec 32 := 0#32
  let v17 : BitVec 32 := Scalar.maxsi v6 c0_i32_4
  let v18 : BitVec 1 := Scalar.cmpi .eq v17 v12
  let v19 : BitVec 32 := Scalar.extui v18
  let c0_i32_5 : BitVec 32 := 0#32
  let v20 : BitVec 1 := Scalar.cmpi .ne v19 c0_i32_5
  v20

def k0_off9 (v12 : BitVec 32) (c0_i32_14 : BitVec 32) (c1_i32_18 : BitVec 32) : Fin 3 → Nat :=
  let c32_i32 : BitVec 32 := 32#32
  let v40 : BitVec 32 := Scalar.muli v12 c32_i32
  let v41 : BitVec 32 := Scalar.addi v40 c0_i32_14
  let v47 : BitVec 32 := Scalar.addi v41 c1_i32_18
  let v48 : Index := Scalar.indexCast v47
  let c0_19 : Index := 0#32
  let c0_20 : Index := 0#32
  ![v48.toNat, 0, 0]
def k0_off10 (i : grid0.Coords) (v12 : BitVec 32) : Fin 3 → Nat :=
  let arg0 : BitVec 32 := BitVec.ofNat 32 (i 0).val
  let v70 : Index := Scalar.indexCast arg0
  let v71 : Index := Scalar.indexCast v12
  let c0_35 : Index := 0#32
  ![v70.toNat, v71.toNat, 0]
def k0_off11 (i : grid0.Coords) (v12 : BitVec 32) : Fin 3 → Nat :=
  let arg0 : BitVec 32 := BitVec.ofNat 32 (i 0).val
  let v104 : Index := Scalar.indexCast arg0
  let v105 : Index := Scalar.indexCast v12
  let c1 : Index := 1#32
  ![v104.toNat, v105.toNat, 1]
def k0_off12 (i : grid0.Coords) (v12 : BitVec 32) : Fin 3 → Nat :=
  let arg0 : BitVec 32 := BitVec.ofNat 32 (i 0).val
  let v222 : Index := Scalar.indexCast arg0
  let v223 : Index := Scalar.indexCast v12
  let c2 : Index := 2#32
  ![v222.toNat, v223.toNat, 2]
def k0_off13 (i : grid0.Coords) (v12 : BitVec 32) : Fin 3 → Nat :=
  let arg0 : BitVec 32 := BitVec.ofNat 32 (i 0).val
  let v256 : Index := Scalar.indexCast arg0
  let v257 : Index := Scalar.indexCast v12
  let c3 : Index := 3#32
  ![v256.toNat, v257.toNat, 3]
def k0_off14 (i : grid0.Coords) (v12 : BitVec 32) : Fin 3 → Nat :=
  let arg0 : BitVec 32 := BitVec.ofNat 32 (i 0).val
  let v374 : Index := Scalar.indexCast arg0
  let v375 : Index := Scalar.indexCast v12
  let c4 : Index := 4#32
  ![v374.toNat, v375.toNat, 4]
def k0_off15 (i : grid0.Coords) (v12 : BitVec 32) : Fin 3 → Nat :=
  let arg0 : BitVec 32 := BitVec.ofNat 32 (i 0).val
  let v408 : Index := Scalar.indexCast arg0
  let v409 : Index := Scalar.indexCast v12
  let c5 : Index := 5#32
  ![v408.toNat, v409.toNat, 5]
def k0_off16 (i : grid0.Coords) (v12 : BitVec 32) : Fin 3 → Nat :=
  let arg0 : BitVec 32 := BitVec.ofNat 32 (i 0).val
  let v526 : Index := Scalar.indexCast arg0
  let v527 : Index := Scalar.indexCast v12
  let c6 : Index := 6#32
  ![v526.toNat, v527.toNat, 6]
def k0_off17 (i : grid0.Coords) (v12 : BitVec 32) : Fin 3 → Nat :=
  let arg0 : BitVec 32 := BitVec.ofNat 32 (i 0).val
  let v560 : Index := Scalar.indexCast arg0
  let v561 : Index := Scalar.indexCast v12
  let c7 : Index := 7#32
  ![v560.toNat, v561.toNat, 7]
def k0_off18 (i : grid0.Coords) (v12 : BitVec 32) : Fin 3 → Nat :=
  let arg0 : BitVec 32 := BitVec.ofNat 32 (i 0).val
  let v678 : Index := Scalar.indexCast arg0
  let v679 : Index := Scalar.indexCast v12
  let c8 : Index := 8#32
  ![v678.toNat, v679.toNat, 8]
def k0_off19 (i : grid0.Coords) (v12 : BitVec 32) : Fin 3 → Nat :=
  let arg0 : BitVec 32 := BitVec.ofNat 32 (i 0).val
  let v712 : Index := Scalar.indexCast arg0
  let v713 : Index := Scalar.indexCast v12
  let c9 : Index := 9#32
  ![v712.toNat, v713.toNat, 9]
def k0_off20 (i : grid0.Coords) (v12 : BitVec 32) : Fin 3 → Nat :=
  let arg0 : BitVec 32 := BitVec.ofNat 32 (i 0).val
  let v830 : Index := Scalar.indexCast arg0
  let v831 : Index := Scalar.indexCast v12
  let c10 : Index := 10#32
  ![v830.toNat, v831.toNat, 10]
def k0_off21 (i : grid0.Coords) (v12 : BitVec 32) : Fin 3 → Nat :=
  let arg0 : BitVec 32 := BitVec.ofNat 32 (i 0).val
  let v864 : Index := Scalar.indexCast arg0
  let v865 : Index := Scalar.indexCast v12
  let c11 : Index := 11#32
  ![v864.toNat, v865.toNat, 11]
def k0_off22 (i : grid0.Coords) (v12 : BitVec 32) : Fin 3 → Nat :=
  let arg0 : BitVec 32 := BitVec.ofNat 32 (i 0).val
  let v982 : Index := Scalar.indexCast arg0
  let v983 : Index := Scalar.indexCast v12
  let c12 : Index := 12#32
  ![v982.toNat, v983.toNat, 12]
def k0_off23 (i : grid0.Coords) (v12 : BitVec 32) : Fin 3 → Nat :=
  let arg0 : BitVec 32 := BitVec.ofNat 32 (i 0).val
  let v1016 : Index := Scalar.indexCast arg0
  let v1017 : Index := Scalar.indexCast v12
  let c13 : Index := 13#32
  ![v1016.toNat, v1017.toNat, 13]
def k0_off24 (i : grid0.Coords) (v12 : BitVec 32) : Fin 3 → Nat :=
  let arg0 : BitVec 32 := BitVec.ofNat 32 (i 0).val
  let v1134 : Index := Scalar.indexCast arg0
  let v1135 : Index := Scalar.indexCast v12
  let c14 : Index := 14#32
  ![v1134.toNat, v1135.toNat, 14]
def k0_off25 (i : grid0.Coords) (v12 : BitVec 32) : Fin 3 → Nat :=
  let arg0 : BitVec 32 := BitVec.ofNat 32 (i 0).val
  let v1168 : Index := Scalar.indexCast arg0
  let v1169 : Index := Scalar.indexCast v12
  let c15 : Index := 15#32
  ![v1168.toNat, v1169.toNat, 15]
def k0_off26 (i : grid0.Coords) (v12 : BitVec 32) : Fin 3 → Nat :=
  let arg0 : BitVec 32 := BitVec.ofNat 32 (i 0).val
  let v1286 : Index := Scalar.indexCast arg0
  let v1287 : Index := Scalar.indexCast v12
  let c16 : Index := 16#32
  ![v1286.toNat, v1287.toNat, 16]
def k0_off27 (i : grid0.Coords) (v12 : BitVec 32) : Fin 3 → Nat :=
  let arg0 : BitVec 32 := BitVec.ofNat 32 (i 0).val
  let v1320 : Index := Scalar.indexCast arg0
  let v1321 : Index := Scalar.indexCast v12
  let c17 : Index := 17#32
  ![v1320.toNat, v1321.toNat, 17]
def k0_off28 (i : grid0.Coords) (v12 : BitVec 32) : Fin 3 → Nat :=
  let arg0 : BitVec 32 := BitVec.ofNat 32 (i 0).val
  let v1438 : Index := Scalar.indexCast arg0
  let v1439 : Index := Scalar.indexCast v12
  let c18 : Index := 18#32
  ![v1438.toNat, v1439.toNat, 18]
def k0_off29 (i : grid0.Coords) (v12 : BitVec 32) : Fin 3 → Nat :=
  let arg0 : BitVec 32 := BitVec.ofNat 32 (i 0).val
  let v1472 : Index := Scalar.indexCast arg0
  let v1473 : Index := Scalar.indexCast v12
  let c19 : Index := 19#32
  ![v1472.toNat, v1473.toNat, 19]
def k0_off30 (i : grid0.Coords) (v12 : BitVec 32) : Fin 3 → Nat :=
  let arg0 : BitVec 32 := BitVec.ofNat 32 (i 0).val
  let v1590 : Index := Scalar.indexCast arg0
  let v1591 : Index := Scalar.indexCast v12
  let c20 : Index := 20#32
  ![v1590.toNat, v1591.toNat, 20]
def k0_off31 (i : grid0.Coords) (v12 : BitVec 32) : Fin 3 → Nat :=
  let arg0 : BitVec 32 := BitVec.ofNat 32 (i 0).val
  let v1624 : Index := Scalar.indexCast arg0
  let v1625 : Index := Scalar.indexCast v12
  let c21 : Index := 21#32
  ![v1624.toNat, v1625.toNat, 21]
def k0_off32 (i : grid0.Coords) (v12 : BitVec 32) : Fin 3 → Nat :=
  let arg0 : BitVec 32 := BitVec.ofNat 32 (i 0).val
  let v1742 : Index := Scalar.indexCast arg0
  let v1743 : Index := Scalar.indexCast v12
  let c22 : Index := 22#32
  ![v1742.toNat, v1743.toNat, 22]
def k0_off33 (i : grid0.Coords) (v12 : BitVec 32) : Fin 3 → Nat :=
  let arg0 : BitVec 32 := BitVec.ofNat 32 (i 0).val
  let v1776 : Index := Scalar.indexCast arg0
  let v1777 : Index := Scalar.indexCast v12
  let c23 : Index := 23#32
  ![v1776.toNat, v1777.toNat, 23]
def k0_off34 (i : grid0.Coords) (v12 : BitVec 32) : Fin 3 → Nat :=
  let arg0 : BitVec 32 := BitVec.ofNat 32 (i 0).val
  let v1894 : Index := Scalar.indexCast arg0
  let v1895 : Index := Scalar.indexCast v12
  let c24 : Index := 24#32
  ![v1894.toNat, v1895.toNat, 24]
def k0_off35 (i : grid0.Coords) (v12 : BitVec 32) : Fin 3 → Nat :=
  let arg0 : BitVec 32 := BitVec.ofNat 32 (i 0).val
  let v1928 : Index := Scalar.indexCast arg0
  let v1929 : Index := Scalar.indexCast v12
  let c25 : Index := 25#32
  ![v1928.toNat, v1929.toNat, 25]
def k0_off36 (i : grid0.Coords) (v12 : BitVec 32) : Fin 3 → Nat :=
  let arg0 : BitVec 32 := BitVec.ofNat 32 (i 0).val
  let v2046 : Index := Scalar.indexCast arg0
  let v2047 : Index := Scalar.indexCast v12
  let c26 : Index := 26#32
  ![v2046.toNat, v2047.toNat, 26]
def k0_off37 (i : grid0.Coords) (v12 : BitVec 32) : Fin 3 → Nat :=
  let arg0 : BitVec 32 := BitVec.ofNat 32 (i 0).val
  let v2080 : Index := Scalar.indexCast arg0
  let v2081 : Index := Scalar.indexCast v12
  let c27 : Index := 27#32
  ![v2080.toNat, v2081.toNat, 27]
def k0_off38 (i : grid0.Coords) (v12 : BitVec 32) : Fin 3 → Nat :=
  let arg0 : BitVec 32 := BitVec.ofNat 32 (i 0).val
  let v2198 : Index := Scalar.indexCast arg0
  let v2199 : Index := Scalar.indexCast v12
  let c28 : Index := 28#32
  ![v2198.toNat, v2199.toNat, 28]
def k0_off39 (i : grid0.Coords) (v12 : BitVec 32) : Fin 3 → Nat :=
  let arg0 : BitVec 32 := BitVec.ofNat 32 (i 0).val
  let v2232 : Index := Scalar.indexCast arg0
  let v2233 : Index := Scalar.indexCast v12
  let c29 : Index := 29#32
  ![v2232.toNat, v2233.toNat, 29]
def k0_off40 (i : grid0.Coords) (v12 : BitVec 32) : Fin 3 → Nat :=
  let arg0 : BitVec 32 := BitVec.ofNat 32 (i 0).val
  let v2350 : Index := Scalar.indexCast arg0
  let v2351 : Index := Scalar.indexCast v12
  let c30 : Index := 30#32
  ![v2350.toNat, v2351.toNat, 30]
def k0_off41 (i : grid0.Coords) (v12 : BitVec 32) : Fin 3 → Nat :=
  let arg0 : BitVec 32 := BitVec.ofNat 32 (i 0).val
  let v2384 : Index := Scalar.indexCast arg0
  let v2385 : Index := Scalar.indexCast v12
  let c31 : Index := 31#32
  ![v2384.toNat, v2385.toNat, 31]
@[reducible] def k0_t3_loop (v6 : BitVec 32) (v12 : BitVec 32) : Scf.Loop 32 :=
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_15 : BitVec 32 := 1#32
  ⟨v31, v37, c1_i32_15⟩
def k0_cond3 (v6 : BitVec 32) (v12 : BitVec 32) : BitVec 1 :=
  let c0_i32_4 : BitVec 32 := 0#32
  let v17 : BitVec 32 := Scalar.maxsi v6 c0_i32_4
  let v18 : BitVec 1 := Scalar.cmpi .eq v17 v12
  let v_true : BitVec 1 := 1#1
  let v21 : BitVec 1 := Scalar.xori v18 v_true
  let v22 : BitVec 32 := Scalar.extui v21
  let c0_i32_6 : BitVec 32 := 0#32
  let v23 : BitVec 1 := Scalar.cmpi .ne v22 c0_i32_6
  v23

def k0_off42 (v6 : BitVec 32) (v12 : BitVec 32) (k0_t3 : Fin (k0_t3_loop v6 v12).trips) (c0_i32_24 : BitVec 32) : Fin 3 → Nat :=
  let c0_i32_11 : BitVec 32 := 0#32
  let v31 : BitVec 32 := Scalar.maxsi v6 c0_i32_11
  let c1_i32_15 : BitVec 32 := 1#32
  let arg21 : BitVec 32 := Scf.iv v31 c1_i32_15 k0_t3
  let c32_i32 : BitVec 32 := 32#32
  let v51 : BitVec 32 := Scalar.muli arg21 c32_i32
  let v52 : BitVec 32 := Scalar.addi v51 c0_i32_24
  let v54 : Index := Scalar.indexCast v52
  let c0_26 : Index := 0#32
  let c0_27 : Index := 0#32
  ![v54.toNat, 0, 0]
def k0_off43 (v6 : BitVec 32) (v12 : BitVec 32) (k0_t3 : Fin (k0_t3_loop v6 v12).trips) (c0_i32_24 : BitVec 32) (c1_i32_28 : BitVec 32) : Fin 3 → Nat :=
  let c0_i32_11 : BitVec 32 := 0#32
  let v31 : BitVec 32 := Scalar.maxsi v6 c0_i32_11
  let c1_i32_15 : BitVec 32 := 1#32
  let arg21 : BitVec 32 := Scf.iv v31 c1_i32_15 k0_t3
  let c32_i32 : BitVec 32 := 32#32
  let v51 : BitVec 32 := Scalar.muli arg21 c32_i32
  let v52 : BitVec 32 := Scalar.addi v51 c0_i32_24
  let v58 : BitVec 32 := Scalar.addi v52 c1_i32_28
  let v59 : Index := Scalar.indexCast v58
  let c0_29 : Index := 0#32
  let c0_30 : Index := 0#32
  ![v59.toNat, 0, 0]
def k0_off44 (i : grid0.Coords) (v6 : BitVec 32) (v12 : BitVec 32) (k0_t3 : Fin (k0_t3_loop v6 v12).trips) : Fin 3 → Nat :=
  let arg0 : BitVec 32 := BitVec.ofNat 32 (i 0).val
  let v81 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v82 : Index := Scalar.indexCast arg21
  let c0_45 : Index := 0#32
  ![v81.toNat, v82.toNat, 0]
def k0_off45 (i : grid0.Coords) (v6 : BitVec 32) (v12 : BitVec 32) (k0_t3 : Fin (k0_t3_loop v6 v12).trips) : Fin 3 → Nat :=
  let arg0 : BitVec 32 := BitVec.ofNat 32 (i 0).val
  let v115 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v116 : Index := Scalar.indexCast arg21
  let c1 : Index := 1#32
  ![v115.toNat, v116.toNat, 1]
def k0_off46 (i : grid0.Coords) (v6 : BitVec 32) (v12 : BitVec 32) (k0_t3 : Fin (k0_t3_loop v6 v12).trips) : Fin 3 → Nat :=
  let arg0 : BitVec 32 := BitVec.ofNat 32 (i 0).val
  let v236 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v237 : Index := Scalar.indexCast arg21
  let c2 : Index := 2#32
  ![v236.toNat, v237.toNat, 2]
def k0_off47 (i : grid0.Coords) (v6 : BitVec 32) (v12 : BitVec 32) (k0_t3 : Fin (k0_t3_loop v6 v12).trips) : Fin 3 → Nat :=
  let arg0 : BitVec 32 := BitVec.ofNat 32 (i 0).val
  let v270 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v271 : Index := Scalar.indexCast arg21
  let c3 : Index := 3#32
  ![v270.toNat, v271.toNat, 3]
def k0_off48 (i : grid0.Coords) (v6 : BitVec 32) (v12 : BitVec 32) (k0_t3 : Fin (k0_t3_loop v6 v12).trips) : Fin 3 → Nat :=
  let arg0 : BitVec 32 := BitVec.ofNat 32 (i 0).val
  let v391 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v392 : Index := Scalar.indexCast arg21
  let c4 : Index := 4#32
  ![v391.toNat, v392.toNat, 4]
def k0_off49 (i : grid0.Coords) (v6 : BitVec 32) (v12 : BitVec 32) (k0_t3 : Fin (k0_t3_loop v6 v12).trips) : Fin 3 → Nat :=
  let arg0 : BitVec 32 := BitVec.ofNat 32 (i 0).val
  let v425 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v426 : Index := Scalar.indexCast arg21
  let c5 : Index := 5#32
  ![v425.toNat, v426.toNat, 5]
def k0_off50 (i : grid0.Coords) (v6 : BitVec 32) (v12 : BitVec 32) (k0_t3 : Fin (k0_t3_loop v6 v12).trips) : Fin 3 → Nat :=
  let arg0 : BitVec 32 := BitVec.ofNat 32 (i 0).val
  let v546 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v547 : Index := Scalar.indexCast arg21
  let c6 : Index := 6#32
  ![v546.toNat, v547.toNat, 6]
def k0_off51 (i : grid0.Coords) (v6 : BitVec 32) (v12 : BitVec 32) (k0_t3 : Fin (k0_t3_loop v6 v12).trips) : Fin 3 → Nat :=
  let arg0 : BitVec 32 := BitVec.ofNat 32 (i 0).val
  let v580 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v581 : Index := Scalar.indexCast arg21
  let c7 : Index := 7#32
  ![v580.toNat, v581.toNat, 7]
def k0_off52 (i : grid0.Coords) (v6 : BitVec 32) (v12 : BitVec 32) (k0_t3 : Fin (k0_t3_loop v6 v12).trips) : Fin 3 → Nat :=
  let arg0 : BitVec 32 := BitVec.ofNat 32 (i 0).val
  let v701 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v702 : Index := Scalar.indexCast arg21
  let c8 : Index := 8#32
  ![v701.toNat, v702.toNat, 8]
def k0_off53 (i : grid0.Coords) (v6 : BitVec 32) (v12 : BitVec 32) (k0_t3 : Fin (k0_t3_loop v6 v12).trips) : Fin 3 → Nat :=
  let arg0 : BitVec 32 := BitVec.ofNat 32 (i 0).val
  let v735 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v736 : Index := Scalar.indexCast arg21
  let c9 : Index := 9#32
  ![v735.toNat, v736.toNat, 9]
def k0_off54 (i : grid0.Coords) (v6 : BitVec 32) (v12 : BitVec 32) (k0_t3 : Fin (k0_t3_loop v6 v12).trips) : Fin 3 → Nat :=
  let arg0 : BitVec 32 := BitVec.ofNat 32 (i 0).val
  let v856 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v857 : Index := Scalar.indexCast arg21
  let c10 : Index := 10#32
  ![v856.toNat, v857.toNat, 10]
def k0_off55 (i : grid0.Coords) (v6 : BitVec 32) (v12 : BitVec 32) (k0_t3 : Fin (k0_t3_loop v6 v12).trips) : Fin 3 → Nat :=
  let arg0 : BitVec 32 := BitVec.ofNat 32 (i 0).val
  let v890 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v891 : Index := Scalar.indexCast arg21
  let c11 : Index := 11#32
  ![v890.toNat, v891.toNat, 11]
def k0_off56 (i : grid0.Coords) (v6 : BitVec 32) (v12 : BitVec 32) (k0_t3 : Fin (k0_t3_loop v6 v12).trips) : Fin 3 → Nat :=
  let arg0 : BitVec 32 := BitVec.ofNat 32 (i 0).val
  let v1011 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1012 : Index := Scalar.indexCast arg21
  let c12 : Index := 12#32
  ![v1011.toNat, v1012.toNat, 12]
def k0_off57 (i : grid0.Coords) (v6 : BitVec 32) (v12 : BitVec 32) (k0_t3 : Fin (k0_t3_loop v6 v12).trips) : Fin 3 → Nat :=
  let arg0 : BitVec 32 := BitVec.ofNat 32 (i 0).val
  let v1045 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1046 : Index := Scalar.indexCast arg21
  let c13 : Index := 13#32
  ![v1045.toNat, v1046.toNat, 13]
def k0_off58 (i : grid0.Coords) (v6 : BitVec 32) (v12 : BitVec 32) (k0_t3 : Fin (k0_t3_loop v6 v12).trips) : Fin 3 → Nat :=
  let arg0 : BitVec 32 := BitVec.ofNat 32 (i 0).val
  let v1166 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1167 : Index := Scalar.indexCast arg21
  let c14 : Index := 14#32
  ![v1166.toNat, v1167.toNat, 14]
def k0_off59 (i : grid0.Coords) (v6 : BitVec 32) (v12 : BitVec 32) (k0_t3 : Fin (k0_t3_loop v6 v12).trips) : Fin 3 → Nat :=
  let arg0 : BitVec 32 := BitVec.ofNat 32 (i 0).val
  let v1200 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1201 : Index := Scalar.indexCast arg21
  let c15 : Index := 15#32
  ![v1200.toNat, v1201.toNat, 15]
def k0_off60 (i : grid0.Coords) (v6 : BitVec 32) (v12 : BitVec 32) (k0_t3 : Fin (k0_t3_loop v6 v12).trips) : Fin 3 → Nat :=
  let arg0 : BitVec 32 := BitVec.ofNat 32 (i 0).val
  let v1321 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1322 : Index := Scalar.indexCast arg21
  let c16 : Index := 16#32
  ![v1321.toNat, v1322.toNat, 16]
def k0_off61 (i : grid0.Coords) (v6 : BitVec 32) (v12 : BitVec 32) (k0_t3 : Fin (k0_t3_loop v6 v12).trips) : Fin 3 → Nat :=
  let arg0 : BitVec 32 := BitVec.ofNat 32 (i 0).val
  let v1355 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1356 : Index := Scalar.indexCast arg21
  let c17 : Index := 17#32
  ![v1355.toNat, v1356.toNat, 17]
def k0_off62 (i : grid0.Coords) (v6 : BitVec 32) (v12 : BitVec 32) (k0_t3 : Fin (k0_t3_loop v6 v12).trips) : Fin 3 → Nat :=
  let arg0 : BitVec 32 := BitVec.ofNat 32 (i 0).val
  let v1476 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1477 : Index := Scalar.indexCast arg21
  let c18 : Index := 18#32
  ![v1476.toNat, v1477.toNat, 18]
def k0_off63 (i : grid0.Coords) (v6 : BitVec 32) (v12 : BitVec 32) (k0_t3 : Fin (k0_t3_loop v6 v12).trips) : Fin 3 → Nat :=
  let arg0 : BitVec 32 := BitVec.ofNat 32 (i 0).val
  let v1510 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1511 : Index := Scalar.indexCast arg21
  let c19 : Index := 19#32
  ![v1510.toNat, v1511.toNat, 19]
def k0_off64 (i : grid0.Coords) (v6 : BitVec 32) (v12 : BitVec 32) (k0_t3 : Fin (k0_t3_loop v6 v12).trips) : Fin 3 → Nat :=
  let arg0 : BitVec 32 := BitVec.ofNat 32 (i 0).val
  let v1631 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1632 : Index := Scalar.indexCast arg21
  let c20 : Index := 20#32
  ![v1631.toNat, v1632.toNat, 20]
def k0_off65 (i : grid0.Coords) (v6 : BitVec 32) (v12 : BitVec 32) (k0_t3 : Fin (k0_t3_loop v6 v12).trips) : Fin 3 → Nat :=
  let arg0 : BitVec 32 := BitVec.ofNat 32 (i 0).val
  let v1665 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1666 : Index := Scalar.indexCast arg21
  let c21 : Index := 21#32
  ![v1665.toNat, v1666.toNat, 21]
def k0_off66 (i : grid0.Coords) (v6 : BitVec 32) (v12 : BitVec 32) (k0_t3 : Fin (k0_t3_loop v6 v12).trips) : Fin 3 → Nat :=
  let arg0 : BitVec 32 := BitVec.ofNat 32 (i 0).val
  let v1786 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1787 : Index := Scalar.indexCast arg21
  let c22 : Index := 22#32
  ![v1786.toNat, v1787.toNat, 22]
def k0_off67 (i : grid0.Coords) (v6 : BitVec 32) (v12 : BitVec 32) (k0_t3 : Fin (k0_t3_loop v6 v12).trips) : Fin 3 → Nat :=
  let arg0 : BitVec 32 := BitVec.ofNat 32 (i 0).val
  let v1820 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1821 : Index := Scalar.indexCast arg21
  let c23 : Index := 23#32
  ![v1820.toNat, v1821.toNat, 23]
def k0_off68 (i : grid0.Coords) (v6 : BitVec 32) (v12 : BitVec 32) (k0_t3 : Fin (k0_t3_loop v6 v12).trips) : Fin 3 → Nat :=
  let arg0 : BitVec 32 := BitVec.ofNat 32 (i 0).val
  let v1941 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1942 : Index := Scalar.indexCast arg21
  let c24 : Index := 24#32
  ![v1941.toNat, v1942.toNat, 24]
def k0_off69 (i : grid0.Coords) (v6 : BitVec 32) (v12 : BitVec 32) (k0_t3 : Fin (k0_t3_loop v6 v12).trips) : Fin 3 → Nat :=
  let arg0 : BitVec 32 := BitVec.ofNat 32 (i 0).val
  let v1975 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v1976 : Index := Scalar.indexCast arg21
  let c25 : Index := 25#32
  ![v1975.toNat, v1976.toNat, 25]
def k0_off70 (i : grid0.Coords) (v6 : BitVec 32) (v12 : BitVec 32) (k0_t3 : Fin (k0_t3_loop v6 v12).trips) : Fin 3 → Nat :=
  let arg0 : BitVec 32 := BitVec.ofNat 32 (i 0).val
  let v2096 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v2097 : Index := Scalar.indexCast arg21
  let c26 : Index := 26#32
  ![v2096.toNat, v2097.toNat, 26]
def k0_off71 (i : grid0.Coords) (v6 : BitVec 32) (v12 : BitVec 32) (k0_t3 : Fin (k0_t3_loop v6 v12).trips) : Fin 3 → Nat :=
  let arg0 : BitVec 32 := BitVec.ofNat 32 (i 0).val
  let v2130 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v2131 : Index := Scalar.indexCast arg21
  let c27 : Index := 27#32
  ![v2130.toNat, v2131.toNat, 27]
def k0_off72 (i : grid0.Coords) (v6 : BitVec 32) (v12 : BitVec 32) (k0_t3 : Fin (k0_t3_loop v6 v12).trips) : Fin 3 → Nat :=
  let arg0 : BitVec 32 := BitVec.ofNat 32 (i 0).val
  let v2251 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v2252 : Index := Scalar.indexCast arg21
  let c28 : Index := 28#32
  ![v2251.toNat, v2252.toNat, 28]
def k0_off73 (i : grid0.Coords) (v6 : BitVec 32) (v12 : BitVec 32) (k0_t3 : Fin (k0_t3_loop v6 v12).trips) : Fin 3 → Nat :=
  let arg0 : BitVec 32 := BitVec.ofNat 32 (i 0).val
  let v2285 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v2286 : Index := Scalar.indexCast arg21
  let c29 : Index := 29#32
  ![v2285.toNat, v2286.toNat, 29]
def k0_off74 (i : grid0.Coords) (v6 : BitVec 32) (v12 : BitVec 32) (k0_t3 : Fin (k0_t3_loop v6 v12).trips) : Fin 3 → Nat :=
  let arg0 : BitVec 32 := BitVec.ofNat 32 (i 0).val
  let v2406 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v2407 : Index := Scalar.indexCast arg21
  let c30 : Index := 30#32
  ![v2406.toNat, v2407.toNat, 30]
def k0_off75 (i : grid0.Coords) (v6 : BitVec 32) (v12 : BitVec 32) (k0_t3 : Fin (k0_t3_loop v6 v12).trips) : Fin 3 → Nat :=
  let arg0 : BitVec 32 := BitVec.ofNat 32 (i 0).val
  let v2440 : Index := Scalar.indexCast arg0
  let c0_i32_11 : BitVec 32 := 0#32
  let v31 : BitVec 32 := Scalar.maxsi v6 c0_i32_11
  let c1_i32_15 : BitVec 32 := 1#32
  let arg21 : BitVec 32 := Scf.iv v31 c1_i32_15 k0_t3
  let v2441 : Index := Scalar.indexCast arg21
  let c31 : Index := 31#32
  ![v2440.toNat, v2441.toNat, 31]
@[reducible] def k0_t4_loop (v6 : BitVec 32) (v12 : BitVec 32) : Scf.Loop 32 :=
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let v34 : BitVec 32 := Scalar.addi v31 v33
  let c1_i32_16 : BitVec 32 := 1#32
  ⟨v37, v34, c1_i32_16⟩
def k0_off76 (v6 : BitVec 32) (v12 : BitVec 32) (k0_t4 : Fin (k0_t4_loop v6 v12).trips) (c0_i32_24 : BitVec 32) : Fin 3 → Nat :=
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let c32_i32 : BitVec 32 := 32#32
  let v51 : BitVec 32 := Scalar.muli arg21 c32_i32
  let v52 : BitVec 32 := Scalar.addi v51 c0_i32_24
  let v54 : Index := Scalar.indexCast v52
  let c0_26 : Index := 0#32
  let c0_27 : Index := 0#32
  ![v54.toNat, 0, 0]
def k0_off77 (v6 : BitVec 32) (v12 : BitVec 32) (k0_t4 : Fin (k0_t4_loop v6 v12).trips) (c0_i32_24 : BitVec 32) (c1_i32_28 : BitVec 32) : Fin 3 → Nat :=
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let c32_i32 : BitVec 32 := 32#32
  let v51 : BitVec 32 := Scalar.muli arg21 c32_i32
  let v52 : BitVec 32 := Scalar.addi v51 c0_i32_24
  let v58 : BitVec 32 := Scalar.addi v52 c1_i32_28
  let v59 : Index := Scalar.indexCast v58
  let c0_29 : Index := 0#32
  let c0_30 : Index := 0#32
  ![v59.toNat, 0, 0]
def k0_off78 (i : grid0.Coords) (v6 : BitVec 32) (v12 : BitVec 32) (k0_t4 : Fin (k0_t4_loop v6 v12).trips) : Fin 3 → Nat :=
  let arg0 : BitVec 32 := BitVec.ofNat 32 (i 0).val
  let v81 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v82 : Index := Scalar.indexCast arg21
  let c0_45 : Index := 0#32
  ![v81.toNat, v82.toNat, 0]
def k0_off79 (i : grid0.Coords) (v6 : BitVec 32) (v12 : BitVec 32) (k0_t4 : Fin (k0_t4_loop v6 v12).trips) : Fin 3 → Nat :=
  let arg0 : BitVec 32 := BitVec.ofNat 32 (i 0).val
  let v115 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v116 : Index := Scalar.indexCast arg21
  let c1 : Index := 1#32
  ![v115.toNat, v116.toNat, 1]
def k0_off80 (i : grid0.Coords) (v6 : BitVec 32) (v12 : BitVec 32) (k0_t4 : Fin (k0_t4_loop v6 v12).trips) : Fin 3 → Nat :=
  let arg0 : BitVec 32 := BitVec.ofNat 32 (i 0).val
  let v236 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v237 : Index := Scalar.indexCast arg21
  let c2 : Index := 2#32
  ![v236.toNat, v237.toNat, 2]
def k0_off81 (i : grid0.Coords) (v6 : BitVec 32) (v12 : BitVec 32) (k0_t4 : Fin (k0_t4_loop v6 v12).trips) : Fin 3 → Nat :=
  let arg0 : BitVec 32 := BitVec.ofNat 32 (i 0).val
  let v270 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v271 : Index := Scalar.indexCast arg21
  let c3 : Index := 3#32
  ![v270.toNat, v271.toNat, 3]
def k0_off82 (i : grid0.Coords) (v6 : BitVec 32) (v12 : BitVec 32) (k0_t4 : Fin (k0_t4_loop v6 v12).trips) : Fin 3 → Nat :=
  let arg0 : BitVec 32 := BitVec.ofNat 32 (i 0).val
  let v391 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v392 : Index := Scalar.indexCast arg21
  let c4 : Index := 4#32
  ![v391.toNat, v392.toNat, 4]
def k0_off83 (i : grid0.Coords) (v6 : BitVec 32) (v12 : BitVec 32) (k0_t4 : Fin (k0_t4_loop v6 v12).trips) : Fin 3 → Nat :=
  let arg0 : BitVec 32 := BitVec.ofNat 32 (i 0).val
  let v425 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v426 : Index := Scalar.indexCast arg21
  let c5 : Index := 5#32
  ![v425.toNat, v426.toNat, 5]
def k0_off84 (i : grid0.Coords) (v6 : BitVec 32) (v12 : BitVec 32) (k0_t4 : Fin (k0_t4_loop v6 v12).trips) : Fin 3 → Nat :=
  let arg0 : BitVec 32 := BitVec.ofNat 32 (i 0).val
  let v546 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v547 : Index := Scalar.indexCast arg21
  let c6 : Index := 6#32
  ![v546.toNat, v547.toNat, 6]
def k0_off85 (i : grid0.Coords) (v6 : BitVec 32) (v12 : BitVec 32) (k0_t4 : Fin (k0_t4_loop v6 v12).trips) : Fin 3 → Nat :=
  let arg0 : BitVec 32 := BitVec.ofNat 32 (i 0).val
  let v580 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v581 : Index := Scalar.indexCast arg21
  let c7 : Index := 7#32
  ![v580.toNat, v581.toNat, 7]
def k0_off86 (i : grid0.Coords) (v6 : BitVec 32) (v12 : BitVec 32) (k0_t4 : Fin (k0_t4_loop v6 v12).trips) : Fin 3 → Nat :=
  let arg0 : BitVec 32 := BitVec.ofNat 32 (i 0).val
  let v701 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v702 : Index := Scalar.indexCast arg21
  let c8 : Index := 8#32
  ![v701.toNat, v702.toNat, 8]
def k0_off87 (i : grid0.Coords) (v6 : BitVec 32) (v12 : BitVec 32) (k0_t4 : Fin (k0_t4_loop v6 v12).trips) : Fin 3 → Nat :=
  let arg0 : BitVec 32 := BitVec.ofNat 32 (i 0).val
  let v735 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v736 : Index := Scalar.indexCast arg21
  let c9 : Index := 9#32
  ![v735.toNat, v736.toNat, 9]
def k0_off88 (i : grid0.Coords) (v6 : BitVec 32) (v12 : BitVec 32) (k0_t4 : Fin (k0_t4_loop v6 v12).trips) : Fin 3 → Nat :=
  let arg0 : BitVec 32 := BitVec.ofNat 32 (i 0).val
  let v856 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v857 : Index := Scalar.indexCast arg21
  let c10 : Index := 10#32
  ![v856.toNat, v857.toNat, 10]
def k0_off89 (i : grid0.Coords) (v6 : BitVec 32) (v12 : BitVec 32) (k0_t4 : Fin (k0_t4_loop v6 v12).trips) : Fin 3 → Nat :=
  let arg0 : BitVec 32 := BitVec.ofNat 32 (i 0).val
  let v890 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v891 : Index := Scalar.indexCast arg21
  let c11 : Index := 11#32
  ![v890.toNat, v891.toNat, 11]
def k0_off90 (i : grid0.Coords) (v6 : BitVec 32) (v12 : BitVec 32) (k0_t4 : Fin (k0_t4_loop v6 v12).trips) : Fin 3 → Nat :=
  let arg0 : BitVec 32 := BitVec.ofNat 32 (i 0).val
  let v1011 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1012 : Index := Scalar.indexCast arg21
  let c12 : Index := 12#32
  ![v1011.toNat, v1012.toNat, 12]
def k0_off91 (i : grid0.Coords) (v6 : BitVec 32) (v12 : BitVec 32) (k0_t4 : Fin (k0_t4_loop v6 v12).trips) : Fin 3 → Nat :=
  let arg0 : BitVec 32 := BitVec.ofNat 32 (i 0).val
  let v1045 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1046 : Index := Scalar.indexCast arg21
  let c13 : Index := 13#32
  ![v1045.toNat, v1046.toNat, 13]
def k0_off92 (i : grid0.Coords) (v6 : BitVec 32) (v12 : BitVec 32) (k0_t4 : Fin (k0_t4_loop v6 v12).trips) : Fin 3 → Nat :=
  let arg0 : BitVec 32 := BitVec.ofNat 32 (i 0).val
  let v1166 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1167 : Index := Scalar.indexCast arg21
  let c14 : Index := 14#32
  ![v1166.toNat, v1167.toNat, 14]
def k0_off93 (i : grid0.Coords) (v6 : BitVec 32) (v12 : BitVec 32) (k0_t4 : Fin (k0_t4_loop v6 v12).trips) : Fin 3 → Nat :=
  let arg0 : BitVec 32 := BitVec.ofNat 32 (i 0).val
  let v1200 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1201 : Index := Scalar.indexCast arg21
  let c15 : Index := 15#32
  ![v1200.toNat, v1201.toNat, 15]
def k0_off94 (i : grid0.Coords) (v6 : BitVec 32) (v12 : BitVec 32) (k0_t4 : Fin (k0_t4_loop v6 v12).trips) : Fin 3 → Nat :=
  let arg0 : BitVec 32 := BitVec.ofNat 32 (i 0).val
  let v1321 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1322 : Index := Scalar.indexCast arg21
  let c16 : Index := 16#32
  ![v1321.toNat, v1322.toNat, 16]
def k0_off95 (i : grid0.Coords) (v6 : BitVec 32) (v12 : BitVec 32) (k0_t4 : Fin (k0_t4_loop v6 v12).trips) : Fin 3 → Nat :=
  let arg0 : BitVec 32 := BitVec.ofNat 32 (i 0).val
  let v1355 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1356 : Index := Scalar.indexCast arg21
  let c17 : Index := 17#32
  ![v1355.toNat, v1356.toNat, 17]
def k0_off96 (i : grid0.Coords) (v6 : BitVec 32) (v12 : BitVec 32) (k0_t4 : Fin (k0_t4_loop v6 v12).trips) : Fin 3 → Nat :=
  let arg0 : BitVec 32 := BitVec.ofNat 32 (i 0).val
  let v1476 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1477 : Index := Scalar.indexCast arg21
  let c18 : Index := 18#32
  ![v1476.toNat, v1477.toNat, 18]
def k0_off97 (i : grid0.Coords) (v6 : BitVec 32) (v12 : BitVec 32) (k0_t4 : Fin (k0_t4_loop v6 v12).trips) : Fin 3 → Nat :=
  let arg0 : BitVec 32 := BitVec.ofNat 32 (i 0).val
  let v1510 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1511 : Index := Scalar.indexCast arg21
  let c19 : Index := 19#32
  ![v1510.toNat, v1511.toNat, 19]
def k0_off98 (i : grid0.Coords) (v6 : BitVec 32) (v12 : BitVec 32) (k0_t4 : Fin (k0_t4_loop v6 v12).trips) : Fin 3 → Nat :=
  let arg0 : BitVec 32 := BitVec.ofNat 32 (i 0).val
  let v1631 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1632 : Index := Scalar.indexCast arg21
  let c20 : Index := 20#32
  ![v1631.toNat, v1632.toNat, 20]
def k0_off99 (i : grid0.Coords) (v6 : BitVec 32) (v12 : BitVec 32) (k0_t4 : Fin (k0_t4_loop v6 v12).trips) : Fin 3 → Nat :=
  let arg0 : BitVec 32 := BitVec.ofNat 32 (i 0).val
  let v1665 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1666 : Index := Scalar.indexCast arg21
  let c21 : Index := 21#32
  ![v1665.toNat, v1666.toNat, 21]
def k0_off100 (i : grid0.Coords) (v6 : BitVec 32) (v12 : BitVec 32) (k0_t4 : Fin (k0_t4_loop v6 v12).trips) : Fin 3 → Nat :=
  let arg0 : BitVec 32 := BitVec.ofNat 32 (i 0).val
  let v1786 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1787 : Index := Scalar.indexCast arg21
  let c22 : Index := 22#32
  ![v1786.toNat, v1787.toNat, 22]
def k0_off101 (i : grid0.Coords) (v6 : BitVec 32) (v12 : BitVec 32) (k0_t4 : Fin (k0_t4_loop v6 v12).trips) : Fin 3 → Nat :=
  let arg0 : BitVec 32 := BitVec.ofNat 32 (i 0).val
  let v1820 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1821 : Index := Scalar.indexCast arg21
  let c23 : Index := 23#32
  ![v1820.toNat, v1821.toNat, 23]
def k0_off102 (i : grid0.Coords) (v6 : BitVec 32) (v12 : BitVec 32) (k0_t4 : Fin (k0_t4_loop v6 v12).trips) : Fin 3 → Nat :=
  let arg0 : BitVec 32 := BitVec.ofNat 32 (i 0).val
  let v1941 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1942 : Index := Scalar.indexCast arg21
  let c24 : Index := 24#32
  ![v1941.toNat, v1942.toNat, 24]
def k0_off103 (i : grid0.Coords) (v6 : BitVec 32) (v12 : BitVec 32) (k0_t4 : Fin (k0_t4_loop v6 v12).trips) : Fin 3 → Nat :=
  let arg0 : BitVec 32 := BitVec.ofNat 32 (i 0).val
  let v1975 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v1976 : Index := Scalar.indexCast arg21
  let c25 : Index := 25#32
  ![v1975.toNat, v1976.toNat, 25]
def k0_off104 (i : grid0.Coords) (v6 : BitVec 32) (v12 : BitVec 32) (k0_t4 : Fin (k0_t4_loop v6 v12).trips) : Fin 3 → Nat :=
  let arg0 : BitVec 32 := BitVec.ofNat 32 (i 0).val
  let v2096 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v2097 : Index := Scalar.indexCast arg21
  let c26 : Index := 26#32
  ![v2096.toNat, v2097.toNat, 26]
def k0_off105 (i : grid0.Coords) (v6 : BitVec 32) (v12 : BitVec 32) (k0_t4 : Fin (k0_t4_loop v6 v12).trips) : Fin 3 → Nat :=
  let arg0 : BitVec 32 := BitVec.ofNat 32 (i 0).val
  let v2130 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v2131 : Index := Scalar.indexCast arg21
  let c27 : Index := 27#32
  ![v2130.toNat, v2131.toNat, 27]
def k0_off106 (i : grid0.Coords) (v6 : BitVec 32) (v12 : BitVec 32) (k0_t4 : Fin (k0_t4_loop v6 v12).trips) : Fin 3 → Nat :=
  let arg0 : BitVec 32 := BitVec.ofNat 32 (i 0).val
  let v2251 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v2252 : Index := Scalar.indexCast arg21
  let c28 : Index := 28#32
  ![v2251.toNat, v2252.toNat, 28]
def k0_off107 (i : grid0.Coords) (v6 : BitVec 32) (v12 : BitVec 32) (k0_t4 : Fin (k0_t4_loop v6 v12).trips) : Fin 3 → Nat :=
  let arg0 : BitVec 32 := BitVec.ofNat 32 (i 0).val
  let v2285 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v2286 : Index := Scalar.indexCast arg21
  let c29 : Index := 29#32
  ![v2285.toNat, v2286.toNat, 29]
def k0_off108 (i : grid0.Coords) (v6 : BitVec 32) (v12 : BitVec 32) (k0_t4 : Fin (k0_t4_loop v6 v12).trips) : Fin 3 → Nat :=
  let arg0 : BitVec 32 := BitVec.ofNat 32 (i 0).val
  let v2406 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v2407 : Index := Scalar.indexCast arg21
  let c30 : Index := 30#32
  ![v2406.toNat, v2407.toNat, 30]
def k0_off109 (i : grid0.Coords) (v6 : BitVec 32) (v12 : BitVec 32) (k0_t4 : Fin (k0_t4_loop v6 v12).trips) : Fin 3 → Nat :=
  let arg0 : BitVec 32 := BitVec.ofNat 32 (i 0).val
  let v2440 : Index := Scalar.indexCast arg0
  let c0_i32_11 : BitVec 32 := 0#32
  let v31 : BitVec 32 := Scalar.maxsi v6 c0_i32_11
  let c1_i32_12 : BitVec 32 := 1#32
  let v32 : BitVec 32 := Scalar.addi v12 c1_i32_12
  let v33 : BitVec 32 := Scalar.subi v32 v31
  let c1_i32_14 : BitVec 32 := 1#32
  let v35 : BitVec 32 := Scalar.divsi v33 c1_i32_14
  let v36 : BitVec 32 := Scalar.muli v35 c1_i32_14
  let v37 : BitVec 32 := Scalar.addi v31 v36
  let c1_i32_16 : BitVec 32 := 1#32
  let arg21 : BitVec 32 := Scf.iv v37 c1_i32_16 k0_t4
  let v2441 : Index := Scalar.indexCast arg21
  let c31 : Index := 31#32
  ![v2440.toNat, v2441.toNat, 31]

def k0_chk1_0 (i : grid0.Coords) (v6 : BitVec 32) (v12 : BitVec 32) : Prop :=
  (∀ (k0_h2 : k0_cond2 v6 v12 = 1#1), ∀ (r : Fin 16), ∀ a, (k0_off8 v12 (BitVec.ofNat 32 (2 * r.val))) a + S1x64x128.size a ≤ S160x64x128.size a) ∧
  (∀ (k0_h2 : k0_cond2 v6 v12 = 1#1), ∀ (r₁ : Fin 16) (r₂ : Fin 2), ∀ a, (k0_off9 v12 (BitVec.ofNat 32 (2 * r₁.val)) (BitVec.ofNat 32 r₂.val)) a + S1x64x128.size a ≤ S160x64x128.size a) ∧
  (∀ (k0_h2 : k0_cond2 v6 v12 = 1#1), ∀ a, (k0_off10 i v12) a + S1x1x1.size a ≤ S4x5x32.size a) ∧
  (∀ (k0_h2 : k0_cond2 v6 v12 = 1#1), ∀ a, (k0_off11 i v12) a + S1x1x1.size a ≤ S4x5x32.size a) ∧
  (∀ (k0_h2 : k0_cond2 v6 v12 = 1#1), ∀ a, (k0_off12 i v12) a + S1x1x1.size a ≤ S4x5x32.size a) ∧
  (∀ (k0_h2 : k0_cond2 v6 v12 = 1#1), ∀ a, (k0_off13 i v12) a + S1x1x1.size a ≤ S4x5x32.size a) ∧
  (∀ (k0_h2 : k0_cond2 v6 v12 = 1#1), ∀ a, (k0_off14 i v12) a + S1x1x1.size a ≤ S4x5x32.size a) ∧
  (∀ (k0_h2 : k0_cond2 v6 v12 = 1#1), ∀ a, (k0_off15 i v12) a + S1x1x1.size a ≤ S4x5x32.size a) ∧
  (∀ (k0_h2 : k0_cond2 v6 v12 = 1#1), ∀ a, (k0_off16 i v12) a + S1x1x1.size a ≤ S4x5x32.size a) ∧
  (∀ (k0_h2 : k0_cond2 v6 v12 = 1#1), ∀ a, (k0_off17 i v12) a + S1x1x1.size a ≤ S4x5x32.size a) ∧
  (∀ (k0_h2 : k0_cond2 v6 v12 = 1#1), ∀ a, (k0_off18 i v12) a + S1x1x1.size a ≤ S4x5x32.size a) ∧
  (∀ (k0_h2 : k0_cond2 v6 v12 = 1#1), ∀ a, (k0_off19 i v12) a + S1x1x1.size a ≤ S4x5x32.size a) ∧
  (∀ (k0_h2 : k0_cond2 v6 v12 = 1#1), ∀ a, (k0_off20 i v12) a + S1x1x1.size a ≤ S4x5x32.size a) ∧
  (∀ (k0_h2 : k0_cond2 v6 v12 = 1#1), ∀ a, (k0_off21 i v12) a + S1x1x1.size a ≤ S4x5x32.size a) ∧
  (∀ (k0_h2 : k0_cond2 v6 v12 = 1#1), ∀ a, (k0_off22 i v12) a + S1x1x1.size a ≤ S4x5x32.size a) ∧
  (∀ (k0_h2 : k0_cond2 v6 v12 = 1#1), ∀ a, (k0_off23 i v12) a + S1x1x1.size a ≤ S4x5x32.size a) ∧
  (∀ (k0_h2 : k0_cond2 v6 v12 = 1#1), ∀ a, (k0_off24 i v12) a + S1x1x1.size a ≤ S4x5x32.size a) ∧
  (∀ (k0_h2 : k0_cond2 v6 v12 = 1#1), ∀ a, (k0_off25 i v12) a + S1x1x1.size a ≤ S4x5x32.size a) ∧
  (∀ (k0_h2 : k0_cond2 v6 v12 = 1#1), ∀ a, (k0_off26 i v12) a + S1x1x1.size a ≤ S4x5x32.size a) ∧
  (∀ (k0_h2 : k0_cond2 v6 v12 = 1#1), ∀ a, (k0_off27 i v12) a + S1x1x1.size a ≤ S4x5x32.size a) ∧
  (∀ (k0_h2 : k0_cond2 v6 v12 = 1#1), ∀ a, (k0_off28 i v12) a + S1x1x1.size a ≤ S4x5x32.size a) ∧
  (∀ (k0_h2 : k0_cond2 v6 v12 = 1#1), ∀ a, (k0_off29 i v12) a + S1x1x1.size a ≤ S4x5x32.size a) ∧
  (∀ (k0_h2 : k0_cond2 v6 v12 = 1#1), ∀ a, (k0_off30 i v12) a + S1x1x1.size a ≤ S4x5x32.size a) ∧
  (∀ (k0_h2 : k0_cond2 v6 v12 = 1#1), ∀ a, (k0_off31 i v12) a + S1x1x1.size a ≤ S4x5x32.size a) ∧
  (∀ (k0_h2 : k0_cond2 v6 v12 = 1#1), ∀ a, (k0_off32 i v12) a + S1x1x1.size a ≤ S4x5x32.size a) ∧
  (∀ (k0_h2 : k0_cond2 v6 v12 = 1#1), ∀ a, (k0_off33 i v12) a + S1x1x1.size a ≤ S4x5x32.size a) ∧
  (∀ (k0_h2 : k0_cond2 v6 v12 = 1#1), ∀ a, (k0_off34 i v12) a + S1x1x1.size a ≤ S4x5x32.size a) ∧
  (∀ (k0_h2 : k0_cond2 v6 v12 = 1#1), ∀ a, (k0_off35 i v12) a + S1x1x1.size a ≤ S4x5x32.size a) ∧
  (∀ (k0_h2 : k0_cond2 v6 v12 = 1#1), ∀ a, (k0_off36 i v12) a + S1x1x1.size a ≤ S4x5x32.size a) ∧
  (∀ (k0_h2 : k0_cond2 v6 v12 = 1#1), ∀ a, (k0_off37 i v12) a + S1x1x1.size a ≤ S4x5x32.size a) ∧
  (∀ (k0_h2 : k0_cond2 v6 v12 = 1#1), ∀ a, (k0_off38 i v12) a + S1x1x1.size a ≤ S4x5x32.size a) ∧
  (∀ (k0_h2 : k0_cond2 v6 v12 = 1#1), ∀ a, (k0_off39 i v12) a + S1x1x1.size a ≤ S4x5x32.size a)
def k0_chk1_1 (i : grid0.Coords) (v6 : BitVec 32) (v12 : BitVec 32) : Prop :=
  (∀ (k0_h2 : k0_cond2 v6 v12 = 1#1), ∀ a, (k0_off40 i v12) a + S1x1x1.size a ≤ S4x5x32.size a) ∧
  (∀ (k0_h2 : k0_cond2 v6 v12 = 1#1), ∀ a, (k0_off41 i v12) a + S1x1x1.size a ≤ S4x5x32.size a) ∧
  (∀ (k0_h3 : k0_cond3 v6 v12 = 1#1), (k0_t3_loop v6 v12).OK) ∧
  (∀ k0_t3 : Fin (k0_t3_loop v6 v12).trips, ∀ (k0_h3 : k0_cond3 v6 v12 = 1#1), ∀ (r : Fin 16), ∀ a, (k0_off42 v6 v12 k0_t3 (BitVec.ofNat 32 (2 * r.val))) a + S1x64x128.size a ≤ S160x64x128.size a) ∧
  (∀ k0_t3 : Fin (k0_t3_loop v6 v12).trips, ∀ (k0_h3 : k0_cond3 v6 v12 = 1#1), ∀ (r₁ : Fin 16) (r₂ : Fin 2), ∀ a, (k0_off43 v6 v12 k0_t3 (BitVec.ofNat 32 (2 * r₁.val)) (BitVec.ofNat 32 r₂.val)) a + S1x64x128.size a ≤ S160x64x128.size a) ∧
  (∀ k0_t3 : Fin (k0_t3_loop v6 v12).trips, ∀ (k0_h3 : k0_cond3 v6 v12 = 1#1), ∀ a, (k0_off44 i v6 v12 k0_t3) a + S1x1x1.size a ≤ S4x5x32.size a) ∧
  (∀ k0_t3 : Fin (k0_t3_loop v6 v12).trips, ∀ (k0_h3 : k0_cond3 v6 v12 = 1#1), ∀ a, (k0_off45 i v6 v12 k0_t3) a + S1x1x1.size a ≤ S4x5x32.size a) ∧
  (∀ k0_t3 : Fin (k0_t3_loop v6 v12).trips, ∀ (k0_h3 : k0_cond3 v6 v12 = 1#1), ∀ a, (k0_off46 i v6 v12 k0_t3) a + S1x1x1.size a ≤ S4x5x32.size a) ∧
  (∀ k0_t3 : Fin (k0_t3_loop v6 v12).trips, ∀ (k0_h3 : k0_cond3 v6 v12 = 1#1), ∀ a, (k0_off47 i v6 v12 k0_t3) a + S1x1x1.size a ≤ S4x5x32.size a) ∧
  (∀ k0_t3 : Fin (k0_t3_loop v6 v12).trips, ∀ (k0_h3 : k0_cond3 v6 v12 = 1#1), ∀ a, (k0_off48 i v6 v12 k0_t3) a + S1x1x1.size a ≤ S4x5x32.size a) ∧
  (∀ k0_t3 : Fin (k0_t3_loop v6 v12).trips, ∀ (k0_h3 : k0_cond3 v6 v12 = 1#1), ∀ a, (k0_off49 i v6 v12 k0_t3) a + S1x1x1.size a ≤ S4x5x32.size a) ∧
  (∀ k0_t3 : Fin (k0_t3_loop v6 v12).trips, ∀ (k0_h3 : k0_cond3 v6 v12 = 1#1), ∀ a, (k0_off50 i v6 v12 k0_t3) a + S1x1x1.size a ≤ S4x5x32.size a) ∧
  (∀ k0_t3 : Fin (k0_t3_loop v6 v12).trips, ∀ (k0_h3 : k0_cond3 v6 v12 = 1#1), ∀ a, (k0_off51 i v6 v12 k0_t3) a + S1x1x1.size a ≤ S4x5x32.size a) ∧
  (∀ k0_t3 : Fin (k0_t3_loop v6 v12).trips, ∀ (k0_h3 : k0_cond3 v6 v12 = 1#1), ∀ a, (k0_off52 i v6 v12 k0_t3) a + S1x1x1.size a ≤ S4x5x32.size a) ∧
  (∀ k0_t3 : Fin (k0_t3_loop v6 v12).trips, ∀ (k0_h3 : k0_cond3 v6 v12 = 1#1), ∀ a, (k0_off53 i v6 v12 k0_t3) a + S1x1x1.size a ≤ S4x5x32.size a) ∧
  (∀ k0_t3 : Fin (k0_t3_loop v6 v12).trips, ∀ (k0_h3 : k0_cond3 v6 v12 = 1#1), ∀ a, (k0_off54 i v6 v12 k0_t3) a + S1x1x1.size a ≤ S4x5x32.size a) ∧
  (∀ k0_t3 : Fin (k0_t3_loop v6 v12).trips, ∀ (k0_h3 : k0_cond3 v6 v12 = 1#1), ∀ a, (k0_off55 i v6 v12 k0_t3) a + S1x1x1.size a ≤ S4x5x32.size a) ∧
  (∀ k0_t3 : Fin (k0_t3_loop v6 v12).trips, ∀ (k0_h3 : k0_cond3 v6 v12 = 1#1), ∀ a, (k0_off56 i v6 v12 k0_t3) a + S1x1x1.size a ≤ S4x5x32.size a) ∧
  (∀ k0_t3 : Fin (k0_t3_loop v6 v12).trips, ∀ (k0_h3 : k0_cond3 v6 v12 = 1#1), ∀ a, (k0_off57 i v6 v12 k0_t3) a + S1x1x1.size a ≤ S4x5x32.size a) ∧
  (∀ k0_t3 : Fin (k0_t3_loop v6 v12).trips, ∀ (k0_h3 : k0_cond3 v6 v12 = 1#1), ∀ a, (k0_off58 i v6 v12 k0_t3) a + S1x1x1.size a ≤ S4x5x32.size a) ∧
  (∀ k0_t3 : Fin (k0_t3_loop v6 v12).trips, ∀ (k0_h3 : k0_cond3 v6 v12 = 1#1), ∀ a, (k0_off59 i v6 v12 k0_t3) a + S1x1x1.size a ≤ S4x5x32.size a) ∧
  (∀ k0_t3 : Fin (k0_t3_loop v6 v12).trips, ∀ (k0_h3 : k0_cond3 v6 v12 = 1#1), ∀ a, (k0_off60 i v6 v12 k0_t3) a + S1x1x1.size a ≤ S4x5x32.size a) ∧
  (∀ k0_t3 : Fin (k0_t3_loop v6 v12).trips, ∀ (k0_h3 : k0_cond3 v6 v12 = 1#1), ∀ a, (k0_off61 i v6 v12 k0_t3) a + S1x1x1.size a ≤ S4x5x32.size a) ∧
  (∀ k0_t3 : Fin (k0_t3_loop v6 v12).trips, ∀ (k0_h3 : k0_cond3 v6 v12 = 1#1), ∀ a, (k0_off62 i v6 v12 k0_t3) a + S1x1x1.size a ≤ S4x5x32.size a) ∧
  (∀ k0_t3 : Fin (k0_t3_loop v6 v12).trips, ∀ (k0_h3 : k0_cond3 v6 v12 = 1#1), ∀ a, (k0_off63 i v6 v12 k0_t3) a + S1x1x1.size a ≤ S4x5x32.size a) ∧
  (∀ k0_t3 : Fin (k0_t3_loop v6 v12).trips, ∀ (k0_h3 : k0_cond3 v6 v12 = 1#1), ∀ a, (k0_off64 i v6 v12 k0_t3) a + S1x1x1.size a ≤ S4x5x32.size a) ∧
  (∀ k0_t3 : Fin (k0_t3_loop v6 v12).trips, ∀ (k0_h3 : k0_cond3 v6 v12 = 1#1), ∀ a, (k0_off65 i v6 v12 k0_t3) a + S1x1x1.size a ≤ S4x5x32.size a) ∧
  (∀ k0_t3 : Fin (k0_t3_loop v6 v12).trips, ∀ (k0_h3 : k0_cond3 v6 v12 = 1#1), ∀ a, (k0_off66 i v6 v12 k0_t3) a + S1x1x1.size a ≤ S4x5x32.size a) ∧
  (∀ k0_t3 : Fin (k0_t3_loop v6 v12).trips, ∀ (k0_h3 : k0_cond3 v6 v12 = 1#1), ∀ a, (k0_off67 i v6 v12 k0_t3) a + S1x1x1.size a ≤ S4x5x32.size a) ∧
  (∀ k0_t3 : Fin (k0_t3_loop v6 v12).trips, ∀ (k0_h3 : k0_cond3 v6 v12 = 1#1), ∀ a, (k0_off68 i v6 v12 k0_t3) a + S1x1x1.size a ≤ S4x5x32.size a) ∧
  (∀ k0_t3 : Fin (k0_t3_loop v6 v12).trips, ∀ (k0_h3 : k0_cond3 v6 v12 = 1#1), ∀ a, (k0_off69 i v6 v12 k0_t3) a + S1x1x1.size a ≤ S4x5x32.size a) ∧
  (∀ k0_t3 : Fin (k0_t3_loop v6 v12).trips, ∀ (k0_h3 : k0_cond3 v6 v12 = 1#1), ∀ a, (k0_off70 i v6 v12 k0_t3) a + S1x1x1.size a ≤ S4x5x32.size a)
def k0_chk1_2 (i : grid0.Coords) (v6 : BitVec 32) (v12 : BitVec 32) : Prop :=
  (∀ k0_t3 : Fin (k0_t3_loop v6 v12).trips, ∀ (k0_h3 : k0_cond3 v6 v12 = 1#1), ∀ a, (k0_off71 i v6 v12 k0_t3) a + S1x1x1.size a ≤ S4x5x32.size a) ∧
  (∀ k0_t3 : Fin (k0_t3_loop v6 v12).trips, ∀ (k0_h3 : k0_cond3 v6 v12 = 1#1), ∀ a, (k0_off72 i v6 v12 k0_t3) a + S1x1x1.size a ≤ S4x5x32.size a) ∧
  (∀ k0_t3 : Fin (k0_t3_loop v6 v12).trips, ∀ (k0_h3 : k0_cond3 v6 v12 = 1#1), ∀ a, (k0_off73 i v6 v12 k0_t3) a + S1x1x1.size a ≤ S4x5x32.size a) ∧
  (∀ k0_t3 : Fin (k0_t3_loop v6 v12).trips, ∀ (k0_h3 : k0_cond3 v6 v12 = 1#1), ∀ a, (k0_off74 i v6 v12 k0_t3) a + S1x1x1.size a ≤ S4x5x32.size a) ∧
  (∀ k0_t3 : Fin (k0_t3_loop v6 v12).trips, ∀ (k0_h3 : k0_cond3 v6 v12 = 1#1), ∀ a, (k0_off75 i v6 v12 k0_t3) a + S1x1x1.size a ≤ S4x5x32.size a) ∧
  (∀ (k0_h3 : k0_cond3 v6 v12 = 1#1), (k0_t4_loop v6 v12).OK) ∧
  (∀ k0_t4 : Fin (k0_t4_loop v6 v12).trips, ∀ (k0_h3 : k0_cond3 v6 v12 = 1#1), ∀ (r : Fin 16), ∀ a, (k0_off76 v6 v12 k0_t4 (BitVec.ofNat 32 (2 * r.val))) a + S1x64x128.size a ≤ S160x64x128.size a) ∧
  (∀ k0_t4 : Fin (k0_t4_loop v6 v12).trips, ∀ (k0_h3 : k0_cond3 v6 v12 = 1#1), ∀ (r₁ : Fin 16) (r₂ : Fin 2), ∀ a, (k0_off77 v6 v12 k0_t4 (BitVec.ofNat 32 (2 * r₁.val)) (BitVec.ofNat 32 r₂.val)) a + S1x64x128.size a ≤ S160x64x128.size a) ∧
  (∀ k0_t4 : Fin (k0_t4_loop v6 v12).trips, ∀ (k0_h3 : k0_cond3 v6 v12 = 1#1), ∀ a, (k0_off78 i v6 v12 k0_t4) a + S1x1x1.size a ≤ S4x5x32.size a) ∧
  (∀ k0_t4 : Fin (k0_t4_loop v6 v12).trips, ∀ (k0_h3 : k0_cond3 v6 v12 = 1#1), ∀ a, (k0_off79 i v6 v12 k0_t4) a + S1x1x1.size a ≤ S4x5x32.size a) ∧
  (∀ k0_t4 : Fin (k0_t4_loop v6 v12).trips, ∀ (k0_h3 : k0_cond3 v6 v12 = 1#1), ∀ a, (k0_off80 i v6 v12 k0_t4) a + S1x1x1.size a ≤ S4x5x32.size a) ∧
  (∀ k0_t4 : Fin (k0_t4_loop v6 v12).trips, ∀ (k0_h3 : k0_cond3 v6 v12 = 1#1), ∀ a, (k0_off81 i v6 v12 k0_t4) a + S1x1x1.size a ≤ S4x5x32.size a) ∧
  (∀ k0_t4 : Fin (k0_t4_loop v6 v12).trips, ∀ (k0_h3 : k0_cond3 v6 v12 = 1#1), ∀ a, (k0_off82 i v6 v12 k0_t4) a + S1x1x1.size a ≤ S4x5x32.size a) ∧
  (∀ k0_t4 : Fin (k0_t4_loop v6 v12).trips, ∀ (k0_h3 : k0_cond3 v6 v12 = 1#1), ∀ a, (k0_off83 i v6 v12 k0_t4) a + S1x1x1.size a ≤ S4x5x32.size a) ∧
  (∀ k0_t4 : Fin (k0_t4_loop v6 v12).trips, ∀ (k0_h3 : k0_cond3 v6 v12 = 1#1), ∀ a, (k0_off84 i v6 v12 k0_t4) a + S1x1x1.size a ≤ S4x5x32.size a) ∧
  (∀ k0_t4 : Fin (k0_t4_loop v6 v12).trips, ∀ (k0_h3 : k0_cond3 v6 v12 = 1#1), ∀ a, (k0_off85 i v6 v12 k0_t4) a + S1x1x1.size a ≤ S4x5x32.size a) ∧
  (∀ k0_t4 : Fin (k0_t4_loop v6 v12).trips, ∀ (k0_h3 : k0_cond3 v6 v12 = 1#1), ∀ a, (k0_off86 i v6 v12 k0_t4) a + S1x1x1.size a ≤ S4x5x32.size a) ∧
  (∀ k0_t4 : Fin (k0_t4_loop v6 v12).trips, ∀ (k0_h3 : k0_cond3 v6 v12 = 1#1), ∀ a, (k0_off87 i v6 v12 k0_t4) a + S1x1x1.size a ≤ S4x5x32.size a) ∧
  (∀ k0_t4 : Fin (k0_t4_loop v6 v12).trips, ∀ (k0_h3 : k0_cond3 v6 v12 = 1#1), ∀ a, (k0_off88 i v6 v12 k0_t4) a + S1x1x1.size a ≤ S4x5x32.size a) ∧
  (∀ k0_t4 : Fin (k0_t4_loop v6 v12).trips, ∀ (k0_h3 : k0_cond3 v6 v12 = 1#1), ∀ a, (k0_off89 i v6 v12 k0_t4) a + S1x1x1.size a ≤ S4x5x32.size a) ∧
  (∀ k0_t4 : Fin (k0_t4_loop v6 v12).trips, ∀ (k0_h3 : k0_cond3 v6 v12 = 1#1), ∀ a, (k0_off90 i v6 v12 k0_t4) a + S1x1x1.size a ≤ S4x5x32.size a) ∧
  (∀ k0_t4 : Fin (k0_t4_loop v6 v12).trips, ∀ (k0_h3 : k0_cond3 v6 v12 = 1#1), ∀ a, (k0_off91 i v6 v12 k0_t4) a + S1x1x1.size a ≤ S4x5x32.size a) ∧
  (∀ k0_t4 : Fin (k0_t4_loop v6 v12).trips, ∀ (k0_h3 : k0_cond3 v6 v12 = 1#1), ∀ a, (k0_off92 i v6 v12 k0_t4) a + S1x1x1.size a ≤ S4x5x32.size a) ∧
  (∀ k0_t4 : Fin (k0_t4_loop v6 v12).trips, ∀ (k0_h3 : k0_cond3 v6 v12 = 1#1), ∀ a, (k0_off93 i v6 v12 k0_t4) a + S1x1x1.size a ≤ S4x5x32.size a) ∧
  (∀ k0_t4 : Fin (k0_t4_loop v6 v12).trips, ∀ (k0_h3 : k0_cond3 v6 v12 = 1#1), ∀ a, (k0_off94 i v6 v12 k0_t4) a + S1x1x1.size a ≤ S4x5x32.size a) ∧
  (∀ k0_t4 : Fin (k0_t4_loop v6 v12).trips, ∀ (k0_h3 : k0_cond3 v6 v12 = 1#1), ∀ a, (k0_off95 i v6 v12 k0_t4) a + S1x1x1.size a ≤ S4x5x32.size a) ∧
  (∀ k0_t4 : Fin (k0_t4_loop v6 v12).trips, ∀ (k0_h3 : k0_cond3 v6 v12 = 1#1), ∀ a, (k0_off96 i v6 v12 k0_t4) a + S1x1x1.size a ≤ S4x5x32.size a) ∧
  (∀ k0_t4 : Fin (k0_t4_loop v6 v12).trips, ∀ (k0_h3 : k0_cond3 v6 v12 = 1#1), ∀ a, (k0_off97 i v6 v12 k0_t4) a + S1x1x1.size a ≤ S4x5x32.size a) ∧
  (∀ k0_t4 : Fin (k0_t4_loop v6 v12).trips, ∀ (k0_h3 : k0_cond3 v6 v12 = 1#1), ∀ a, (k0_off98 i v6 v12 k0_t4) a + S1x1x1.size a ≤ S4x5x32.size a) ∧
  (∀ k0_t4 : Fin (k0_t4_loop v6 v12).trips, ∀ (k0_h3 : k0_cond3 v6 v12 = 1#1), ∀ a, (k0_off99 i v6 v12 k0_t4) a + S1x1x1.size a ≤ S4x5x32.size a) ∧
  (∀ k0_t4 : Fin (k0_t4_loop v6 v12).trips, ∀ (k0_h3 : k0_cond3 v6 v12 = 1#1), ∀ a, (k0_off100 i v6 v12 k0_t4) a + S1x1x1.size a ≤ S4x5x32.size a) ∧
  (∀ k0_t4 : Fin (k0_t4_loop v6 v12).trips, ∀ (k0_h3 : k0_cond3 v6 v12 = 1#1), ∀ a, (k0_off101 i v6 v12 k0_t4) a + S1x1x1.size a ≤ S4x5x32.size a)
def k0_chk1_3 (i : grid0.Coords) (v6 : BitVec 32) (v12 : BitVec 32) : Prop :=
  (∀ k0_t4 : Fin (k0_t4_loop v6 v12).trips, ∀ (k0_h3 : k0_cond3 v6 v12 = 1#1), ∀ a, (k0_off102 i v6 v12 k0_t4) a + S1x1x1.size a ≤ S4x5x32.size a) ∧
  (∀ k0_t4 : Fin (k0_t4_loop v6 v12).trips, ∀ (k0_h3 : k0_cond3 v6 v12 = 1#1), ∀ a, (k0_off103 i v6 v12 k0_t4) a + S1x1x1.size a ≤ S4x5x32.size a) ∧
  (∀ k0_t4 : Fin (k0_t4_loop v6 v12).trips, ∀ (k0_h3 : k0_cond3 v6 v12 = 1#1), ∀ a, (k0_off104 i v6 v12 k0_t4) a + S1x1x1.size a ≤ S4x5x32.size a) ∧
  (∀ k0_t4 : Fin (k0_t4_loop v6 v12).trips, ∀ (k0_h3 : k0_cond3 v6 v12 = 1#1), ∀ a, (k0_off105 i v6 v12 k0_t4) a + S1x1x1.size a ≤ S4x5x32.size a) ∧
  (∀ k0_t4 : Fin (k0_t4_loop v6 v12).trips, ∀ (k0_h3 : k0_cond3 v6 v12 = 1#1), ∀ a, (k0_off106 i v6 v12 k0_t4) a + S1x1x1.size a ≤ S4x5x32.size a) ∧
  (∀ k0_t4 : Fin (k0_t4_loop v6 v12).trips, ∀ (k0_h3 : k0_cond3 v6 v12 = 1#1), ∀ a, (k0_off107 i v6 v12 k0_t4) a + S1x1x1.size a ≤ S4x5x32.size a) ∧
  (∀ k0_t4 : Fin (k0_t4_loop v6 v12).trips, ∀ (k0_h3 : k0_cond3 v6 v12 = 1#1), ∀ a, (k0_off108 i v6 v12 k0_t4) a + S1x1x1.size a ≤ S4x5x32.size a) ∧
  (∀ k0_t4 : Fin (k0_t4_loop v6 v12).trips, ∀ (k0_h3 : k0_cond3 v6 v12 = 1#1), ∀ a, (k0_off109 i v6 v12 k0_t4) a + S1x1x1.size a ≤ S4x5x32.size a)
def k0_chk1 (i : grid0.Coords) (v6 : BitVec 32) (v12 : BitVec 32) : Prop :=
  k0_chk1_0 i v6 v12 ∧
  k0_chk1_1 i v6 v12 ∧
  k0_chk1_2 i v6 v12 ∧
  k0_chk1_3 i v6 v12
theorem k0_off8_inb : ∀ (i : grid0.Coords) (v6 : BitVec 32) (v12 : BitVec 32) (k0_hw1 : k0_chk1 i v6 v12), ∀ (k0_h2 : k0_cond2 v6 v12 = 1#1), ∀ (r : Fin 16), ∀ a, (k0_off8 v12 (BitVec.ofNat 32 (2 * r.val))) a + S1x64x128.size a ≤ S160x64x128.size a := fun i v6 v12 k0_hw1 k0_h2 r => k0_hw1.1.1 k0_h2 r
theorem k0_off9_inb : ∀ (i : grid0.Coords) (v6 : BitVec 32) (v12 : BitVec 32) (k0_hw1 : k0_chk1 i v6 v12), ∀ (k0_h2 : k0_cond2 v6 v12 = 1#1), ∀ (r₁ : Fin 16) (r₂ : Fin 2), ∀ a, (k0_off9 v12 (BitVec.ofNat 32 (2 * r₁.val)) (BitVec.ofNat 32 r₂.val)) a + S1x64x128.size a ≤ S160x64x128.size a := fun i v6 v12 k0_hw1 k0_h2 r₁ r₂ => k0_hw1.1.2.1 k0_h2 r₁ r₂
theorem k0_off10_inb : ∀ (i : grid0.Coords) (v6 : BitVec 32) (v12 : BitVec 32) (k0_hw1 : k0_chk1 i v6 v12), ∀ (k0_h2 : k0_cond2 v6 v12 = 1#1), ∀ a, (k0_off10 i v12) a + S1x1x1.size a ≤ S4x5x32.size a := fun i v6 v12 k0_hw1 k0_h2 => k0_hw1.1.2.2.1 k0_h2
theorem k0_off11_inb : ∀ (i : grid0.Coords) (v6 : BitVec 32) (v12 : BitVec 32) (k0_hw1 : k0_chk1 i v6 v12), ∀ (k0_h2 : k0_cond2 v6 v12 = 1#1), ∀ a, (k0_off11 i v12) a + S1x1x1.size a ≤ S4x5x32.size a := fun i v6 v12 k0_hw1 k0_h2 => k0_hw1.1.2.2.2.1 k0_h2
theorem k0_off12_inb : ∀ (i : grid0.Coords) (v6 : BitVec 32) (v12 : BitVec 32) (k0_hw1 : k0_chk1 i v6 v12), ∀ (k0_h2 : k0_cond2 v6 v12 = 1#1), ∀ a, (k0_off12 i v12) a + S1x1x1.size a ≤ S4x5x32.size a := fun i v6 v12 k0_hw1 k0_h2 => k0_hw1.1.2.2.2.2.1 k0_h2
theorem k0_off13_inb : ∀ (i : grid0.Coords) (v6 : BitVec 32) (v12 : BitVec 32) (k0_hw1 : k0_chk1 i v6 v12), ∀ (k0_h2 : k0_cond2 v6 v12 = 1#1), ∀ a, (k0_off13 i v12) a + S1x1x1.size a ≤ S4x5x32.size a := fun i v6 v12 k0_hw1 k0_h2 => k0_hw1.1.2.2.2.2.2.1 k0_h2
theorem k0_off14_inb : ∀ (i : grid0.Coords) (v6 : BitVec 32) (v12 : BitVec 32) (k0_hw1 : k0_chk1 i v6 v12), ∀ (k0_h2 : k0_cond2 v6 v12 = 1#1), ∀ a, (k0_off14 i v12) a + S1x1x1.size a ≤ S4x5x32.size a := fun i v6 v12 k0_hw1 k0_h2 => k0_hw1.1.2.2.2.2.2.2.1 k0_h2
theorem k0_off15_inb : ∀ (i : grid0.Coords) (v6 : BitVec 32) (v12 : BitVec 32) (k0_hw1 : k0_chk1 i v6 v12), ∀ (k0_h2 : k0_cond2 v6 v12 = 1#1), ∀ a, (k0_off15 i v12) a + S1x1x1.size a ≤ S4x5x32.size a := fun i v6 v12 k0_hw1 k0_h2 => k0_hw1.1.2.2.2.2.2.2.2.1 k0_h2
theorem k0_off16_inb : ∀ (i : grid0.Coords) (v6 : BitVec 32) (v12 : BitVec 32) (k0_hw1 : k0_chk1 i v6 v12), ∀ (k0_h2 : k0_cond2 v6 v12 = 1#1), ∀ a, (k0_off16 i v12) a + S1x1x1.size a ≤ S4x5x32.size a := fun i v6 v12 k0_hw1 k0_h2 => k0_hw1.1.2.2.2.2.2.2.2.2.1 k0_h2
theorem k0_off17_inb : ∀ (i : grid0.Coords) (v6 : BitVec 32) (v12 : BitVec 32) (k0_hw1 : k0_chk1 i v6 v12), ∀ (k0_h2 : k0_cond2 v6 v12 = 1#1), ∀ a, (k0_off17 i v12) a + S1x1x1.size a ≤ S4x5x32.size a := fun i v6 v12 k0_hw1 k0_h2 => k0_hw1.1.2.2.2.2.2.2.2.2.2.1 k0_h2
theorem k0_off18_inb : ∀ (i : grid0.Coords) (v6 : BitVec 32) (v12 : BitVec 32) (k0_hw1 : k0_chk1 i v6 v12), ∀ (k0_h2 : k0_cond2 v6 v12 = 1#1), ∀ a, (k0_off18 i v12) a + S1x1x1.size a ≤ S4x5x32.size a := fun i v6 v12 k0_hw1 k0_h2 => k0_hw1.1.2.2.2.2.2.2.2.2.2.2.1 k0_h2
theorem k0_off19_inb : ∀ (i : grid0.Coords) (v6 : BitVec 32) (v12 : BitVec 32) (k0_hw1 : k0_chk1 i v6 v12), ∀ (k0_h2 : k0_cond2 v6 v12 = 1#1), ∀ a, (k0_off19 i v12) a + S1x1x1.size a ≤ S4x5x32.size a := fun i v6 v12 k0_hw1 k0_h2 => k0_hw1.1.2.2.2.2.2.2.2.2.2.2.2.1 k0_h2
theorem k0_off20_inb : ∀ (i : grid0.Coords) (v6 : BitVec 32) (v12 : BitVec 32) (k0_hw1 : k0_chk1 i v6 v12), ∀ (k0_h2 : k0_cond2 v6 v12 = 1#1), ∀ a, (k0_off20 i v12) a + S1x1x1.size a ≤ S4x5x32.size a := fun i v6 v12 k0_hw1 k0_h2 => k0_hw1.1.2.2.2.2.2.2.2.2.2.2.2.2.1 k0_h2
theorem k0_off21_inb : ∀ (i : grid0.Coords) (v6 : BitVec 32) (v12 : BitVec 32) (k0_hw1 : k0_chk1 i v6 v12), ∀ (k0_h2 : k0_cond2 v6 v12 = 1#1), ∀ a, (k0_off21 i v12) a + S1x1x1.size a ≤ S4x5x32.size a := fun i v6 v12 k0_hw1 k0_h2 => k0_hw1.1.2.2.2.2.2.2.2.2.2.2.2.2.2.1 k0_h2
theorem k0_off22_inb : ∀ (i : grid0.Coords) (v6 : BitVec 32) (v12 : BitVec 32) (k0_hw1 : k0_chk1 i v6 v12), ∀ (k0_h2 : k0_cond2 v6 v12 = 1#1), ∀ a, (k0_off22 i v12) a + S1x1x1.size a ≤ S4x5x32.size a := fun i v6 v12 k0_hw1 k0_h2 => k0_hw1.1.2.2.2.2.2.2.2.2.2.2.2.2.2.2.1 k0_h2
theorem k0_off23_inb : ∀ (i : grid0.Coords) (v6 : BitVec 32) (v12 : BitVec 32) (k0_hw1 : k0_chk1 i v6 v12), ∀ (k0_h2 : k0_cond2 v6 v12 = 1#1), ∀ a, (k0_off23 i v12) a + S1x1x1.size a ≤ S4x5x32.size a := fun i v6 v12 k0_hw1 k0_h2 => k0_hw1.1.2.2.2.2.2.2.2.2.2.2.2.2.2.2.2.1 k0_h2
theorem k0_off24_inb : ∀ (i : grid0.Coords) (v6 : BitVec 32) (v12 : BitVec 32) (k0_hw1 : k0_chk1 i v6 v12), ∀ (k0_h2 : k0_cond2 v6 v12 = 1#1), ∀ a, (k0_off24 i v12) a + S1x1x1.size a ≤ S4x5x32.size a := fun i v6 v12 k0_hw1 k0_h2 => k0_hw1.1.2.2.2.2.2.2.2.2.2.2.2.2.2.2.2.2.1 k0_h2
theorem k0_off25_inb : ∀ (i : grid0.Coords) (v6 : BitVec 32) (v12 : BitVec 32) (k0_hw1 : k0_chk1 i v6 v12), ∀ (k0_h2 : k0_cond2 v6 v12 = 1#1), ∀ a, (k0_off25 i v12) a + S1x1x1.size a ≤ S4x5x32.size a := fun i v6 v12 k0_hw1 k0_h2 => k0_hw1.1.2.2.2.2.2.2.2.2.2.2.2.2.2.2.2.2.2.1 k0_h2
theorem k0_off26_inb : ∀ (i : grid0.Coords) (v6 : BitVec 32) (v12 : BitVec 32) (k0_hw1 : k0_chk1 i v6 v12), ∀ (k0_h2 : k0_cond2 v6 v12 = 1#1), ∀ a, (k0_off26 i v12) a + S1x1x1.size a ≤ S4x5x32.size a := fun i v6 v12 k0_hw1 k0_h2 => k0_hw1.1.2.2.2.2.2.2.2.2.2.2.2.2.2.2.2.2.2.2.1 k0_h2
theorem k0_off27_inb : ∀ (i : grid0.Coords) (v6 : BitVec 32) (v12 : BitVec 32) (k0_hw1 : k0_chk1 i v6 v12), ∀ (k0_h2 : k0_cond2 v6 v12 = 1#1), ∀ a, (k0_off27 i v12) a + S1x1x1.size a ≤ S4x5x32.size a := fun i v6 v12 k0_hw1 k0_h2 => k0_hw1.1.2.2.2.2.2.2.2.2.2.2.2.2.2.2.2.2.2.2.2.1 k0_h2
theorem k0_off28_inb : ∀ (i : grid0.Coords) (v6 : BitVec 32) (v12 : BitVec 32) (k0_hw1 : k0_chk1 i v6 v12), ∀ (k0_h2 : k0_cond2 v6 v12 = 1#1), ∀ a, (k0_off28 i v12) a + S1x1x1.size a ≤ S4x5x32.size a := fun i v6 v12 k0_hw1 k0_h2 => k0_hw1.1.2.2.2.2.2.2.2.2.2.2.2.2.2.2.2.2.2.2.2.2.1 k0_h2
theorem k0_off29_inb : ∀ (i : grid0.Coords) (v6 : BitVec 32) (v12 : BitVec 32) (k0_hw1 : k0_chk1 i v6 v12), ∀ (k0_h2 : k0_cond2 v6 v12 = 1#1), ∀ a, (k0_off29 i v12) a + S1x1x1.size a ≤ S4x5x32.size a := fun i v6 v12 k0_hw1 k0_h2 => k0_hw1.1.2.2.2.2.2.2.2.2.2.2.2.2.2.2.2.2.2.2.2.2.2.1 k0_h2
theorem k0_off30_inb : ∀ (i : grid0.Coords) (v6 : BitVec 32) (v12 : BitVec 32) (k0_hw1 : k0_chk1 i v6 v12), ∀ (k0_h2 : k0_cond2 v6 v12 = 1#1), ∀ a, (k0_off30 i v12) a + S1x1x1.size a ≤ S4x5x32.size a := fun i v6 v12 k0_hw1 k0_h2 => k0_hw1.1.2.2.2.2.2.2.2.2.2.2.2.2.2.2.2.2.2.2.2.2.2.2.1 k0_h2
theorem k0_off31_inb : ∀ (i : grid0.Coords) (v6 : BitVec 32) (v12 : BitVec 32) (k0_hw1 : k0_chk1 i v6 v12), ∀ (k0_h2 : k0_cond2 v6 v12 = 1#1), ∀ a, (k0_off31 i v12) a + S1x1x1.size a ≤ S4x5x32.size a := fun i v6 v12 k0_hw1 k0_h2 => k0_hw1.1.2.2.2.2.2.2.2.2.2.2.2.2.2.2.2.2.2.2.2.2.2.2.2.1 k0_h2
theorem k0_off32_inb : ∀ (i : grid0.Coords) (v6 : BitVec 32) (v12 : BitVec 32) (k0_hw1 : k0_chk1 i v6 v12), ∀ (k0_h2 : k0_cond2 v6 v12 = 1#1), ∀ a, (k0_off32 i v12) a + S1x1x1.size a ≤ S4x5x32.size a := fun i v6 v12 k0_hw1 k0_h2 => k0_hw1.1.2.2.2.2.2.2.2.2.2.2.2.2.2.2.2.2.2.2.2.2.2.2.2.2.1 k0_h2
theorem k0_off33_inb : ∀ (i : grid0.Coords) (v6 : BitVec 32) (v12 : BitVec 32) (k0_hw1 : k0_chk1 i v6 v12), ∀ (k0_h2 : k0_cond2 v6 v12 = 1#1), ∀ a, (k0_off33 i v12) a + S1x1x1.size a ≤ S4x5x32.size a := fun i v6 v12 k0_hw1 k0_h2 => k0_hw1.1.2.2.2.2.2.2.2.2.2.2.2.2.2.2.2.2.2.2.2.2.2.2.2.2.2.1 k0_h2
theorem k0_off34_inb : ∀ (i : grid0.Coords) (v6 : BitVec 32) (v12 : BitVec 32) (k0_hw1 : k0_chk1 i v6 v12), ∀ (k0_h2 : k0_cond2 v6 v12 = 1#1), ∀ a, (k0_off34 i v12) a + S1x1x1.size a ≤ S4x5x32.size a := fun i v6 v12 k0_hw1 k0_h2 => k0_hw1.1.2.2.2.2.2.2.2.2.2.2.2.2.2.2.2.2.2.2.2.2.2.2.2.2.2.2.1 k0_h2
theorem k0_off35_inb : ∀ (i : grid0.Coords) (v6 : BitVec 32) (v12 : BitVec 32) (k0_hw1 : k0_chk1 i v6 v12), ∀ (k0_h2 : k0_cond2 v6 v12 = 1#1), ∀ a, (k0_off35 i v12) a + S1x1x1.size a ≤ S4x5x32.size a := fun i v6 v12 k0_hw1 k0_h2 => k0_hw1.1.2.2.2.2.2.2.2.2.2.2.2.2.2.2.2.2.2.2.2.2.2.2.2.2.2.2.2.1 k0_h2
theorem k0_off36_inb : ∀ (i : grid0.Coords) (v6 : BitVec 32) (v12 : BitVec 32) (k0_hw1 : k0_chk1 i v6 v12), ∀ (k0_h2 : k0_cond2 v6 v12 = 1#1), ∀ a, (k0_off36 i v12) a + S1x1x1.size a ≤ S4x5x32.size a := fun i v6 v12 k0_hw1 k0_h2 => k0_hw1.1.2.2.2.2.2.2.2.2.2.2.2.2.2.2.2.2.2.2.2.2.2.2.2.2.2.2.2.2.1 k0_h2
theorem k0_off37_inb : ∀ (i : grid0.Coords) (v6 : BitVec 32) (v12 : BitVec 32) (k0_hw1 : k0_chk1 i v6 v12), ∀ (k0_h2 : k0_cond2 v6 v12 = 1#1), ∀ a, (k0_off37 i v12) a + S1x1x1.size a ≤ S4x5x32.size a := fun i v6 v12 k0_hw1 k0_h2 => k0_hw1.1.2.2.2.2.2.2.2.2.2.2.2.2.2.2.2.2.2.2.2.2.2.2.2.2.2.2.2.2.2.1 k0_h2
theorem k0_off38_inb : ∀ (i : grid0.Coords) (v6 : BitVec 32) (v12 : BitVec 32) (k0_hw1 : k0_chk1 i v6 v12), ∀ (k0_h2 : k0_cond2 v6 v12 = 1#1), ∀ a, (k0_off38 i v12) a + S1x1x1.size a ≤ S4x5x32.size a := fun i v6 v12 k0_hw1 k0_h2 => k0_hw1.1.2.2.2.2.2.2.2.2.2.2.2.2.2.2.2.2.2.2.2.2.2.2.2.2.2.2.2.2.2.2.1 k0_h2
theorem k0_off39_inb : ∀ (i : grid0.Coords) (v6 : BitVec 32) (v12 : BitVec 32) (k0_hw1 : k0_chk1 i v6 v12), ∀ (k0_h2 : k0_cond2 v6 v12 = 1#1), ∀ a, (k0_off39 i v12) a + S1x1x1.size a ≤ S4x5x32.size a := fun i v6 v12 k0_hw1 k0_h2 => k0_hw1.1.2.2.2.2.2.2.2.2.2.2.2.2.2.2.2.2.2.2.2.2.2.2.2.2.2.2.2.2.2.2.2 k0_h2
theorem k0_off40_inb : ∀ (i : grid0.Coords) (v6 : BitVec 32) (v12 : BitVec 32) (k0_hw1 : k0_chk1 i v6 v12), ∀ (k0_h2 : k0_cond2 v6 v12 = 1#1), ∀ a, (k0_off40 i v12) a + S1x1x1.size a ≤ S4x5x32.size a := fun i v6 v12 k0_hw1 k0_h2 => k0_hw1.2.1.1 k0_h2
theorem k0_off41_inb : ∀ (i : grid0.Coords) (v6 : BitVec 32) (v12 : BitVec 32) (k0_hw1 : k0_chk1 i v6 v12), ∀ (k0_h2 : k0_cond2 v6 v12 = 1#1), ∀ a, (k0_off41 i v12) a + S1x1x1.size a ≤ S4x5x32.size a := fun i v6 v12 k0_hw1 k0_h2 => k0_hw1.2.1.2.1 k0_h2
theorem k0_t3_ok : ∀ (i : grid0.Coords) (v6 : BitVec 32) (v12 : BitVec 32) (k0_hw1 : k0_chk1 i v6 v12), ∀ (k0_h3 : k0_cond3 v6 v12 = 1#1), (k0_t3_loop v6 v12).OK := fun i v6 v12 k0_hw1 k0_h3 => k0_hw1.2.1.2.2.1 k0_h3
theorem k0_off42_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ (r : Fin 16), ∀ a, (k0_off42 v6 v12 k0_t3 (BitVec.ofNat 32 (2 * r.val))) a + S1x64x128.size a ≤ S160x64x128.size a := fun i v6 v12 k0_hw1 k0_t3 k0_h3 r => k0_hw1.2.1.2.2.2.1 k0_t3 k0_h3 r
theorem k0_off43_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ (r₁ : Fin 16) (r₂ : Fin 2), ∀ a, (k0_off43 v6 v12 k0_t3 (BitVec.ofNat 32 (2 * r₁.val)) (BitVec.ofNat 32 r₂.val)) a + S1x64x128.size a ≤ S160x64x128.size a := fun i v6 v12 k0_hw1 k0_t3 k0_h3 r₁ r₂ => k0_hw1.2.1.2.2.2.2.1 k0_t3 k0_h3 r₁ r₂
theorem k0_off44_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off44 i v6 v12 k0_t3) a + S1x1x1.size a ≤ S4x5x32.size a := fun i v6 v12 k0_hw1 k0_t3 k0_h3 => k0_hw1.2.1.2.2.2.2.2.1 k0_t3 k0_h3
theorem k0_off45_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off45 i v6 v12 k0_t3) a + S1x1x1.size a ≤ S4x5x32.size a := fun i v6 v12 k0_hw1 k0_t3 k0_h3 => k0_hw1.2.1.2.2.2.2.2.2.1 k0_t3 k0_h3
theorem k0_off46_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off46 i v6 v12 k0_t3) a + S1x1x1.size a ≤ S4x5x32.size a := fun i v6 v12 k0_hw1 k0_t3 k0_h3 => k0_hw1.2.1.2.2.2.2.2.2.2.1 k0_t3 k0_h3
theorem k0_off47_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off47 i v6 v12 k0_t3) a + S1x1x1.size a ≤ S4x5x32.size a := fun i v6 v12 k0_hw1 k0_t3 k0_h3 => k0_hw1.2.1.2.2.2.2.2.2.2.2.1 k0_t3 k0_h3
theorem k0_off48_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off48 i v6 v12 k0_t3) a + S1x1x1.size a ≤ S4x5x32.size a := fun i v6 v12 k0_hw1 k0_t3 k0_h3 => k0_hw1.2.1.2.2.2.2.2.2.2.2.2.1 k0_t3 k0_h3
theorem k0_off49_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off49 i v6 v12 k0_t3) a + S1x1x1.size a ≤ S4x5x32.size a := fun i v6 v12 k0_hw1 k0_t3 k0_h3 => k0_hw1.2.1.2.2.2.2.2.2.2.2.2.2.1 k0_t3 k0_h3
theorem k0_off50_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off50 i v6 v12 k0_t3) a + S1x1x1.size a ≤ S4x5x32.size a := fun i v6 v12 k0_hw1 k0_t3 k0_h3 => k0_hw1.2.1.2.2.2.2.2.2.2.2.2.2.2.1 k0_t3 k0_h3
theorem k0_off51_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off51 i v6 v12 k0_t3) a + S1x1x1.size a ≤ S4x5x32.size a := fun i v6 v12 k0_hw1 k0_t3 k0_h3 => k0_hw1.2.1.2.2.2.2.2.2.2.2.2.2.2.2.1 k0_t3 k0_h3
theorem k0_off52_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off52 i v6 v12 k0_t3) a + S1x1x1.size a ≤ S4x5x32.size a := fun i v6 v12 k0_hw1 k0_t3 k0_h3 => k0_hw1.2.1.2.2.2.2.2.2.2.2.2.2.2.2.2.1 k0_t3 k0_h3
theorem k0_off53_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off53 i v6 v12 k0_t3) a + S1x1x1.size a ≤ S4x5x32.size a := fun i v6 v12 k0_hw1 k0_t3 k0_h3 => k0_hw1.2.1.2.2.2.2.2.2.2.2.2.2.2.2.2.2.1 k0_t3 k0_h3
theorem k0_off54_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off54 i v6 v12 k0_t3) a + S1x1x1.size a ≤ S4x5x32.size a := fun i v6 v12 k0_hw1 k0_t3 k0_h3 => k0_hw1.2.1.2.2.2.2.2.2.2.2.2.2.2.2.2.2.2.1 k0_t3 k0_h3
theorem k0_off55_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off55 i v6 v12 k0_t3) a + S1x1x1.size a ≤ S4x5x32.size a := fun i v6 v12 k0_hw1 k0_t3 k0_h3 => k0_hw1.2.1.2.2.2.2.2.2.2.2.2.2.2.2.2.2.2.2.1 k0_t3 k0_h3
theorem k0_off56_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off56 i v6 v12 k0_t3) a + S1x1x1.size a ≤ S4x5x32.size a := fun i v6 v12 k0_hw1 k0_t3 k0_h3 => k0_hw1.2.1.2.2.2.2.2.2.2.2.2.2.2.2.2.2.2.2.2.1 k0_t3 k0_h3
theorem k0_off57_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off57 i v6 v12 k0_t3) a + S1x1x1.size a ≤ S4x5x32.size a := fun i v6 v12 k0_hw1 k0_t3 k0_h3 => k0_hw1.2.1.2.2.2.2.2.2.2.2.2.2.2.2.2.2.2.2.2.2.1 k0_t3 k0_h3
theorem k0_off58_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off58 i v6 v12 k0_t3) a + S1x1x1.size a ≤ S4x5x32.size a := fun i v6 v12 k0_hw1 k0_t3 k0_h3 => k0_hw1.2.1.2.2.2.2.2.2.2.2.2.2.2.2.2.2.2.2.2.2.2.1 k0_t3 k0_h3
theorem k0_off59_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off59 i v6 v12 k0_t3) a + S1x1x1.size a ≤ S4x5x32.size a := fun i v6 v12 k0_hw1 k0_t3 k0_h3 => k0_hw1.2.1.2.2.2.2.2.2.2.2.2.2.2.2.2.2.2.2.2.2.2.2.1 k0_t3 k0_h3
theorem k0_off60_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off60 i v6 v12 k0_t3) a + S1x1x1.size a ≤ S4x5x32.size a := fun i v6 v12 k0_hw1 k0_t3 k0_h3 => k0_hw1.2.1.2.2.2.2.2.2.2.2.2.2.2.2.2.2.2.2.2.2.2.2.2.1 k0_t3 k0_h3
theorem k0_off61_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off61 i v6 v12 k0_t3) a + S1x1x1.size a ≤ S4x5x32.size a := fun i v6 v12 k0_hw1 k0_t3 k0_h3 => k0_hw1.2.1.2.2.2.2.2.2.2.2.2.2.2.2.2.2.2.2.2.2.2.2.2.2.1 k0_t3 k0_h3
theorem k0_off62_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off62 i v6 v12 k0_t3) a + S1x1x1.size a ≤ S4x5x32.size a := fun i v6 v12 k0_hw1 k0_t3 k0_h3 => k0_hw1.2.1.2.2.2.2.2.2.2.2.2.2.2.2.2.2.2.2.2.2.2.2.2.2.2.1 k0_t3 k0_h3
theorem k0_off63_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off63 i v6 v12 k0_t3) a + S1x1x1.size a ≤ S4x5x32.size a := fun i v6 v12 k0_hw1 k0_t3 k0_h3 => k0_hw1.2.1.2.2.2.2.2.2.2.2.2.2.2.2.2.2.2.2.2.2.2.2.2.2.2.2.1 k0_t3 k0_h3
theorem k0_off64_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off64 i v6 v12 k0_t3) a + S1x1x1.size a ≤ S4x5x32.size a := fun i v6 v12 k0_hw1 k0_t3 k0_h3 => k0_hw1.2.1.2.2.2.2.2.2.2.2.2.2.2.2.2.2.2.2.2.2.2.2.2.2.2.2.2.1 k0_t3 k0_h3
theorem k0_off65_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off65 i v6 v12 k0_t3) a + S1x1x1.size a ≤ S4x5x32.size a := fun i v6 v12 k0_hw1 k0_t3 k0_h3 => k0_hw1.2.1.2.2.2.2.2.2.2.2.2.2.2.2.2.2.2.2.2.2.2.2.2.2.2.2.2.2.1 k0_t3 k0_h3
theorem k0_off66_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off66 i v6 v12 k0_t3) a + S1x1x1.size a ≤ S4x5x32.size a := fun i v6 v12 k0_hw1 k0_t3 k0_h3 => k0_hw1.2.1.2.2.2.2.2.2.2.2.2.2.2.2.2.2.2.2.2.2.2.2.2.2.2.2.2.2.2.1 k0_t3 k0_h3
theorem k0_off67_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off67 i v6 v12 k0_t3) a + S1x1x1.size a ≤ S4x5x32.size a := fun i v6 v12 k0_hw1 k0_t3 k0_h3 => k0_hw1.2.1.2.2.2.2.2.2.2.2.2.2.2.2.2.2.2.2.2.2.2.2.2.2.2.2.2.2.2.2.1 k0_t3 k0_h3
theorem k0_off68_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off68 i v6 v12 k0_t3) a + S1x1x1.size a ≤ S4x5x32.size a := fun i v6 v12 k0_hw1 k0_t3 k0_h3 => k0_hw1.2.1.2.2.2.2.2.2.2.2.2.2.2.2.2.2.2.2.2.2.2.2.2.2.2.2.2.2.2.2.2.1 k0_t3 k0_h3
theorem k0_off69_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off69 i v6 v12 k0_t3) a + S1x1x1.size a ≤ S4x5x32.size a := fun i v6 v12 k0_hw1 k0_t3 k0_h3 => k0_hw1.2.1.2.2.2.2.2.2.2.2.2.2.2.2.2.2.2.2.2.2.2.2.2.2.2.2.2.2.2.2.2.2.1 k0_t3 k0_h3
theorem k0_off70_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off70 i v6 v12 k0_t3) a + S1x1x1.size a ≤ S4x5x32.size a := fun i v6 v12 k0_hw1 k0_t3 k0_h3 => k0_hw1.2.1.2.2.2.2.2.2.2.2.2.2.2.2.2.2.2.2.2.2.2.2.2.2.2.2.2.2.2.2.2.2.2 k0_t3 k0_h3
theorem k0_off71_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off71 i v6 v12 k0_t3) a + S1x1x1.size a ≤ S4x5x32.size a := fun i v6 v12 k0_hw1 k0_t3 k0_h3 => k0_hw1.2.2.1.1 k0_t3 k0_h3
theorem k0_off72_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off72 i v6 v12 k0_t3) a + S1x1x1.size a ≤ S4x5x32.size a := fun i v6 v12 k0_hw1 k0_t3 k0_h3 => k0_hw1.2.2.1.2.1 k0_t3 k0_h3
theorem k0_off73_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off73 i v6 v12 k0_t3) a + S1x1x1.size a ≤ S4x5x32.size a := fun i v6 v12 k0_hw1 k0_t3 k0_h3 => k0_hw1.2.2.1.2.2.1 k0_t3 k0_h3
theorem k0_off74_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off74 i v6 v12 k0_t3) a + S1x1x1.size a ≤ S4x5x32.size a := fun i v6 v12 k0_hw1 k0_t3 k0_h3 => k0_hw1.2.2.1.2.2.2.1 k0_t3 k0_h3
theorem k0_off75_inb : ∀ (i : grid0.Coords) (v6 : BitVec 32) (v12 : BitVec 32) (k0_hw1 : k0_chk1 i v6 v12) (k0_t3 : Fin (k0_t3_loop v6 v12).trips), ∀ (k0_h3 : k0_cond3 v6 v12 = 1#1), ∀ a, (k0_off75 i v6 v12 k0_t3) a + S1x1x1.size a ≤ S4x5x32.size a := fun i v6 v12 k0_hw1 k0_t3 k0_h3 => k0_hw1.2.2.1.2.2.2.2.1 k0_t3 k0_h3
theorem k0_t4_ok : ∀ (i : grid0.Coords) (v6 : BitVec 32) (v12 : BitVec 32) (k0_hw1 : k0_chk1 i v6 v12), ∀ (k0_h3 : k0_cond3 v6 v12 = 1#1), (k0_t4_loop v6 v12).OK := fun i v6 v12 k0_hw1 k0_h3 => k0_hw1.2.2.1.2.2.2.2.2.1 k0_h3
theorem k0_off76_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ (r : Fin 16), ∀ a, (k0_off76 v6 v12 k0_t4 (BitVec.ofNat 32 (2 * r.val))) a + S1x64x128.size a ≤ S160x64x128.size a := fun i v6 v12 k0_hw1 k0_t4 k0_h3 r => k0_hw1.2.2.1.2.2.2.2.2.2.1 k0_t4 k0_h3 r
theorem k0_off77_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ (r₁ : Fin 16) (r₂ : Fin 2), ∀ a, (k0_off77 v6 v12 k0_t4 (BitVec.ofNat 32 (2 * r₁.val)) (BitVec.ofNat 32 r₂.val)) a + S1x64x128.size a ≤ S160x64x128.size a := fun i v6 v12 k0_hw1 k0_t4 k0_h3 r₁ r₂ => k0_hw1.2.2.1.2.2.2.2.2.2.2.1 k0_t4 k0_h3 r₁ r₂
theorem k0_off78_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off78 i v6 v12 k0_t4) a + S1x1x1.size a ≤ S4x5x32.size a := fun i v6 v12 k0_hw1 k0_t4 k0_h3 => k0_hw1.2.2.1.2.2.2.2.2.2.2.2.1 k0_t4 k0_h3
theorem k0_off79_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off79 i v6 v12 k0_t4) a + S1x1x1.size a ≤ S4x5x32.size a := fun i v6 v12 k0_hw1 k0_t4 k0_h3 => k0_hw1.2.2.1.2.2.2.2.2.2.2.2.2.1 k0_t4 k0_h3
theorem k0_off80_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off80 i v6 v12 k0_t4) a + S1x1x1.size a ≤ S4x5x32.size a := fun i v6 v12 k0_hw1 k0_t4 k0_h3 => k0_hw1.2.2.1.2.2.2.2.2.2.2.2.2.2.1 k0_t4 k0_h3
theorem k0_off81_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off81 i v6 v12 k0_t4) a + S1x1x1.size a ≤ S4x5x32.size a := fun i v6 v12 k0_hw1 k0_t4 k0_h3 => k0_hw1.2.2.1.2.2.2.2.2.2.2.2.2.2.2.1 k0_t4 k0_h3
theorem k0_off82_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off82 i v6 v12 k0_t4) a + S1x1x1.size a ≤ S4x5x32.size a := fun i v6 v12 k0_hw1 k0_t4 k0_h3 => k0_hw1.2.2.1.2.2.2.2.2.2.2.2.2.2.2.2.1 k0_t4 k0_h3
theorem k0_off83_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off83 i v6 v12 k0_t4) a + S1x1x1.size a ≤ S4x5x32.size a := fun i v6 v12 k0_hw1 k0_t4 k0_h3 => k0_hw1.2.2.1.2.2.2.2.2.2.2.2.2.2.2.2.2.1 k0_t4 k0_h3
theorem k0_off84_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off84 i v6 v12 k0_t4) a + S1x1x1.size a ≤ S4x5x32.size a := fun i v6 v12 k0_hw1 k0_t4 k0_h3 => k0_hw1.2.2.1.2.2.2.2.2.2.2.2.2.2.2.2.2.2.1 k0_t4 k0_h3
theorem k0_off85_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off85 i v6 v12 k0_t4) a + S1x1x1.size a ≤ S4x5x32.size a := fun i v6 v12 k0_hw1 k0_t4 k0_h3 => k0_hw1.2.2.1.2.2.2.2.2.2.2.2.2.2.2.2.2.2.2.1 k0_t4 k0_h3
theorem k0_off86_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off86 i v6 v12 k0_t4) a + S1x1x1.size a ≤ S4x5x32.size a := fun i v6 v12 k0_hw1 k0_t4 k0_h3 => k0_hw1.2.2.1.2.2.2.2.2.2.2.2.2.2.2.2.2.2.2.2.1 k0_t4 k0_h3
theorem k0_off87_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off87 i v6 v12 k0_t4) a + S1x1x1.size a ≤ S4x5x32.size a := fun i v6 v12 k0_hw1 k0_t4 k0_h3 => k0_hw1.2.2.1.2.2.2.2.2.2.2.2.2.2.2.2.2.2.2.2.2.1 k0_t4 k0_h3
theorem k0_off88_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off88 i v6 v12 k0_t4) a + S1x1x1.size a ≤ S4x5x32.size a := fun i v6 v12 k0_hw1 k0_t4 k0_h3 => k0_hw1.2.2.1.2.2.2.2.2.2.2.2.2.2.2.2.2.2.2.2.2.2.1 k0_t4 k0_h3
theorem k0_off89_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off89 i v6 v12 k0_t4) a + S1x1x1.size a ≤ S4x5x32.size a := fun i v6 v12 k0_hw1 k0_t4 k0_h3 => k0_hw1.2.2.1.2.2.2.2.2.2.2.2.2.2.2.2.2.2.2.2.2.2.2.1 k0_t4 k0_h3
theorem k0_off90_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off90 i v6 v12 k0_t4) a + S1x1x1.size a ≤ S4x5x32.size a := fun i v6 v12 k0_hw1 k0_t4 k0_h3 => k0_hw1.2.2.1.2.2.2.2.2.2.2.2.2.2.2.2.2.2.2.2.2.2.2.2.1 k0_t4 k0_h3
theorem k0_off91_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off91 i v6 v12 k0_t4) a + S1x1x1.size a ≤ S4x5x32.size a := fun i v6 v12 k0_hw1 k0_t4 k0_h3 => k0_hw1.2.2.1.2.2.2.2.2.2.2.2.2.2.2.2.2.2.2.2.2.2.2.2.2.1 k0_t4 k0_h3
theorem k0_off92_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off92 i v6 v12 k0_t4) a + S1x1x1.size a ≤ S4x5x32.size a := fun i v6 v12 k0_hw1 k0_t4 k0_h3 => k0_hw1.2.2.1.2.2.2.2.2.2.2.2.2.2.2.2.2.2.2.2.2.2.2.2.2.2.1 k0_t4 k0_h3
theorem k0_off93_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off93 i v6 v12 k0_t4) a + S1x1x1.size a ≤ S4x5x32.size a := fun i v6 v12 k0_hw1 k0_t4 k0_h3 => k0_hw1.2.2.1.2.2.2.2.2.2.2.2.2.2.2.2.2.2.2.2.2.2.2.2.2.2.2.1 k0_t4 k0_h3
theorem k0_off94_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off94 i v6 v12 k0_t4) a + S1x1x1.size a ≤ S4x5x32.size a := fun i v6 v12 k0_hw1 k0_t4 k0_h3 => k0_hw1.2.2.1.2.2.2.2.2.2.2.2.2.2.2.2.2.2.2.2.2.2.2.2.2.2.2.2.1 k0_t4 k0_h3
theorem k0_off95_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off95 i v6 v12 k0_t4) a + S1x1x1.size a ≤ S4x5x32.size a := fun i v6 v12 k0_hw1 k0_t4 k0_h3 => k0_hw1.2.2.1.2.2.2.2.2.2.2.2.2.2.2.2.2.2.2.2.2.2.2.2.2.2.2.2.2.1 k0_t4 k0_h3
theorem k0_off96_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off96 i v6 v12 k0_t4) a + S1x1x1.size a ≤ S4x5x32.size a := fun i v6 v12 k0_hw1 k0_t4 k0_h3 => k0_hw1.2.2.1.2.2.2.2.2.2.2.2.2.2.2.2.2.2.2.2.2.2.2.2.2.2.2.2.2.2.1 k0_t4 k0_h3
theorem k0_off97_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off97 i v6 v12 k0_t4) a + S1x1x1.size a ≤ S4x5x32.size a := fun i v6 v12 k0_hw1 k0_t4 k0_h3 => k0_hw1.2.2.1.2.2.2.2.2.2.2.2.2.2.2.2.2.2.2.2.2.2.2.2.2.2.2.2.2.2.2.1 k0_t4 k0_h3
theorem k0_off98_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off98 i v6 v12 k0_t4) a + S1x1x1.size a ≤ S4x5x32.size a := fun i v6 v12 k0_hw1 k0_t4 k0_h3 => k0_hw1.2.2.1.2.2.2.2.2.2.2.2.2.2.2.2.2.2.2.2.2.2.2.2.2.2.2.2.2.2.2.2.1 k0_t4 k0_h3
theorem k0_off99_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off99 i v6 v12 k0_t4) a + S1x1x1.size a ≤ S4x5x32.size a := fun i v6 v12 k0_hw1 k0_t4 k0_h3 => k0_hw1.2.2.1.2.2.2.2.2.2.2.2.2.2.2.2.2.2.2.2.2.2.2.2.2.2.2.2.2.2.2.2.2.1 k0_t4 k0_h3
theorem k0_off100_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off100 i v6 v12 k0_t4) a + S1x1x1.size a ≤ S4x5x32.size a := fun i v6 v12 k0_hw1 k0_t4 k0_h3 => k0_hw1.2.2.1.2.2.2.2.2.2.2.2.2.2.2.2.2.2.2.2.2.2.2.2.2.2.2.2.2.2.2.2.2.2.1 k0_t4 k0_h3
theorem k0_off101_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off101 i v6 v12 k0_t4) a + S1x1x1.size a ≤ S4x5x32.size a := fun i v6 v12 k0_hw1 k0_t4 k0_h3 => k0_hw1.2.2.1.2.2.2.2.2.2.2.2.2.2.2.2.2.2.2.2.2.2.2.2.2.2.2.2.2.2.2.2.2.2.2 k0_t4 k0_h3
theorem k0_off102_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off102 i v6 v12 k0_t4) a + S1x1x1.size a ≤ S4x5x32.size a := fun i v6 v12 k0_hw1 k0_t4 k0_h3 => k0_hw1.2.2.2.1 k0_t4 k0_h3
theorem k0_off103_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off103 i v6 v12 k0_t4) a + S1x1x1.size a ≤ S4x5x32.size a := fun i v6 v12 k0_hw1 k0_t4 k0_h3 => k0_hw1.2.2.2.2.1 k0_t4 k0_h3
theorem k0_off104_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off104 i v6 v12 k0_t4) a + S1x1x1.size a ≤ S4x5x32.size a := fun i v6 v12 k0_hw1 k0_t4 k0_h3 => k0_hw1.2.2.2.2.2.1 k0_t4 k0_h3
theorem k0_off105_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off105 i v6 v12 k0_t4) a + S1x1x1.size a ≤ S4x5x32.size a := fun i v6 v12 k0_hw1 k0_t4 k0_h3 => k0_hw1.2.2.2.2.2.2.1 k0_t4 k0_h3
theorem k0_off106_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off106 i v6 v12 k0_t4) a + S1x1x1.size a ≤ S4x5x32.size a := fun i v6 v12 k0_hw1 k0_t4 k0_h3 => k0_hw1.2.2.2.2.2.2.2.1 k0_t4 k0_h3
theorem k0_off107_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off107 i v6 v12 k0_t4) a + S1x1x1.size a ≤ S4x5x32.size a := fun i v6 v12 k0_hw1 k0_t4 k0_h3 => k0_hw1.2.2.2.2.2.2.2.2.1 k0_t4 k0_h3
theorem k0_off108_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off108 i v6 v12 k0_t4) a + S1x1x1.size a ≤ S4x5x32.size a := fun i v6 v12 k0_hw1 k0_t4 k0_h3 => k0_hw1.2.2.2.2.2.2.2.2.2.1 k0_t4 k0_h3
theorem k0_off109_inb : ∀ (i : grid0.Coords) (v6 : BitVec 32) (v12 : BitVec 32) (k0_hw1 : k0_chk1 i v6 v12) (k0_t4 : Fin (k0_t4_loop v6 v12).trips), ∀ (k0_h3 : k0_cond3 v6 v12 = 1#1), ∀ a, (k0_off109 i v6 v12 k0_t4) a + S1x1x1.size a ≤ S4x5x32.size a := fun i v6 v12 k0_hw1 k0_t4 k0_h3 => k0_hw1.2.2.2.2.2.2.2.2.2.2 k0_t4 k0_h3

def k0_cond4 (i : grid0.Coords) : BitVec 1 :=
  let arg1 : BitVec 32 := BitVec.ofNat 32 (i 1).val
  let c13_i32 : BitVec 32 := 13#32
  let v24 : BitVec 1 := Scalar.cmpi .eq arg1 c13_i32
  let v25 : BitVec 32 := Scalar.extui v24
  let c0_i32_7 : BitVec 32 := 0#32
  let v26 : BitVec 1 := Scalar.cmpi .ne v25 c0_i32_7
  v26

@[reducible] def k0_t5_loop : Scf.Loop 32 :=
  let c0_i32_8 : BitVec 32 := 0#32
  let c5_i32 : BitVec 32 := 5#32
  let v27 : BitVec 32 := Scalar.addi c0_i32_8 c5_i32
  let c1_i32_9 : BitVec 32 := 1#32
  ⟨c0_i32_8, v27, c1_i32_9⟩
def k0_off110 (k0_t5 : Fin k0_t5_loop.trips) : Fin 3 → Nat :=
  let c0_i32_8 : BitVec 32 := 0#32
  let c1_i32_9 : BitVec 32 := 1#32
  let arg21 : BitVec 32 := Scf.iv c0_i32_8 c1_i32_9 k0_t5
  let c32_i32 : BitVec 32 := 32#32
  let v29 : BitVec 32 := Scalar.muli arg21 c32_i32
  let v30 : Index := Scalar.indexCast v29
  let c0_15 : Index := 0#32
  let c0_16 : Index := 0#32
  ![v30.toNat, 0, 0]
def k0_off111 (k0_t5 : Fin k0_t5_loop.trips) : Fin 5 → Nat :=
  let c0_17 : Index := 0#32
  let c0_i32_8 : BitVec 32 := 0#32
  let c1_i32_9 : BitVec 32 := 1#32
  let arg21 : BitVec 32 := Scf.iv c0_i32_8 c1_i32_9 k0_t5
  let v36 : Index := Scalar.indexCast arg21
  let c0_18 : Index := 0#32
  let c0_19 : Index := 0#32
  let c0_20 : Index := 0#32
  ![0, v36.toNat, 0, 0, 0]
@[reducible] def k0_t6_loop : Scf.Loop 32 :=
  let c0_i32_11 : BitVec 32 := 0#32
  let c5_i32_12 : BitVec 32 := 5#32
  let v28 : BitVec 32 := Scalar.addi c0_i32_11 c5_i32_12
  let c1_i32_13 : BitVec 32 := 1#32
  ⟨c0_i32_11, v28, c1_i32_13⟩
def k0_off112 (k0_t6 : Fin k0_t6_loop.trips) : Fin 3 → Nat :=
  let c0_i32_11 : BitVec 32 := 0#32
  let c1_i32_13 : BitVec 32 := 1#32
  let arg21 : BitVec 32 := Scf.iv c0_i32_11 c1_i32_13 k0_t6
  let c32_i32 : BitVec 32 := 32#32
  let v29 : BitVec 32 := Scalar.muli arg21 c32_i32
  let v30 : Index := Scalar.indexCast v29
  let c0_15 : Index := 0#32
  let c0_16 : Index := 0#32
  ![v30.toNat, 0, 0]
def k0_off113 (k0_t6 : Fin k0_t6_loop.trips) : Fin 5 → Nat :=
  let c0_17 : Index := 0#32
  let c0_i32_11 : BitVec 32 := 0#32
  let c1_i32_13 : BitVec 32 := 1#32
  let arg21 : BitVec 32 := Scf.iv c0_i32_11 c1_i32_13 k0_t6
  let v36 : Index := Scalar.indexCast arg21
  let c0_18 : Index := 0#32
  let c0_19 : Index := 0#32
  let c0_20 : Index := 0#32
  ![0, v36.toNat, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .smem S4x3584 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4x5x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4x5x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x5x64x32x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x5x64x32x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x4096 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x256 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x5x64x32x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x5x64x32x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S4x3584x4096 : Shape := ⟨3, ![4, 3584, 4096]⟩
abbrev S4x5x64x32x128 : Shape := ⟨5, ![4, 5, 64, 32, 128]⟩
abbrev S4x5x32 : Shape := ⟨3, ![4, 5, 32]⟩
abbrev S4x3584 : Shape := ⟨2, ![4, 3584]⟩
abbrev S4x32x3584 : Shape := ⟨3, ![4, 32, 3584]⟩
abbrev S4x320x32x128 : Shape := ⟨4, ![4, 320, 32, 128]⟩
abbrev S4x3584x32x128 : Shape := ⟨4, ![4, 3584, 32, 128]⟩
abbrev S4x32x5 : Shape := ⟨3, ![4, 32, 5]⟩
abbrev S4x32x5x64 : Shape := ⟨4, ![4, 32, 5, 64]⟩
abbrev S4x32x320 : Shape := ⟨3, ![4, 32, 320]⟩
abbrev S4x32x1x320 : Shape := ⟨4, ![4, 32, 1, 320]⟩
abbrev S4x1x3584x1 : Shape := ⟨4, ![4, 1, 3584, 1]⟩
abbrev S4x32x3584x320 : Shape := ⟨4, ![4, 32, 3584, 320]⟩
abbrev S_ : Shape := ⟨0, ![]⟩
abbrev S5 : Shape := ⟨1, ![5]⟩
abbrev S5x64 : Shape := ⟨2, ![5, 64]⟩
abbrev S320 : Shape := ⟨1, ![320]⟩
abbrev S4x3584x1 : Shape := ⟨3, ![4, 3584, 1]⟩
abbrev S1x1x320 : Shape := ⟨3, ![1, 1, 320]⟩
abbrev S4x3584x320 : Shape := ⟨3, ![4, 3584, 320]⟩
abbrev S4x1x3584x320 : Shape := ⟨4, ![4, 1, 3584, 320]⟩
abbrev S4x32x3584x1 : Shape := ⟨4, ![4, 32, 3584, 1]⟩
abbrev S4x3584x1x1 : Shape := ⟨4, ![4, 3584, 1, 1]⟩
abbrev S4x3584x32 : Shape := ⟨3, ![4, 3584, 32]⟩
abbrev S4x32x128x320 : Shape := ⟨4, ![4, 32, 128, 320]⟩
abbrev S4x32x128x3584 : Shape := ⟨4, ![4, 32, 128, 3584]⟩

abbrev nBuf : Space → Nat
  | .hbm => 95
  | .vmem => 7
  | .smem => 0
  | _ => 0

abbrev bufTy : (tb : Table) → Fin (tcTables nBuf tb) → BufTy
  | .hbm, ⟨0, _⟩ => ⟨S4x3584x4096, .bf16⟩
  | .hbm, ⟨1, _⟩ => ⟨S4x5x64x32x128, .fp8e4m3⟩
  | .hbm, ⟨2, _⟩ => ⟨S4x5x32, .f32⟩
  | .hbm, ⟨3, _⟩ => ⟨S4x5x64x32x128, .fp8e4m3⟩
  | .hbm, ⟨4, _⟩ => ⟨S4x5x32, .f32⟩
  | .hbm, ⟨5, _⟩ => ⟨S4x3584x4096, .fp8e5m2⟩
  | .hbm, ⟨6, _⟩ => ⟨S4x3584, .f32⟩
  | .hbm, ⟨7, _⟩ => ⟨S4x3584x4096, .bf16⟩
  | .hbm, ⟨8, _⟩ => ⟨S4x32x3584, .f32⟩
  | .hbm, ⟨9, _⟩ => ⟨S4x3584, .i32⟩
  | .hbm, ⟨10, _⟩ => ⟨S4x5x64x32x128, .bf16⟩
  | .hbm, ⟨11, _⟩ => ⟨S4x5x64x32x128, .bf16⟩
  | .hbm, ⟨12, _⟩ => ⟨S4x3584x4096, .bf16⟩
  | .hbm, ⟨13, _⟩ => ⟨S4x3584x4096, .f32⟩
  | .hbm, ⟨14, _⟩ => ⟨S4x320x32x128, .bf16⟩
  | .hbm, ⟨15, _⟩ => ⟨S4x320x32x128, .bf16⟩
  | .hbm, ⟨16, _⟩ => ⟨S4x3584x32x128, .bf16⟩
  | .hbm, ⟨17, _⟩ => ⟨S4x3584x32x128, .bf16⟩
  | .hbm, ⟨18, _⟩ => ⟨S4x3584x32x128, .bf16⟩
  | .hbm, ⟨19, _⟩ => ⟨S4x32x5, .f32⟩
  | .hbm, ⟨20, _⟩ => ⟨S4x32x5x64, .f32⟩
  | .hbm, ⟨21, _⟩ => ⟨S4x32x320, .f32⟩
  | .hbm, ⟨22, _⟩ => ⟨S4x32x1x320, .f32⟩
  | .hbm, ⟨23, _⟩ => ⟨S4x32x5, .f32⟩
  | .hbm, ⟨24, _⟩ => ⟨S4x32x5x64, .f32⟩
  | .hbm, ⟨25, _⟩ => ⟨S4x32x320, .f32⟩
  | .hbm, ⟨26, _⟩ => ⟨S4x32x1x320, .f32⟩
  | .hbm, ⟨27, _⟩ => ⟨S4x1x3584x1, .f32⟩
  | .hbm, ⟨28, _⟩ => ⟨S4x32x3584x320, .f32⟩
  | .hbm, ⟨29, _⟩ => ⟨S4x32x3584x320, .f32⟩
  | .hbm, ⟨30, _⟩ => ⟨S4x32x3584x320, .f32⟩
  | .hbm, ⟨31, _⟩ => ⟨S_, .f32⟩
  | .hbm, ⟨32, _⟩ => ⟨S4x32x3584x320, .f32⟩
  | .hbm, ⟨33, _⟩ => ⟨S4x32x3584x320, .f32⟩
  | .hbm, ⟨34, _⟩ => ⟨S5, .i32⟩
  | .hbm, ⟨35, _⟩ => ⟨S5x64, .i32⟩
  | .hbm, ⟨36, _⟩ => ⟨S320, .i32⟩
  | .hbm, ⟨37, _⟩ => ⟨S4x3584x1, .i32⟩
  | .hbm, ⟨38, _⟩ => ⟨S1x1x320, .i32⟩
  | .hbm, ⟨39, _⟩ => ⟨S4x3584x320, .i32⟩
  | .hbm, ⟨40, _⟩ => ⟨S4x3584x320, .i32⟩
  | .hbm, ⟨41, _⟩ => ⟨S4x3584x320, .i1⟩
  | .hbm, ⟨42, _⟩ => ⟨S4x1x3584x320, .i1⟩
  | .hbm, ⟨43, _⟩ => ⟨S4x32x3584x1, .f32⟩
  | .hbm, ⟨44, _⟩ => ⟨S4x32x3584x320, .f32⟩
  | .hbm, ⟨45, _⟩ => ⟨S4x32x3584x320, .f32⟩
  | .hbm, ⟨46, _⟩ => ⟨S4x32x3584x320, .f32⟩
  | .hbm, ⟨47, _⟩ => ⟨S_, .f32⟩
  | .hbm, ⟨48, _⟩ => ⟨S_, .f32⟩
  | .hbm, ⟨49, _⟩ => ⟨S4x32x3584x320, .i1⟩
  | .hbm, ⟨50, _⟩ => ⟨S4x32x3584x320, .f32⟩
  | .hbm, ⟨51, _⟩ => ⟨S4x32x3584x320, .f32⟩
  | .hbm, ⟨52, _⟩ => ⟨S4x3584x32x128, .f32⟩
  | .hbm, ⟨53, _⟩ => ⟨S4x3584x1x1, .f32⟩
  | .hbm, ⟨54, _⟩ => ⟨S4x3584x32x128, .f32⟩
  | .hbm, ⟨55, _⟩ => ⟨S4x3584x32x128, .f32⟩
  | .hbm, ⟨56, _⟩ => ⟨S4x3584x32x128, .f32⟩
  | .hbm, ⟨57, _⟩ => ⟨S4x3584x32x128, .f32⟩
  | .hbm, ⟨58, _⟩ => ⟨S_, .f32⟩
  | .hbm, ⟨59, _⟩ => ⟨S4x3584x32, .f32⟩
  | .hbm, ⟨60, _⟩ => ⟨S4x32x3584, .f32⟩
  | .hbm, ⟨61, _⟩ => ⟨S4x32x3584x320, .f32⟩
  | .hbm, ⟨62, _⟩ => ⟨S4x32x3584x320, .f32⟩
  | .hbm, ⟨63, _⟩ => ⟨S4x32x3584x320, .f32⟩
  | .hbm, ⟨64, _⟩ => ⟨S4x32x3584x320, .f32⟩
  | .hbm, ⟨65, _⟩ => ⟨S4x32x3584x320, .f32⟩
  | .hbm, ⟨66, _⟩ => ⟨S4x32x3584x1, .f32⟩
  | .hbm, ⟨67, _⟩ => ⟨S4x32x3584x320, .f32⟩
  | .hbm, ⟨68, _⟩ => ⟨S4x32x3584x320, .f32⟩
  | .hbm, ⟨69, _⟩ => ⟨S4x32x3584x320, .f32⟩
  | .hbm, ⟨70, _⟩ => ⟨S4x32x3584x320, .f32⟩
  | .hbm, ⟨71, _⟩ => ⟨S4x32x3584x320, .f32⟩
  | .hbm, ⟨72, _⟩ => ⟨S4x32x3584x320, .bf16⟩
  | .hbm, ⟨73, _⟩ => ⟨S4x32x128x320, .f32⟩
  | .hbm, ⟨74, _⟩ => ⟨S4x320x32x128, .f32⟩
  | .hbm, ⟨75, _⟩ => ⟨S4x320x32x128, .bf16⟩
  | .hbm, ⟨76, _⟩ => ⟨S4x32x3584x320, .f32⟩
  | .hbm, ⟨77, _⟩ => ⟨S4x32x3584x320, .f32⟩
  | .hbm, ⟨78, _⟩ => ⟨S4x32x3584x320, .bf16⟩
  | .hbm, ⟨79, _⟩ => ⟨S4x32x128x3584, .f32⟩
  | .hbm, ⟨80, _⟩ => ⟨S4x3584x32x128, .f32⟩
  | .hbm, ⟨81, _⟩ => ⟨S_, .f32⟩
  | .hbm, ⟨82, _⟩ => ⟨S4x3584x32x128, .f32⟩
  | .hbm, ⟨83, _⟩ => ⟨S4x3584x32x128, .f32⟩
  | .hbm, ⟨84, _⟩ => ⟨S4x3584x32x128, .bf16⟩
  | .hbm, ⟨85, _⟩ => ⟨S4x32x3584x320, .bf16⟩
  | .hbm, ⟨86, _⟩ => ⟨S4x32x128x320, .f32⟩
  | .hbm, ⟨87, _⟩ => ⟨S4x320x32x128, .f32⟩
  | .hbm, ⟨88, _⟩ => ⟨S_, .f32⟩
  | .hbm, ⟨89, _⟩ => ⟨S4x320x32x128, .f32⟩
  | .hbm, ⟨90, _⟩ => ⟨S4x320x32x128, .f32⟩
  | .hbm, ⟨91, _⟩ => ⟨S4x320x32x128, .bf16⟩
  | .hbm, ⟨92, _⟩ => ⟨S4x3584x4096, .bf16⟩
  | .hbm, ⟨93, _⟩ => ⟨S4x5x64x32x128, .bf16⟩
  | .hbm, ⟨94, _⟩ => ⟨S4x5x64x32x128, .bf16⟩
  | .local _ .vmem, ⟨0, _⟩ => ⟨S4x5x64x32x128, .fp8e4m3⟩
  | .local _ .vmem, ⟨1, _⟩ => ⟨S4x5x64x32x128, .fp8e4m3⟩
  | .local _ .vmem, ⟨2, _⟩ => ⟨S4x3584x4096, .fp8e5m2⟩
  | .local _ .vmem, ⟨3, _⟩ => ⟨S4x5x64x32x128, .bf16⟩
  | .local _ .vmem, ⟨4, _⟩ => ⟨S4x5x64x32x128, .bf16⟩
  | .local _ .vmem, ⟨5, _⟩ => ⟨S4x3584x4096, .bf16⟩
  | .local _ .vmem, ⟨6, _⟩ => ⟨S4x3584x4096, .f32⟩
  | _, _ => ⟨S4x3584x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_0 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_1 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_2 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_3 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x5x64x32x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x5x64x32x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3584x4096 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x5x64x32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x5x64x32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3584x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x3584x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelPair.lean ====
/- One pair of heads of the backward step, written once: the loads, the values computed from them and the stores of a pair `p`
   of heads for an image `n`, and the whole image as sixteen of them. The values are named; the programs that follow only
   load, store and apply them. -/
module

public import proofs.«01_k».proof.Proof.Gen.Kernel.Frame

@[expose] public section

set_option maxRecDepth 16384

noncomputable section

namespace Cert.Kernel.Own

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

variable [Cert.Kernel.Facts]

/-- The multiplier that turns a natural logarithm into a binary one. -/
def cLog : F .f32 := Scalar.ofBits .f32 0x3FB8AA3B#32
/-- The score scale times that multiplier. -/
def cSL : F .f32 := Scalar.ofBits .f32 0x3E0293EE#32
/-- The score scale. -/
def cSc : F .f32 := Scalar.ofBits .f32 0x3DB504F3#32

/-! ## Values -/

/-- The log-sum-exp rows of the tokens that look at image `n`, in base two; infinite for the others. -/
def lseRows (n : BitVec 32) (idx : Vec F S1x256 .i32) (lse : Vec F S1x32x256 .f32) : Vec F S32x256 .f32 :=
  shapeCast S32x256 (select (broadcastTo S32x256 (shapeCast S1x256 (cmpi .eq idx (broadcast S1x256 n)) shapeCasts_S1x256_S1x256) broadcasts_S1x256_S32x256)
    (mulf (shapeCast S32x256 lse shapeCasts_S1x32x256_S32x256) (broadcast S32x256 (cLog : F .f32)))
    (broadcast S32x256 (Scalar.ofBits .f32 0x7F800000#32 : F .f32))) shapeCasts_S32x256_S32x256

/-- Two heads' keys on the diagonal. -/
def kDiag (a b : Vec F S1x64x128 .bf16) : FVec F S128x256 .bf16 :=
  concatenate S128x256 0 [⟨S64x256, concatenate S64x256 1 [⟨S64x128, shapeCast S64x128 a shapeCasts_S1x64x128_S64x128⟩, ⟨S64x128, broadcast S64x128 (Scalar.ofBits .bf16 0x0000#16 : F .bf16)⟩] concatenates_S64x128_S64x128_S64x256_d1⟩,
    ⟨S64x256, concatenate S64x256 1 [⟨S64x128, broadcast S64x128 (Scalar.ofBits .bf16 0x0000#16 : F .bf16)⟩, ⟨S64x128, shapeCast S64x128 b shapeCasts_S1x64x128_S64x128⟩] concatenates_S64x128_S64x128_S64x256_d1⟩] concatenates_S64x256_S64x256_S128x256_d0

/-- Two heads' values on the diagonal. -/
def vDiag (a b : Vec F S1x64x128 .fp8e4m3) : FVec F S128x256 .fp8e4m3 :=
  concatenate S128x256 0 [⟨S64x256, concatenate S64x256 1 [⟨S64x128, shapeCast S64x128 a shapeCasts_S1x64x128_S64x128⟩, ⟨S64x128, broadcast S64x128 (Scalar.ofBits .fp8e4m3 0x00#8 : F .fp8e4m3)⟩] concatenates_S64x128_S64x128_S64x256_d1⟩,
    ⟨S64x256, concatenate S64x256 1 [⟨S64x128, broadcast S64x128 (Scalar.ofBits .fp8e4m3 0x00#8 : F .fp8e4m3)⟩, ⟨S64x128, shapeCast S64x128 b shapeCasts_S1x64x128_S64x128⟩] concatenates_S64x128_S64x128_S64x256_d1⟩] concatenates_S64x256_S64x256_S128x256_d0

/-- A block of two heads' columns as a matrix. -/
def mat {e : EltTy} (x : Vec F S1x256x256 e) : Vec F S256x256 e := shapeCast S256x256 x shapeCasts_S1x256x256_S256x256

/-- The two heads' raw scores. -/
def sPair (k : FVec F S128x256 .bf16) (q : FVec F S256x256 .bf16) : FVec F S128x256 .f32 :=
  matmul dot_S128x256_S256x256_S128x256_1_1_0_0_n_n none k q (constant S128x256 .f32 0x00000000#32)
/-- The two heads' products of values and output gradient. -/
def dpPair (v : FVec F S128x256 .fp8e4m3) (g : FVec F S256x256 .fp8e5m2) : FVec F S128x256 .f32 :=
  matmul dot_S128x256_S256x256_S128x256_1_1_0_0_n_n none v g (constant S128x256 .f32 0x00000000#32)

/-- The row sums of the products of the output gradient and the output. -/
def dRow (g : Vec F S1x256x128 .fp8e5m2) (o : Vec F S1x256x128 .bf16) : FVec F S1x256 .f32 :=
  shapeCast S1x256 (multiReduction .add [0] S256 (transpose S128x256 [1, 0]
    (mulf (extf .f32 (shapeCast S256x128 g shapeCasts_S1x256x128_S256x128) bitsLt_fp8e5m2_f32) (extf .f32 (shapeCast S256x128 o shapeCasts_S1x256x128_S256x128) bitsLt_bf16_f32))
    transposes_S256x128_p1_0_S128x256) 0x00000000#32 reduces_S128x256_S256 (.inl rfl) rfl) shapeCasts_S256_S1x256

/-- One head's weights, scaled by the output gradient's scales. -/
def eHead (s : FVec F S64x256 .f32) (ks : F .f32) (l : Vec F S1x256 .f32) (dos : Vec F S1x256 .f32) : FVec F S64x256 .f32 :=
  mulf (exp2 (subf (mulf s (broadcast S64x256 (Scalar.mulf ks (cSL : F .f32)))) (broadcastTo S64x256 l broadcasts_S1x256_S64x256))) (broadcastTo S64x256 dos broadcasts_S1x256_S64x256)

/-- One head's score gradients. -/
def dsHead (e : FVec F S64x256 .f32) (dp : FVec F S64x256 .f32) (vs : F .f32) (d : FVec F S1x256 .f32) : FVec F S64x256 .f32 :=
  mulf e (subf (mulf dp (broadcast S64x256 vs)) (broadcastTo S64x256 d broadcasts_S1x256_S64x256))

/-- Two heads one over the other, rounded. -/
def stack (a b : FVec F S64x256 .f32) : FVec F S128x256 .bf16 :=
  truncf .bf16 (concatenate S128x256 0 [⟨S64x256, a⟩, ⟨S64x256, b⟩] concatenates_S64x256_S64x256_S128x256_d0) bitsLt_bf16_f32

/-- A head's scale along its columns. -/
def scRow (ks : F .f32) : FVec F S1x128 .f32 := broadcast S1x128 (Scalar.mulf ks (cSc : F .f32))

/-- The query gradient of the two heads. -/
def dqPair (ds k : FVec F S128x256 .bf16) (a b : F .f32) : FVec F S256x256 .bf16 :=
  truncf .bf16 (mulf (matmul dot_S128x256_S128x256_S256x256_0_0_1_1_n_n none ds k (constant S256x256 .f32 0x00000000#32))
    (broadcastTo S256x256 (concatenate S1x256 1 [⟨S1x128, scRow a⟩, ⟨S1x128, scRow b⟩] concatenates_S1x128_S1x128_S1x256_d1) broadcasts_S1x256_S256x256)) bitsLt_bf16_f32
def dqOut (x : FVec F S256x256 .bf16) : Vec F S1x256x256 .bf16 := shapeCast S1x256x256 x shapeCasts_S256x256_S1x256x256

def dvPair (e : FVec F S128x256 .bf16) (g : FVec F S256x256 .fp8e5m2) : FVec F S128x256 .f32 :=
  matmul dot_S128x256_S256x256_S128x256_1_0_0_1_n_n none e g (constant S128x256 .f32 0x00000000#32)
def dkPair (ds : FVec F S128x256 .bf16) (q : FVec F S256x256 .bf16) : FVec F S128x256 .f32 :=
  matmul dot_S128x256_S256x256_S128x256_1_0_0_1_n_n none ds q (constant S128x256 .f32 0x00000000#32)

def rows0 (x : FVec F S128x256 .f32) : FVec F S64x256 .f32 := extractStridedSlice S64x256 ![0, 0] x slices_S128x256_o0_0_S64x256
def rows1 (x : FVec F S128x256 .f32) : FVec F S64x256 .f32 := extractStridedSlice S64x256 ![64, 0] x slices_S128x256_o64_0_S64x256
def quad0 (x : FVec F S128x256 .f32) : FVec F S64x128 .f32 := extractStridedSlice S64x128 ![0, 0] x slices_S128x256_o0_0_S64x128
def quad1 (x : FVec F S128x256 .f32) : FVec F S64x128 .f32 := extractStridedSlice S64x128 ![64, 128] x slices_S128x256_o64_128_S64x128
/-- An accumulator's block plus a head's block. -/
def accAdd (a : Vec F S1x64x128 .f32) (x : FVec F S64x128 .f32) : Vec F S1x64x128 .f32 :=
  shapeCast S1x64x128 (addf (shapeCast S64x128 a shapeCasts_S1x64x128_S64x128) x) shapeCasts_S64x128_S1x64x128

/-! ## Offsets -/

def offA (n c : BitVec 32) : Fin 3 → Nat := ![(Scalar.indexCast (Scalar.addi (Scalar.muli n 32#32) c)).toNat, 0, 0]
def offB (n c d : BitVec 32) : Fin 3 → Nat := ![(Scalar.indexCast (Scalar.addi (Scalar.addi (Scalar.muli n 32#32) c) d)).toNat, 0, 0]
def offS (i : grid0.Coords) (n : BitVec 32) (h : Nat) : Fin 3 → Nat := ![(Scalar.indexCast (BitVec.ofNat 32 (i 0).val)).toNat, (Scalar.indexCast n).toNat, h]

theorem offA_eq (n : BitVec 32) (hn : n.toNat < 5) (p : Nat) (hp : p < 16) : offA n (BitVec.ofNat 32 (2 * p)) = ![n.toNat * 32 + 2 * p, 0, 0] := by
  have e : (Scalar.indexCast (Scalar.addi (Scalar.muli n 32#32) (BitVec.ofNat 32 (2 * p)))).toNat = n.toNat * 32 + 2 * p := by
    show (n * 32#32 + BitVec.ofNat 32 (2 * p)).toNat = _
    simp only [BitVec.toNat_add, BitVec.toNat_mul, BitVec.toNat_ofNat]; omega
  unfold offA; rw [e]
theorem offB_eq (n : BitVec 32) (hn : n.toNat < 5) (p : Nat) (hp : p < 16) (j : Nat) (hj : j < 2) :
    offB n (BitVec.ofNat 32 (2 * p)) (BitVec.ofNat 32 j) = ![n.toNat * 32 + (2 * p + j), 0, 0] := by
  have e : (Scalar.indexCast (Scalar.addi (Scalar.addi (Scalar.muli n 32#32) (BitVec.ofNat 32 (2 * p))) (BitVec.ofNat 32 j))).toNat = n.toNat * 32 + (2 * p + j) := by
    show (n * 32#32 + BitVec.ofNat 32 (2 * p) + BitVec.ofNat 32 j).toNat = _
    simp only [BitVec.toNat_add, BitVec.toNat_mul, BitVec.toNat_ofNat]; omega
  unfold offB; rw [e]
theorem offS_eq (i : grid0.Coords) (n : BitVec 32) (h : Nat) : offS i n h = ![(i 0).val, n.toNat, h] := by
  have hi : (i 0).val < 4 := (i 0).isLt
  have e : (Scalar.indexCast (BitVec.ofNat 32 (i 0).val)).toNat = (i 0).val := by
    show (BitVec.ofNat 32 (i 0).val).toNat = _
    simp only [BitVec.toNat_ofNat]; omega
  unfold offS; rw [e]; rfl

theorem inbA (n : BitVec 32) (hn : n.toNat < 5) (p : Nat) (hp : p < 16) : ∀ a, offA n (BitVec.ofNat 32 (2 * p)) a + S1x64x128.size a ≤ S160x64x128.size a := by
  rw [offA_eq n hn p hp]; intro a
  match a with
  | 0 => show n.toNat * 32 + 2 * p + 1 ≤ 160; omega
  | 1 => exact Nat.le_refl 64
  | 2 => exact Nat.le_refl 128
theorem inbB (n : BitVec 32) (hn : n.toNat < 5) (p : Nat) (hp : p < 16) (j : Nat) (hj : j < 2) :
    ∀ a, offB n (BitVec.ofNat 32 (2 * p)) (BitVec.ofNat 32 j) a + S1x64x128.size a ≤ S160x64x128.size a := by
  rw [offB_eq n hn p hp j hj]; intro a
  match a with
  | 0 => show n.toNat * 32 + (2 * p + j) + 1 ≤ 160; omega
  | 1 => exact Nat.le_refl 64
  | 2 => exact Nat.le_refl 128
theorem inbS (i : grid0.Coords) (n : BitVec 32) (hn : n.toNat < 5) (h : Nat) (hh : h < 32) : ∀ a, offS i n h a + S1x1x1.size a ≤ S4x5x32.size a := by
  rw [offS_eq i n h]; intro a
  have hi : (i 0).val < 4 := (i 0).isLt
  match a with
  | 0 => show (i 0).val + 1 ≤ 4; omega
  | 1 => show n.toNat + 1 ≤ 5; omega
  | 2 => show h + 1 ≤ 32; omega
theorem inbQ (p : Nat) (hp : p < 16) : ∀ a, (![0, 0, 256 * p] : Fin 3 → Nat) a + S1x256x256.size a ≤ S1x256x4096.size a := fun a =>
  match a with
  | 0 => Nat.le_refl 1
  | 1 => Nat.le_refl 256
  | 2 => by show 256 * p + 256 ≤ 4096; omega
theorem inbH (h : Nat) (hh : h < 32) : ∀ a, (![0, 0, 128 * h] : Fin 3 → Nat) a + S1x256x128.size a ≤ S1x256x4096.size a := fun a =>
  match a with
  | 0 => Nat.le_refl 1
  | 1 => Nat.le_refl 256
  | 2 => by show 128 * h + 128 ≤ 4096; omega
theorem inbL (h : Nat) (hh : h < 32) : ∀ a, (![h, 0] : Fin 2 → Nat) a + S1x256.size a ≤ S32x256.size a := fun a =>
  match a with
  | 0 => by show h + 1 ≤ 32; omega
  | 1 => Nat.le_refl 256
theorem packQ (p : Nat) (hp : p < 16) : (Rect.unit (s := S1x256x4096) ![0, 0, 256 * p] S1x256x256.size (inbQ p hp)).PackedRows (EltTy.packing .bf16) :=
  match p, hp with
  | 0, _ => packedbf16_S1x256x4096_S1x256x256_0_0_0
  | 1, _ => packedbf16_S1x256x4096_S1x256x256_0_0_256
  | 2, _ => packedbf16_S1x256x4096_S1x256x256_0_0_512
  | 3, _ => packedbf16_S1x256x4096_S1x256x256_0_0_768
  | 4, _ => packedbf16_S1x256x4096_S1x256x256_0_0_1024
  | 5, _ => packedbf16_S1x256x4096_S1x256x256_0_0_1280
  | 6, _ => packedbf16_S1x256x4096_S1x256x256_0_0_1536
  | 7, _ => packedbf16_S1x256x4096_S1x256x256_0_0_1792
  | 8, _ => packedbf16_S1x256x4096_S1x256x256_0_0_2048
  | 9, _ => packedbf16_S1x256x4096_S1x256x256_0_0_2304
  | 10, _ => packedbf16_S1x256x4096_S1x256x256_0_0_2560
  | 11, _ => packedbf16_S1x256x4096_S1x256x256_0_0_2816
  | 12, _ => packedbf16_S1x256x4096_S1x256x256_0_0_3072
  | 13, _ => packedbf16_S1x256x4096_S1x256x256_0_0_3328
  | 14, _ => packedbf16_S1x256x4096_S1x256x256_0_0_3584
  | 15, _ => packedbf16_S1x256x4096_S1x256x256_0_0_3840
  | p + 16, h => absurd h (by omega)

/-! ## Programs -/

abbrev PR (F : FTy → Type) := Prog (TpuEff nD τ sig (Elt F) Λ₀ .tc) PUnit

/-- The buffers of the body: eleven inputs, three results, five scratch buffers. -/
structure Bufs where
  a2 : Memref sig .tc .smem S4x3584 .i32
  h2 : a2.IsWhole
  a3 : Memref sig .tc .smem S4x5x32 .f32
  h3 : a3.IsWhole
  a4 : Memref sig .tc .smem S4x5x32 .f32
  h4 : a4.IsWhole
  a5 : Memref sig .tc .vmem S1x256x4096 .bf16
  h5 : a5.IsWhole
  a6 : Memref sig .tc .vmem S1x5x64x32x128 .fp8e4m3
  h6 : a6.IsWhole
  a7 : Memref sig .tc .vmem S1x5x64x32x128 .fp8e4m3
  h7 : a7.IsWhole
  a8 : Memref sig .tc .vmem S1x256x4096 .fp8e5m2
  h8 : a8.IsWhole
  a9 : Memref sig .tc .vmem S4x256 .f32
  h9 : a9.IsWhole
  a10 : Memref sig .tc .vmem S1x256x4096 .bf16
  h10 : a10.IsWhole
  a11 : Memref sig .tc .vmem S1x32x256 .f32
  h11 : a11.IsWhole
  a12 : Memref sig .tc .vmem S4x256 .i32
  h12 : a12.IsWhole
  a13 : Memref sig .tc .vmem S1x256x4096 .bf16
  h13 : a13.IsWhole
  a14 : Memref sig .tc .vmem S1x5x64x32x128 .bf16
  h14 : a14.IsWhole
  a15 : Memref sig .tc .vmem S1x5x64x32x128 .bf16
  h15 : a15.IsWhole
  a16 : Memref sig .tc .vmem S160x64x128 .bf16
  h16 : a16.IsWhole
  a17 : Memref sig .tc .vmem S160x64x128 .fp8e4m3
  h17 : a17.IsWhole
  a18 : Memref sig .tc .vmem S160x64x128 .f32
  h18 : a18.IsWhole
  a19 : Memref sig .tc .vmem S160x64x128 .f32
  h19 : a19.IsWhole
  a20 : Memref sig .tc .vmem S32x256 .f32
  h20 : a20.IsWhole

variable (B : Bufs) (i : grid0.Coords)

/-- Load a head's block of a scratch of keys or values, the first of a pair. -/
def ldA {e : EltTy} (m : Memref sig .tc .vmem S160x64x128 e) (n : BitVec 32) (hn : n.toNat < 5) (p : Nat) (hp : p < 16) (k : Vec F S1x64x128 e → PR F) : PR F :=
  .op (.load m (Rect.unit (s := S160x64x128) (offA n (BitVec.ofNat 32 (2 * p))) S1x64x128.size (inbA n hn p hp)).toLoadRect (View.loadsAt_vmem h_S1x64x128)) k
/-- Load a head's block of a scratch buffer, head `j` of a pair. -/
def ldH {e : EltTy} (m : Memref sig .tc .vmem S160x64x128 e) (n : BitVec 32) (hn : n.toNat < 5) (p : Nat) (hp : p < 16) (j : Nat) (hj : j < 2) (k : Vec F S1x64x128 e → PR F) : PR F :=
  .op (.load m (Rect.unit (s := S160x64x128) (offB n (BitVec.ofNat 32 (2 * p)) (BitVec.ofNat 32 j)) S1x64x128.size (inbB n hn p hp j hj)).toLoadRect (View.loadsAt_vmem h_S1x64x128)) k
/-- Store a head's block of an accumulator. -/
def stH (m : Memref sig .tc .vmem S160x64x128 .f32) (n : BitVec 32) (hn : n.toNat < 5) (p : Nat) (hp : p < 16) (j : Nat) (hj : j < 2) (w : Vec F S1x64x128 .f32) (k : PR F) : PR F :=
  .op (.store m (Rect.unit (s := S160x64x128) (offB n (BitVec.ofNat 32 (2 * p)) (BitVec.ofNat 32 j)) S1x64x128.size (inbB n hn p hp j hj)) w Finset.univ (View.stores_vmem_bits_univ h_S1x64x128 rfl) (.inl rfl)) fun _ => k
/-- Load the columns of a pair of heads. -/
def ldQ {e : EltTy} (m : Memref sig .tc .vmem S1x256x4096 e) (p : Nat) (hp : p < 16) (k : Vec F S1x256x256 e → PR F) : PR F :=
  .op (.load m (Rect.unit (s := S1x256x4096) ![0, 0, 256 * p] S1x256x256.size (inbQ p hp)).toLoadRect (View.loadsAt_vmem h_S1x256x256)) k
/-- Load the columns of a head. -/
def ldC {e : EltTy} (m : Memref sig .tc .vmem S1x256x4096 e) (h : Nat) (hh : h < 32) (k : Vec F S1x256x128 e → PR F) : PR F :=
  .op (.load m (Rect.unit (s := S1x256x4096) ![0, 0, 128 * h] S1x256x128.size (inbH h hh)).toLoadRect (View.loadsAt_vmem h_S1x256x128)) k
/-- Load a head's row of the log-sum-exp scratch. -/
def ldL (m : Memref sig .tc .vmem S32x256 .f32) (h : Nat) (hh : h < 32) (k : Vec F S1x256 .f32 → PR F) : PR F :=
  .op (.load m (Rect.unit (s := S32x256) ![h, 0] S1x256.size (inbL h hh)).toLoadRect (View.loadsAt_vmem h_S1x256)) k
/-- Load a scale of an image and a head. -/
def ldS (m : Memref sig .tc .smem S4x5x32 .f32) (n : BitVec 32) (hn : n.toNat < 5) (h : Nat) (hh : h < 32) (k : Elt F .f32 → PR F) : PR F :=
  smemLoadElt m (Rect.unit (s := S4x5x32) (offS i n h) S1x1x1.size (inbS i n hn h hh)) (View.loads_smem_one rfl numel1_S1x1x1) (Shape.Idx.first (numel1_S1x1x1.symm ▸ Nat.one_pos)) k
/-- Store the columns of a pair of heads of the query gradient. -/
def stQ (m : Memref sig .tc .vmem S1x256x4096 .bf16) (hm : m.IsWhole) (p : Nat) (hp : p < 16) (w : Vec F S1x256x256 .bf16) (k : PR F) : PR F :=
  .op (.store m (Rect.unit (s := S1x256x4096) ![0, 0, 256 * p] S1x256x256.size (inbQ p hp)) w Finset.univ (View.stores_vmem h_S1x256x256 (hm.storeExact_slice rfl _ (packQ p hp)) (fun _ => rfl)) (.inl rfl)) fun _ => k

/-- Add a head's block to an accumulator. -/
def accC (m : Memref sig .tc .vmem S160x64x128 .f32) (n : BitVec 32) (hn : n.toNat < 5) (p : Nat) (hp : p < 16) (j : Nat) (hj : j < 2) (x : FVec F S64x128 .f32) (k : PR F) : PR F :=
  ldH m n hn p hp j hj fun a => ldH m n hn p hp j hj fun _ => stH m n hn p hp j hj (accAdd a x) k

/-- One head: its weights and its score gradients, handed on with its key scale. -/
def headC (n : BitVec 32) (hn : n.toNat < 5) (h : Nat) (hh : h < 32) (dos : Vec F S1x256 .f32) (s dp : FVec F S64x256 .f32)
    (k : F .f32 → FVec F S64x256 .f32 → FVec F S64x256 .f32 → PR F) : PR F :=
  ldS i B.a3 n hn h hh fun ks => ldS i B.a4 n hn h hh fun vs => ldC B.a8 h hh fun g => ldC B.a10 h hh fun o => ldL B.a20 h hh fun l =>
    k ks (eHead s ks l dos) (dsHead (eHead s ks l dos) dp vs (dRow g o))

/-- The query gradient's store: over what is there (`false`), or alone (`true`). -/
def dqC (single : Bool) (p : Nat) (hp : p < 16) (x : FVec F S256x256 .bf16) (k : PR F) : PR F :=
  match single with
  | true => ldQ B.a13 p hp fun _ => stQ B.a13 B.h13 p hp (dqOut x) k
  | false => ldQ B.a13 p hp fun y => ldQ B.a13 p hp fun _ => stQ B.a13 B.h13 p hp (dqOut (addf x (mat y))) k

/-- One pair of heads of image `n`. -/
def pairC (single : Bool) (n : BitVec 32) (hn : n.toNat < 5) (dos : Vec F S1x256 .f32) (p : Nat) (hp : p < 16) (k : PR F) : PR F :=
  ldA B.a16 n hn p hp fun k0 => ldH B.a16 n hn p hp 1 Nat.one_lt_two fun k1 => ldA B.a17 n hn p hp fun v0 => ldH B.a17 n hn p hp 1 Nat.one_lt_two fun v1 =>
  ldQ B.a5 p hp fun q => ldQ B.a8 p hp fun g =>
  headC B i n hn (2 * p) (by omega) dos (rows0 (sPair (kDiag k0 k1) (mat q))) (rows0 (dpPair (vDiag v0 v1) (mat g))) fun ks0 e0 ds0 =>
  headC B i n hn (2 * p + 1) (by omega) dos (rows1 (sPair (kDiag k0 k1) (mat q))) (rows1 (dpPair (vDiag v0 v1) (mat g))) fun ks1 e1 ds1 =>
  dqC B single p hp (dqPair (stack ds0 ds1) (kDiag k0 k1) ks0 ks1) <|
  accC B.a18 n hn p hp 0 Nat.two_pos (quad0 (dkPair (stack ds0 ds1) (mat q))) <|
  accC B.a19 n hn p hp 0 Nat.two_pos (quad0 (dvPair (stack e0 e1) (mat g))) <|
  accC B.a18 n hn p hp 1 Nat.one_lt_two (quad1 (dkPair (stack ds0 ds1) (mat q))) <|
  accC B.a19 n hn p hp 1 Nat.one_lt_two (quad1 (dvPair (stack e0 e1) (mat g))) k

/-- The log-sum-exp scratch of image `n`. -/
def lseC (n : BitVec 32) (idx : Vec F S1x256 .i32) (k : PR F) : PR F :=
  .op (.load B.a11 (Rect.unit (s := S1x32x256) ![0, 0, 0] S1x32x256.size inb_S1x32x256_S1x32x256_0_0_0).toLoadRect (View.loadsAt_vmem h_S1x32x256)) fun lse =>
  .op (.load B.a20 (Rect.unit (s := S32x256) ![0, 0] S32x256.size inb_S32x256_S32x256_0_0).toLoadRect (View.loadsAt_vmem h_S32x256)) fun _ =>
  .op (.store B.a20 (Rect.unit (s := S32x256) ![0, 0] S32x256.size inb_S32x256_S32x256_0_0) (lseRows n idx lse) Finset.univ (View.stores_vmem_bits_univ h_S32x256 rfl) (.inl rfl)) fun _ => k

/-- The pairs of heads from `16 - j` on. -/
def pairsC (single : Bool) (n : BitVec 32) (hn : n.toNat < 5) (dos : Vec F S1x256 .f32) (k : PR F) : (j : Nat) → j ≤ 16 → PR F
  | 0, _ => k
  | j + 1, h => pairC B i single n hn dos (15 - j) (by omega) (pairsC single n hn dos k j (by omega))

/-- The whole image `n`. -/
def imgC (single : Bool) (n : BitVec 32) (hn : n.toNat < 5) (dos : Vec F S1x256 .f32) (idx : Vec F S1x256 .i32) (k : PR F) : PR F :=
  lseC B n idx (pairsC B i single n hn dos k 16 (Nat.le_refl _))

end Cert.Kernel.Own
-- ==== Proof.KernelRun.lean ====
/- What the buffers hold while the body runs, and the rules that move a program's loads and stores over it. -/
module

public import proofs.«01_k».proof.Proof.KernelPair
public import Idealize.ShloMosaic.Lib.VecWindow
public import Idealize.ShloMosaic.Lib.Pipeline.TableIdle

@[expose] public section

set_option maxRecDepth 16384

noncomputable section

namespace Cert.Kernel.Own

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

variable [Cert.Kernel.Facts]

local notation "𝕄" => MT nD τ sig Unit (Elt F) ℕ (UR sig nD τ) ℕ

/-- What the buffers hold. -/
structure St (F : FTy → Type) where
  x2 : Vec F S4x3584 .i32
  x3 : Vec F S4x5x32 .f32
  x4 : Vec F S4x5x32 .f32
  x5 : Vec F S1x256x4096 .bf16
  x6 : Vec F S1x5x64x32x128 .fp8e4m3
  x7 : Vec F S1x5x64x32x128 .fp8e4m3
  x8 : Vec F S1x256x4096 .fp8e5m2
  x9 : Vec F S4x256 .f32
  x10 : Vec F S1x256x4096 .bf16
  x11 : Vec F S1x32x256 .f32
  x12 : Vec F S4x256 .i32
  x13 : Vec F S1x256x4096 .bf16
  x14 : Vec F S1x5x64x32x128 .bf16
  x15 : Vec F S1x5x64x32x128 .bf16
  x16 : Vec F S160x64x128 .bf16
  x17 : Vec F S160x64x128 .fp8e4m3
  x18 : Vec F S160x64x128 .f32
  x19 : Vec F S160x64x128 .f32
  x20 : Vec F S32x256 .f32

/-- A buffer held whole, holding `x`. -/
def own (c : Dev nD) {sp : Space} {s : Shape} {e : EltTy} (m : Memref sig .tc sp s e) (x : s.Idx → Elt F e) : sProp 𝕄 :=
  owns (c : Thread nD τ) m fullShare x

/-! The buffers from a given one on hold a tuple. -/
def H20 (c : Dev nD) (B : Bufs) (s : (Vec F S32x256 .f32)) : sProp 𝕄 := own c B.a20 s
def H19 (c : Dev nD) (B : Bufs) (s : (Vec F S160x64x128 .f32) × (Vec F S32x256 .f32)) : sProp 𝕄 := iprop(own c B.a19 s.1 ∗ H20 c B s.2)
def H18 (c : Dev nD) (B : Bufs) (s : (Vec F S160x64x128 .f32) × (Vec F S160x64x128 .f32) × (Vec F S32x256 .f32)) : sProp 𝕄 := iprop(own c B.a18 s.1 ∗ H19 c B s.2)
def H17 (c : Dev nD) (B : Bufs) (s : (Vec F S160x64x128 .fp8e4m3) × (Vec F S160x64x128 .f32) × (Vec F S160x64x128 .f32) × (Vec F S32x256 .f32)) : sProp 𝕄 := iprop(own c B.a17 s.1 ∗ H18 c B s.2)
def H16 (c : Dev nD) (B : Bufs) (s : (Vec F S160x64x128 .bf16) × (Vec F S160x64x128 .fp8e4m3) × (Vec F S160x64x128 .f32) × (Vec F S160x64x128 .f32) × (Vec F S32x256 .f32)) : sProp 𝕄 := iprop(own c B.a16 s.1 ∗ H17 c B s.2)
def H15 (c : Dev nD) (B : Bufs) (s : (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a15 s.1 ∗ H16 c B s.2)
def H14 (c : Dev nD) (B : Bufs) (s : (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a14 s.1 ∗ H15 c B s.2)
def H13 (c : Dev nD) (B : Bufs) (s : (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a13 s.1 ∗ H14 c B s.2)
def H12 (c : Dev nD) (B : Bufs) (s : (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a12 s.1 ∗ H13 c B s.2)
def H11 (c : Dev nD) (B : Bufs) (s : (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a11 s.1 ∗ H12 c B s.2)
def H10 (c : Dev nD) (B : Bufs) (s : (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a10 s.1 ∗ H11 c B s.2)
def H9 (c : Dev nD) (B : Bufs) (s : (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a9 s.1 ∗ H10 c B s.2)
def H8 (c : Dev nD) (B : Bufs) (s : (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a8 s.1 ∗ H9 c B s.2)
def H7 (c : Dev nD) (B : Bufs) (s : (Vec F S1x5x64x32x128 .fp8e4m3) × (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a7 s.1 ∗ H8 c B s.2)
def H6 (c : Dev nD) (B : Bufs) (s : (Vec F S1x5x64x32x128 .fp8e4m3) × (Vec F S1x5x64x32x128 .fp8e4m3) × (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a6 s.1 ∗ H7 c B s.2)
def H5 (c : Dev nD) (B : Bufs) (s : (Vec F S1x256x4096 .bf16) × (Vec F S1x5x64x32x128 .fp8e4m3) × (Vec F S1x5x64x32x128 .fp8e4m3) × (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a5 s.1 ∗ H6 c B s.2)
def H4 (c : Dev nD) (B : Bufs) (s : (Vec F S4x5x32 .f32) × (Vec F S1x256x4096 .bf16) × (Vec F S1x5x64x32x128 .fp8e4m3) × (Vec F S1x5x64x32x128 .fp8e4m3) × (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a4 s.1 ∗ H5 c B s.2)
def H3 (c : Dev nD) (B : Bufs) (s : (Vec F S4x5x32 .f32) × (Vec F S4x5x32 .f32) × (Vec F S1x256x4096 .bf16) × (Vec F S1x5x64x32x128 .fp8e4m3) × (Vec F S1x5x64x32x128 .fp8e4m3) × (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a3 s.1 ∗ H4 c B s.2)
def H2 (c : Dev nD) (B : Bufs) (s : (Vec F S4x3584 .i32) × (Vec F S4x5x32 .f32) × (Vec F S4x5x32 .f32) × (Vec F S1x256x4096 .bf16) × (Vec F S1x5x64x32x128 .fp8e4m3) × (Vec F S1x5x64x32x128 .fp8e4m3) × (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a2 s.1 ∗ H3 c B s.2)

/-- The buffers hold what the state says. -/
def held (c : Dev nD) (B : Bufs) (st : St F) : sProp 𝕄 := H2 c B (st.x2, st.x3, st.x4, st.x5, st.x6, st.x7, st.x8, st.x9, st.x10, st.x11, st.x12, st.x13, st.x14, st.x15, st.x16, st.x17, st.x18, st.x19, st.x20)

/-- One buffer taken out of a state, and put back with any contents. -/
def Focus {S V : Type} (H : S → sProp 𝕄) (O : V → sProp 𝕄) (get : S → V) (set : S → V → S) : Prop :=
  ∀ s, H s ⊢ iprop(O (get s) ∗ (∀ v, O v -∗ H (set s v)))

theorem focus_l {V S : Type} (A : V → sProp 𝕄) (R : S → sProp 𝕄) :
    Focus (fun s : V × S => iprop(A s.1 ∗ R s.2)) A Prod.fst (fun s v => (v, s.2)) := fun s => by
  iintro ⟨H, R⟩
  isplitl [H]; · iexact H
  iintro %v H
  isplitl [H]; · iexact H
  iexact R

theorem focus_last {V : Type} (A : V → sProp 𝕄) : Focus A A (fun s => s) (fun _ v => v) := fun s => by
  iintro H
  isplitl [H]; · iexact H
  iintro %v H
  iexact H

theorem focus_r {W S V : Type} (A : W → sProp 𝕄) {R : S → sProp 𝕄} {O : V → sProp 𝕄} {get : S → V} {set : S → V → S} (h : Focus R O get set) :
    Focus (fun s : W × S => iprop(A s.1 ∗ R s.2)) O (fun s => get s.2) (fun s v => (s.1, set s.2 v)) := fun s => by
  iintro ⟨HA, R⟩
  ihave R := (h s.2) $$ R
  icases R with ⟨HO, R⟩
  isplitl [HO]; · iexact HO
  iintro %v H
  isplitl [HA]; · iexact HA
  iapply R; iexact H

/-- A state as a tuple. -/
abbrev tup (st : St F) := (st.x2, st.x3, st.x4, st.x5, st.x6, st.x7, st.x8, st.x9, st.x10, st.x11, st.x12, st.x13, st.x14, st.x15, st.x16, st.x17, st.x18, st.x19, st.x20)

theorem f2 (c : Dev nD) (B : Bufs) : Focus (held (F := F) c B) (own c B.a2) St.x2 (fun s v => { s with x2 := v }) := fun st => (show Focus (H2 (F := F) c B) (own c B.a2) Prod.fst (fun s v => (v, s.2)) from focus_l (own c B.a2) (H3 c B)) (tup st)
theorem f3 (c : Dev nD) (B : Bufs) : Focus (held (F := F) c B) (own c B.a3) St.x3 (fun s v => { s with x3 := v }) := fun st => (focus_r (R := H3 c B) (own c B.a2) (show Focus (H3 (F := F) c B) (own c B.a3) Prod.fst (fun s v => (v, s.2)) from focus_l (own c B.a3) (H4 c B))) (tup st)
theorem f4 (c : Dev nD) (B : Bufs) : Focus (held (F := F) c B) (own c B.a4) St.x4 (fun s v => { s with x4 := v }) := fun st => (focus_r (R := H3 c B) (own c B.a2) (focus_r (R := H4 c B) (own c B.a3) (show Focus (H4 (F := F) c B) (own c B.a4) Prod.fst (fun s v => (v, s.2)) from focus_l (own c B.a4) (H5 c B)))) (tup st)
theorem f5 (c : Dev nD) (B : Bufs) : Focus (held (F := F) c B) (own c B.a5) St.x5 (fun s v => { s with x5 := v }) := fun st => (focus_r (R := H3 c B) (own c B.a2) (focus_r (R := H4 c B) (own c B.a3) (focus_r (R := H5 c B) (own c B.a4) (show Focus (H5 (F := F) c B) (own c B.a5) Prod.fst (fun s v => (v, s.2)) from focus_l (own c B.a5) (H6 c B))))) (tup st)
theorem f6 (c : Dev nD) (B : Bufs) : Focus (held (F := F) c B) (own c B.a6) St.x6 (fun s v => { s with x6 := v }) := fun st => (focus_r (R := H3 c B) (own c B.a2) (focus_r (R := H4 c B) (own c B.a3) (focus_r (R := H5 c B) (own c B.a4) (focus_r (R := H6 c B) (own c B.a5) (show Focus (H6 (F := F) c B) (own c B.a6) Prod.fst (fun s v => (v, s.2)) from focus_l (own c B.a6) (H7 c B)))))) (tup st)
theorem f7 (c : Dev nD) (B : Bufs) : Focus (held (F := F) c B) (own c B.a7) St.x7 (fun s v => { s with x7 := v }) := fun st => (focus_r (R := H3 c B) (own c B.a2) (focus_r (R := H4 c B) (own c B.a3) (focus_r (R := H5 c B) (own c B.a4) (focus_r (R := H6 c B) (own c B.a5) (focus_r (R := H7 c B) (own c B.a6) (show Focus (H7 (F := F) c B) (own c B.a7) Prod.fst (fun s v => (v, s.2)) from focus_l (own c B.a7) (H8 c B))))))) (tup st)
theorem f8 (c : Dev nD) (B : Bufs) : Focus (held (F := F) c B) (own c B.a8) St.x8 (fun s v => { s with x8 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (show Focus (H8 (F := F) c B) (own c B.a8) Prod.fst (fun s v => (v, s.2)) from focus_l (own c B.a8) (H9 c B)))))))) (tup st)
theorem f9 (c : Dev nD) (B : Bufs) : Focus (held (F := F) c B) (own c B.a9) St.x9 (fun s v => { s with x9 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (show Focus (H9 (F := F) c B) (own c B.a9) Prod.fst (fun s v => (v, s.2)) from focus_l (own c B.a9) (H10 c B))))))))) (tup st)
theorem f10 (c : Dev nD) (B : Bufs) : Focus (held (F := F) c B) (own c B.a10) St.x10 (fun s v => { s with x10 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (show Focus (H10 (F := F) c B) (own c B.a10) Prod.fst (fun s v => (v, s.2)) from focus_l (own c B.a10) (H11 c B)))))))))) (tup st)
theorem f11 (c : Dev nD) (B : Bufs) : Focus (held (F := F) c B) (own c B.a11) St.x11 (fun s v => { s with x11 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (show Focus (H11 (F := F) c B) (own c B.a11) Prod.fst (fun s v => (v, s.2)) from focus_l (own c B.a11) (H12 c B))))))))))) (tup st)
theorem f12 (c : Dev nD) (B : Bufs) : Focus (held (F := F) c B) (own c B.a12) St.x12 (fun s v => { s with x12 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (show Focus (H12 (F := F) c B) (own c B.a12) Prod.fst (fun s v => (v, s.2)) from focus_l (own c B.a12) (H13 c B)))))))))))) (tup st)
theorem f13 (c : Dev nD) (B : Bufs) : Focus (held (F := F) c B) (own c B.a13) St.x13 (fun s v => { s with x13 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (show Focus (H13 (F := F) c B) (own c B.a13) Prod.fst (fun s v => (v, s.2)) from focus_l (own c B.a13) (H14 c B))))))))))))) (tup st)
theorem f14 (c : Dev nD) (B : Bufs) : Focus (held (F := F) c B) (own c B.a14) St.x14 (fun s v => { s with x14 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (show Focus (H14 (F := F) c B) (own c B.a14) Prod.fst (fun s v => (v, s.2)) from focus_l (own c B.a14) (H15 c B)))))))))))))) (tup st)
theorem f15 (c : Dev nD) (B : Bufs) : Focus (held (F := F) c B) (own c B.a15) St.x15 (fun s v => { s with x15 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (focus_r (R := H15 c B) (own c B.a14) (show Focus (H15 (F := F) c B) (own c B.a15) Prod.fst (fun s v => (v, s.2)) from focus_l (own c B.a15) (H16 c B))))))))))))))) (tup st)
theorem f16 (c : Dev nD) (B : Bufs) : Focus (held (F := F) c B) (own c B.a16) St.x16 (fun s v => { s with x16 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (focus_r (R := H15 c B) (own c B.a14) (focus_r (R := H16 c B) (own c B.a15) (show Focus (H16 (F := F) c B) (own c B.a16) Prod.fst (fun s v => (v, s.2)) from focus_l (own c B.a16) (H17 c B)))))))))))))))) (tup st)
theorem f17 (c : Dev nD) (B : Bufs) : Focus (held (F := F) c B) (own c B.a17) St.x17 (fun s v => { s with x17 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (focus_r (R := H15 c B) (own c B.a14) (focus_r (R := H16 c B) (own c B.a15) (focus_r (R := H17 c B) (own c B.a16) (show Focus (H17 (F := F) c B) (own c B.a17) Prod.fst (fun s v => (v, s.2)) from focus_l (own c B.a17) (H18 c B))))))))))))))))) (tup st)
theorem f18 (c : Dev nD) (B : Bufs) : Focus (held (F := F) c B) (own c B.a18) St.x18 (fun s v => { s with x18 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (focus_r (R := H15 c B) (own c B.a14) (focus_r (R := H16 c B) (own c B.a15) (focus_r (R := H17 c B) (own c B.a16) (focus_r (R := H18 c B) (own c B.a17) (show Focus (H18 (F := F) c B) (own c B.a18) Prod.fst (fun s v => (v, s.2)) from focus_l (own c B.a18) (H19 c B)))))))))))))))))) (tup st)
theorem f19 (c : Dev nD) (B : Bufs) : Focus (held (F := F) c B) (own c B.a19) St.x19 (fun s v => { s with x19 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (focus_r (R := H15 c B) (own c B.a14) (focus_r (R := H16 c B) (own c B.a15) (focus_r (R := H17 c B) (own c B.a16) (focus_r (R := H18 c B) (own c B.a17) (focus_r (R := H19 c B) (own c B.a18) (show Focus (H19 (F := F) c B) (own c B.a19) Prod.fst (fun s v => (v, s.2)) from focus_l (own c B.a19) (H20 c B))))))))))))))))))) (tup st)
theorem f20 (c : Dev nD) (B : Bufs) : Focus (held (F := F) c B) (own c B.a20) St.x20 (fun s v => { s with x20 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (focus_r (R := H15 c B) (own c B.a14) (focus_r (R := H16 c B) (own c B.a15) (focus_r (R := H17 c B) (own c B.a16) (focus_r (R := H18 c B) (own c B.a17) (focus_r (R := H19 c B) (own c B.a18) (focus_r (R := H20 c B) (own c B.a19) (show Focus (H20 (F := F) c B) (own c B.a20) (fun s => s) (fun _ v => v) from focus_last (own c B.a20)))))))))))))))))))) (tup st)

/-! ## The judgement -/

/-- From the state `st` the program `p` runs to `Q`. -/
def T {α : Type} (c : Dev nD) (B : Bufs) (st : St F) (p : Prog (TpuEff nD τ sig (Elt F) Λ₀ .tc) α) (Q : α → sProp 𝕄) : Prop :=
  held c B st ⊢ wp frame (wpE (defs₀ (F := F)) Variants.none c none) Set.univ p Q

variable {c : Dev nD} {B : Bufs} {st : St F}

theorem T_bind {α β : Type} {p : Prog (TpuEff nD τ sig (Elt F) Λ₀ .tc) α} {k : α → Prog (TpuEff nD τ sig (Elt F) Λ₀ .tc) β} {Q : β → sProp 𝕄}
    (h : T c B st p (fun a => wp frame (wpE (defs₀ (F := F)) Variants.none c none) Set.univ (k a) Q)) : T c B st (p >>= k) Q := by
  unfold T at h ⊢
  rw [wp_bind]; exact h

theorem T_ret {α : Type} {a : α} {Q : α → sProp 𝕄} (h : held c B st ⊢ Q a) : T c B st (.ret a) Q := by
  unfold T; rw [wp_ret]; exact h.trans fupd_intro

/-- A load of a unit-stride rectangle. -/
theorem T_ld {cs : CoreSpace} {s : Shape} {e : EltTy} {m : Memref sig .tc cs s e} {get : St F → Vec F s e} {set : St F → Vec F s e → St F}
    (f : Focus (held c B) (own c m) get set) (hs : set st (get st) = st) {α : Type} {off off' size : Fin s.rank → ℕ} {inb : ∀ a, off a + size a ≤ s.size a} (h : off = off') (inb' : ∀ a, off' a + size a ≤ s.size a)
    {hl : m.view.LoadsAt (Rect.unit off size inb).toLoadRect} {k : ((Rect.unit off size inb).shape.Idx → Elt F e) → Prog (TpuEff nD τ sig (Elt F) Λ₀ .tc) α} {Q : α → sProp 𝕄}
    (hk : T c B st (k (VecWindow.window (get st) off' size inb')) Q) : T c B st (.op (.load m (Rect.unit off size inb).toLoadRect hl) k) Q := by
  unfold T at hk ⊢
  refine (f st).trans ?_
  iintro ⟨H, R⟩
  unfold own
  ihave H := (rep_of_owns (c : Thread nD τ) m fullShare (get st)) $$ H
  iapply (wp_load (defs := defs₀ (F := F)) Variants.none (c : Thread nD τ) none Set.univ (m := m) (S := m.view.set) (View.setOn_subset_set _ _)) $$ H
  iintro H
  rw [View.readAt_rep_unit m.view (get st) inb h inb']
  ihave H := (owns_of_rep (c : Thread nD τ) m fullShare (get st)) $$ H
  ihave H := R $$ %(get st) H
  rw [hs]
  iapply hk; iexact H

/-- A store to a unit-stride rectangle. -/
theorem T_st {cs : CoreSpace} {s : Shape} {e : EltTy} {m : Memref sig .tc cs s e} {get : St F → Vec F s e} {set : St F → Vec F s e → St F}
    (f : Focus (held c B) (own c m) get set) {α : Type} {off off' size : Fin s.rank → ℕ} {inb : ∀ a, off a + size a ≤ s.size a} (h : off = off')
    {w : (Rect.unit off size inb).shape.Idx → Elt F e} {hx : (m.access (Rect.unit off size inb)).Stores Finset.univ} {hm} {k : PUnit → Prog (TpuEff nD τ sig (Elt F) Λ₀ .tc) α} {Q : α → sProp 𝕄}
    (hk : T c B (set st (VecWindow.put (get st) off' size w)) (k ⟨⟩) Q) : T c B st (.op (.store m (Rect.unit off size inb) w Finset.univ hx hm) k) Q := by
  unfold T at hk ⊢
  have hw : ((m.access (Rect.unit off size inb)).loc (c : Thread nD τ) ↦[m.view.set]{fullShare} ((m.access (Rect.unit off size inb)).write (Elt F) (m.view.rep (get st)) w Finset.univ) : sProp 𝕄)
      ⊢ own c m (VecWindow.put (get st) off' size w) :=
    (pointsTo_rep_of_read (c : Thread nD τ) m _ fullShare _ (View.read_writes_rep_unit m.view (get st) inb w h)).trans (owns_of_rep (c : Thread nD τ) m fullShare _)
  refine (f st).trans ?_
  iintro ⟨H, R⟩
  ihave H := (show own c m (get st) ⊢ _ from rep_of_owns (c : Thread nD τ) m fullShare (get st)) $$ H
  iapply (wp_store (defs := defs₀ (F := F)) Variants.none (c : Thread nD τ) none Set.univ (m := m) (r := Rect.unit off size inb) (S := m.view.set) (View.set_slice_subset _ _)) $$ H
  iintro H
  ihave H := hw $$ H
  ihave H := R $$ %_ H
  iapply hk; iexact H

end Cert.Kernel.Own
-- ==== Proof.KernelStep.lean ====
/- What one pair of heads leaves in the buffers: the values of the pair as functions of the buffers, and the pair's program
   moved over them. -/
module

public import proofs.«01_k».proof.Proof.KernelRun

@[expose] public section

set_option maxRecDepth 16384

noncomputable section

namespace Cert.Kernel.Own

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

variable [Cert.Kernel.Facts]

local notation "𝕄" => MT nD τ sig Unit (Elt F) ℕ (UR sig nD τ) ℕ

/-! ## Windows -/

theorem inbR (h : Nat) (hh : h < 160) : ∀ a, (![h, 0, 0] : Fin 3 → Nat) a + S1x64x128.size a ≤ S160x64x128.size a := fun a =>
  match a with
  | 0 => by show h + 1 ≤ 160; omega
  | 1 => Nat.le_refl 64
  | 2 => Nat.le_refl 128
theorem inbE (b n h : Nat) (hb : b < 4) (hn : n < 5) (hh : h < 32) : ∀ a, (![b, n, h] : Fin 3 → Nat) a + S1x1x1.size a ≤ S4x5x32.size a := fun a =>
  match a with
  | 0 => by show b + 1 ≤ 4; omega
  | 1 => by show n + 1 ≤ 5; omega
  | 2 => by show h + 1 ≤ 32; omega

/-- A head's block of a scratch buffer. -/
def rowB {e : EltTy} (x : Vec F S160x64x128 e) (h : Nat) (hh : h < 160) : Vec F S1x64x128 e := VecWindow.window x ![h, 0, 0] S1x64x128.size (inbR h hh)
/-- A pair's columns. -/
def colQ {e : EltTy} (x : Vec F S1x256x4096 e) (p : Nat) (hp : p < 16) : Vec F S1x256x256 e := VecWindow.window x ![0, 0, 256 * p] S1x256x256.size (inbQ p hp)
/-- A head's columns. -/
def colH {e : EltTy} (x : Vec F S1x256x4096 e) (h : Nat) (hh : h < 32) : Vec F S1x256x128 e := VecWindow.window x ![0, 0, 128 * h] S1x256x128.size (inbH h hh)
/-- A head's row. -/
def rowL (x : Vec F S32x256 .f32) (h : Nat) (hh : h < 32) : Vec F S1x256 .f32 := VecWindow.window x ![h, 0] S1x256.size (inbL h hh)
/-- A scale. -/
def scl (x : Vec F S4x5x32 .f32) (b n h : Nat) (hb : b < 4) (hn : n < 5) (hh : h < 32) : Elt F .f32 :=
  (VecWindow.window x ![b, n, h] S1x1x1.size (inbE b n h hb hn hh)) (Shape.Idx.first (numel1_S1x1x1.symm ▸ Nat.one_pos))

/-! ## The values of a pair -/

section Pair

variable (i : grid0.Coords) (single : Bool) (st : St F) (n : BitVec 32) (hn : n.toNat < 5) (dos : Vec F S1x256 .f32) (p : Nat) (hp : p < 16)

def kD : FVec F S128x256 .bf16 := kDiag (rowB st.x16 (n.toNat * 32 + 2 * p) (by omega)) (rowB st.x16 (n.toNat * 32 + (2 * p + 1)) (by omega))
def vD : FVec F S128x256 .fp8e4m3 := vDiag (rowB st.x17 (n.toNat * 32 + 2 * p) (by omega)) (rowB st.x17 (n.toNat * 32 + (2 * p + 1)) (by omega))
def qM : FVec F S256x256 .bf16 := mat (colQ st.x5 p hp)
def gM : FVec F S256x256 .fp8e5m2 := mat (colQ st.x8 p hp)
def ksV (h : Nat) (hh : h < 32) : Elt F .f32 := scl st.x3 (i 0).val n.toNat h (i 0).isLt hn hh
def vsV (h : Nat) (hh : h < 32) : Elt F .f32 := scl st.x4 (i 0).val n.toNat h (i 0).isLt hn hh
def eV0 : FVec F S64x256 .f32 := eHead (rows0 (sPair (kD st n hn p hp) (qM st p hp))) (ksV i st n hn (2 * p) (by omega)) (rowL st.x20 (2 * p) (by omega)) dos
def eV1 : FVec F S64x256 .f32 := eHead (rows1 (sPair (kD st n hn p hp) (qM st p hp))) (ksV i st n hn (2 * p + 1) (by omega)) (rowL st.x20 (2 * p + 1) (by omega)) dos
def dsV0 : FVec F S64x256 .f32 := dsHead (eV0 i st n hn dos p hp) (rows0 (dpPair (vD st n hn p hp) (gM st p hp))) (vsV i st n hn (2 * p) (by omega)) (dRow (colH st.x8 (2 * p) (by omega)) (colH st.x10 (2 * p) (by omega)))
def dsV1 : FVec F S64x256 .f32 := dsHead (eV1 i st n hn dos p hp) (rows1 (dpPair (vD st n hn p hp) (gM st p hp))) (vsV i st n hn (2 * p + 1) (by omega)) (dRow (colH st.x8 (2 * p + 1) (by omega)) (colH st.x10 (2 * p + 1) (by omega)))
/-- The pair's weights. -/
def eV : FVec F S128x256 .bf16 := stack (eV0 i st n hn dos p hp) (eV1 i st n hn dos p hp)
/-- The pair's score gradients. -/
def dsV : FVec F S128x256 .bf16 := stack (dsV0 i st n hn dos p hp) (dsV1 i st n hn dos p hp)
/-- The pair's query gradient. -/
def dqV : FVec F S256x256 .bf16 := dqPair (dsV i st n hn dos p hp) (kD st n hn p hp) (ksV i st n hn (2 * p) (by omega)) (ksV i st n hn (2 * p + 1) (by omega))
/-- The pair's query gradient as stored. -/
def dqN : Vec F S1x256x256 .bf16 :=
  match single with
  | true => dqOut (dqV i st n hn dos p hp)
  | false => dqOut (addf (dqV i st n hn dos p hp) (mat (colQ st.x13 p hp)))
def dkV : FVec F S128x256 .f32 := dkPair (dsV i st n hn dos p hp) (qM st p hp)
def dvV : FVec F S128x256 .f32 := dvPair (eV i st n hn dos p hp) (gM st p hp)

/-- An accumulator after a pair. -/
def acc2 (x : Vec F S160x64x128 .f32) (r0 r1 : Nat) (h0 : r0 < 160) (h1 : r1 < 160) (a b : FVec F S64x128 .f32) : Vec F S160x64x128 .f32 :=
  VecWindow.put (VecWindow.put x ![r0, 0, 0] S1x64x128.size (accAdd (rowB x r0 h0) a)) ![r1, 0, 0] S1x64x128.size
    (accAdd (rowB (VecWindow.put x ![r0, 0, 0] S1x64x128.size (accAdd (rowB x r0 h0) a)) r1 h1) b)

/-- The buffers after a pair. -/
def pairEff : St F :=
  { st with
    x13 := VecWindow.put st.x13 ![0, 0, 256 * p] S1x256x256.size (dqN i single st n hn dos p hp)
    x18 := acc2 st.x18 (n.toNat * 32 + (2 * p + 0)) (n.toNat * 32 + (2 * p + 1)) (by omega) (by omega) (quad0 (dkV i st n hn dos p hp)) (quad1 (dkV i st n hn dos p hp))
    x19 := acc2 st.x19 (n.toNat * 32 + (2 * p + 0)) (n.toNat * 32 + (2 * p + 1)) (by omega) (by omega) (quad0 (dvV i st n hn dos p hp)) (quad1 (dvV i st n hn dos p hp)) }

/-! ## The pair's program -/

variable {i single st n hn dos p hp} {c : Dev nD} {B : Bufs} {Q : PUnit → sProp (MT nD τ sig Unit (Elt F) ℕ (UR sig nD τ) ℕ)}

theorem T_ldA16 {k : Vec F S1x64x128 .bf16 → PR F} (h : T c B st (k (rowB st.x16 (n.toNat * 32 + 2 * p) (by omega))) Q) : T c B st (ldA B.a16 n hn p hp k) Q :=
  T_ld (f16 c B) rfl (offA_eq n hn p hp) (inbR _ (by omega)) h
theorem T_ldA17 {k : Vec F S1x64x128 .fp8e4m3 → PR F} (h : T c B st (k (rowB st.x17 (n.toNat * 32 + 2 * p) (by omega))) Q) : T c B st (ldA B.a17 n hn p hp k) Q :=
  T_ld (f17 c B) rfl (offA_eq n hn p hp) (inbR _ (by omega)) h
theorem T_ldH {e : EltTy} {m : Memref sig .tc .vmem S160x64x128 e} {get : St F → Vec F S160x64x128 e} {set : St F → Vec F S160x64x128 e → St F}
    (f : Focus (held c B) (own c m) get set) (hs : set st (get st) = st) {j : Nat} {hj : j < 2} {k : Vec F S1x64x128 e → PR F}
    (h : T c B st (k (rowB (get st) (n.toNat * 32 + (2 * p + j)) (by omega))) Q) : T c B st (ldH m n hn p hp j hj k) Q :=
  T_ld f hs (offB_eq n hn p hp j hj) (inbR _ (by omega)) h
theorem T_ldQ {e : EltTy} {m : Memref sig .tc .vmem S1x256x4096 e} {get : St F → Vec F S1x256x4096 e} {set : St F → Vec F S1x256x4096 e → St F}
    (f : Focus (held c B) (own c m) get set) (hs : set st (get st) = st) {k : Vec F S1x256x256 e → PR F}
    (h : T c B st (k (colQ (get st) p hp)) Q) : T c B st (ldQ m p hp k) Q :=
  T_ld f hs rfl (inbQ p hp) h

/-- One head, moved over the buffers. -/
theorem T_head {h : Nat} {hh : h < 32} {s dp : FVec F S64x256 .f32} {k : F .f32 → FVec F S64x256 .f32 → FVec F S64x256 .f32 → PR F}
    (hk : T c B st (k (ksV i st n hn h hh) (eHead s (ksV i st n hn h hh) (rowL st.x20 h hh) dos)
      (dsHead (eHead s (ksV i st n hn h hh) (rowL st.x20 h hh) dos) dp (vsV i st n hn h hh) (dRow (colH st.x8 h hh) (colH st.x10 h hh)))) Q) :
    T c B st (headC B i n hn h hh dos s dp k) Q := by
  unfold headC ldS ldC ldL smemLoadElt
  refine T_ld (f3 c B) rfl (offS_eq i n h) (inbE _ _ _ (i 0).isLt hn hh) ?_
  refine T_ld (f4 c B) rfl (offS_eq i n h) (inbE _ _ _ (i 0).isLt hn hh) ?_
  refine T_ld (f8 c B) rfl rfl (inbH h hh) ?_
  refine T_ld (f10 c B) rfl rfl (inbH h hh) ?_
  refine T_ld (f20 c B) rfl rfl (inbL h hh) ?_
  exact hk

/-- The query gradient's store. -/
theorem T_dq {x : FVec F S256x256 .bf16} {k : PR F} {y : Vec F S1x256x256 .bf16}
    (hy : y = match single with | true => dqOut x | false => dqOut (addf x (mat (colQ st.x13 p hp))))
    (hk : T c B { st with x13 := VecWindow.put st.x13 ![0, 0, 256 * p] S1x256x256.size y } k Q) : T c B st (dqC B single p hp x k) Q := by
  subst hy
  cases single
  · refine T_ldQ (hp := hp) (f13 c B) rfl (T_ldQ (hp := hp) (f13 c B) rfl ?_)
    exact T_st (f13 c B) rfl hk
  · refine T_ldQ (hp := hp) (f13 c B) rfl ?_
    exact T_st (f13 c B) rfl hk

/-- An accumulator's step. -/
theorem T_acc {m : Memref sig .tc .vmem S160x64x128 .f32} {get : St F → Vec F S160x64x128 .f32} {set : St F → Vec F S160x64x128 .f32 → St F}
    (f : Focus (held c B) (own c m) get set) (hs : set st (get st) = st) {j : Nat} {hj : j < 2} {x : FVec F S64x128 .f32} {k : PR F}
    (h : T c B (set st (VecWindow.put (get st) ![n.toNat * 32 + (2 * p + j), 0, 0] S1x64x128.size (accAdd (rowB (get st) (n.toNat * 32 + (2 * p + j)) (by omega)) x))) k Q) :
    T c B st (accC m n hn p hp j hj x k) Q :=
  T_ldH f hs (T_ldH f hs (T_st f (offB_eq n hn p hp j hj) h))

/-- One pair of heads, moved over the buffers. -/
theorem T_pair {k : PR F} (h : T c B (pairEff i single st n hn dos p hp) k Q) : T c B st (pairC B i single n hn dos p hp k) Q := by
  unfold pairC
  refine T_ldA16 (T_ldH (f16 c B) rfl (T_ldA17 (T_ldH (f17 c B) rfl (T_ldQ (f5 c B) rfl (T_ldQ (f8 c B) rfl ?_)))))
  refine T_head (T_head (T_dq (y := dqN i single st n hn dos p hp) ?_ ?_))
  · cases single <;> rfl
  refine T_acc (f18 c B) rfl (T_acc (f19 c B) rfl (T_acc (f18 c B) rfl (T_acc (f19 c B) rfl ?_)))
  exact h

end Pair

section Image

/-- The buffers after the pairs of heads from `16 - j` on. -/
def pairsEff (i : grid0.Coords) (single : Bool) (n : BitVec 32) (hn : n.toNat < 5) (dos : Vec F S1x256 .f32) : (j : Nat) → j ≤ 16 → St F → St F
  | 0, _, st => st
  | j + 1, h, st => pairsEff i single n hn dos j (by omega) (pairEff i single st n hn dos (15 - j) (by omega))

variable {i : grid0.Coords} {single : Bool} {n : BitVec 32} {hn : n.toNat < 5} {dos : Vec F S1x256 .f32} {c : Dev nD} {B : Bufs} {Q : PUnit → sProp (MT nD τ sig Unit (Elt F) ℕ (UR sig nD τ) ℕ)} {st : St F}

theorem T_pairs {k : PR F} : ∀ (j : Nat) (hj : j ≤ 16) (st : St F), T c B (pairsEff i single n hn dos j hj st) k Q → T c B st (pairsC B i single n hn dos k j hj) Q
  | 0, _, _, h => h
  | j + 1, hj, st, h => T_pair (T_pairs j (by omega) _ h)

/-- The buffers after an image. -/
def imgEff (i : grid0.Coords) (single : Bool) (n : BitVec 32) (hn : n.toNat < 5) (dos : Vec F S1x256 .f32) (idx : Vec F S1x256 .i32) (st : St F) : St F :=
  pairsEff i single n hn dos 16 (Nat.le_refl _) { st with x20 := lseRows n idx st.x11 }

theorem put_full {α : Type} {s : Shape} (x w : s.Idx → α) (off : Fin s.rank → ℕ) (h : ∀ a, off a = 0) : VecWindow.put x off s.size w = w := by
  funext y
  unfold VecWindow.put
  rw [dif_pos (fun a => by have := (y a).isLt; have := h a; omega)]
  exact congrArg w (funext fun a => Fin.ext (by show (y a).val - off a = (y a).val; rw [h a]; rfl))
theorem window_full {α : Type} {s : Shape} (x : s.Idx → α) (off : Fin s.rank → ℕ) (h : ∀ a, off a = 0) (inb) : VecWindow.window x off s.size inb = x := by
  funext y
  exact congrArg x (funext fun a => Fin.ext (by show off a + 1 * (y a).val = (y a).val; rw [h a]; omega))

theorem z3 : ∀ a, (![0, 0, 0] : Fin 3 → Nat) a = 0 := fun a => match a with | 0 => rfl | 1 => rfl | 2 => rfl
theorem z2 : ∀ a, (![0, 0] : Fin 2 → Nat) a = 0 := fun a => match a with | 0 => rfl | 1 => rfl

/-- The whole image, moved over the buffers. -/
theorem T_img {idx : Vec F S1x256 .i32} {k : PR F} (h : T c B (imgEff i single n hn dos idx st) k Q) : T c B st (imgC B i single n hn dos idx k) Q := by
  unfold imgC lseC
  refine T_ld (f11 c B) rfl rfl inb_S1x32x256_S1x32x256_0_0_0 (T_ld (f20 c B) rfl rfl inb_S32x256_S32x256_0_0 (T_st (f20 c B) rfl ?_))
  exact Eq.mpr (congrArg (fun w => T c B { st with x20 := w } (pairsC B i single n hn dos k 16 (Nat.le_refl _)) Q)
    ((put_full _ _ _ z2).trans (congrArg (lseRows n idx) (window_full st.x11 _ z3 _)))) (T_pairs 16 (Nat.le_refl _) _ h)

end Image

end Cert.Kernel.Own
-- ==== Proof.KernelBody.lean ====
/- The body of the kernel at one point of the grid, as a change of the buffers. -/
module

public import proofs.«01_k».proof.Proof.KernelStep
public import Idealize.ShloMosaic.Lib.LoopRemainder

@[expose] public section

set_option maxRecDepth 16384

noncomputable section

namespace Cert.Kernel.Own

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

variable [Cert.Kernel.Facts]

local notation "𝕄" => MT nD τ sig Unit (Elt F) ℕ (UR sig nD τ) ℕ

section Rules

variable {c : Dev nD} {B : Bufs} {st : St F}

/-- A region, then the rest from the state the region leaves. -/
theorem T_seq {p : Prog (TpuEff nD τ sig (Elt F) Λ₀ .tc) PUnit} {α : Type} {k : PUnit → Prog (TpuEff nD τ sig (Elt F) Λ₀ .tc) α} {Q : α → sProp 𝕄}
    (s' : St F) (h1 : T c B st p (fun _ => held c B s')) (h2 : T c B s' (k ⟨⟩) Q) : T c B st (p >>= k) Q :=
  T_bind (BIBase.Entails.trans h1 ((wp frame (wpE (defs₀ (F := F)) Variants.none c none) Set.univ p).mono fun _ => h2))

theorem T_dite {P : Prop} [Decidable P] {α : Type} {t : P → Prog (TpuEff nD τ sig (Elt F) Λ₀ .tc) α} {e : ¬P → Prog (TpuEff nD τ sig (Elt F) Λ₀ .tc) α}
    {Q : α → sProp 𝕄} (ht : ∀ h, T c B st (t h) Q) (he : ∀ h, T c B st (e h) Q) : T c B st (dite P t e) Q := by
  by_cases h : P
  · rw [dif_pos h]; exact ht h
  · rw [dif_neg h]; exact he h

/-- A conditional region, then the rest: the rest is run once, from the state both ways leave. -/
theorem T_fork {P : Prop} [Decidable P] {α : Type} {t : P → Prog (TpuEff nD τ sig (Elt F) Λ₀ .tc) α} {j : Prog (TpuEff nD τ sig (Elt F) Λ₀ .tc) α}
    {Q : α → sProp 𝕄} (s' : St F) (ht : ∀ h, T c B s' j Q → T c B st (t h) Q) (he : ¬P → s' = st) (hj : T c B s' j Q) :
    T c B st (dite P t (fun _ => j)) Q :=
  T_dite (fun h => ht h hj) (fun h => he h ▸ hj)

theorem T_of {α : Type} {p : Prog (TpuEff nD τ sig (Elt F) Λ₀ .tc) α} {Q : α → sProp 𝕄} {s' : St F} (e : st = s') (h : T c B s' p Q) : T c B st p Q := e ▸ h

theorem T_assume {P : Prop} {d : Decidable P} {α : Type} {k : PLift P → Prog (TpuEff nD τ sig (Elt F) Λ₀ .tc) α} {Q : α → sProp 𝕄}
    (h : P) (hk : T c B st (k ⟨h⟩) Q) : T c B st (.op (.assume P d) k) Q :=
  BIBase.Entails.trans hk (wp_assume _ _ _ _ h)

/-- A loop, from the states before each of its trips. -/
theorem T_for {lb ub s : BitVec 32} {hok : Scf.OK lb ub s} {body : Fin (Scf.trips lb ub s) → PUnit → Prog (TpuEff nD τ sig (Elt F) Λ₀ .tc) PUnit}
    {Q : PUnit → sProp (MT nD τ sig Unit (Elt F) ℕ (UR sig nD τ) ℕ)} (I : Nat → St F) (h0 : I 0 = st)
    (hbody : ∀ k : Fin (Scf.trips lb ub s), T c B (I k.val) (body k ⟨⟩) (fun _ => held c B (I (k.val + 1))))
    (hQ : held c B (I (Scf.trips lb ub s)) ⊢ Q ⟨⟩) : T c B st (Scf.for lb ub s hok ⟨⟩ body) Q := by
  unfold T
  rw [← h0]
  istart
  iintro H
  iapply Scf.wp_for frame _ _ lb ub s hok ⟨⟩ body (fun k _ => held c B (I k)) (fun k _ => hbody k)
  isplitl [H]
  · iexact H
  · iintro %a H
    iapply hQ
    iexact H

end Rules

/-! ## The words -/

/-- The first image a tile of tokens attends to, clamped at 0. -/
def loW (lo : BitVec 32) : BitVec 32 := Scalar.maxsi lo 0#32

/-- A word between -1 and 4. -/
def Rng (x : BitVec 32) : Prop := -1 ≤ x.toInt ∧ x.toInt ≤ 4

theorem Rng.cases {x : BitVec 32} (h : Rng x) : x = 4294967295#32 ∨ x = 0#32 ∨ x = 1#32 ∨ x = 2#32 ∨ x = 3#32 ∨ x = 4#32 := by
  have h1 := h.1
  have h2 := h.2
  rw [BitVec.toInt_eq_toNat_cond] at h1 h2
  have hx := x.isLt
  simp only [← BitVec.toNat_inj, BitVec.toNat_ofNat]
  split at h1 <;> omega

theorem hi_lt {lo hi : BitVec 32} (hl : Rng lo) (hh : Rng hi) (h : k0_cond2 lo hi = 1#1) : hi.toNat < 5 := by
  rcases hl.cases with rfl | rfl | rfl | rfl | rfl | rfl <;> rcases hh.cases with rfl | rfl | rfl | rfl | rfl | rfl <;> revert h <;> decide

theorem t3_ok {lo hi : BitVec 32} (hl : Rng lo) (hh : Rng hi) : (k0_t3_loop lo hi).OK := by
  rcases hl.cases with rfl | rfl | rfl | rfl | rfl | rfl <;> rcases hh.cases with rfl | rfl | rfl | rfl | rfl | rfl <;> decide

theorem t3_lt {lo hi : BitVec 32} (hl : Rng lo) (hh : Rng hi) (k : Fin (k0_t3_loop lo hi).trips) : (Scf.iv (loW lo) 1#32 k.val).toNat < 5 := by
  rcases hl.cases with rfl | rfl | rfl | rfl | rfl | rfl <;> rcases hh.cases with rfl | rfl | rfl | rfl | rfl | rfl <;> revert k <;> decide

theorem t4_none {lo hi : BitVec 32} (k : Fin (k0_t4_loop lo hi).trips) : False := Scf.rem_no_trip _ _ k

theorem chk {i : grid0.Coords} {lo hi : BitVec 32} (hl : Rng lo) (hh : Rng hi) : k0_chk1 i lo hi := by
  have e := fun h => hi_lt hl hh h
  have e3 := t3_lt hl hh
  have S := fun (h : Fin 32) (c : k0_cond2 lo hi = 1#1) => inbS i hi (e c) h.val h.isLt
  have A := fun (c : k0_cond2 lo hi = 1#1) (r : Fin 16) => inbA hi (e c) r.val r.isLt
  have B := fun (c : k0_cond2 lo hi = 1#1) (r : Fin 16) (s : Fin 2) => inbB hi (e c) r.val r.isLt s.val s.isLt
  have S' := fun (h : Fin 32) (k : Fin (k0_t3_loop lo hi).trips) (_ : k0_cond3 lo hi = 1#1) => inbS i (Scf.iv (loW lo) 1#32 k.val) (e3 k) h.val h.isLt
  have A' := fun (k : Fin (k0_t3_loop lo hi).trips) (_ : k0_cond3 lo hi = 1#1) (r : Fin 16) => inbA (Scf.iv (loW lo) 1#32 k.val) (e3 k) r.val r.isLt
  have B' := fun (k : Fin (k0_t3_loop lo hi).trips) (_ : k0_cond3 lo hi = 1#1) (r : Fin 16) (s : Fin 2) => inbB (Scf.iv (loW lo) 1#32 k.val) (e3 k) r.val r.isLt s.val s.isLt
  exact ⟨⟨A, B, S 0, S 1, S 2, S 3, S 4, S 5, S 6, S 7, S 8, S 9, S 10, S 11, S 12, S 13, S 14, S 15, S 16, S 17, S 18, S 19, S 20, S 21, S 22, S 23, S 24, S 25, S 26, S 27, S 28, S 29⟩,
    ⟨S 30, S 31, fun _ => t3_ok hl hh, A', B', S' 0, S' 1, S' 2, S' 3, S' 4, S' 5, S' 6, S' 7, S' 8, S' 9, S' 10, S' 11, S' 12, S' 13, S' 14, S' 15, S' 16, S' 17, S' 18, S' 19, S' 20, S' 21, S' 22, S' 23, S' 24, S' 25, S' 26⟩,
    ⟨S' 27, S' 28, S' 29, S' 30, S' 31, fun _ => Scf.rem_ok _ _, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim⟩,
    ⟨fun k => (t4_none k).elim, fun k => (t4_none k).elim, fun k => (t4_none k).elim, fun k => (t4_none k).elim, fun k => (t4_none k).elim, fun k => (t4_none k).elim, fun k => (t4_none k).elim, fun k => (t4_none k).elim⟩⟩

/-! ## The state a point of the grid leaves -/

theorem inbI (k : Nat) (hk : k < 5) : ∀ a, (![0, k, 0, 0, 0] : Fin 5 → Nat) a + S1x1x64x32x128.size a ≤ S1x5x64x32x128.size a := fun a =>
  match a with
  | 0 => Nat.le_refl 1
  | 1 => by show k + 1 ≤ 5; omega
  | 2 => Nat.le_refl 64
  | 3 => Nat.le_refl 32
  | 4 => Nat.le_refl 128
theorem inbK (k : Nat) (hk : k < 5) : ∀ a, (![k * 32, 0, 0] : Fin 3 → Nat) a + S32x64x128.size a ≤ S160x64x128.size a := fun a =>
  match a with
  | 0 => by show k * 32 + 32 ≤ 160; omega
  | 1 => Nat.le_refl 64
  | 2 => Nat.le_refl 128
theorem inbT (b t : Nat) (hb : b < 4) (ht : t < 14) (d : Nat) (hd : d < 256) : ∀ a, (![b, t * 256 + d] : Fin 2 → Nat) a + S1x1.size a ≤ S4x3584.size a := fun a =>
  match a with
  | 0 => by show b + 1 ≤ 4; omega
  | 1 => by show t * 256 + d + 1 ≤ 3584; omega
theorem inbV (b : Nat) (hb : b < 4) : ∀ a, (![b, 0] : Fin 2 → Nat) a + S1x256.size a ≤ S4x256.size a := fun a =>
  match a with
  | 0 => by show b + 1 ≤ 4; omega
  | 1 => Nat.le_refl 256

/-- The codes of an image, heads first. -/
def codes {e : EltTy} (x : Vec F S1x5x64x32x128 e) (k : Nat) (hk : k < 5) : Vec F S32x64x128 e :=
  transpose S32x64x128 [1, 0, 2] (shapeCast S64x32x128 (VecWindow.window x ![0, k, 0, 0, 0] S1x1x64x32x128.size (inbI k hk)) shapeCasts_S1x1x64x32x128_S64x32x128) transposes_S64x32x128_p1_0_2_S32x64x128
/-- The unpacked keys after `k` images. -/
def keys (x : Vec F S1x5x64x32x128 .fp8e4m3) (y : Vec F S160x64x128 .bf16) : Nat → Vec F S160x64x128 .bf16
  | 0 => y
  | k + 1 => if hk : k < 5 then VecWindow.put (keys x y k) ![k * 32, 0, 0] S32x64x128.size
      (shapeCast S32x64x128 (extf .bf16 (codes x k hk : FVec F S32x64x128 .fp8e4m3) bitsLt_fp8e4m3_bf16) shapeCasts_S32x64x128_S32x64x128) else keys x y k
/-- The unpacked values after `k` images. -/
def vals (x : Vec F S1x5x64x32x128 .fp8e4m3) (y : Vec F S160x64x128 .fp8e4m3) : Nat → Vec F S160x64x128 .fp8e4m3
  | 0 => y
  | k + 1 => if hk : k < 5 then VecWindow.put (vals x y k) ![k * 32, 0, 0] S32x64x128.size
      (shapeCast S32x64x128 (codes x k hk) shapeCasts_S32x64x128_S32x64x128) else vals x y k
/-- The accumulators' rows of an image, scaled and narrowed, rows of the image first. -/
def outImg (c : F .f32) (x : Vec F S32x64x128 .f32) : Vec F S1x1x64x32x128 .bf16 :=
  shapeCast S1x1x64x32x128 (transpose S64x32x128 [1, 0, 2] (truncf .bf16 (mulf (x : FVec F S32x64x128 .f32)
    (broadcast S32x64x128 c)) bitsLt_bf16_f32) transposes_S32x64x128_p1_0_2_S64x32x128) shapeCasts_S64x32x128_S1x1x64x32x128
/-- A written gradient after `k` images. -/
def outs (c : F .f32) (x : Vec F S160x64x128 .f32) (y : Vec F S1x5x64x32x128 .bf16) : Nat → Vec F S1x5x64x32x128 .bf16
  | 0 => y
  | k + 1 => if hk : k < 5 then VecWindow.put (outs c x y k) ![0, k, 0, 0, 0] S1x1x64x32x128.size (outImg c (VecWindow.window x ![k * 32, 0, 0] S32x64x128.size (inbK k hk))) else outs c x y k

theorem outs_succ (c : F .f32) (x : Vec F S160x64x128 .f32) (y : Vec F S1x5x64x32x128 .bf16) (k : Nat) (hk : k < 5) :
    outs c x y (k + 1) = VecWindow.put (outs c x y k) ![0, k, 0, 0, 0] S1x1x64x32x128.size (outImg c (VecWindow.window x ![k * 32, 0, 0] S32x64x128.size (inbK k hk))) := dif_pos hk

def zAcc : Vec F S160x64x128 .f32 := shapeCast S160x64x128 (broadcast S160x64x128 (Scalar.ofBits .f32 0x00000000#32 : F .f32)) shapeCasts_S160x64x128_S160x64x128
def zDq : Vec F S1x256x4096 .bf16 := shapeCast S1x256x4096 (broadcast S256x4096 (Scalar.ofBits .bf16 0x0000#16 : F .bf16)) shapeCasts_S256x4096_S1x256x4096
def one1 : S1x1.Idx := Shape.Idx.first (numel1_S1x1.symm ▸ Nat.one_pos)
def loV (i : grid0.Coords) (x : Vec F S4x3584 .i32) : BitVec 32 := VecWindow.window x ![(i 0).val, (i 1).val * 256 + 0] S1x1.size (inbT _ _ (i 0).isLt (i 1).isLt 0 (by decide)) one1
def hiV (i : grid0.Coords) (x : Vec F S4x3584 .i32) : BitVec 32 := VecWindow.window x ![(i 0).val, (i 1).val * 256 + 255] S1x1.size (inbT _ _ (i 0).isLt (i 1).isLt 255 (by decide)) one1
def rowV {e : EltTy} (i : grid0.Coords) (x : Vec F S4x256 e) : Vec F S1x256 e := VecWindow.window x ![(i 0).val, 0] S1x256.size (inbV _ (i 0).isLt)

/-- The scratch buffers at the first tile of a batch row. -/
def startEff (i : grid0.Coords) (st : St F) : St F :=
  if k0_cond1 i = 1#1 then { st with x16 := keys st.x6 st.x16 5, x17 := vals st.x7 st.x17 5, x18 := zAcc, x19 := zAcc } else st
/-- The tile whose tokens attend to one image. -/
def oneEff (i : grid0.Coords) (lo hi : BitVec 32) (dos : Vec F S1x256 .f32) (idx : Vec F S1x256 .i32) (st : St F) : St F :=
  if h : k0_cond2 lo hi = 1#1 ∧ hi.toNat < 5 then imgEff i true hi h.2 dos idx st else st
/-- The first `k` images of a tile whose tokens attend to several. -/
def manyK (i : grid0.Coords) (lo : BitVec 32) (dos : Vec F S1x256 .f32) (idx : Vec F S1x256 .i32) (st : St F) : Nat → St F
  | 0 => st
  | k + 1 => if h : (Scf.iv (loW lo) 1#32 k).toNat < 5 then imgEff i false (Scf.iv (loW lo) 1#32 k) h dos idx (manyK i lo dos idx st k) else manyK i lo dos idx st k
def manyEff (i : grid0.Coords) (lo hi : BitVec 32) (dos : Vec F S1x256 .f32) (idx : Vec F S1x256 .i32) (st : St F) : St F :=
  if k0_cond3 lo hi = 1#1 then manyK i lo dos idx { st with x13 := zDq } (k0_t3_loop lo hi).trips else st
/-- The gradients of the images at the last tile of a batch row. -/
def endEff (i : grid0.Coords) (st : St F) : St F :=
  if k0_cond4 i = 1#1 then { st with x14 := outs (Scalar.ofBits .f32 0x3DB504F3#32) st.x18 st.x14 5, x15 := outs (Scalar.ofBits .f32 0x3F800000#32) st.x19 st.x15 5 } else st
/-- A tile of tokens. -/
def tileEff (i : grid0.Coords) (st : St F) : St F :=
  manyEff i (loV i st.x2) (hiV i st.x2) (rowV i st.x9) (rowV i st.x12) (oneEff i (loV i st.x2) (hiV i st.x2) (rowV i st.x9) (rowV i st.x12) st)
def bodyEff (i : grid0.Coords) (st : St F) : St F := endEff i (tileEff i (startEff i st))

/-! ## The printed offsets -/

theorem off1_eq : ∀ k : Fin k0_t1_loop.trips, k0_off1 k = ![0, k.val, 0, 0, 0] := by decide
theorem off2_eq : ∀ k : Fin k0_t1_loop.trips, k0_off2 k = ![k.val * 32, 0, 0] := by decide
theorem off3_eq : ∀ k : Fin k0_t2_loop.trips, k0_off3 k = ![0, k.val, 0, 0, 0] := by decide
theorem off4_eq : ∀ k : Fin k0_t2_loop.trips, k0_off4 k = ![k.val * 32, 0, 0] := by decide
theorem off110_eq : ∀ k : Fin k0_t5_loop.trips, k0_off110 k = ![k.val * 32, 0, 0] := by decide
theorem off111_eq : ∀ k : Fin k0_t5_loop.trips, k0_off111 k = ![0, k.val, 0, 0, 0] := by decide
theorem off112_eq : ∀ k : Fin k0_t6_loop.trips, k0_off112 k = ![k.val * 32, 0, 0] := by decide
theorem off113_eq : ∀ k : Fin k0_t6_loop.trips, k0_off113 k = ![0, k.val, 0, 0, 0] := by decide
theorem off5_w : ∀ a : Fin 14, (Scalar.indexCast (Scalar.muli (BitVec.ofNat 32 a.val) 256#32)).toNat = a.val * 256 + 0 := by decide
theorem off6_w : ∀ a : Fin 14, (Scalar.indexCast (Scalar.subi (Scalar.addi (Scalar.muli (BitVec.ofNat 32 a.val) 256#32) 256#32) 1#32)).toNat = a.val * 256 + 255 := by decide
theorem off7_w : ∀ a : Fin 4, (Scalar.indexCast (BitVec.ofNat 32 a.val)).toNat = a.val := by decide
theorem off5_eq (i : grid0.Coords) : k0_off5 i = ![(i 0).val, (i 1).val * 256 + 0] := by
  funext a; match a with
  | 0 => exact off7_w (i 0)
  | 1 => exact off5_w (i 1)
theorem off6_eq (i : grid0.Coords) : k0_off6 i = ![(i 0).val, (i 1).val * 256 + 255] := by
  funext a; match a with
  | 0 => exact off7_w (i 0)
  | 1 => exact off6_w (i 1)
theorem off7_eq (i : grid0.Coords) : k0_off7 i = ![(i 0).val, 0] := by
  funext a; match a with
  | 0 => exact off7_w (i 0)
  | 1 => rfl

/-! ## The body -/

section Body

variable {i : grid0.Coords} {c : Dev nD} {B : Bufs} {st : St F}

/-- The images of a tile whose tokens attend to several, in order; then `k`. The loop of what the division by the step leaves over makes no trip. -/
def manyC (B : Bufs) (i : grid0.Coords) (lo hi : BitVec 32) (hl : Rng lo) (hh : Rng hi) (dos : Vec F S1x256 .f32) (idx : Vec F S1x256 .i32)
    (ok : (k0_t3_loop lo hi).OK) (ok' : (k0_t4_loop lo hi).OK) (rest : Fin (k0_t4_loop lo hi).trips → PUnit → PR F) (k : PR F) : PR F :=
  .op (.load B.a13 (Rect.unit (s := S1x256x4096) ![0, 0, 0] S1x256x4096.size inb_S1x256x4096_S1x256x4096_0_0_0).toLoadRect (View.loadsAt_vmem h_S1x256x4096)) fun _ =>
  .op (.store B.a13 (Rect.unit (s := S1x256x4096) ![0, 0, 0] S1x256x4096.size inb_S1x256x4096_S1x256x4096_0_0_0) zDq Finset.univ (View.stores_vmem h_S1x256x4096 (B.h13.storeExact_slice rfl _ packedbf16_S1x256x4096_S1x256x4096_0_0_0) (fun _ => rfl)) (.inl rfl)) fun _ =>
  Scf.Loop.for (k0_t3_loop lo hi) ok ⟨⟩ (fun t _ => imgC B i false (Scf.iv (loW lo) 1#32 t.val) (t3_lt hl hh t) dos idx (.ret ⟨⟩)) >>= fun _ =>
  Scf.Loop.for (k0_t4_loop lo hi) ok' ⟨⟩ rest >>= fun _ => k

theorem T_many {lo hi : BitVec 32} {hl : Rng lo} {hh : Rng hi} {dos : Vec F S1x256 .f32} {idx : Vec F S1x256 .i32} {ok : (k0_t3_loop lo hi).OK} {ok' : (k0_t4_loop lo hi).OK}
    {rest : Fin (k0_t4_loop lo hi).trips → PUnit → PR F} {k : PR F} {Q : PUnit → sProp (MT nD τ sig Unit (Elt F) ℕ (UR sig nD τ) ℕ)}
    (h : T c B (manyK i lo dos idx { st with x13 := zDq } (k0_t3_loop lo hi).trips) k Q) : T c B st (manyC B i lo hi hl hh dos idx ok ok' rest k) Q := by
  unfold manyC
  refine T_ld (f13 c B) rfl rfl inb_S1x256x4096_S1x256x4096_0_0_0 ?_
  refine T_st (f13 c B) rfl ?_
  refine T_of (s' := { st with x13 := zDq }) (congrArg (fun w => { st with x13 := w }) (put_full _ _ _ z3)) ?_
  refine T_seq (manyK i lo dos idx { st with x13 := zDq } (k0_t3_loop lo hi).trips) ?_ ?_
  · refine T_for (manyK i lo dos idx { st with x13 := zDq }) rfl (fun k => ?_) .rfl
    rw [manyK, dif_pos (t3_lt hl hh k)]
    exact T_img (T_ret .rfl)
  · refine T_seq (manyK i lo dos idx { st with x13 := zDq } (k0_t3_loop lo hi).trips) ?_ h
    refine T_for (hok := ok') (body := rest) (fun _ => manyK i lo dos idx { st with x13 := zDq } (k0_t3_loop lo hi).trips) rfl ?_ .rfl
    intro k
    exact (t4_none (lo := lo) (hi := hi) k).elim

/-- The gradients of the images written out; then `k`. -/
def endC (B : Bufs) (i : grid0.Coords) (h : k0_cond4 i = 1#1) (k : PR F) : PR F :=
  Scf.Loop.for k0_t5_loop (k0_t5_ok i h) ⟨⟩ (fun t _ =>
    .op (.load B.a18 (Rect.unit (s := S160x64x128) (k0_off110 t) S32x64x128.size (k0_off110_inb i t h)).toLoadRect (View.loadsAt_vmem h_S32x64x128)) fun x =>
    .op (.load B.a14 (Rect.unit (s := S1x5x64x32x128) (k0_off111 t) S1x1x64x32x128.size (k0_off111_inb i t h)).toLoadRect (View.loadsAt_vmem h_S1x1x64x32x128)) fun _ =>
    .op (.store B.a14 (Rect.unit (s := S1x5x64x32x128) (k0_off111 t) S1x1x64x32x128.size (k0_off111_inb i t h)) (outImg (Scalar.ofBits .f32 0x3DB504F3#32) x) Finset.univ (View.stores_vmem h_S1x1x64x32x128 (B.h14.storeExact_slice rfl _ (k0_off111_packedbf16 i t h)) (fun _ => rfl)) (.inl rfl)) .ret) >>= fun _ =>
  Scf.Loop.for k0_t6_loop (k0_t6_ok i h) ⟨⟩ (fun t _ =>
    .op (.load B.a19 (Rect.unit (s := S160x64x128) (k0_off112 t) S32x64x128.size (k0_off112_inb i t h)).toLoadRect (View.loadsAt_vmem h_S32x64x128)) fun x =>
    .op (.load B.a15 (Rect.unit (s := S1x5x64x32x128) (k0_off113 t) S1x1x64x32x128.size (k0_off113_inb i t h)).toLoadRect (View.loadsAt_vmem h_S1x1x64x32x128)) fun _ =>
    .op (.store B.a15 (Rect.unit (s := S1x5x64x32x128) (k0_off113 t) S1x1x64x32x128.size (k0_off113_inb i t h)) (outImg (Scalar.ofBits .f32 0x3F800000#32) x) Finset.univ (View.stores_vmem h_S1x1x64x32x128 (B.h15.storeExact_slice rfl _ (k0_off113_packedbf16 i t h)) (fun _ => rfl)) (.inl rfl)) .ret) >>= fun _ => k

theorem T_end {h : k0_cond4 i = 1#1} {k : PR F} {Q : PUnit → sProp (MT nD τ sig Unit (Elt F) ℕ (UR sig nD τ) ℕ)}
    (hk : T c B { st with x14 := outs (Scalar.ofBits .f32 0x3DB504F3#32) st.x18 st.x14 5, x15 := outs (Scalar.ofBits .f32 0x3F800000#32) st.x19 st.x15 5 } k Q) :
    T c B st (endC B i h k) Q := by
  unfold endC
  refine T_seq { st with x14 := outs (Scalar.ofBits .f32 0x3DB504F3#32) st.x18 st.x14 5 } ?_ ?_
  · refine T_for (fun k => { st with x14 := outs (Scalar.ofBits .f32 0x3DB504F3#32) st.x18 st.x14 k }) rfl (fun k => ?_) .rfl
    refine T_ld (f18 c B) rfl (off110_eq k) (inbK k.val k.isLt) ?_
    refine T_ld (f14 c B) rfl (off111_eq k) (inbI k.val k.isLt) ?_
    refine T_st (f14 c B) (off111_eq k) ?_
    refine T_of (congrArg (fun w => { st with x14 := w }) ?_) (T_ret .rfl)
    exact (outs_succ _ _ _ k.val k.isLt).symm
  · refine T_seq { st with x14 := outs (Scalar.ofBits .f32 0x3DB504F3#32) st.x18 st.x14 5, x15 := outs (Scalar.ofBits .f32 0x3F800000#32) st.x19 st.x15 5 } ?_ hk
    refine T_for (fun k => { st with x14 := outs (Scalar.ofBits .f32 0x3DB504F3#32) st.x18 st.x14 5, x15 := outs (Scalar.ofBits .f32 0x3F800000#32) st.x19 st.x15 k }) rfl (fun k => ?_) .rfl
    refine T_ld (f19 c B) rfl (off112_eq k) (inbK k.val k.isLt) ?_
    refine T_ld (f15 c B) rfl (off113_eq k) (inbI k.val k.isLt) ?_
    refine T_st (f15 c B) (off113_eq k) ?_
    refine T_of (congrArg (fun w => { st with x14 := outs (Scalar.ofBits .f32 0x3DB504F3#32) st.x18 st.x14 5, x15 := w }) ?_) (T_ret .rfl)
    exact (outs_succ _ _ _ k.val k.isLt).symm

set_option maxHeartbeats 2000000 in
theorem T_body (hl : Rng (loV i (startEff i st).x2)) (hh : Rng (hiV i (startEff i st).x2)) :
    T c B st (cc0_xattn_bwd i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20)
      (fun _ => held c B (bodyEff i st)) := by
  show T c B st _ (fun _ => held c B (endEff i (tileEff i (startEff i st))))
  unfold cc0_xattn_bwd
  refine T_fork (startEff i st) (fun h1 hj => ?_) (fun h1 => if_neg h1) ?_
  · refine T_seq { st with x16 := keys st.x6 st.x16 5 } ?_ ?_
    · refine T_for (fun k => { st with x16 := keys st.x6 st.x16 k }) rfl (fun k => ?_) .rfl
      refine T_ld (f6 c B) rfl (off1_eq k) (inbI k.val k.isLt) ?_
      refine T_ld (f16 c B) rfl (off2_eq k) (inbK k.val k.isLt) ?_
      refine T_st (f16 c B) (off2_eq k) ?_
      refine T_ret ?_
      rw [keys, dif_pos (show k.val < 5 from k.isLt)]
      exact .rfl
    · refine T_seq { st with x16 := keys st.x6 st.x16 5, x17 := vals st.x7 st.x17 5 } ?_ ?_
      · refine T_for (fun k => { st with x16 := keys st.x6 st.x16 5, x17 := vals st.x7 st.x17 k }) rfl (fun k => ?_) .rfl
        refine T_ld (f7 c B) rfl (off3_eq k) (inbI k.val k.isLt) ?_
        refine T_ld (f17 c B) rfl (off4_eq k) (inbK k.val k.isLt) ?_
        refine T_st (f17 c B) (off4_eq k) ?_
        refine T_ret ?_
        rw [vals, dif_pos (show k.val < 5 from k.isLt)]
        exact .rfl
      · refine T_ld (f18 c B) rfl rfl inb_S160x64x128_S160x64x128_0_0_0 ?_
        refine T_st (f18 c B) rfl ?_
        refine T_ld (f19 c B) rfl rfl inb_S160x64x128_S160x64x128_0_0_0 ?_
        refine T_st (f19 c B) rfl ?_
        exact T_of ((congrArg₂ (fun w v => { st with x16 := keys st.x6 st.x16 5, x17 := vals st.x7 st.x17 5, x18 := w, x19 := v })
          (put_full _ _ _ z3) (put_full _ _ _ z3)).trans (if_pos h1 : startEff i st = _).symm) hj
  refine T_ld (f2 c B) rfl (off5_eq i) (inbT _ _ (i 0).isLt (i 1).isLt 0 (by decide)) ?_
  refine T_ld (f2 c B) rfl (off6_eq i) (inbT _ _ (i 0).isLt (i 1).isLt 255 (by decide)) ?_
  refine T_assume (chk hl hh) ?_
  refine T_ld (f9 c B) rfl (off7_eq i) (inbV _ (i 0).isLt) ?_
  refine T_ld (f12 c B) rfl (off7_eq i) (inbV _ (i 0).isLt) ?_
  generalize startEff i st = s1 at *
  refine T_fork (oneEff i (loV i s1.x2) (hiV i s1.x2) (rowV i s1.x9) (rowV i s1.x12) s1) (fun h2 hj => ?_) (fun h2 => dif_neg fun h => h2 h.1) ?_
  · have e : oneEff i (loV i s1.x2) (hiV i s1.x2) (rowV i s1.x9) (rowV i s1.x12) s1 = imgEff i true (hiV i s1.x2) (hi_lt hl hh h2) (rowV i s1.x9) (rowV i s1.x12) s1 := dif_pos ⟨h2, hi_lt hl hh h2⟩
    have q := T_img (T_of e.symm hj)
    exact q
  refine T_fork (tileEff i s1) (fun h3 hj => ?_) (fun h3 => if_neg h3) ?_
  · have e : tileEff i s1 = manyK i (loV i s1.x2) (rowV i s1.x9) (rowV i s1.x12) { oneEff i (loV i s1.x2) (hiV i s1.x2) (rowV i s1.x9) (rowV i s1.x12) s1 with x13 := zDq } (k0_t3_loop (loV i s1.x2) (hiV i s1.x2)).trips := if_pos h3
    exact T_many (hl := hl) (hh := hh) (T_of e.symm hj)
  refine T_fork (endEff i (tileEff i s1)) (fun h4 hj => ?_) (fun h4 => if_neg h4) ?_
  · exact T_end (i := i) (h := h4) (T_of (if_pos h4 : endEff i (tileEff i s1) = _).symm hj)
  exact T_ret .rfl

end Body

end Cert.Kernel.Own
-- ==== Proof.KernelFrame.lean ====
/- The launch of the kernel: nothing but its results is written. -/
module

public import proofs.«01_k».proof.Proof.KernelBody
public import proofs.«01_k».proof.Proof.Gen.Kernel.Frame

@[expose] public section

set_option maxRecDepth 16384

noncomputable section

namespace Cert.Kernel.Own

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

variable [Cert.Kernel.Facts]
open Cert.Kernel.Gen

local notation "𝕄" => MT nD τ sig Unit (Elt F) ℕ (UR sig nD τ) ℕ

/-! ## The inputs stay -/

/-- The part of the buffers the body only reads. -/
def St.ins (st : St F) := (st.x2, st.x3, st.x4, st.x5, st.x6, st.x7, st.x8, st.x9, st.x10, st.x11, st.x12)

theorem pairsEff_ins (i : grid0.Coords) (single : Bool) (n : BitVec 32) (hn : n.toNat < 5) (dos : Vec F S1x256 .f32) (idx : Vec F S1x256 .i32) :
    ∀ (j : Nat) (h : j ≤ 16) (st : St F), (pairsEff i single n hn dos j h st).ins = st.ins
  | 0, _, _ => rfl
  | j + 1, h, st => by rw [pairsEff, pairsEff_ins i single n hn dos idx j]; rfl

theorem imgEff_ins (i : grid0.Coords) (single : Bool) (n : BitVec 32) (hn : n.toNat < 5) (dos : Vec F S1x256 .f32) (idx : Vec F S1x256 .i32) (st : St F) :
    (imgEff i single n hn dos idx st).ins = st.ins := by
  rw [imgEff, pairsEff_ins i single n hn dos idx]; rfl

theorem manyK_ins (i : grid0.Coords) (lo : BitVec 32) (dos : Vec F S1x256 .f32) (idx : Vec F S1x256 .i32) (st : St F) :
    ∀ k, (manyK i lo dos idx st k).ins = st.ins
  | 0 => rfl
  | k + 1 => by
    rw [manyK]; split
    · rw [imgEff_ins, manyK_ins i lo dos idx st k]
    · exact manyK_ins i lo dos idx st k

theorem bodyEff_ins (i : grid0.Coords) (st : St F) : (bodyEff i st).ins = st.ins := by
  have hs : (startEff i st).ins = st.ins := by unfold startEff; split <;> rfl
  have ht : ∀ s : St F, (tileEff i s).ins = s.ins := fun s => by
    have h1 : ∀ lo hi dos idx, (oneEff i lo hi dos idx s).ins = s.ins := fun lo hi dos idx => by
      unfold oneEff; split
      · exact imgEff_ins ..
      · rfl
    unfold tileEff manyEff; split
    · rw [manyK_ins]; exact h1 ..
    · exact h1 ..
  have he : ∀ s : St F, (endEff i s).ins = s.ins := fun s => by unfold endEff; split <;> rfl
  unfold bodyEff; rw [he, ht, hs]

theorem startEff_x2 (i : grid0.Coords) (st : St F) : (startEff i st).x2 = st.x2 := by unfold startEff; split <;> rfl

/-! ## One point -/

/-- The buffers the body runs on at a point. -/
def bufs (t : Fin cfg0.N) : Bufs :=
  ⟨win0_0.stage (cfg0.slots t 0), Cert.Kernel.Gen.hstage0_0 ((cfg0.slots t 0).cast Cert.Kernel.Gen.nbuf0_0), win0_1.stage (cfg0.slots t 1), Cert.Kernel.Gen.hstage0_1 ((cfg0.slots t 1).cast Cert.Kernel.Gen.nbuf0_1), win0_2.stage (cfg0.slots t 2), Cert.Kernel.Gen.hstage0_2 ((cfg0.slots t 2).cast Cert.Kernel.Gen.nbuf0_2), win0_3.stage (cfg0.slots t 3), Cert.Kernel.Gen.hstage0_3 ((cfg0.slots t 3).cast Cert.Kernel.Gen.nbuf0_3), win0_4.stage (cfg0.slots t 4), Cert.Kernel.Gen.hstage0_4 ((cfg0.slots t 4).cast Cert.Kernel.Gen.nbuf0_4), win0_5.stage (cfg0.slots t 5), Cert.Kernel.Gen.hstage0_5 ((cfg0.slots t 5).cast Cert.Kernel.Gen.nbuf0_5), win0_6.stage (cfg0.slots t 6), Cert.Kernel.Gen.hstage0_6 ((cfg0.slots t 6).cast Cert.Kernel.Gen.nbuf0_6), win0_7.stage (cfg0.slots t 7), Cert.Kernel.Gen.hstage0_7 ((cfg0.slots t 7).cast Cert.Kernel.Gen.nbuf0_7), win0_8.stage (cfg0.slots t 8), Cert.Kernel.Gen.hstage0_8 ((cfg0.slots t 8).cast Cert.Kernel.Gen.nbuf0_8), win0_9.stage (cfg0.slots t 9), Cert.Kernel.Gen.hstage0_9 ((cfg0.slots t 9).cast Cert.Kernel.Gen.nbuf0_9), win0_10.stage (cfg0.slots t 10), Cert.Kernel.Gen.hstage0_10 ((cfg0.slots t 10).cast Cert.Kernel.Gen.nbuf0_10), win0_11.stage (cfg0.slots t 11), Cert.Kernel.Gen.hstage0_11 ((cfg0.slots t 11).cast Cert.Kernel.Gen.nbuf0_11), win0_12.stage (cfg0.slots t 12), Cert.Kernel.Gen.hstage0_12 ((cfg0.slots t 12).cast Cert.Kernel.Gen.nbuf0_12), win0_13.stage (cfg0.slots t 13), Cert.Kernel.Gen.hstage0_13 ((cfg0.slots t 13).cast Cert.Kernel.Gen.nbuf0_13), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _⟩

theorem held_bufs (c : Dev nD) (t : Fin cfg0.N) (st : St F) : held c (bufs t) st = iprop(owns (c : Thread nD τ) (st0_0 t) fullShare st.x2 ∗ owns (c : Thread nD τ) (st0_1 t) fullShare st.x3 ∗ owns (c : Thread nD τ) (st0_2 t) fullShare st.x4 ∗ owns (c : Thread nD τ) (st0_3 t) fullShare st.x5 ∗ owns (c : Thread nD τ) (st0_4 t) fullShare st.x6 ∗ owns (c : Thread nD τ) (st0_5 t) fullShare st.x7 ∗ owns (c : Thread nD τ) (st0_6 t) fullShare st.x8 ∗ owns (c : Thread nD τ) (st0_7 t) fullShare st.x9 ∗ owns (c : Thread nD τ) (st0_8 t) fullShare st.x10 ∗ owns (c : Thread nD τ) (st0_9 t) fullShare st.x11 ∗ owns (c : Thread nD τ) (st0_10 t) fullShare st.x12 ∗ owns (c : Thread nD τ) (st0_11 t) fullShare st.x13 ∗ owns (c : Thread nD τ) (st0_12 t) fullShare st.x14 ∗ owns (c : Thread nD τ) (st0_13 t) fullShare st.x15 ∗ owns (c : Thread nD τ) (Memref.whole cc0_scratch0) fullShare st.x16 ∗ owns (c : Thread nD τ) (Memref.whole cc0_scratch1) fullShare st.x17 ∗ owns (c : Thread nD τ) (Memref.whole cc0_scratch2) fullShare st.x18 ∗ owns (c : Thread nD τ) (Memref.whole cc0_scratch3) fullShare st.x19 ∗ owns (c : Thread nD τ) (Memref.whole cc0_scratch4) fullShare st.x20) := rfl

theorem held_eq (c : Dev nD) (B : Bufs) (st : St F) : held c B st = iprop(own c B.a2 st.x2 ∗ own c B.a3 st.x3 ∗ own c B.a4 st.x4 ∗ own c B.a5 st.x5 ∗ own c B.a6 st.x6 ∗ own c B.a7 st.x7 ∗ own c B.a8 st.x8 ∗ own c B.a9 st.x9 ∗ own c B.a10 st.x10 ∗ own c B.a11 st.x11 ∗ own c B.a12 st.x12 ∗ own c B.a13 st.x13 ∗ own c B.a14 st.x14 ∗ own c B.a15 st.x15 ∗ own c B.a16 st.x16 ∗ own c B.a17 st.x17 ∗ own c B.a18 st.x18 ∗ own c B.a19 st.x19 ∗ own c B.a20 st.x20) := rfl

theorem scratch_eq (c : Dev nD) : (Pipeline.ΦA (Val := Elt F) (U := UR sig nD τ) spec0 c : sProp 𝕄)
    = iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ (∃ f, owns (c : Thread nD τ) (Memref.whole cc0_scratch4) fullShare f)) ∗ ∃ r, prngReg c r) := by
  unfold Pipeline.ΦA
  rw [scopedRest0_eq]
  simp only [owns_whole]

variable (m : (ℓ : Loc nD τ sig) → Buf (Elt F) ℓ) (ρ : Dev nD → PrngReg)

/-- The body at a point, from the blocks of the inputs and any contents of the rest. -/
theorem body_point (c : Dev nD) (t : Fin cfg0.N) (st : St F) (hl : Rng (loV (F := F) (grid0.coords t) st.x2)) (hh : Rng (hiV (F := F) (grid0.coords t) st.x2)) :
    held c (bufs t) st ⊢ wp frame (wpE (defs₀ (F := F)) Variants.none c none) Set.univ (bodyAt0 t) (fun _ => held c (bufs t) (bodyEff (grid0.coords t) st)) :=
  T_body (i := grid0.coords t) (c := c) (B := bufs t) (st := st) (by rw [startEff_x2]; exact hl) (by rw [startEff_x2]; exact hh)

/-- The results are forgotten: nothing is said of what they hold. -/
def forgets : Fin 14 → Bool := fun w => decide (11 ≤ w.val)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = iblk m c 7 t := rfl
theorem after_8 (c : Dev nD) (t : Fin cfg0.N) : (dats m 0 c).after 8 t = iblk m c 8 t := rfl
theorem after_9 (c : Dev nD) (t : Fin cfg0.N) : (dats m 0 c).after 9 t = iblk m c 9 t := rfl
theorem after_10 (c : Dev nD) (t : Fin cfg0.N) : (dats m 0 c).after 10 t = iblk m c 10 t := rfl
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X)
    ∗ (∃ X, owns (c : Thread nD τ) (st0_12 t) fullShare X)
    ∗ (∃ X, owns (c : Thread nD τ) (st0_13 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X)
    ∗ (∃ X, owns (c : Thread nD τ) (st0_12 t) fullShare X)
    ∗ (∃ X, owns (c : Thread nD τ) (st0_13 t) fullShare X))

/-- The entries of the table that bound a tile lie in range. -/
def InRange (m : (ℓ : Loc nD τ sig) → Buf (Elt F) ℓ) : Prop := ∀ (c : Dev nD) (t : Fin cfg0.N), Rng (loV (F := F) (grid0.coords t) (iblk m c 0 t)) ∧ Rng (hiV (F := F) (grid0.coords t) (iblk m c 0 t))

theorem sound_body (hr : InRange m) (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, scratch_eq,
    after_0, after_1, after_2, after_3, after_4, after_5, after_6, after_7, after_8, after_9, after_10]
  iintro ⟨⟨⟨⟨%s0, S0⟩, ⟨%s1, S1⟩, ⟨%s2, S2⟩, ⟨%s3, S3⟩, ⟨%s4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have key := body_point c t (⟨iblk m c 0 t, iblk m c 1 t, iblk m c 2 t, iblk m c 3 t, iblk m c 4 t, iblk m c 5 t, iblk m c 6 t, iblk m c 7 t, iblk m c 8 t, iblk m c 9 t, iblk m c 10 t, d11, d12, d13, s0, s1, s2, s3, s4⟩ : St F) (hr c t).1 (hr c t).2
  have hi := bodyEff_ins (grid0.coords t) (⟨iblk m c 0 t, iblk m c 1 t, iblk m c 2 t, iblk m c 3 t, iblk m c 4 t, iblk m c 5 t, iblk m c 6 t, iblk m c 7 t, iblk m c 8 t, iblk m c 9 t, iblk m c 10 t, d11, d12, d13, s0, s1, s2, s3, s4⟩ : St F)
  generalize bodyEff (F := F) (grid0.coords t) _ = s' at key hi
  simp only [St.ins, Prod.mk.injEq] at hi
  obtain ⟨e0, e1, e2, e3, e4, e5, e6, e7, e8, e9, e10⟩ := hi
  rw [held_bufs, held_bufs, e0, e1, e2, e3, e4, e5, e6, e7, e8, e9, e10] at key
  dsimp only at key
  iapply (wp_wand_r Idealize.ShloMosaic.frame (wpE (defs₀ (F := F)) Variants.none (c : Thread nD τ) none) Set.univ)
  isplitl [H0 H1 H2 H3 H4 H5 H6 H7 H8 H9 H10 H11 H12 H13 S0 S1 S2 S3 S4]
  · iapply key
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    iexact S4
  iintro %_ ⟨H0, H1, H2, H3, H4, H5, H6, H7, H8, H9, H10, H11, H12, H13, S0, S1, S2, S3, S4⟩
  isplitl [S0 S1 S2 S3 S4 Hg]
  · isplitl [S0 S1 S2 S3 S4]
    · isplitl [S0]; · iexists _; iexact S0
      isplitl [S1]; · iexists _; iexact S1
      isplitl [S2]; · iexists _; iexact S2
      isplitl [S3]; · iexists _; iexact S3
      iexists _; iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iexists _; iexact H13

theorem defs₀_row (t : Fin cfg0.N) : defs₀ (F := F) .tc cfg0.body (cfg0.bodyArgs t (cfg0.slots t)) = bodyAt0 t := by
  unfold defs₀; rw [Defs.onTc_tc]

theorem body_obligation (hr : InRange m) (c : Dev nD) :
    BodyObligation (dats (F := F) m 0 c) (defs₀ (F := F)) Variants.none () Set.univ forgets := fun t => by
  rw [bigSep_W0, bigSep_W0, defs₀_row]
  exact triple_restated (sound_body m hr c t) rfl .rfl fun _ => .rfl

set_option backward.isDefEq.respectTransparency.types false in
set_option maxHeartbeats 800000 in
theorem run_main (hr : InRange m) :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m hr c).loose) (hq := fun _ _ _ => rfl)
    (howed := fun _ _ => rfl) (V := V m) (hmain := hmain m Variants.none) (hA := A_eq m) (hΦ := fun _ _ => rfl)

/-- An input is as launched after the run. -/
theorem kept {r : PUnit × MemSt nD τ sig (Elt F)}
    (h : Pipeline.RDat.FramePost (cfgs 0) (fun c => (dats (F := F) m 0 c).toRForget forgets) (V m) r) (c : Dev nD) (w : Fin 14)
    (hf : forgets w = false) (ho : (cfg0.win w).isOut = false) :
    r.2.mem ((cfg0.win w).arr.view.loc (c.tc : Thread nD τ)) = V m c (Pipeline.arrRef spec0 w) := by
  have h1 := ((h c).1 w)
  exact (((dats m 0 c).toRForget_arrAt_iff hf _ _).mp h1).trans (((dats m 0 c).arrAt_in w ho _).trans (A_eq m c w))

/-- Every argument array is as launched after the run, and every counter at zero. -/
theorem frame (hr : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨kept m h.1 c 3 rfl rfl, kept m h.1 c 4 rfl rfl, kept m h.1 c 1 rfl rfl, kept m h.1 c 5 rfl rfl,
    kept m h.1 c 2 rfl rfl, kept m h.1 c 6 rfl rfl, kept m h.1 c 7 rfl rfl, kept m h.1 c 8 rfl rfl, kept m h.1 c 9 rfl rfl, kept m h.1 c 10 rfl rfl⟩, h.2⟩)
    (run_main m ρ hr)

end Cert.Kernel.Own

end
-- ==== Proof.KernelRange.lean ====
/- The words of the table that bound a tile, from the precondition. -/
module

public import proofs.«01_k».proof.Defs
public import proofs.«01_k».proof.Proof.KernelFrame

@[expose] public section

set_option maxRecDepth 16384

noncomputable section

namespace Cert.Kernel.Own

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

variable [Cert.Kernel.Facts] [Cert.Pre_in_range.Facts]
open Cert.Kernel.Gen

/-- Every word of the table lies in range when the precondition's function is all ones. -/
theorem rng_of {q k s3 v s5 d7 dos o l} (x : IVec Cert.Pre_in_range.S4x3584 32) (h : Cert.Pre_in_range.fn (F := F) q k s3 v s5 d7 dos o l x = fun _ => 1#1)
    (j : Cert.Pre_in_range.S4x3584.Idx) : Rng (x j) := by
  have hj := congrFun h j
  unfold Cert.Pre_in_range.fn at hj
  have e1 : BitVec.ofBool ((4294967295#32).sle (x j)) &&& BitVec.ofBool ((x j).sle 4#32) = 1#1 := hj
  generalize x j = w at e1
  unfold Rng
  obtain ⟨h1, h2⟩ : (4294967295#32).sle w = true ∧ w.sle 4#32 = true := by
    revert e1
    cases (4294967295#32).sle w <;> cases w.sle 4#32 <;> decide
  rw [BitVec.sle_iff_toInt_le] at h1 h2
  exact ⟨h1, h2⟩

variable {m : (ℓ : Loc nD τ sig) → Buf (Elt F) ℓ}

theorem inRange_of (h : ∀ (c : Dev nD) (j : S4x3584.Idx), Rng ((m ((c.tc : Thread nD τ).loc main_arg9) : S4x3584.Idx → BitVec 32) j)) : InRange m := by
  intro c t
  have hw : ∀ j : S4x3584.Idx, Rng (iblk m c 0 t j) := fun j => h c _
  exact ⟨hw _, hw _⟩

end Cert.Kernel.Own

end
-- ==== Proof.KernelIdealPair.lean ====
/- One pair of heads of the backward step, written once: the loads, the values computed from them and the stores of a pair `p`
   of heads for an image `n`, and the whole image as sixteen of them. The values are named; the programs that follow only
   load, store and apply them. -/
module

public import proofs.«01_k».proof.Proof.Gen.KernelIdeal.Frame

@[expose] public section

set_option maxRecDepth 16384

noncomputable section

namespace Cert.KernelIdeal.Own

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F] [Named F]

variable [Cert.KernelIdeal.Facts]

/-- The multiplier that turns a natural logarithm into a binary one. -/
def cLog : F .f32 := Named.named κ "log2e" 0x3FB8AA3B#32
/-- The score scale times that multiplier. -/
def cSL : F .f32 := Named.named κ "scale_log2e" 0x3E0293EE#32
/-- The score scale. -/
def cSc : F .f32 := Scalar.ofBits .f32 0x3DB504F3#32

/-! ## Values -/

/-- The log-sum-exp rows of the tokens that look at image `n`, in base two; infinite for the others. -/
def lseRows (n : BitVec 32) (idx : Vec F S1x256 .i32) (lse : Vec F S1x32x256 .f32) : Vec F S32x256 .f32 :=
  shapeCast S32x256 (select (broadcastTo S32x256 (shapeCast S1x256 (cmpi .eq idx (broadcast S1x256 n)) shapeCasts_S1x256_S1x256) broadcasts_S1x256_S32x256)
    (mulf (shapeCast S32x256 lse shapeCasts_S1x32x256_S32x256) (broadcast S32x256 (cLog : F .f32)))
    (broadcast S32x256 (Scalar.ofBits .f32 0x7F800000#32 : F .f32))) shapeCasts_S32x256_S32x256

/-- Two heads' keys on the diagonal. -/
def kDiag (a b : Vec F S1x64x128 .bf16) : FVec F S128x256 .bf16 :=
  concatenate S128x256 0 [⟨S64x256, concatenate S64x256 1 [⟨S64x128, shapeCast S64x128 a shapeCasts_S1x64x128_S64x128⟩, ⟨S64x128, broadcast S64x128 (Scalar.ofBits .bf16 0x0000#16 : F .bf16)⟩] concatenates_S64x128_S64x128_S64x256_d1⟩,
    ⟨S64x256, concatenate S64x256 1 [⟨S64x128, broadcast S64x128 (Scalar.ofBits .bf16 0x0000#16 : F .bf16)⟩, ⟨S64x128, shapeCast S64x128 b shapeCasts_S1x64x128_S64x128⟩] concatenates_S64x128_S64x128_S64x256_d1⟩] concatenates_S64x256_S64x256_S128x256_d0

/-- Two heads' values on the diagonal. -/
def vDiag (a b : Vec F S1x64x128 .fp8e4m3) : FVec F S128x256 .fp8e4m3 :=
  concatenate S128x256 0 [⟨S64x256, concatenate S64x256 1 [⟨S64x128, shapeCast S64x128 a shapeCasts_S1x64x128_S64x128⟩, ⟨S64x128, broadcast S64x128 (Scalar.ofBits .fp8e4m3 0x00#8 : F .fp8e4m3)⟩] concatenates_S64x128_S64x128_S64x256_d1⟩,
    ⟨S64x256, concatenate S64x256 1 [⟨S64x128, broadcast S64x128 (Scalar.ofBits .fp8e4m3 0x00#8 : F .fp8e4m3)⟩, ⟨S64x128, shapeCast S64x128 b shapeCasts_S1x64x128_S64x128⟩] concatenates_S64x128_S64x128_S64x256_d1⟩] concatenates_S64x256_S64x256_S128x256_d0

/-- A block of two heads' columns as a matrix. -/
def mat {e : EltTy} (x : Vec F S1x256x256 e) : Vec F S256x256 e := shapeCast S256x256 x shapeCasts_S1x256x256_S256x256

/-- The two heads' raw scores. -/
def sPair (k : FVec F S128x256 .bf16) (q : FVec F S256x256 .bf16) : FVec F S128x256 .f32 :=
  matmul dot_S128x256_S256x256_S128x256_1_1_0_0_n_n none k q (constant S128x256 .f32 0x00000000#32)
/-- The two heads' products of values and output gradient. -/
def dpPair (v : FVec F S128x256 .fp8e4m3) (g : FVec F S256x256 .fp8e5m2) : FVec F S128x256 .f32 :=
  matmul dot_S128x256_S256x256_S128x256_1_1_0_0_n_n none v g (constant S128x256 .f32 0x00000000#32)

/-- The row sums of the products of the output gradient and the output. -/
def dRow (g : Vec F S1x256x128 .fp8e5m2) (o : Vec F S1x256x128 .bf16) : FVec F S1x256 .f32 :=
  shapeCast S1x256 (multiReduction .add [0] S256 (transpose S128x256 [1, 0]
    (mulf (extf .f32 (shapeCast S256x128 g shapeCasts_S1x256x128_S256x128) bitsLt_fp8e5m2_f32) (extf .f32 (shapeCast S256x128 o shapeCasts_S1x256x128_S256x128) bitsLt_bf16_f32))
    transposes_S256x128_p1_0_S128x256) 0x00000000#32 reduces_S128x256_S256 (.inl rfl) rfl) shapeCasts_S256_S1x256

/-- One head's weights, scaled by the output gradient's scales. -/
def eHead (s : FVec F S64x256 .f32) (ks : F .f32) (l : Vec F S1x256 .f32) (dos : Vec F S1x256 .f32) : FVec F S64x256 .f32 :=
  mulf (exp2 (subf (mulf s (broadcast S64x256 (Scalar.mulf ks (cSL : F .f32)))) (broadcastTo S64x256 l broadcasts_S1x256_S64x256))) (broadcastTo S64x256 dos broadcasts_S1x256_S64x256)

/-- One head's score gradients. -/
def dsHead (e : FVec F S64x256 .f32) (dp : FVec F S64x256 .f32) (vs : F .f32) (d : FVec F S1x256 .f32) : FVec F S64x256 .f32 :=
  mulf e (subf (mulf dp (broadcast S64x256 vs)) (broadcastTo S64x256 d broadcasts_S1x256_S64x256))

/-- Two heads one over the other, rounded. -/
def stack (a b : FVec F S64x256 .f32) : FVec F S128x256 .bf16 :=
  truncf .bf16 (concatenate S128x256 0 [⟨S64x256, a⟩, ⟨S64x256, b⟩] concatenates_S64x256_S64x256_S128x256_d0) bitsLt_bf16_f32

/-- A head's scale along its columns. -/
def scRow (ks : F .f32) : FVec F S1x128 .f32 := broadcast S1x128 (Scalar.mulf ks (cSc : F .f32))

/-- The query gradient of the two heads. -/
def dqPair (ds k : FVec F S128x256 .bf16) (a b : F .f32) : FVec F S256x256 .bf16 :=
  truncf .bf16 (mulf (matmul dot_S128x256_S128x256_S256x256_0_0_1_1_n_n none ds k (constant S256x256 .f32 0x00000000#32))
    (broadcastTo S256x256 (concatenate S1x256 1 [⟨S1x128, scRow a⟩, ⟨S1x128, scRow b⟩] concatenates_S1x128_S1x128_S1x256_d1) broadcasts_S1x256_S256x256)) bitsLt_bf16_f32
def dqOut (x : FVec F S256x256 .bf16) : Vec F S1x256x256 .bf16 := shapeCast S1x256x256 x shapeCasts_S256x256_S1x256x256

def dvPair (e : FVec F S128x256 .bf16) (g : FVec F S256x256 .fp8e5m2) : FVec F S128x256 .f32 :=
  matmul dot_S128x256_S256x256_S128x256_1_0_0_1_n_n none e g (constant S128x256 .f32 0x00000000#32)
def dkPair (ds : FVec F S128x256 .bf16) (q : FVec F S256x256 .bf16) : FVec F S128x256 .f32 :=
  matmul dot_S128x256_S256x256_S128x256_1_0_0_1_n_n none ds q (constant S128x256 .f32 0x00000000#32)

def rows0 (x : FVec F S128x256 .f32) : FVec F S64x256 .f32 := extractStridedSlice S64x256 ![0, 0] x slices_S128x256_o0_0_S64x256
def rows1 (x : FVec F S128x256 .f32) : FVec F S64x256 .f32 := extractStridedSlice S64x256 ![64, 0] x slices_S128x256_o64_0_S64x256
def quad0 (x : FVec F S128x256 .f32) : FVec F S64x128 .f32 := extractStridedSlice S64x128 ![0, 0] x slices_S128x256_o0_0_S64x128
def quad1 (x : FVec F S128x256 .f32) : FVec F S64x128 .f32 := extractStridedSlice S64x128 ![64, 128] x slices_S128x256_o64_128_S64x128
/-- An accumulator's block plus a head's block. -/
def accAdd (a : Vec F S1x64x128 .f32) (x : FVec F S64x128 .f32) : Vec F S1x64x128 .f32 :=
  shapeCast S1x64x128 (addf (shapeCast S64x128 a shapeCasts_S1x64x128_S64x128) x) shapeCasts_S64x128_S1x64x128

/-! ## Offsets -/

def offA (n c : BitVec 32) : Fin 3 → Nat := ![(Scalar.indexCast (Scalar.addi (Scalar.muli n 32#32) c)).toNat, 0, 0]
def offB (n c d : BitVec 32) : Fin 3 → Nat := ![(Scalar.indexCast (Scalar.addi (Scalar.addi (Scalar.muli n 32#32) c) d)).toNat, 0, 0]
def offS (i : grid0.Coords) (n : BitVec 32) (h : Nat) : Fin 3 → Nat := ![(Scalar.indexCast (BitVec.ofNat 32 (i 0).val)).toNat, (Scalar.indexCast n).toNat, h]

theorem offA_eq (n : BitVec 32) (hn : n.toNat < 5) (p : Nat) (hp : p < 16) : offA n (BitVec.ofNat 32 (2 * p)) = ![n.toNat * 32 + 2 * p, 0, 0] := by
  have e : (Scalar.indexCast (Scalar.addi (Scalar.muli n 32#32) (BitVec.ofNat 32 (2 * p)))).toNat = n.toNat * 32 + 2 * p := by
    show (n * 32#32 + BitVec.ofNat 32 (2 * p)).toNat = _
    simp only [BitVec.toNat_add, BitVec.toNat_mul, BitVec.toNat_ofNat]; omega
  unfold offA; rw [e]
theorem offB_eq (n : BitVec 32) (hn : n.toNat < 5) (p : Nat) (hp : p < 16) (j : Nat) (hj : j < 2) :
    offB n (BitVec.ofNat 32 (2 * p)) (BitVec.ofNat 32 j) = ![n.toNat * 32 + (2 * p + j), 0, 0] := by
  have e : (Scalar.indexCast (Scalar.addi (Scalar.addi (Scalar.muli n 32#32) (BitVec.ofNat 32 (2 * p))) (BitVec.ofNat 32 j))).toNat = n.toNat * 32 + (2 * p + j) := by
    show (n * 32#32 + BitVec.ofNat 32 (2 * p) + BitVec.ofNat 32 j).toNat = _
    simp only [BitVec.toNat_add, BitVec.toNat_mul, BitVec.toNat_ofNat]; omega
  unfold offB; rw [e]
theorem offS_eq (i : grid0.Coords) (n : BitVec 32) (h : Nat) : offS i n h = ![(i 0).val, n.toNat, h] := by
  have hi : (i 0).val < 4 := (i 0).isLt
  have e : (Scalar.indexCast (BitVec.ofNat 32 (i 0).val)).toNat = (i 0).val := by
    show (BitVec.ofNat 32 (i 0).val).toNat = _
    simp only [BitVec.toNat_ofNat]; omega
  unfold offS; rw [e]; rfl

theorem inbA (n : BitVec 32) (hn : n.toNat < 5) (p : Nat) (hp : p < 16) : ∀ a, offA n (BitVec.ofNat 32 (2 * p)) a + S1x64x128.size a ≤ S160x64x128.size a := by
  rw [offA_eq n hn p hp]; intro a
  match a with
  | 0 => show n.toNat * 32 + 2 * p + 1 ≤ 160; omega
  | 1 => exact Nat.le_refl 64
  | 2 => exact Nat.le_refl 128
theorem inbB (n : BitVec 32) (hn : n.toNat < 5) (p : Nat) (hp : p < 16) (j : Nat) (hj : j < 2) :
    ∀ a, offB n (BitVec.ofNat 32 (2 * p)) (BitVec.ofNat 32 j) a + S1x64x128.size a ≤ S160x64x128.size a := by
  rw [offB_eq n hn p hp j hj]; intro a
  match a with
  | 0 => show n.toNat * 32 + (2 * p + j) + 1 ≤ 160; omega
  | 1 => exact Nat.le_refl 64
  | 2 => exact Nat.le_refl 128
theorem inbS (i : grid0.Coords) (n : BitVec 32) (hn : n.toNat < 5) (h : Nat) (hh : h < 32) : ∀ a, offS i n h a + S1x1x1.size a ≤ S4x5x32.size a := by
  rw [offS_eq i n h]; intro a
  have hi : (i 0).val < 4 := (i 0).isLt
  match a with
  | 0 => show (i 0).val + 1 ≤ 4; omega
  | 1 => show n.toNat + 1 ≤ 5; omega
  | 2 => show h + 1 ≤ 32; omega
theorem inbQ (p : Nat) (hp : p < 16) : ∀ a, (![0, 0, 256 * p] : Fin 3 → Nat) a + S1x256x256.size a ≤ S1x256x4096.size a := fun a =>
  match a with
  | 0 => Nat.le_refl 1
  | 1 => Nat.le_refl 256
  | 2 => by show 256 * p + 256 ≤ 4096; omega
theorem inbH (h : Nat) (hh : h < 32) : ∀ a, (![0, 0, 128 * h] : Fin 3 → Nat) a + S1x256x128.size a ≤ S1x256x4096.size a := fun a =>
  match a with
  | 0 => Nat.le_refl 1
  | 1 => Nat.le_refl 256
  | 2 => by show 128 * h + 128 ≤ 4096; omega
theorem inbL (h : Nat) (hh : h < 32) : ∀ a, (![h, 0] : Fin 2 → Nat) a + S1x256.size a ≤ S32x256.size a := fun a =>
  match a with
  | 0 => by show h + 1 ≤ 32; omega
  | 1 => Nat.le_refl 256
theorem packQ (p : Nat) (hp : p < 16) : (Rect.unit (s := S1x256x4096) ![0, 0, 256 * p] S1x256x256.size (inbQ p hp)).PackedRows (EltTy.packing .bf16) :=
  match p, hp with
  | 0, _ => packedbf16_S1x256x4096_S1x256x256_0_0_0
  | 1, _ => packedbf16_S1x256x4096_S1x256x256_0_0_256
  | 2, _ => packedbf16_S1x256x4096_S1x256x256_0_0_512
  | 3, _ => packedbf16_S1x256x4096_S1x256x256_0_0_768
  | 4, _ => packedbf16_S1x256x4096_S1x256x256_0_0_1024
  | 5, _ => packedbf16_S1x256x4096_S1x256x256_0_0_1280
  | 6, _ => packedbf16_S1x256x4096_S1x256x256_0_0_1536
  | 7, _ => packedbf16_S1x256x4096_S1x256x256_0_0_1792
  | 8, _ => packedbf16_S1x256x4096_S1x256x256_0_0_2048
  | 9, _ => packedbf16_S1x256x4096_S1x256x256_0_0_2304
  | 10, _ => packedbf16_S1x256x4096_S1x256x256_0_0_2560
  | 11, _ => packedbf16_S1x256x4096_S1x256x256_0_0_2816
  | 12, _ => packedbf16_S1x256x4096_S1x256x256_0_0_3072
  | 13, _ => packedbf16_S1x256x4096_S1x256x256_0_0_3328
  | 14, _ => packedbf16_S1x256x4096_S1x256x256_0_0_3584
  | 15, _ => packedbf16_S1x256x4096_S1x256x256_0_0_3840
  | p + 16, h => absurd h (by omega)

/-! ## Programs -/

abbrev PR (F : FTy → Type) := Prog (TpuEff nD τ sig (Elt F) Λ₀ .tc) PUnit

/-- The buffers of the body: eleven inputs, three results, five scratch buffers. -/
structure Bufs where
  a2 : Memref sig .tc .smem S4x3584 .i32
  h2 : a2.IsWhole
  a3 : Memref sig .tc .smem S4x5x32 .f32
  h3 : a3.IsWhole
  a4 : Memref sig .tc .smem S4x5x32 .f32
  h4 : a4.IsWhole
  a5 : Memref sig .tc .vmem S1x256x4096 .bf16
  h5 : a5.IsWhole
  a6 : Memref sig .tc .vmem S1x5x64x32x128 .fp8e4m3
  h6 : a6.IsWhole
  a7 : Memref sig .tc .vmem S1x5x64x32x128 .fp8e4m3
  h7 : a7.IsWhole
  a8 : Memref sig .tc .vmem S1x256x4096 .fp8e5m2
  h8 : a8.IsWhole
  a9 : Memref sig .tc .vmem S4x256 .f32
  h9 : a9.IsWhole
  a10 : Memref sig .tc .vmem S1x256x4096 .bf16
  h10 : a10.IsWhole
  a11 : Memref sig .tc .vmem S1x32x256 .f32
  h11 : a11.IsWhole
  a12 : Memref sig .tc .vmem S4x256 .i32
  h12 : a12.IsWhole
  a13 : Memref sig .tc .vmem S1x256x4096 .bf16
  h13 : a13.IsWhole
  a14 : Memref sig .tc .vmem S1x5x64x32x128 .bf16
  h14 : a14.IsWhole
  a15 : Memref sig .tc .vmem S1x5x64x32x128 .bf16
  h15 : a15.IsWhole
  a16 : Memref sig .tc .vmem S160x64x128 .bf16
  h16 : a16.IsWhole
  a17 : Memref sig .tc .vmem S160x64x128 .fp8e4m3
  h17 : a17.IsWhole
  a18 : Memref sig .tc .vmem S160x64x128 .f32
  h18 : a18.IsWhole
  a19 : Memref sig .tc .vmem S160x64x128 .f32
  h19 : a19.IsWhole
  a20 : Memref sig .tc .vmem S32x256 .f32
  h20 : a20.IsWhole

variable (B : Bufs) (i : grid0.Coords)

/-- Load a head's block of a scratch of keys or values, the first of a pair. -/
def ldA {e : EltTy} (m : Memref sig .tc .vmem S160x64x128 e) (n : BitVec 32) (hn : n.toNat < 5) (p : Nat) (hp : p < 16) (k : Vec F S1x64x128 e → PR F) : PR F :=
  .op (.load m (Rect.unit (s := S160x64x128) (offA n (BitVec.ofNat 32 (2 * p))) S1x64x128.size (inbA n hn p hp)).toLoadRect (View.loadsAt_vmem h_S1x64x128)) k
/-- Load a head's block of a scratch buffer, head `j` of a pair. -/
def ldH {e : EltTy} (m : Memref sig .tc .vmem S160x64x128 e) (n : BitVec 32) (hn : n.toNat < 5) (p : Nat) (hp : p < 16) (j : Nat) (hj : j < 2) (k : Vec F S1x64x128 e → PR F) : PR F :=
  .op (.load m (Rect.unit (s := S160x64x128) (offB n (BitVec.ofNat 32 (2 * p)) (BitVec.ofNat 32 j)) S1x64x128.size (inbB n hn p hp j hj)).toLoadRect (View.loadsAt_vmem h_S1x64x128)) k
/-- Store a head's block of an accumulator. -/
def stH (m : Memref sig .tc .vmem S160x64x128 .f32) (n : BitVec 32) (hn : n.toNat < 5) (p : Nat) (hp : p < 16) (j : Nat) (hj : j < 2) (w : Vec F S1x64x128 .f32) (k : PR F) : PR F :=
  .op (.store m (Rect.unit (s := S160x64x128) (offB n (BitVec.ofNat 32 (2 * p)) (BitVec.ofNat 32 j)) S1x64x128.size (inbB n hn p hp j hj)) w Finset.univ (View.stores_vmem_bits_univ h_S1x64x128 rfl) (.inl rfl)) fun _ => k
/-- Load the columns of a pair of heads. -/
def ldQ {e : EltTy} (m : Memref sig .tc .vmem S1x256x4096 e) (p : Nat) (hp : p < 16) (k : Vec F S1x256x256 e → PR F) : PR F :=
  .op (.load m (Rect.unit (s := S1x256x4096) ![0, 0, 256 * p] S1x256x256.size (inbQ p hp)).toLoadRect (View.loadsAt_vmem h_S1x256x256)) k
/-- Load the columns of a head. -/
def ldC {e : EltTy} (m : Memref sig .tc .vmem S1x256x4096 e) (h : Nat) (hh : h < 32) (k : Vec F S1x256x128 e → PR F) : PR F :=
  .op (.load m (Rect.unit (s := S1x256x4096) ![0, 0, 128 * h] S1x256x128.size (inbH h hh)).toLoadRect (View.loadsAt_vmem h_S1x256x128)) k
/-- Load a head's row of the log-sum-exp scratch. -/
def ldL (m : Memref sig .tc .vmem S32x256 .f32) (h : Nat) (hh : h < 32) (k : Vec F S1x256 .f32 → PR F) : PR F :=
  .op (.load m (Rect.unit (s := S32x256) ![h, 0] S1x256.size (inbL h hh)).toLoadRect (View.loadsAt_vmem h_S1x256)) k
/-- Load a scale of an image and a head. -/
def ldS (m : Memref sig .tc .smem S4x5x32 .f32) (n : BitVec 32) (hn : n.toNat < 5) (h : Nat) (hh : h < 32) (k : Elt F .f32 → PR F) : PR F :=
  smemLoadElt m (Rect.unit (s := S4x5x32) (offS i n h) S1x1x1.size (inbS i n hn h hh)) (View.loads_smem_one rfl numel1_S1x1x1) (Shape.Idx.first (numel1_S1x1x1.symm ▸ Nat.one_pos)) k
/-- Store the columns of a pair of heads of the query gradient. -/
def stQ (m : Memref sig .tc .vmem S1x256x4096 .bf16) (hm : m.IsWhole) (p : Nat) (hp : p < 16) (w : Vec F S1x256x256 .bf16) (k : PR F) : PR F :=
  .op (.store m (Rect.unit (s := S1x256x4096) ![0, 0, 256 * p] S1x256x256.size (inbQ p hp)) w Finset.univ (View.stores_vmem h_S1x256x256 (hm.storeExact_slice rfl _ (packQ p hp)) (fun _ => rfl)) (.inl rfl)) fun _ => k

/-- Add a head's block to an accumulator. -/
def accC (m : Memref sig .tc .vmem S160x64x128 .f32) (n : BitVec 32) (hn : n.toNat < 5) (p : Nat) (hp : p < 16) (j : Nat) (hj : j < 2) (x : FVec F S64x128 .f32) (k : PR F) : PR F :=
  ldH m n hn p hp j hj fun a => ldH m n hn p hp j hj fun _ => stH m n hn p hp j hj (accAdd a x) k

/-- One head: its weights and its score gradients, handed on with its key scale. -/
def headC (n : BitVec 32) (hn : n.toNat < 5) (h : Nat) (hh : h < 32) (dos : Vec F S1x256 .f32) (s dp : FVec F S64x256 .f32)
    (k : F .f32 → FVec F S64x256 .f32 → FVec F S64x256 .f32 → PR F) : PR F :=
  ldS i B.a3 n hn h hh fun ks => ldS i B.a4 n hn h hh fun vs => ldC B.a8 h hh fun g => ldC B.a10 h hh fun o => ldL B.a20 h hh fun l =>
    k ks (eHead s ks l dos) (dsHead (eHead s ks l dos) dp vs (dRow g o))

/-- The query gradient's store: over what is there (`false`), or alone (`true`). -/
def dqC (single : Bool) (p : Nat) (hp : p < 16) (x : FVec F S256x256 .bf16) (k : PR F) : PR F :=
  match single with
  | true => ldQ B.a13 p hp fun _ => stQ B.a13 B.h13 p hp (dqOut x) k
  | false => ldQ B.a13 p hp fun y => ldQ B.a13 p hp fun _ => stQ B.a13 B.h13 p hp (dqOut (addf x (mat y))) k

/-- One pair of heads of image `n`. -/
def pairC (single : Bool) (n : BitVec 32) (hn : n.toNat < 5) (dos : Vec F S1x256 .f32) (p : Nat) (hp : p < 16) (k : PR F) : PR F :=
  ldA B.a16 n hn p hp fun k0 => ldH B.a16 n hn p hp 1 Nat.one_lt_two fun k1 => ldA B.a17 n hn p hp fun v0 => ldH B.a17 n hn p hp 1 Nat.one_lt_two fun v1 =>
  ldQ B.a5 p hp fun q => ldQ B.a8 p hp fun g =>
  headC B i n hn (2 * p) (by omega) dos (rows0 (sPair (kDiag k0 k1) (mat q))) (rows0 (dpPair (vDiag v0 v1) (mat g))) fun ks0 e0 ds0 =>
  headC B i n hn (2 * p + 1) (by omega) dos (rows1 (sPair (kDiag k0 k1) (mat q))) (rows1 (dpPair (vDiag v0 v1) (mat g))) fun ks1 e1 ds1 =>
  dqC B single p hp (dqPair (stack ds0 ds1) (kDiag k0 k1) ks0 ks1) <|
  accC B.a18 n hn p hp 0 Nat.two_pos (quad0 (dkPair (stack ds0 ds1) (mat q))) <|
  accC B.a19 n hn p hp 0 Nat.two_pos (quad0 (dvPair (stack e0 e1) (mat g))) <|
  accC B.a18 n hn p hp 1 Nat.one_lt_two (quad1 (dkPair (stack ds0 ds1) (mat q))) <|
  accC B.a19 n hn p hp 1 Nat.one_lt_two (quad1 (dvPair (stack e0 e1) (mat g))) k

/-- The log-sum-exp scratch of image `n`. -/
def lseC (n : BitVec 32) (idx : Vec F S1x256 .i32) (k : PR F) : PR F :=
  .op (.load B.a11 (Rect.unit (s := S1x32x256) ![0, 0, 0] S1x32x256.size inb_S1x32x256_S1x32x256_0_0_0).toLoadRect (View.loadsAt_vmem h_S1x32x256)) fun lse =>
  .op (.load B.a20 (Rect.unit (s := S32x256) ![0, 0] S32x256.size inb_S32x256_S32x256_0_0).toLoadRect (View.loadsAt_vmem h_S32x256)) fun _ =>
  .op (.store B.a20 (Rect.unit (s := S32x256) ![0, 0] S32x256.size inb_S32x256_S32x256_0_0) (lseRows n idx lse) Finset.univ (View.stores_vmem_bits_univ h_S32x256 rfl) (.inl rfl)) fun _ => k

/-- The pairs of heads from `16 - j` on. -/
def pairsC (single : Bool) (n : BitVec 32) (hn : n.toNat < 5) (dos : Vec F S1x256 .f32) (k : PR F) : (j : Nat) → j ≤ 16 → PR F
  | 0, _ => k
  | j + 1, h => pairC B i single n hn dos (15 - j) (by omega) (pairsC single n hn dos k j (by omega))

/-- The whole image `n`. -/
def imgC (single : Bool) (n : BitVec 32) (hn : n.toNat < 5) (dos : Vec F S1x256 .f32) (idx : Vec F S1x256 .i32) (k : PR F) : PR F :=
  lseC B n idx (pairsC B i single n hn dos k 16 (Nat.le_refl _))

end Cert.KernelIdeal.Own
-- ==== Proof.KernelIdealRun.lean ====
/- What the buffers hold while the body runs, and the rules that move a program's loads and stores over it. -/
module

public import proofs.«01_k».proof.Proof.KernelIdealPair
public import Idealize.ShloMosaic.Lib.VecWindow
public import Idealize.ShloMosaic.Lib.Pipeline.TableIdle

@[expose] public section

set_option maxRecDepth 16384

noncomputable section

namespace Cert.KernelIdeal.Own

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F] [Named F]

variable [Cert.KernelIdeal.Facts]

local notation "𝕄" => MT nD τ sig Unit (Elt F) ℕ (UR sig nD τ) ℕ

/-- What the buffers hold. -/
structure St (F : FTy → Type) where
  x2 : Vec F S4x3584 .i32
  x3 : Vec F S4x5x32 .f32
  x4 : Vec F S4x5x32 .f32
  x5 : Vec F S1x256x4096 .bf16
  x6 : Vec F S1x5x64x32x128 .fp8e4m3
  x7 : Vec F S1x5x64x32x128 .fp8e4m3
  x8 : Vec F S1x256x4096 .fp8e5m2
  x9 : Vec F S4x256 .f32
  x10 : Vec F S1x256x4096 .bf16
  x11 : Vec F S1x32x256 .f32
  x12 : Vec F S4x256 .i32
  x13 : Vec F S1x256x4096 .bf16
  x14 : Vec F S1x5x64x32x128 .bf16
  x15 : Vec F S1x5x64x32x128 .bf16
  x16 : Vec F S160x64x128 .bf16
  x17 : Vec F S160x64x128 .fp8e4m3
  x18 : Vec F S160x64x128 .f32
  x19 : Vec F S160x64x128 .f32
  x20 : Vec F S32x256 .f32

/-- A buffer held whole, holding `x`. -/
def own (c : Dev nD) {sp : Space} {s : Shape} {e : EltTy} (m : Memref sig .tc sp s e) (x : s.Idx → Elt F e) : sProp 𝕄 :=
  owns (c : Thread nD τ) m fullShare x

/-! The buffers from a given one on hold a tuple. -/
def H20 (c : Dev nD) (B : Bufs) (s : (Vec F S32x256 .f32)) : sProp 𝕄 := own c B.a20 s
def H19 (c : Dev nD) (B : Bufs) (s : (Vec F S160x64x128 .f32) × (Vec F S32x256 .f32)) : sProp 𝕄 := iprop(own c B.a19 s.1 ∗ H20 c B s.2)
def H18 (c : Dev nD) (B : Bufs) (s : (Vec F S160x64x128 .f32) × (Vec F S160x64x128 .f32) × (Vec F S32x256 .f32)) : sProp 𝕄 := iprop(own c B.a18 s.1 ∗ H19 c B s.2)
def H17 (c : Dev nD) (B : Bufs) (s : (Vec F S160x64x128 .fp8e4m3) × (Vec F S160x64x128 .f32) × (Vec F S160x64x128 .f32) × (Vec F S32x256 .f32)) : sProp 𝕄 := iprop(own c B.a17 s.1 ∗ H18 c B s.2)
def H16 (c : Dev nD) (B : Bufs) (s : (Vec F S160x64x128 .bf16) × (Vec F S160x64x128 .fp8e4m3) × (Vec F S160x64x128 .f32) × (Vec F S160x64x128 .f32) × (Vec F S32x256 .f32)) : sProp 𝕄 := iprop(own c B.a16 s.1 ∗ H17 c B s.2)
def H15 (c : Dev nD) (B : Bufs) (s : (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a15 s.1 ∗ H16 c B s.2)
def H14 (c : Dev nD) (B : Bufs) (s : (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a14 s.1 ∗ H15 c B s.2)
def H13 (c : Dev nD) (B : Bufs) (s : (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a13 s.1 ∗ H14 c B s.2)
def H12 (c : Dev nD) (B : Bufs) (s : (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a12 s.1 ∗ H13 c B s.2)
def H11 (c : Dev nD) (B : Bufs) (s : (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a11 s.1 ∗ H12 c B s.2)
def H10 (c : Dev nD) (B : Bufs) (s : (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a10 s.1 ∗ H11 c B s.2)
def H9 (c : Dev nD) (B : Bufs) (s : (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a9 s.1 ∗ H10 c B s.2)
def H8 (c : Dev nD) (B : Bufs) (s : (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a8 s.1 ∗ H9 c B s.2)
def H7 (c : Dev nD) (B : Bufs) (s : (Vec F S1x5x64x32x128 .fp8e4m3) × (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a7 s.1 ∗ H8 c B s.2)
def H6 (c : Dev nD) (B : Bufs) (s : (Vec F S1x5x64x32x128 .fp8e4m3) × (Vec F S1x5x64x32x128 .fp8e4m3) × (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a6 s.1 ∗ H7 c B s.2)
def H5 (c : Dev nD) (B : Bufs) (s : (Vec F S1x256x4096 .bf16) × (Vec F S1x5x64x32x128 .fp8e4m3) × (Vec F S1x5x64x32x128 .fp8e4m3) × (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a5 s.1 ∗ H6 c B s.2)
def H4 (c : Dev nD) (B : Bufs) (s : (Vec F S4x5x32 .f32) × (Vec F S1x256x4096 .bf16) × (Vec F S1x5x64x32x128 .fp8e4m3) × (Vec F S1x5x64x32x128 .fp8e4m3) × (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a4 s.1 ∗ H5 c B s.2)
def H3 (c : Dev nD) (B : Bufs) (s : (Vec F S4x5x32 .f32) × (Vec F S4x5x32 .f32) × (Vec F S1x256x4096 .bf16) × (Vec F S1x5x64x32x128 .fp8e4m3) × (Vec F S1x5x64x32x128 .fp8e4m3) × (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a3 s.1 ∗ H4 c B s.2)
def H2 (c : Dev nD) (B : Bufs) (s : (Vec F S4x3584 .i32) × (Vec F S4x5x32 .f32) × (Vec F S4x5x32 .f32) × (Vec F S1x256x4096 .bf16) × (Vec F S1x5x64x32x128 .fp8e4m3) × (Vec F S1x5x64x32x128 .fp8e4m3) × (Vec F S1x256x4096 .fp8e5m2) × (Vec F S4x256 .f32) × (Vec F S1x256x4096 .bf16) × (Vec F S1x32x256 .f32) × (Vec F S4x256 .i32) × (Vec F S1x256x4096 .bf16) × (Vec F S1x5x64x32x128 .bf16) × (Vec F S1x5x64x32x128 .bf16) × (Vec F S160x64x128 .bf16) × (Vec F S160x64x128 .fp8e4m3) × (Vec F S160x64x128 .f32) × (Vec F S160x64x128 .f32) × (Vec F S32x256 .f32)) : sProp 𝕄 := iprop(own c B.a2 s.1 ∗ H3 c B s.2)

/-- The buffers hold what the state says. -/
def held (c : Dev nD) (B : Bufs) (st : St F) : sProp 𝕄 := H2 c B (st.x2, st.x3, st.x4, st.x5, st.x6, st.x7, st.x8, st.x9, st.x10, st.x11, st.x12, st.x13, st.x14, st.x15, st.x16, st.x17, st.x18, st.x19, st.x20)

/-- One buffer taken out of a state, and put back with any contents. -/
def Focus {S V : Type} (H : S → sProp 𝕄) (O : V → sProp 𝕄) (get : S → V) (set : S → V → S) : Prop :=
  ∀ s, H s ⊢ iprop(O (get s) ∗ (∀ v, O v -∗ H (set s v)))

theorem focus_l {V S : Type} (A : V → sProp 𝕄) (R : S → sProp 𝕄) :
    Focus (fun s : V × S => iprop(A s.1 ∗ R s.2)) A Prod.fst (fun s v => (v, s.2)) := fun s => by
  iintro ⟨H, R⟩
  isplitl [H]; · iexact H
  iintro %v H
  isplitl [H]; · iexact H
  iexact R

theorem focus_last {V : Type} (A : V → sProp 𝕄) : Focus A A (fun s => s) (fun _ v => v) := fun s => by
  iintro H
  isplitl [H]; · iexact H
  iintro %v H
  iexact H

theorem focus_r {W S V : Type} (A : W → sProp 𝕄) {R : S → sProp 𝕄} {O : V → sProp 𝕄} {get : S → V} {set : S → V → S} (h : Focus R O get set) :
    Focus (fun s : W × S => iprop(A s.1 ∗ R s.2)) O (fun s => get s.2) (fun s v => (s.1, set s.2 v)) := fun s => by
  iintro ⟨HA, R⟩
  ihave R := (h s.2) $$ R
  icases R with ⟨HO, R⟩
  isplitl [HO]; · iexact HO
  iintro %v H
  isplitl [HA]; · iexact HA
  iapply R; iexact H

/-- A state as a tuple. -/
abbrev tup (st : St F) := (st.x2, st.x3, st.x4, st.x5, st.x6, st.x7, st.x8, st.x9, st.x10, st.x11, st.x12, st.x13, st.x14, st.x15, st.x16, st.x17, st.x18, st.x19, st.x20)

theorem f2 (c : Dev nD) (B : Bufs) : Focus (held (F := F) c B) (own c B.a2) St.x2 (fun s v => { s with x2 := v }) := fun st => (show Focus (H2 (F := F) c B) (own c B.a2) Prod.fst (fun s v => (v, s.2)) from focus_l (own c B.a2) (H3 c B)) (tup st)
theorem f3 (c : Dev nD) (B : Bufs) : Focus (held (F := F) c B) (own c B.a3) St.x3 (fun s v => { s with x3 := v }) := fun st => (focus_r (R := H3 c B) (own c B.a2) (show Focus (H3 (F := F) c B) (own c B.a3) Prod.fst (fun s v => (v, s.2)) from focus_l (own c B.a3) (H4 c B))) (tup st)
theorem f4 (c : Dev nD) (B : Bufs) : Focus (held (F := F) c B) (own c B.a4) St.x4 (fun s v => { s with x4 := v }) := fun st => (focus_r (R := H3 c B) (own c B.a2) (focus_r (R := H4 c B) (own c B.a3) (show Focus (H4 (F := F) c B) (own c B.a4) Prod.fst (fun s v => (v, s.2)) from focus_l (own c B.a4) (H5 c B)))) (tup st)
theorem f5 (c : Dev nD) (B : Bufs) : Focus (held (F := F) c B) (own c B.a5) St.x5 (fun s v => { s with x5 := v }) := fun st => (focus_r (R := H3 c B) (own c B.a2) (focus_r (R := H4 c B) (own c B.a3) (focus_r (R := H5 c B) (own c B.a4) (show Focus (H5 (F := F) c B) (own c B.a5) Prod.fst (fun s v => (v, s.2)) from focus_l (own c B.a5) (H6 c B))))) (tup st)
theorem f6 (c : Dev nD) (B : Bufs) : Focus (held (F := F) c B) (own c B.a6) St.x6 (fun s v => { s with x6 := v }) := fun st => (focus_r (R := H3 c B) (own c B.a2) (focus_r (R := H4 c B) (own c B.a3) (focus_r (R := H5 c B) (own c B.a4) (focus_r (R := H6 c B) (own c B.a5) (show Focus (H6 (F := F) c B) (own c B.a6) Prod.fst (fun s v => (v, s.2)) from focus_l (own c B.a6) (H7 c B)))))) (tup st)
theorem f7 (c : Dev nD) (B : Bufs) : Focus (held (F := F) c B) (own c B.a7) St.x7 (fun s v => { s with x7 := v }) := fun st => (focus_r (R := H3 c B) (own c B.a2) (focus_r (R := H4 c B) (own c B.a3) (focus_r (R := H5 c B) (own c B.a4) (focus_r (R := H6 c B) (own c B.a5) (focus_r (R := H7 c B) (own c B.a6) (show Focus (H7 (F := F) c B) (own c B.a7) Prod.fst (fun s v => (v, s.2)) from focus_l (own c B.a7) (H8 c B))))))) (tup st)
theorem f8 (c : Dev nD) (B : Bufs) : Focus (held (F := F) c B) (own c B.a8) St.x8 (fun s v => { s with x8 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (show Focus (H8 (F := F) c B) (own c B.a8) Prod.fst (fun s v => (v, s.2)) from focus_l (own c B.a8) (H9 c B)))))))) (tup st)
theorem f9 (c : Dev nD) (B : Bufs) : Focus (held (F := F) c B) (own c B.a9) St.x9 (fun s v => { s with x9 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (show Focus (H9 (F := F) c B) (own c B.a9) Prod.fst (fun s v => (v, s.2)) from focus_l (own c B.a9) (H10 c B))))))))) (tup st)
theorem f10 (c : Dev nD) (B : Bufs) : Focus (held (F := F) c B) (own c B.a10) St.x10 (fun s v => { s with x10 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (show Focus (H10 (F := F) c B) (own c B.a10) Prod.fst (fun s v => (v, s.2)) from focus_l (own c B.a10) (H11 c B)))))))))) (tup st)
theorem f11 (c : Dev nD) (B : Bufs) : Focus (held (F := F) c B) (own c B.a11) St.x11 (fun s v => { s with x11 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (show Focus (H11 (F := F) c B) (own c B.a11) Prod.fst (fun s v => (v, s.2)) from focus_l (own c B.a11) (H12 c B))))))))))) (tup st)
theorem f12 (c : Dev nD) (B : Bufs) : Focus (held (F := F) c B) (own c B.a12) St.x12 (fun s v => { s with x12 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (show Focus (H12 (F := F) c B) (own c B.a12) Prod.fst (fun s v => (v, s.2)) from focus_l (own c B.a12) (H13 c B)))))))))))) (tup st)
theorem f13 (c : Dev nD) (B : Bufs) : Focus (held (F := F) c B) (own c B.a13) St.x13 (fun s v => { s with x13 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (show Focus (H13 (F := F) c B) (own c B.a13) Prod.fst (fun s v => (v, s.2)) from focus_l (own c B.a13) (H14 c B))))))))))))) (tup st)
theorem f14 (c : Dev nD) (B : Bufs) : Focus (held (F := F) c B) (own c B.a14) St.x14 (fun s v => { s with x14 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (show Focus (H14 (F := F) c B) (own c B.a14) Prod.fst (fun s v => (v, s.2)) from focus_l (own c B.a14) (H15 c B)))))))))))))) (tup st)
theorem f15 (c : Dev nD) (B : Bufs) : Focus (held (F := F) c B) (own c B.a15) St.x15 (fun s v => { s with x15 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (focus_r (R := H15 c B) (own c B.a14) (show Focus (H15 (F := F) c B) (own c B.a15) Prod.fst (fun s v => (v, s.2)) from focus_l (own c B.a15) (H16 c B))))))))))))))) (tup st)
theorem f16 (c : Dev nD) (B : Bufs) : Focus (held (F := F) c B) (own c B.a16) St.x16 (fun s v => { s with x16 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (focus_r (R := H15 c B) (own c B.a14) (focus_r (R := H16 c B) (own c B.a15) (show Focus (H16 (F := F) c B) (own c B.a16) Prod.fst (fun s v => (v, s.2)) from focus_l (own c B.a16) (H17 c B)))))))))))))))) (tup st)
theorem f17 (c : Dev nD) (B : Bufs) : Focus (held (F := F) c B) (own c B.a17) St.x17 (fun s v => { s with x17 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (focus_r (R := H15 c B) (own c B.a14) (focus_r (R := H16 c B) (own c B.a15) (focus_r (R := H17 c B) (own c B.a16) (show Focus (H17 (F := F) c B) (own c B.a17) Prod.fst (fun s v => (v, s.2)) from focus_l (own c B.a17) (H18 c B))))))))))))))))) (tup st)
theorem f18 (c : Dev nD) (B : Bufs) : Focus (held (F := F) c B) (own c B.a18) St.x18 (fun s v => { s with x18 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (focus_r (R := H15 c B) (own c B.a14) (focus_r (R := H16 c B) (own c B.a15) (focus_r (R := H17 c B) (own c B.a16) (focus_r (R := H18 c B) (own c B.a17) (show Focus (H18 (F := F) c B) (own c B.a18) Prod.fst (fun s v => (v, s.2)) from focus_l (own c B.a18) (H19 c B)))))))))))))))))) (tup st)
theorem f19 (c : Dev nD) (B : Bufs) : Focus (held (F := F) c B) (own c B.a19) St.x19 (fun s v => { s with x19 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (focus_r (R := H15 c B) (own c B.a14) (focus_r (R := H16 c B) (own c B.a15) (focus_r (R := H17 c B) (own c B.a16) (focus_r (R := H18 c B) (own c B.a17) (focus_r (R := H19 c B) (own c B.a18) (show Focus (H19 (F := F) c B) (own c B.a19) Prod.fst (fun s v => (v, s.2)) from focus_l (own c B.a19) (H20 c B))))))))))))))))))) (tup st)
theorem f20 (c : Dev nD) (B : Bufs) : Focus (held (F := F) c B) (own c B.a20) St.x20 (fun s v => { s with x20 := v }) := fun st => (focus_r (R := H3 c B) (own c B.a2) (focus_r (R := H4 c B) (own c B.a3) (focus_r (R := H5 c B) (own c B.a4) (focus_r (R := H6 c B) (own c B.a5) (focus_r (R := H7 c B) (own c B.a6) (focus_r (R := H8 c B) (own c B.a7) (focus_r (R := H9 c B) (own c B.a8) (focus_r (R := H10 c B) (own c B.a9) (focus_r (R := H11 c B) (own c B.a10) (focus_r (R := H12 c B) (own c B.a11) (focus_r (R := H13 c B) (own c B.a12) (focus_r (R := H14 c B) (own c B.a13) (focus_r (R := H15 c B) (own c B.a14) (focus_r (R := H16 c B) (own c B.a15) (focus_r (R := H17 c B) (own c B.a16) (focus_r (R := H18 c B) (own c B.a17) (focus_r (R := H19 c B) (own c B.a18) (focus_r (R := H20 c B) (own c B.a19) (show Focus (H20 (F := F) c B) (own c B.a20) (fun s => s) (fun _ v => v) from focus_last (own c B.a20)))))))))))))))))))) (tup st)

/-! ## The judgement -/

/-- From the state `st` the program `p` runs to `Q`. -/
def T {α : Type} (c : Dev nD) (B : Bufs) (st : St F) (p : Prog (TpuEff nD τ sig (Elt F) Λ₀ .tc) α) (Q : α → sProp 𝕄) : Prop :=
  held c B st ⊢ wp frame (wpE (defs₀ (F := F)) Variants.none c none) Set.univ p Q

variable {c : Dev nD} {B : Bufs} {st : St F}

theorem T_bind {α β : Type} {p : Prog (TpuEff nD τ sig (Elt F) Λ₀ .tc) α} {k : α → Prog (TpuEff nD τ sig (Elt F) Λ₀ .tc) β} {Q : β → sProp 𝕄}
    (h : T c B st p (fun a => wp frame (wpE (defs₀ (F := F)) Variants.none c none) Set.univ (k a) Q)) : T c B st (p >>= k) Q := by
  unfold T at h ⊢
  rw [wp_bind]; exact h

theorem T_ret {α : Type} {a : α} {Q : α → sProp 𝕄} (h : held c B st ⊢ Q a) : T c B st (.ret a) Q := by
  unfold T; rw [wp_ret]; exact h.trans fupd_intro

/-- A load of a unit-stride rectangle. -/
theorem T_ld {cs : CoreSpace} {s : Shape} {e : EltTy} {m : Memref sig .tc cs s e} {get : St F → Vec F s e} {set : St F → Vec F s e → St F}
    (f : Focus (held c B) (own c m) get set) (hs : set st (get st) = st) {α : Type} {off off' size : Fin s.rank → ℕ} {inb : ∀ a, off a + size a ≤ s.size a} (h : off = off') (inb' : ∀ a, off' a + size a ≤ s.size a)
    {hl : m.view.LoadsAt (Rect.unit off size inb).toLoadRect} {k : ((Rect.unit off size inb).shape.Idx → Elt F e) → Prog (TpuEff nD τ sig (Elt F) Λ₀ .tc) α} {Q : α → sProp 𝕄}
    (hk : T c B st (k (VecWindow.window (get st) off' size inb')) Q) : T c B st (.op (.load m (Rect.unit off size inb).toLoadRect hl) k) Q := by
  unfold T at hk ⊢
  refine (f st).trans ?_
  iintro ⟨H, R⟩
  unfold own
  ihave H := (rep_of_owns (c : Thread nD τ) m fullShare (get st)) $$ H
  iapply (wp_load (defs := defs₀ (F := F)) Variants.none (c : Thread nD τ) none Set.univ (m := m) (S := m.view.set) (View.setOn_subset_set _ _)) $$ H
  iintro H
  rw [View.readAt_rep_unit m.view (get st) inb h inb']
  ihave H := (owns_of_rep (c : Thread nD τ) m fullShare (get st)) $$ H
  ihave H := R $$ %(get st) H
  rw [hs]
  iapply hk; iexact H

/-- A store to a unit-stride rectangle. -/
theorem T_st {cs : CoreSpace} {s : Shape} {e : EltTy} {m : Memref sig .tc cs s e} {get : St F → Vec F s e} {set : St F → Vec F s e → St F}
    (f : Focus (held c B) (own c m) get set) {α : Type} {off off' size : Fin s.rank → ℕ} {inb : ∀ a, off a + size a ≤ s.size a} (h : off = off')
    {w : (Rect.unit off size inb).shape.Idx → Elt F e} {hx : (m.access (Rect.unit off size inb)).Stores Finset.univ} {hm} {k : PUnit → Prog (TpuEff nD τ sig (Elt F) Λ₀ .tc) α} {Q : α → sProp 𝕄}
    (hk : T c B (set st (VecWindow.put (get st) off' size w)) (k ⟨⟩) Q) : T c B st (.op (.store m (Rect.unit off size inb) w Finset.univ hx hm) k) Q := by
  unfold T at hk ⊢
  have hw : ((m.access (Rect.unit off size inb)).loc (c : Thread nD τ) ↦[m.view.set]{fullShare} ((m.access (Rect.unit off size inb)).write (Elt F) (m.view.rep (get st)) w Finset.univ) : sProp 𝕄)
      ⊢ own c m (VecWindow.put (get st) off' size w) :=
    (pointsTo_rep_of_read (c : Thread nD τ) m _ fullShare _ (View.read_writes_rep_unit m.view (get st) inb w h)).trans (owns_of_rep (c : Thread nD τ) m fullShare _)
  refine (f st).trans ?_
  iintro ⟨H, R⟩
  ihave H := (show own c m (get st) ⊢ _ from rep_of_owns (c : Thread nD τ) m fullShare (get st)) $$ H
  iapply (wp_store (defs := defs₀ (F := F)) Variants.none (c : Thread nD τ) none Set.univ (m := m) (r := Rect.unit off size inb) (S := m.view.set) (View.set_slice_subset _ _)) $$ H
  iintro H
  ihave H := hw $$ H
  ihave H := R $$ %_ H
  iapply hk; iexact H

end Cert.KernelIdeal.Own
-- ==== Proof.KernelIdealStep.lean ====
/- What one pair of heads leaves in the buffers: the values of the pair as functions of the buffers, and the pair's program
   moved over them. -/
module

public import proofs.«01_k».proof.Proof.KernelIdealRun

@[expose] public section

set_option maxRecDepth 16384

noncomputable section

namespace Cert.KernelIdeal.Own

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F] [Named F]

variable [Cert.KernelIdeal.Facts]

local notation "𝕄" => MT nD τ sig Unit (Elt F) ℕ (UR sig nD τ) ℕ

/-! ## Windows -/

theorem inbR (h : Nat) (hh : h < 160) : ∀ a, (![h, 0, 0] : Fin 3 → Nat) a + S1x64x128.size a ≤ S160x64x128.size a := fun a =>
  match a with
  | 0 => by show h + 1 ≤ 160; omega
  | 1 => Nat.le_refl 64
  | 2 => Nat.le_refl 128
theorem inbE (b n h : Nat) (hb : b < 4) (hn : n < 5) (hh : h < 32) : ∀ a, (![b, n, h] : Fin 3 → Nat) a + S1x1x1.size a ≤ S4x5x32.size a := fun a =>
  match a with
  | 0 => by show b + 1 ≤ 4; omega
  | 1 => by show n + 1 ≤ 5; omega
  | 2 => by show h + 1 ≤ 32; omega

/-- A head's block of a scratch buffer. -/
def rowB {e : EltTy} (x : Vec F S160x64x128 e) (h : Nat) (hh : h < 160) : Vec F S1x64x128 e := VecWindow.window x ![h, 0, 0] S1x64x128.size (inbR h hh)
/-- A pair's columns. -/
def colQ {e : EltTy} (x : Vec F S1x256x4096 e) (p : Nat) (hp : p < 16) : Vec F S1x256x256 e := VecWindow.window x ![0, 0, 256 * p] S1x256x256.size (inbQ p hp)
/-- A head's columns. -/
def colH {e : EltTy} (x : Vec F S1x256x4096 e) (h : Nat) (hh : h < 32) : Vec F S1x256x128 e := VecWindow.window x ![0, 0, 128 * h] S1x256x128.size (inbH h hh)
/-- A head's row. -/
def rowL (x : Vec F S32x256 .f32) (h : Nat) (hh : h < 32) : Vec F S1x256 .f32 := VecWindow.window x ![h, 0] S1x256.size (inbL h hh)
/-- A scale. -/
def scl (x : Vec F S4x5x32 .f32) (b n h : Nat) (hb : b < 4) (hn : n < 5) (hh : h < 32) : Elt F .f32 :=
  (VecWindow.window x ![b, n, h] S1x1x1.size (inbE b n h hb hn hh)) (Shape.Idx.first (numel1_S1x1x1.symm ▸ Nat.one_pos))

/-! ## The values of a pair -/

section Pair

variable (i : grid0.Coords) (single : Bool) (st : St F) (n : BitVec 32) (hn : n.toNat < 5) (dos : Vec F S1x256 .f32) (p : Nat) (hp : p < 16)

def kD : FVec F S128x256 .bf16 := kDiag (rowB st.x16 (n.toNat * 32 + 2 * p) (by omega)) (rowB st.x16 (n.toNat * 32 + (2 * p + 1)) (by omega))
def vD : FVec F S128x256 .fp8e4m3 := vDiag (rowB st.x17 (n.toNat * 32 + 2 * p) (by omega)) (rowB st.x17 (n.toNat * 32 + (2 * p + 1)) (by omega))
def qM : FVec F S256x256 .bf16 := mat (colQ st.x5 p hp)
def gM : FVec F S256x256 .fp8e5m2 := mat (colQ st.x8 p hp)
def ksV (h : Nat) (hh : h < 32) : Elt F .f32 := scl st.x3 (i 0).val n.toNat h (i 0).isLt hn hh
def vsV (h : Nat) (hh : h < 32) : Elt F .f32 := scl st.x4 (i 0).val n.toNat h (i 0).isLt hn hh
def eV0 : FVec F S64x256 .f32 := eHead (rows0 (sPair (kD st n hn p hp) (qM st p hp))) (ksV i st n hn (2 * p) (by omega)) (rowL st.x20 (2 * p) (by omega)) dos
def eV1 : FVec F S64x256 .f32 := eHead (rows1 (sPair (kD st n hn p hp) (qM st p hp))) (ksV i st n hn (2 * p + 1) (by omega)) (rowL st.x20 (2 * p + 1) (by omega)) dos
def dsV0 : FVec F S64x256 .f32 := dsHead (eV0 i st n hn dos p hp) (rows0 (dpPair (vD st n hn p hp) (gM st p hp))) (vsV i st n hn (2 * p) (by omega)) (dRow (colH st.x8 (2 * p) (by omega)) (colH st.x10 (2 * p) (by omega)))
def dsV1 : FVec F S64x256 .f32 := dsHead (eV1 i st n hn dos p hp) (rows1 (dpPair (vD st n hn p hp) (gM st p hp))) (vsV i st n hn (2 * p + 1) (by omega)) (dRow (colH st.x8 (2 * p + 1) (by omega)) (colH st.x10 (2 * p + 1) (by omega)))
/-- The pair's weights. -/
def eV : FVec F S128x256 .bf16 := stack (eV0 i st n hn dos p hp) (eV1 i st n hn dos p hp)
/-- The pair's score gradients. -/
def dsV : FVec F S128x256 .bf16 := stack (dsV0 i st n hn dos p hp) (dsV1 i st n hn dos p hp)
/-- The pair's query gradient. -/
def dqV : FVec F S256x256 .bf16 := dqPair (dsV i st n hn dos p hp) (kD st n hn p hp) (ksV i st n hn (2 * p) (by omega)) (ksV i st n hn (2 * p + 1) (by omega))
/-- The pair's query gradient as stored. -/
def dqN : Vec F S1x256x256 .bf16 :=
  match single with
  | true => dqOut (dqV i st n hn dos p hp)
  | false => dqOut (addf (dqV i st n hn dos p hp) (mat (colQ st.x13 p hp)))
def dkV : FVec F S128x256 .f32 := dkPair (dsV i st n hn dos p hp) (qM st p hp)
def dvV : FVec F S128x256 .f32 := dvPair (eV i st n hn dos p hp) (gM st p hp)

/-- An accumulator after a pair. -/
def acc2 (x : Vec F S160x64x128 .f32) (r0 r1 : Nat) (h0 : r0 < 160) (h1 : r1 < 160) (a b : FVec F S64x128 .f32) : Vec F S160x64x128 .f32 :=
  VecWindow.put (VecWindow.put x ![r0, 0, 0] S1x64x128.size (accAdd (rowB x r0 h0) a)) ![r1, 0, 0] S1x64x128.size
    (accAdd (rowB (VecWindow.put x ![r0, 0, 0] S1x64x128.size (accAdd (rowB x r0 h0) a)) r1 h1) b)

/-- The buffers after a pair. -/
def pairEff : St F :=
  { st with
    x13 := VecWindow.put st.x13 ![0, 0, 256 * p] S1x256x256.size (dqN i single st n hn dos p hp)
    x18 := acc2 st.x18 (n.toNat * 32 + (2 * p + 0)) (n.toNat * 32 + (2 * p + 1)) (by omega) (by omega) (quad0 (dkV i st n hn dos p hp)) (quad1 (dkV i st n hn dos p hp))
    x19 := acc2 st.x19 (n.toNat * 32 + (2 * p + 0)) (n.toNat * 32 + (2 * p + 1)) (by omega) (by omega) (quad0 (dvV i st n hn dos p hp)) (quad1 (dvV i st n hn dos p hp)) }

/-! ## The pair's program -/

variable {i single st n hn dos p hp} {c : Dev nD} {B : Bufs} {Q : PUnit → sProp (MT nD τ sig Unit (Elt F) ℕ (UR sig nD τ) ℕ)}

theorem T_ldA16 {k : Vec F S1x64x128 .bf16 → PR F} (h : T c B st (k (rowB st.x16 (n.toNat * 32 + 2 * p) (by omega))) Q) : T c B st (ldA B.a16 n hn p hp k) Q :=
  T_ld (f16 c B) rfl (offA_eq n hn p hp) (inbR _ (by omega)) h
theorem T_ldA17 {k : Vec F S1x64x128 .fp8e4m3 → PR F} (h : T c B st (k (rowB st.x17 (n.toNat * 32 + 2 * p) (by omega))) Q) : T c B st (ldA B.a17 n hn p hp k) Q :=
  T_ld (f17 c B) rfl (offA_eq n hn p hp) (inbR _ (by omega)) h
theorem T_ldH {e : EltTy} {m : Memref sig .tc .vmem S160x64x128 e} {get : St F → Vec F S160x64x128 e} {set : St F → Vec F S160x64x128 e → St F}
    (f : Focus (held c B) (own c m) get set) (hs : set st (get st) = st) {j : Nat} {hj : j < 2} {k : Vec F S1x64x128 e → PR F}
    (h : T c B st (k (rowB (get st) (n.toNat * 32 + (2 * p + j)) (by omega))) Q) : T c B st (ldH m n hn p hp j hj k) Q :=
  T_ld f hs (offB_eq n hn p hp j hj) (inbR _ (by omega)) h
theorem T_ldQ {e : EltTy} {m : Memref sig .tc .vmem S1x256x4096 e} {get : St F → Vec F S1x256x4096 e} {set : St F → Vec F S1x256x4096 e → St F}
    (f : Focus (held c B) (own c m) get set) (hs : set st (get st) = st) {k : Vec F S1x256x256 e → PR F}
    (h : T c B st (k (colQ (get st) p hp)) Q) : T c B st (ldQ m p hp k) Q :=
  T_ld f hs rfl (inbQ p hp) h

/-- One head, moved over the buffers. -/
theorem T_head {h : Nat} {hh : h < 32} {s dp : FVec F S64x256 .f32} {k : F .f32 → FVec F S64x256 .f32 → FVec F S64x256 .f32 → PR F}
    (hk : T c B st (k (ksV i st n hn h hh) (eHead s (ksV i st n hn h hh) (rowL st.x20 h hh) dos)
      (dsHead (eHead s (ksV i st n hn h hh) (rowL st.x20 h hh) dos) dp (vsV i st n hn h hh) (dRow (colH st.x8 h hh) (colH st.x10 h hh)))) Q) :
    T c B st (headC B i n hn h hh dos s dp k) Q := by
  unfold headC ldS ldC ldL smemLoadElt
  refine T_ld (f3 c B) rfl (offS_eq i n h) (inbE _ _ _ (i 0).isLt hn hh) ?_
  refine T_ld (f4 c B) rfl (offS_eq i n h) (inbE _ _ _ (i 0).isLt hn hh) ?_
  refine T_ld (f8 c B) rfl rfl (inbH h hh) ?_
  refine T_ld (f10 c B) rfl rfl (inbH h hh) ?_
  refine T_ld (f20 c B) rfl rfl (inbL h hh) ?_
  exact hk

/-- The query gradient's store. -/
theorem T_dq {x : FVec F S256x256 .bf16} {k : PR F} {y : Vec F S1x256x256 .bf16}
    (hy : y = match single with | true => dqOut x | false => dqOut (addf x (mat (colQ st.x13 p hp))))
    (hk : T c B { st with x13 := VecWindow.put st.x13 ![0, 0, 256 * p] S1x256x256.size y } k Q) : T c B st (dqC B single p hp x k) Q := by
  subst hy
  cases single
  · refine T_ldQ (hp := hp) (f13 c B) rfl (T_ldQ (hp := hp) (f13 c B) rfl ?_)
    exact T_st (f13 c B) rfl hk
  · refine T_ldQ (hp := hp) (f13 c B) rfl ?_
    exact T_st (f13 c B) rfl hk

/-- An accumulator's step. -/
theorem T_acc {m : Memref sig .tc .vmem S160x64x128 .f32} {get : St F → Vec F S160x64x128 .f32} {set : St F → Vec F S160x64x128 .f32 → St F}
    (f : Focus (held c B) (own c m) get set) (hs : set st (get st) = st) {j : Nat} {hj : j < 2} {x : FVec F S64x128 .f32} {k : PR F}
    (h : T c B (set st (VecWindow.put (get st) ![n.toNat * 32 + (2 * p + j), 0, 0] S1x64x128.size (accAdd (rowB (get st) (n.toNat * 32 + (2 * p + j)) (by omega)) x))) k Q) :
    T c B st (accC m n hn p hp j hj x k) Q :=
  T_ldH f hs (T_ldH f hs (T_st f (offB_eq n hn p hp j hj) h))

/-- One pair of heads, moved over the buffers. -/
theorem T_pair {k : PR F} (h : T c B (pairEff i single st n hn dos p hp) k Q) : T c B st (pairC B i single n hn dos p hp k) Q := by
  unfold pairC
  refine T_ldA16 (T_ldH (f16 c B) rfl (T_ldA17 (T_ldH (f17 c B) rfl (T_ldQ (f5 c B) rfl (T_ldQ (f8 c B) rfl ?_)))))
  refine T_head (T_head (T_dq (y := dqN i single st n hn dos p hp) ?_ ?_))
  · cases single <;> rfl
  refine T_acc (f18 c B) rfl (T_acc (f19 c B) rfl (T_acc (f18 c B) rfl (T_acc (f19 c B) rfl ?_)))
  exact h

end Pair

section Image

/-- The buffers after the pairs of heads from `16 - j` on. -/
def pairsEff (i : grid0.Coords) (single : Bool) (n : BitVec 32) (hn : n.toNat < 5) (dos : Vec F S1x256 .f32) : (j : Nat) → j ≤ 16 → St F → St F
  | 0, _, st => st
  | j + 1, h, st => pairsEff i single n hn dos j (by omega) (pairEff i single st n hn dos (15 - j) (by omega))

variable {i : grid0.Coords} {single : Bool} {n : BitVec 32} {hn : n.toNat < 5} {dos : Vec F S1x256 .f32} {c : Dev nD} {B : Bufs} {Q : PUnit → sProp (MT nD τ sig Unit (Elt F) ℕ (UR sig nD τ) ℕ)} {st : St F}

theorem T_pairs {k : PR F} : ∀ (j : Nat) (hj : j ≤ 16) (st : St F), T c B (pairsEff i single n hn dos j hj st) k Q → T c B st (pairsC B i single n hn dos k j hj) Q
  | 0, _, _, h => h
  | j + 1, hj, st, h => T_pair (T_pairs j (by omega) _ h)

/-- The buffers after an image. -/
def imgEff (i : grid0.Coords) (single : Bool) (n : BitVec 32) (hn : n.toNat < 5) (dos : Vec F S1x256 .f32) (idx : Vec F S1x256 .i32) (st : St F) : St F :=
  pairsEff i single n hn dos 16 (Nat.le_refl _) { st with x20 := lseRows n idx st.x11 }

theorem put_full {α : Type} {s : Shape} (x w : s.Idx → α) (off : Fin s.rank → ℕ) (h : ∀ a, off a = 0) : VecWindow.put x off s.size w = w := by
  funext y
  unfold VecWindow.put
  rw [dif_pos (fun a => by have := (y a).isLt; have := h a; omega)]
  exact congrArg w (funext fun a => Fin.ext (by show (y a).val - off a = (y a).val; rw [h a]; rfl))
theorem window_full {α : Type} {s : Shape} (x : s.Idx → α) (off : Fin s.rank → ℕ) (h : ∀ a, off a = 0) (inb) : VecWindow.window x off s.size inb = x := by
  funext y
  exact congrArg x (funext fun a => Fin.ext (by show off a + 1 * (y a).val = (y a).val; rw [h a]; omega))

theorem z3 : ∀ a, (![0, 0, 0] : Fin 3 → Nat) a = 0 := fun a => match a with | 0 => rfl | 1 => rfl | 2 => rfl
theorem z2 : ∀ a, (![0, 0] : Fin 2 → Nat) a = 0 := fun a => match a with | 0 => rfl | 1 => rfl

/-- The whole image, moved over the buffers. -/
theorem T_img {idx : Vec F S1x256 .i32} {k : PR F} (h : T c B (imgEff i single n hn dos idx st) k Q) : T c B st (imgC B i single n hn dos idx k) Q := by
  unfold imgC lseC
  refine T_ld (f11 c B) rfl rfl inb_S1x32x256_S1x32x256_0_0_0 (T_ld (f20 c B) rfl rfl inb_S32x256_S32x256_0_0 (T_st (f20 c B) rfl ?_))
  exact Eq.mpr (congrArg (fun w => T c B { st with x20 := w } (pairsC B i single n hn dos k 16 (Nat.le_refl _)) Q)
    ((put_full _ _ _ z2).trans (congrArg (lseRows n idx) (window_full st.x11 _ z3 _)))) (T_pairs 16 (Nat.le_refl _) _ h)

end Image

end Cert.KernelIdeal.Own
-- ==== Proof.KernelIdealBody.lean ====
/- The body of the kernel at one point of the grid, as a change of the buffers. -/
module

public import proofs.«01_k».proof.Proof.KernelIdealStep
public import Idealize.ShloMosaic.Lib.LoopRemainder

@[expose] public section

set_option maxRecDepth 16384

noncomputable section

namespace Cert.KernelIdeal.Own

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F] [Named F]

variable [Cert.KernelIdeal.Facts]

local notation "𝕄" => MT nD τ sig Unit (Elt F) ℕ (UR sig nD τ) ℕ

section Rules

variable {c : Dev nD} {B : Bufs} {st : St F}

/-- A region, then the rest from the state the region leaves. -/
theorem T_seq {p : Prog (TpuEff nD τ sig (Elt F) Λ₀ .tc) PUnit} {α : Type} {k : PUnit → Prog (TpuEff nD τ sig (Elt F) Λ₀ .tc) α} {Q : α → sProp 𝕄}
    (s' : St F) (h1 : T c B st p (fun _ => held c B s')) (h2 : T c B s' (k ⟨⟩) Q) : T c B st (p >>= k) Q :=
  T_bind (BIBase.Entails.trans h1 ((wp frame (wpE (defs₀ (F := F)) Variants.none c none) Set.univ p).mono fun _ => h2))

theorem T_dite {P : Prop} [Decidable P] {α : Type} {t : P → Prog (TpuEff nD τ sig (Elt F) Λ₀ .tc) α} {e : ¬P → Prog (TpuEff nD τ sig (Elt F) Λ₀ .tc) α}
    {Q : α → sProp 𝕄} (ht : ∀ h, T c B st (t h) Q) (he : ∀ h, T c B st (e h) Q) : T c B st (dite P t e) Q := by
  by_cases h : P
  · rw [dif_pos h]; exact ht h
  · rw [dif_neg h]; exact he h

/-- A conditional region, then the rest: the rest is run once, from the state both ways leave. -/
theorem T_fork {P : Prop} [Decidable P] {α : Type} {t : P → Prog (TpuEff nD τ sig (Elt F) Λ₀ .tc) α} {j : Prog (TpuEff nD τ sig (Elt F) Λ₀ .tc) α}
    {Q : α → sProp 𝕄} (s' : St F) (ht : ∀ h, T c B s' j Q → T c B st (t h) Q) (he : ¬P → s' = st) (hj : T c B s' j Q) :
    T c B st (dite P t (fun _ => j)) Q :=
  T_dite (fun h => ht h hj) (fun h => he h ▸ hj)

theorem T_of {α : Type} {p : Prog (TpuEff nD τ sig (Elt F) Λ₀ .tc) α} {Q : α → sProp 𝕄} {s' : St F} (e : st = s') (h : T c B s' p Q) : T c B st p Q := e ▸ h

theorem T_assume {P : Prop} {d : Decidable P} {α : Type} {k : PLift P → Prog (TpuEff nD τ sig (Elt F) Λ₀ .tc) α} {Q : α → sProp 𝕄}
    (h : P) (hk : T c B st (k ⟨h⟩) Q) : T c B st (.op (.assume P d) k) Q :=
  BIBase.Entails.trans hk (wp_assume _ _ _ _ h)

/-- A loop, from the states before each of its trips. -/
theorem T_for {lb ub s : BitVec 32} {hok : Scf.OK lb ub s} {body : Fin (Scf.trips lb ub s) → PUnit → Prog (TpuEff nD τ sig (Elt F) Λ₀ .tc) PUnit}
    {Q : PUnit → sProp (MT nD τ sig Unit (Elt F) ℕ (UR sig nD τ) ℕ)} (I : Nat → St F) (h0 : I 0 = st)
    (hbody : ∀ k : Fin (Scf.trips lb ub s), T c B (I k.val) (body k ⟨⟩) (fun _ => held c B (I (k.val + 1))))
    (hQ : held c B (I (Scf.trips lb ub s)) ⊢ Q ⟨⟩) : T c B st (Scf.for lb ub s hok ⟨⟩ body) Q := by
  unfold T
  rw [← h0]
  istart
  iintro H
  iapply Scf.wp_for frame _ _ lb ub s hok ⟨⟩ body (fun k _ => held c B (I k)) (fun k _ => hbody k)
  isplitl [H]
  · iexact H
  · iintro %a H
    iapply hQ
    iexact H

end Rules

/-! ## The words -/

/-- The first image a tile of tokens attends to, clamped at 0. -/
def loW (lo : BitVec 32) : BitVec 32 := Scalar.maxsi lo 0#32

/-- A word between -1 and 4. -/
def Rng (x : BitVec 32) : Prop := -1 ≤ x.toInt ∧ x.toInt ≤ 4

theorem Rng.cases {x : BitVec 32} (h : Rng x) : x = 4294967295#32 ∨ x = 0#32 ∨ x = 1#32 ∨ x = 2#32 ∨ x = 3#32 ∨ x = 4#32 := by
  have h1 := h.1
  have h2 := h.2
  rw [BitVec.toInt_eq_toNat_cond] at h1 h2
  have hx := x.isLt
  simp only [← BitVec.toNat_inj, BitVec.toNat_ofNat]
  split at h1 <;> omega

theorem hi_lt {lo hi : BitVec 32} (hl : Rng lo) (hh : Rng hi) (h : k0_cond2 lo hi = 1#1) : hi.toNat < 5 := by
  rcases hl.cases with rfl | rfl | rfl | rfl | rfl | rfl <;> rcases hh.cases with rfl | rfl | rfl | rfl | rfl | rfl <;> revert h <;> decide

theorem t3_ok {lo hi : BitVec 32} (hl : Rng lo) (hh : Rng hi) : (k0_t3_loop lo hi).OK := by
  rcases hl.cases with rfl | rfl | rfl | rfl | rfl | rfl <;> rcases hh.cases with rfl | rfl | rfl | rfl | rfl | rfl <;> decide

theorem t3_lt {lo hi : BitVec 32} (hl : Rng lo) (hh : Rng hi) (k : Fin (k0_t3_loop lo hi).trips) : (Scf.iv (loW lo) 1#32 k.val).toNat < 5 := by
  rcases hl.cases with rfl | rfl | rfl | rfl | rfl | rfl <;> rcases hh.cases with rfl | rfl | rfl | rfl | rfl | rfl <;> revert k <;> decide

theorem t4_none {lo hi : BitVec 32} (k : Fin (k0_t4_loop lo hi).trips) : False := Scf.rem_no_trip _ _ k

theorem chk {i : grid0.Coords} {lo hi : BitVec 32} (hl : Rng lo) (hh : Rng hi) : k0_chk1 i lo hi := by
  have e := fun h => hi_lt hl hh h
  have e3 := t3_lt hl hh
  have S := fun (h : Fin 32) (c : k0_cond2 lo hi = 1#1) => inbS i hi (e c) h.val h.isLt
  have A := fun (c : k0_cond2 lo hi = 1#1) (r : Fin 16) => inbA hi (e c) r.val r.isLt
  have B := fun (c : k0_cond2 lo hi = 1#1) (r : Fin 16) (s : Fin 2) => inbB hi (e c) r.val r.isLt s.val s.isLt
  have S' := fun (h : Fin 32) (k : Fin (k0_t3_loop lo hi).trips) (_ : k0_cond3 lo hi = 1#1) => inbS i (Scf.iv (loW lo) 1#32 k.val) (e3 k) h.val h.isLt
  have A' := fun (k : Fin (k0_t3_loop lo hi).trips) (_ : k0_cond3 lo hi = 1#1) (r : Fin 16) => inbA (Scf.iv (loW lo) 1#32 k.val) (e3 k) r.val r.isLt
  have B' := fun (k : Fin (k0_t3_loop lo hi).trips) (_ : k0_cond3 lo hi = 1#1) (r : Fin 16) (s : Fin 2) => inbB (Scf.iv (loW lo) 1#32 k.val) (e3 k) r.val r.isLt s.val s.isLt
  exact ⟨⟨A, B, S 0, S 1, S 2, S 3, S 4, S 5, S 6, S 7, S 8, S 9, S 10, S 11, S 12, S 13, S 14, S 15, S 16, S 17, S 18, S 19, S 20, S 21, S 22, S 23, S 24, S 25, S 26, S 27, S 28, S 29⟩,
    ⟨S 30, S 31, fun _ => t3_ok hl hh, A', B', S' 0, S' 1, S' 2, S' 3, S' 4, S' 5, S' 6, S' 7, S' 8, S' 9, S' 10, S' 11, S' 12, S' 13, S' 14, S' 15, S' 16, S' 17, S' 18, S' 19, S' 20, S' 21, S' 22, S' 23, S' 24, S' 25, S' 26⟩,
    ⟨S' 27, S' 28, S' 29, S' 30, S' 31, fun _ => Scf.rem_ok _ _, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim, fun k => (t4_none k).elim⟩,
    ⟨fun k => (t4_none k).elim, fun k => (t4_none k).elim, fun k => (t4_none k).elim, fun k => (t4_none k).elim, fun k => (t4_none k).elim, fun k => (t4_none k).elim, fun k => (t4_none k).elim, fun k => (t4_none k).elim⟩⟩

/-! ## The state a point of the grid leaves -/

theorem inbI (k : Nat) (hk : k < 5) : ∀ a, (![0, k, 0, 0, 0] : Fin 5 → Nat) a + S1x1x64x32x128.size a ≤ S1x5x64x32x128.size a := fun a =>
  match a with
  | 0 => Nat.le_refl 1
  | 1 => by show k + 1 ≤ 5; omega
  | 2 => Nat.le_refl 64
  | 3 => Nat.le_refl 32
  | 4 => Nat.le_refl 128
theorem inbK (k : Nat) (hk : k < 5) : ∀ a, (![k * 32, 0, 0] : Fin 3 → Nat) a + S32x64x128.size a ≤ S160x64x128.size a := fun a =>
  match a with
  | 0 => by show k * 32 + 32 ≤ 160; omega
  | 1 => Nat.le_refl 64
  | 2 => Nat.le_refl 128
theorem inbT (b t : Nat) (hb : b < 4) (ht : t < 14) (d : Nat) (hd : d < 256) : ∀ a, (![b, t * 256 + d] : Fin 2 → Nat) a + S1x1.size a ≤ S4x3584.size a := fun a =>
  match a with
  | 0 => by show b + 1 ≤ 4; omega
  | 1 => by show t * 256 + d + 1 ≤ 3584; omega
theorem inbV (b : Nat) (hb : b < 4) : ∀ a, (![b, 0] : Fin 2 → Nat) a + S1x256.size a ≤ S4x256.size a := fun a =>
  match a with
  | 0 => by show b + 1 ≤ 4; omega
  | 1 => Nat.le_refl 256

/-- The codes of an image, heads first. -/
def codes {e : EltTy} (x : Vec F S1x5x64x32x128 e) (k : Nat) (hk : k < 5) : Vec F S32x64x128 e :=
  transpose S32x64x128 [1, 0, 2] (shapeCast S64x32x128 (VecWindow.window x ![0, k, 0, 0, 0] S1x1x64x32x128.size (inbI k hk)) shapeCasts_S1x1x64x32x128_S64x32x128) transposes_S64x32x128_p1_0_2_S32x64x128
/-- The unpacked keys after `k` images. -/
def keys (x : Vec F S1x5x64x32x128 .fp8e4m3) (y : Vec F S160x64x128 .bf16) : Nat → Vec F S160x64x128 .bf16
  | 0 => y
  | k + 1 => if hk : k < 5 then VecWindow.put (keys x y k) ![k * 32, 0, 0] S32x64x128.size
      (shapeCast S32x64x128 (extf .bf16 (codes x k hk : FVec F S32x64x128 .fp8e4m3) bitsLt_fp8e4m3_bf16) shapeCasts_S32x64x128_S32x64x128) else keys x y k
/-- The unpacked values after `k` images. -/
def vals (x : Vec F S1x5x64x32x128 .fp8e4m3) (y : Vec F S160x64x128 .fp8e4m3) : Nat → Vec F S160x64x128 .fp8e4m3
  | 0 => y
  | k + 1 => if hk : k < 5 then VecWindow.put (vals x y k) ![k * 32, 0, 0] S32x64x128.size
      (shapeCast S32x64x128 (codes x k hk) shapeCasts_S32x64x128_S32x64x128) else vals x y k
/-- The accumulators' rows of an image, scaled and narrowed, rows of the image first. -/
def outImg (c : F .f32) (x : Vec F S32x64x128 .f32) : Vec F S1x1x64x32x128 .bf16 :=
  shapeCast S1x1x64x32x128 (transpose S64x32x128 [1, 0, 2] (truncf .bf16 (mulf (x : FVec F S32x64x128 .f32)
    (broadcast S32x64x128 c)) bitsLt_bf16_f32) transposes_S32x64x128_p1_0_2_S64x32x128) shapeCasts_S64x32x128_S1x1x64x32x128
/-- A written gradient after `k` images. -/
def outs (c : F .f32) (x : Vec F S160x64x128 .f32) (y : Vec F S1x5x64x32x128 .bf16) : Nat → Vec F S1x5x64x32x128 .bf16
  | 0 => y
  | k + 1 => if hk : k < 5 then VecWindow.put (outs c x y k) ![0, k, 0, 0, 0] S1x1x64x32x128.size (outImg c (VecWindow.window x ![k * 32, 0, 0] S32x64x128.size (inbK k hk))) else outs c x y k

theorem outs_succ (c : F .f32) (x : Vec F S160x64x128 .f32) (y : Vec F S1x5x64x32x128 .bf16) (k : Nat) (hk : k < 5) :
    outs c x y (k + 1) = VecWindow.put (outs c x y k) ![0, k, 0, 0, 0] S1x1x64x32x128.size (outImg c (VecWindow.window x ![k * 32, 0, 0] S32x64x128.size (inbK k hk))) := dif_pos hk

def zAcc : Vec F S160x64x128 .f32 := shapeCast S160x64x128 (broadcast S160x64x128 (Scalar.ofBits .f32 0x00000000#32 : F .f32)) shapeCasts_S160x64x128_S160x64x128
def zDq : Vec F S1x256x4096 .bf16 := shapeCast S1x256x4096 (broadcast S256x4096 (Scalar.ofBits .bf16 0x0000#16 : F .bf16)) shapeCasts_S256x4096_S1x256x4096
def one1 : S1x1.Idx := Shape.Idx.first (numel1_S1x1.symm ▸ Nat.one_pos)
def loV (i : grid0.Coords) (x : Vec F S4x3584 .i32) : BitVec 32 := VecWindow.window x ![(i 0).val, (i 1).val * 256 + 0] S1x1.size (inbT _ _ (i 0).isLt (i 1).isLt 0 (by decide)) one1
def hiV (i : grid0.Coords) (x : Vec F S4x3584 .i32) : BitVec 32 := VecWindow.window x ![(i 0).val, (i 1).val * 256 + 255] S1x1.size (inbT _ _ (i 0).isLt (i 1).isLt 255 (by decide)) one1
def rowV {e : EltTy} (i : grid0.Coords) (x : Vec F S4x256 e) : Vec F S1x256 e := VecWindow.window x ![(i 0).val, 0] S1x256.size (inbV _ (i 0).isLt)

/-- The scratch buffers at the first tile of a batch row. -/
def startEff (i : grid0.Coords) (st : St F) : St F :=
  if k0_cond1 i = 1#1 then { st with x16 := keys st.x6 st.x16 5, x17 := vals st.x7 st.x17 5, x18 := zAcc, x19 := zAcc } else st
/-- The tile whose tokens attend to one image. -/
def oneEff (i : grid0.Coords) (lo hi : BitVec 32) (dos : Vec F S1x256 .f32) (idx : Vec F S1x256 .i32) (st : St F) : St F :=
  if h : k0_cond2 lo hi = 1#1 ∧ hi.toNat < 5 then imgEff i true hi h.2 dos idx st else st
/-- The first `k` images of a tile whose tokens attend to several. -/
def manyK (i : grid0.Coords) (lo : BitVec 32) (dos : Vec F S1x256 .f32) (idx : Vec F S1x256 .i32) (st : St F) : Nat → St F
  | 0 => st
  | k + 1 => if h : (Scf.iv (loW lo) 1#32 k).toNat < 5 then imgEff i false (Scf.iv (loW lo) 1#32 k) h dos idx (manyK i lo dos idx st k) else manyK i lo dos idx st k
def manyEff (i : grid0.Coords) (lo hi : BitVec 32) (dos : Vec F S1x256 .f32) (idx : Vec F S1x256 .i32) (st : St F) : St F :=
  if k0_cond3 lo hi = 1#1 then manyK i lo dos idx { st with x13 := zDq } (k0_t3_loop lo hi).trips else st
/-- The gradients of the images at the last tile of a batch row. -/
def endEff (i : grid0.Coords) (st : St F) : St F :=
  if k0_cond4 i = 1#1 then { st with x14 := outs (Scalar.ofBits .f32 0x3DB504F3#32) st.x18 st.x14 5, x15 := outs (Scalar.ofBits .f32 0x3F800000#32) st.x19 st.x15 5 } else st
/-- A tile of tokens. -/
def tileEff (i : grid0.Coords) (st : St F) : St F :=
  manyEff i (loV i st.x2) (hiV i st.x2) (rowV i st.x9) (rowV i st.x12) (oneEff i (loV i st.x2) (hiV i st.x2) (rowV i st.x9) (rowV i st.x12) st)
def bodyEff (i : grid0.Coords) (st : St F) : St F := endEff i (tileEff i (startEff i st))

/-! ## The printed offsets -/

theorem off1_eq : ∀ k : Fin k0_t1_loop.trips, k0_off1 k = ![0, k.val, 0, 0, 0] := by decide
theorem off2_eq : ∀ k : Fin k0_t1_loop.trips, k0_off2 k = ![k.val * 32, 0, 0] := by decide
theorem off3_eq : ∀ k : Fin k0_t2_loop.trips, k0_off3 k = ![0, k.val, 0, 0, 0] := by decide
theorem off4_eq : ∀ k : Fin k0_t2_loop.trips, k0_off4 k = ![k.val * 32, 0, 0] := by decide
theorem off110_eq : ∀ k : Fin k0_t5_loop.trips, k0_off110 k = ![k.val * 32, 0, 0] := by decide
theorem off111_eq : ∀ k : Fin k0_t5_loop.trips, k0_off111 k = ![0, k.val, 0, 0, 0] := by decide
theorem off112_eq : ∀ k : Fin k0_t6_loop.trips, k0_off112 k = ![k.val * 32, 0, 0] := by decide
theorem off113_eq : ∀ k : Fin k0_t6_loop.trips, k0_off113 k = ![0, k.val, 0, 0, 0] := by decide
theorem off5_w : ∀ a : Fin 14, (Scalar.indexCast (Scalar.muli (BitVec.ofNat 32 a.val) 256#32)).toNat = a.val * 256 + 0 := by decide
theorem off6_w : ∀ a : Fin 14, (Scalar.indexCast (Scalar.subi (Scalar.addi (Scalar.muli (BitVec.ofNat 32 a.val) 256#32) 256#32) 1#32)).toNat = a.val * 256 + 255 := by decide
theorem off7_w : ∀ a : Fin 4, (Scalar.indexCast (BitVec.ofNat 32 a.val)).toNat = a.val := by decide
theorem off5_eq (i : grid0.Coords) : k0_off5 i = ![(i 0).val, (i 1).val * 256 + 0] := by
  funext a; match a with
  | 0 => exact off7_w (i 0)
  | 1 => exact off5_w (i 1)
theorem off6_eq (i : grid0.Coords) : k0_off6 i = ![(i 0).val, (i 1).val * 256 + 255] := by
  funext a; match a with
  | 0 => exact off7_w (i 0)
  | 1 => exact off6_w (i 1)
theorem off7_eq (i : grid0.Coords) : k0_off7 i = ![(i 0).val, 0] := by
  funext a; match a with
  | 0 => exact off7_w (i 0)
  | 1 => rfl

/-! ## The body -/

section Body

variable {i : grid0.Coords} {c : Dev nD} {B : Bufs} {st : St F}

/-- The images of a tile whose tokens attend to several, in order; then `k`. The loop of what the division by the step leaves over makes no trip. -/
def manyC (B : Bufs) (i : grid0.Coords) (lo hi : BitVec 32) (hl : Rng lo) (hh : Rng hi) (dos : Vec F S1x256 .f32) (idx : Vec F S1x256 .i32)
    (ok : (k0_t3_loop lo hi).OK) (ok' : (k0_t4_loop lo hi).OK) (rest : Fin (k0_t4_loop lo hi).trips → PUnit → PR F) (k : PR F) : PR F :=
  .op (.load B.a13 (Rect.unit (s := S1x256x4096) ![0, 0, 0] S1x256x4096.size inb_S1x256x4096_S1x256x4096_0_0_0).toLoadRect (View.loadsAt_vmem h_S1x256x4096)) fun _ =>
  .op (.store B.a13 (Rect.unit (s := S1x256x4096) ![0, 0, 0] S1x256x4096.size inb_S1x256x4096_S1x256x4096_0_0_0) zDq Finset.univ (View.stores_vmem h_S1x256x4096 (B.h13.storeExact_slice rfl _ packedbf16_S1x256x4096_S1x256x4096_0_0_0) (fun _ => rfl)) (.inl rfl)) fun _ =>
  Scf.Loop.for (k0_t3_loop lo hi) ok ⟨⟩ (fun t _ => imgC B i false (Scf.iv (loW lo) 1#32 t.val) (t3_lt hl hh t) dos idx (.ret ⟨⟩)) >>= fun _ =>
  Scf.Loop.for (k0_t4_loop lo hi) ok' ⟨⟩ rest >>= fun _ => k

theorem T_many {lo hi : BitVec 32} {hl : Rng lo} {hh : Rng hi} {dos : Vec F S1x256 .f32} {idx : Vec F S1x256 .i32} {ok : (k0_t3_loop lo hi).OK} {ok' : (k0_t4_loop lo hi).OK}
    {rest : Fin (k0_t4_loop lo hi).trips → PUnit → PR F} {k : PR F} {Q : PUnit → sProp (MT nD τ sig Unit (Elt F) ℕ (UR sig nD τ) ℕ)}
    (h : T c B (manyK i lo dos idx { st with x13 := zDq } (k0_t3_loop lo hi).trips) k Q) : T c B st (manyC B i lo hi hl hh dos idx ok ok' rest k) Q := by
  unfold manyC
  refine T_ld (f13 c B) rfl rfl inb_S1x256x4096_S1x256x4096_0_0_0 ?_
  refine T_st (f13 c B) rfl ?_
  refine T_of (s' := { st with x13 := zDq }) (congrArg (fun w => { st with x13 := w }) (put_full _ _ _ z3)) ?_
  refine T_seq (manyK i lo dos idx { st with x13 := zDq } (k0_t3_loop lo hi).trips) ?_ ?_
  · refine T_for (manyK i lo dos idx { st with x13 := zDq }) rfl (fun k => ?_) .rfl
    rw [manyK, dif_pos (t3_lt hl hh k)]
    exact T_img (T_ret .rfl)
  · refine T_seq (manyK i lo dos idx { st with x13 := zDq } (k0_t3_loop lo hi).trips) ?_ h
    refine T_for (hok := ok') (body := rest) (fun _ => manyK i lo dos idx { st with x13 := zDq } (k0_t3_loop lo hi).trips) rfl ?_ .rfl
    intro k
    exact (t4_none (lo := lo) (hi := hi) k).elim

/-- The gradients of the images written out; then `k`. -/
def endC (B : Bufs) (i : grid0.Coords) (h : k0_cond4 i = 1#1) (k : PR F) : PR F :=
  Scf.Loop.for k0_t5_loop (k0_t5_ok i h) ⟨⟩ (fun t _ =>
    .op (.load B.a18 (Rect.unit (s := S160x64x128) (k0_off110 t) S32x64x128.size (k0_off110_inb i t h)).toLoadRect (View.loadsAt_vmem h_S32x64x128)) fun x =>
    .op (.load B.a14 (Rect.unit (s := S1x5x64x32x128) (k0_off111 t) S1x1x64x32x128.size (k0_off111_inb i t h)).toLoadRect (View.loadsAt_vmem h_S1x1x64x32x128)) fun _ =>
    .op (.store B.a14 (Rect.unit (s := S1x5x64x32x128) (k0_off111 t) S1x1x64x32x128.size (k0_off111_inb i t h)) (outImg (Scalar.ofBits .f32 0x3DB504F3#32) x) Finset.univ (View.stores_vmem h_S1x1x64x32x128 (B.h14.storeExact_slice rfl _ (k0_off111_packedbf16 i t h)) (fun _ => rfl)) (.inl rfl)) .ret) >>= fun _ =>
  Scf.Loop.for k0_t6_loop (k0_t6_ok i h) ⟨⟩ (fun t _ =>
    .op (.load B.a19 (Rect.unit (s := S160x64x128) (k0_off112 t) S32x64x128.size (k0_off112_inb i t h)).toLoadRect (View.loadsAt_vmem h_S32x64x128)) fun x =>
    .op (.load B.a15 (Rect.unit (s := S1x5x64x32x128) (k0_off113 t) S1x1x64x32x128.size (k0_off113_inb i t h)).toLoadRect (View.loadsAt_vmem h_S1x1x64x32x128)) fun _ =>
    .op (.store B.a15 (Rect.unit (s := S1x5x64x32x128) (k0_off113 t) S1x1x64x32x128.size (k0_off113_inb i t h)) (outImg (Scalar.ofBits .f32 0x3F800000#32) x) Finset.univ (View.stores_vmem h_S1x1x64x32x128 (B.h15.storeExact_slice rfl _ (k0_off113_packedbf16 i t h)) (fun _ => rfl)) (.inl rfl)) .ret) >>= fun _ => k

theorem T_end {h : k0_cond4 i = 1#1} {k : PR F} {Q : PUnit → sProp (MT nD τ sig Unit (Elt F) ℕ (UR sig nD τ) ℕ)}
    (hk : T c B { st with x14 := outs (Scalar.ofBits .f32 0x3DB504F3#32) st.x18 st.x14 5, x15 := outs (Scalar.ofBits .f32 0x3F800000#32) st.x19 st.x15 5 } k Q) :
    T c B st (endC B i h k) Q := by
  unfold endC
  refine T_seq { st with x14 := outs (Scalar.ofBits .f32 0x3DB504F3#32) st.x18 st.x14 5 } ?_ ?_
  · refine T_for (fun k => { st with x14 := outs (Scalar.ofBits .f32 0x3DB504F3#32) st.x18 st.x14 k }) rfl (fun k => ?_) .rfl
    refine T_ld (f18 c B) rfl (off110_eq k) (inbK k.val k.isLt) ?_
    refine T_ld (f14 c B) rfl (off111_eq k) (inbI k.val k.isLt) ?_
    refine T_st (f14 c B) (off111_eq k) ?_
    refine T_of (congrArg (fun w => { st with x14 := w }) ?_) (T_ret .rfl)
    exact (outs_succ _ _ _ k.val k.isLt).symm
  · refine T_seq { st with x14 := outs (Scalar.ofBits .f32 0x3DB504F3#32) st.x18 st.x14 5, x15 := outs (Scalar.ofBits .f32 0x3F800000#32) st.x19 st.x15 5 } ?_ hk
    refine T_for (fun k => { st with x14 := outs (Scalar.ofBits .f32 0x3DB504F3#32) st.x18 st.x14 5, x15 := outs (Scalar.ofBits .f32 0x3F800000#32) st.x19 st.x15 k }) rfl (fun k => ?_) .rfl
    refine T_ld (f19 c B) rfl (off112_eq k) (inbK k.val k.isLt) ?_
    refine T_ld (f15 c B) rfl (off113_eq k) (inbI k.val k.isLt) ?_
    refine T_st (f15 c B) (off113_eq k) ?_
    refine T_of (congrArg (fun w => { st with x14 := outs (Scalar.ofBits .f32 0x3DB504F3#32) st.x18 st.x14 5, x15 := w }) ?_) (T_ret .rfl)
    exact (outs_succ _ _ _ k.val k.isLt).symm

set_option maxHeartbeats 2000000 in
theorem T_body (hl : Rng (loV i (startEff i st).x2)) (hh : Rng (hiV i (startEff i st).x2)) :
    T c B st (cc0_xattn_bwd i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20)
      (fun _ => held c B (bodyEff i st)) := by
  show T c B st _ (fun _ => held c B (endEff i (tileEff i (startEff i st))))
  unfold cc0_xattn_bwd
  refine T_fork (startEff i st) (fun h1 hj => ?_) (fun h1 => if_neg h1) ?_
  · refine T_seq { st with x16 := keys st.x6 st.x16 5 } ?_ ?_
    · refine T_for (fun k => { st with x16 := keys st.x6 st.x16 k }) rfl (fun k => ?_) .rfl
      refine T_ld (f6 c B) rfl (off1_eq k) (inbI k.val k.isLt) ?_
      refine T_ld (f16 c B) rfl (off2_eq k) (inbK k.val k.isLt) ?_
      refine T_st (f16 c B) (off2_eq k) ?_
      refine T_ret ?_
      rw [keys, dif_pos (show k.val < 5 from k.isLt)]
      exact .rfl
    · refine T_seq { st with x16 := keys st.x6 st.x16 5, x17 := vals st.x7 st.x17 5 } ?_ ?_
      · refine T_for (fun k => { st with x16 := keys st.x6 st.x16 5, x17 := vals st.x7 st.x17 k }) rfl (fun k => ?_) .rfl
        refine T_ld (f7 c B) rfl (off3_eq k) (inbI k.val k.isLt) ?_
        refine T_ld (f17 c B) rfl (off4_eq k) (inbK k.val k.isLt) ?_
        refine T_st (f17 c B) (off4_eq k) ?_
        refine T_ret ?_
        rw [vals, dif_pos (show k.val < 5 from k.isLt)]
        exact .rfl
      · refine T_ld (f18 c B) rfl rfl inb_S160x64x128_S160x64x128_0_0_0 ?_
        refine T_st (f18 c B) rfl ?_
        refine T_ld (f19 c B) rfl rfl inb_S160x64x128_S160x64x128_0_0_0 ?_
        refine T_st (f19 c B) rfl ?_
        exact T_of ((congrArg₂ (fun w v => { st with x16 := keys st.x6 st.x16 5, x17 := vals st.x7 st.x17 5, x18 := w, x19 := v })
          (put_full _ _ _ z3) (put_full _ _ _ z3)).trans (if_pos h1 : startEff i st = _).symm) hj
  refine T_ld (f2 c B) rfl (off5_eq i) (inbT _ _ (i 0).isLt (i 1).isLt 0 (by decide)) ?_
  refine T_ld (f2 c B) rfl (off6_eq i) (inbT _ _ (i 0).isLt (i 1).isLt 255 (by decide)) ?_
  refine T_assume (chk hl hh) ?_
  refine T_ld (f9 c B) rfl (off7_eq i) (inbV _ (i 0).isLt) ?_
  refine T_ld (f12 c B) rfl (off7_eq i) (inbV _ (i 0).isLt) ?_
  generalize startEff i st = s1 at *
  refine T_fork (oneEff i (loV i s1.x2) (hiV i s1.x2) (rowV i s1.x9) (rowV i s1.x12) s1) (fun h2 hj => ?_) (fun h2 => dif_neg fun h => h2 h.1) ?_
  · have e : oneEff i (loV i s1.x2) (hiV i s1.x2) (rowV i s1.x9) (rowV i s1.x12) s1 = imgEff i true (hiV i s1.x2) (hi_lt hl hh h2) (rowV i s1.x9) (rowV i s1.x12) s1 := dif_pos ⟨h2, hi_lt hl hh h2⟩
    have q := T_img (T_of e.symm hj)
    exact q
  refine T_fork (tileEff i s1) (fun h3 hj => ?_) (fun h3 => if_neg h3) ?_
  · have e : tileEff i s1 = manyK i (loV i s1.x2) (rowV i s1.x9) (rowV i s1.x12) { oneEff i (loV i s1.x2) (hiV i s1.x2) (rowV i s1.x9) (rowV i s1.x12) s1 with x13 := zDq } (k0_t3_loop (loV i s1.x2) (hiV i s1.x2)).trips := if_pos h3
    exact T_many (hl := hl) (hh := hh) (T_of e.symm hj)
  refine T_fork (endEff i (tileEff i s1)) (fun h4 hj => ?_) (fun h4 => if_neg h4) ?_
  · exact T_end (i := i) (h := h4) (T_of (if_pos h4 : endEff i (tileEff i s1) = _).symm hj)
  exact T_ret .rfl

end Body

end Cert.KernelIdeal.Own
-- ==== Proof.KernelIdealFrame.lean ====
/- The launch of the kernel: nothing but its results is written. -/
module

public import proofs.«01_k».proof.Proof.KernelIdealBody
public import proofs.«01_k».proof.Proof.Gen.KernelIdeal.Frame

@[expose] public section

set_option maxRecDepth 16384

noncomputable section

namespace Cert.KernelIdeal.Own

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F] [Named F]

variable [Cert.KernelIdeal.Facts]
open Cert.KernelIdeal.Gen

local notation "𝕄" => MT nD τ sig Unit (Elt F) ℕ (UR sig nD τ) ℕ

/-! ## The inputs stay -/

/-- The part of the buffers the body only reads. -/
def St.ins (st : St F) := (st.x2, st.x3, st.x4, st.x5, st.x6, st.x7, st.x8, st.x9, st.x10, st.x11, st.x12)

theorem pairsEff_ins (i : grid0.Coords) (single : Bool) (n : BitVec 32) (hn : n.toNat < 5) (dos : Vec F S1x256 .f32) (idx : Vec F S1x256 .i32) :
    ∀ (j : Nat) (h : j ≤ 16) (st : St F), (pairsEff i single n hn dos j h st).ins = st.ins
  | 0, _, _ => rfl
  | j + 1, h, st => by rw [pairsEff, pairsEff_ins i single n hn dos idx j]; rfl

theorem imgEff_ins (i : grid0.Coords) (single : Bool) (n : BitVec 32) (hn : n.toNat < 5) (dos : Vec F S1x256 .f32) (idx : Vec F S1x256 .i32) (st : St F) :
    (imgEff i single n hn dos idx st).ins = st.ins := by
  rw [imgEff, pairsEff_ins i single n hn dos idx]; rfl

theorem manyK_ins (i : grid0.Coords) (lo : BitVec 32) (dos : Vec F S1x256 .f32) (idx : Vec F S1x256 .i32) (st : St F) :
    ∀ k, (manyK i lo dos idx st k).ins = st.ins
  | 0 => rfl
  | k + 1 => by
    rw [manyK]; split
    · rw [imgEff_ins, manyK_ins i lo dos idx st k]
    · exact manyK_ins i lo dos idx st k

theorem bodyEff_ins (i : grid0.Coords) (st : St F) : (bodyEff i st).ins = st.ins := by
  have hs : (startEff i st).ins = st.ins := by unfold startEff; split <;> rfl
  have ht : ∀ s : St F, (tileEff i s).ins = s.ins := fun s => by
    have h1 : ∀ lo hi dos idx, (oneEff i lo hi dos idx s).ins = s.ins := fun lo hi dos idx => by
      unfold oneEff; split
      · exact imgEff_ins ..
      · rfl
    unfold tileEff manyEff; split
    · rw [manyK_ins]; exact h1 ..
    · exact h1 ..
  have he : ∀ s : St F, (endEff i s).ins = s.ins := fun s => by unfold endEff; split <;> rfl
  unfold bodyEff; rw [he, ht, hs]

theorem startEff_x2 (i : grid0.Coords) (st : St F) : (startEff i st).x2 = st.x2 := by unfold startEff; split <;> rfl

/-! ## One point -/

/-- The buffers the body runs on at a point. -/
def bufs (t : Fin cfg0.N) : Bufs :=
  ⟨win0_0.stage (cfg0.slots t 0), Cert.KernelIdeal.Gen.hstage0_0 ((cfg0.slots t 0).cast Cert.KernelIdeal.Gen.nbuf0_0), win0_1.stage (cfg0.slots t 1), Cert.KernelIdeal.Gen.hstage0_1 ((cfg0.slots t 1).cast Cert.KernelIdeal.Gen.nbuf0_1), win0_2.stage (cfg0.slots t 2), Cert.KernelIdeal.Gen.hstage0_2 ((cfg0.slots t 2).cast Cert.KernelIdeal.Gen.nbuf0_2), win0_3.stage (cfg0.slots t 3), Cert.KernelIdeal.Gen.hstage0_3 ((cfg0.slots t 3).cast Cert.KernelIdeal.Gen.nbuf0_3), win0_4.stage (cfg0.slots t 4), Cert.KernelIdeal.Gen.hstage0_4 ((cfg0.slots t 4).cast Cert.KernelIdeal.Gen.nbuf0_4), win0_5.stage (cfg0.slots t 5), Cert.KernelIdeal.Gen.hstage0_5 ((cfg0.slots t 5).cast Cert.KernelIdeal.Gen.nbuf0_5), win0_6.stage (cfg0.slots t 6), Cert.KernelIdeal.Gen.hstage0_6 ((cfg0.slots t 6).cast Cert.KernelIdeal.Gen.nbuf0_6), win0_7.stage (cfg0.slots t 7), Cert.KernelIdeal.Gen.hstage0_7 ((cfg0.slots t 7).cast Cert.KernelIdeal.Gen.nbuf0_7), win0_8.stage (cfg0.slots t 8), Cert.KernelIdeal.Gen.hstage0_8 ((cfg0.slots t 8).cast Cert.KernelIdeal.Gen.nbuf0_8), win0_9.stage (cfg0.slots t 9), Cert.KernelIdeal.Gen.hstage0_9 ((cfg0.slots t 9).cast Cert.KernelIdeal.Gen.nbuf0_9), win0_10.stage (cfg0.slots t 10), Cert.KernelIdeal.Gen.hstage0_10 ((cfg0.slots t 10).cast Cert.KernelIdeal.Gen.nbuf0_10), win0_11.stage (cfg0.slots t 11), Cert.KernelIdeal.Gen.hstage0_11 ((cfg0.slots t 11).cast Cert.KernelIdeal.Gen.nbuf0_11), win0_12.stage (cfg0.slots t 12), Cert.KernelIdeal.Gen.hstage0_12 ((cfg0.slots t 12).cast Cert.KernelIdeal.Gen.nbuf0_12), win0_13.stage (cfg0.slots t 13), Cert.KernelIdeal.Gen.hstage0_13 ((cfg0.slots t 13).cast Cert.KernelIdeal.Gen.nbuf0_13), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _⟩

theorem held_bufs (c : Dev nD) (t : Fin cfg0.N) (st : St F) : held c (bufs t) st = iprop(owns (c : Thread nD τ) (st0_0 t) fullShare st.x2 ∗ owns (c : Thread nD τ) (st0_1 t) fullShare st.x3 ∗ owns (c : Thread nD τ) (st0_2 t) fullShare st.x4 ∗ owns (c : Thread nD τ) (st0_3 t) fullShare st.x5 ∗ owns (c : Thread nD τ) (st0_4 t) fullShare st.x6 ∗ owns (c : Thread nD τ) (st0_5 t) fullShare st.x7 ∗ owns (c : Thread nD τ) (st0_6 t) fullShare st.x8 ∗ owns (c : Thread nD τ) (st0_7 t) fullShare st.x9 ∗ owns (c : Thread nD τ) (st0_8 t) fullShare st.x10 ∗ owns (c : Thread nD τ) (st0_9 t) fullShare st.x11 ∗ owns (c : Thread nD τ) (st0_10 t) fullShare st.x12 ∗ owns (c : Thread nD τ) (st0_11 t) fullShare st.x13 ∗ owns (c : Thread nD τ) (st0_12 t) fullShare st.x14 ∗ owns (c : Thread nD τ) (st0_13 t) fullShare st.x15 ∗ owns (c : Thread nD τ) (Memref.whole cc0_scratch0) fullShare st.x16 ∗ owns (c : Thread nD τ) (Memref.whole cc0_scratch1) fullShare st.x17 ∗ owns (c : Thread nD τ) (Memref.whole cc0_scratch2) fullShare st.x18 ∗ owns (c : Thread nD τ) (Memref.whole cc0_scratch3) fullShare st.x19 ∗ owns (c : Thread nD τ) (Memref.whole cc0_scratch4) fullShare st.x20) := rfl

theorem held_eq (c : Dev nD) (B : Bufs) (st : St F) : held c B st = iprop(own c B.a2 st.x2 ∗ own c B.a3 st.x3 ∗ own c B.a4 st.x4 ∗ own c B.a5 st.x5 ∗ own c B.a6 st.x6 ∗ own c B.a7 st.x7 ∗ own c B.a8 st.x8 ∗ own c B.a9 st.x9 ∗ own c B.a10 st.x10 ∗ own c B.a11 st.x11 ∗ own c B.a12 st.x12 ∗ own c B.a13 st.x13 ∗ own c B.a14 st.x14 ∗ own c B.a15 st.x15 ∗ own c B.a16 st.x16 ∗ own c B.a17 st.x17 ∗ own c B.a18 st.x18 ∗ own c B.a19 st.x19 ∗ own c B.a20 st.x20) := rfl

theorem scratch_eq (c : Dev nD) : (Pipeline.ΦA (Val := Elt F) (U := UR sig nD τ) spec0 c : sProp 𝕄)
    = iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ (∃ f, owns (c : Thread nD τ) (Memref.whole cc0_scratch4) fullShare f)) ∗ ∃ r, prngReg c r) := by
  unfold Pipeline.ΦA
  rw [scopedRest0_eq]
  simp only [owns_whole]

variable (m : (ℓ : Loc nD τ sig) → Buf (Elt F) ℓ) (ρ : Dev nD → PrngReg)

/-- The body at a point, from the blocks of the inputs and any contents of the rest. -/
theorem body_point (c : Dev nD) (t : Fin cfg0.N) (st : St F) (hl : Rng (loV (F := F) (grid0.coords t) st.x2)) (hh : Rng (hiV (F := F) (grid0.coords t) st.x2)) :
    held c (bufs t) st ⊢ wp frame (wpE (defs₀ (F := F)) Variants.none c none) Set.univ (bodyAt0 t) (fun _ => held c (bufs t) (bodyEff (grid0.coords t) st)) :=
  T_body (i := grid0.coords t) (c := c) (B := bufs t) (st := st) (by rw [startEff_x2]; exact hl) (by rw [startEff_x2]; exact hh)

/-- The results are forgotten: nothing is said of what they hold. -/
def forgets : Fin 14 → Bool := fun w => decide (11 ≤ w.val)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = iblk m c 7 t := rfl
theorem after_8 (c : Dev nD) (t : Fin cfg0.N) : (dats m 0 c).after 8 t = iblk m c 8 t := rfl
theorem after_9 (c : Dev nD) (t : Fin cfg0.N) : (dats m 0 c).after 9 t = iblk m c 9 t := rfl
theorem after_10 (c : Dev nD) (t : Fin cfg0.N) : (dats m 0 c).after 10 t = iblk m c 10 t := rfl
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X)
    ∗ (∃ X, owns (c : Thread nD τ) (st0_12 t) fullShare X)
    ∗ (∃ X, owns (c : Thread nD τ) (st0_13 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X)
    ∗ (∃ X, owns (c : Thread nD τ) (st0_12 t) fullShare X)
    ∗ (∃ X, owns (c : Thread nD τ) (st0_13 t) fullShare X))

/-- The entries of the table that bound a tile lie in range. -/
def InRange (m : (ℓ : Loc nD τ sig) → Buf (Elt F) ℓ) : Prop := ∀ (c : Dev nD) (t : Fin cfg0.N), Rng (loV (F := F) (grid0.coords t) (iblk m c 0 t)) ∧ Rng (hiV (F := F) (grid0.coords t) (iblk m c 0 t))

theorem sound_body (hr : InRange m) (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, scratch_eq,
    after_0, after_1, after_2, after_3, after_4, after_5, after_6, after_7, after_8, after_9, after_10]
  iintro ⟨⟨⟨⟨%s0, S0⟩, ⟨%s1, S1⟩, ⟨%s2, S2⟩, ⟨%s3, S3⟩, ⟨%s4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have key := body_point c t (⟨iblk m c 0 t, iblk m c 1 t, iblk m c 2 t, iblk m c 3 t, iblk m c 4 t, iblk m c 5 t, iblk m c 6 t, iblk m c 7 t, iblk m c 8 t, iblk m c 9 t, iblk m c 10 t, d11, d12, d13, s0, s1, s2, s3, s4⟩ : St F) (hr c t).1 (hr c t).2
  have hi := bodyEff_ins (grid0.coords t) (⟨iblk m c 0 t, iblk m c 1 t, iblk m c 2 t, iblk m c 3 t, iblk m c 4 t, iblk m c 5 t, iblk m c 6 t, iblk m c 7 t, iblk m c 8 t, iblk m c 9 t, iblk m c 10 t, d11, d12, d13, s0, s1, s2, s3, s4⟩ : St F)
  generalize bodyEff (F := F) (grid0.coords t) _ = s' at key hi
  simp only [St.ins, Prod.mk.injEq] at hi
  obtain ⟨e0, e1, e2, e3, e4, e5, e6, e7, e8, e9, e10⟩ := hi
  rw [held_bufs, held_bufs, e0, e1, e2, e3, e4, e5, e6, e7, e8, e9, e10] at key
  dsimp only at key
  iapply (wp_wand_r Idealize.ShloMosaic.frame (wpE (defs₀ (F := F)) Variants.none (c : Thread nD τ) none) Set.univ)
  isplitl [H0 H1 H2 H3 H4 H5 H6 H7 H8 H9 H10 H11 H12 H13 S0 S1 S2 S3 S4]
  · iapply key
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    iexact S4
  iintro %_ ⟨H0, H1, H2, H3, H4, H5, H6, H7, H8, H9, H10, H11, H12, H13, S0, S1, S2, S3, S4⟩
  isplitl [S0 S1 S2 S3 S4 Hg]
  · isplitl [S0 S1 S2 S3 S4]
    · isplitl [S0]; · iexists _; iexact S0
      isplitl [S1]; · iexists _; iexact S1
      isplitl [S2]; · iexists _; iexact S2
      isplitl [S3]; · iexists _; iexact S3
      iexists _; iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iexists _; iexact H13

theorem defs₀_row (t : Fin cfg0.N) : defs₀ (F := F) .tc cfg0.body (cfg0.bodyArgs t (cfg0.slots t)) = bodyAt0 t := by
  unfold defs₀; rw [Defs.onTc_tc]

theorem body_obligation (hr : InRange m) (c : Dev nD) :
    BodyObligation (dats (F := F) m 0 c) (defs₀ (F := F)) Variants.none () Set.univ forgets := fun t => by
  rw [bigSep_W0, bigSep_W0, defs₀_row]
  exact triple_restated (sound_body m hr c t) rfl .rfl fun _ => .rfl

set_option backward.isDefEq.respectTransparency.types false in
set_option maxHeartbeats 800000 in
theorem run_main (hr : InRange m) :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m hr c).loose) (hq := fun _ _ _ => rfl)
    (howed := fun _ _ => rfl) (V := V m) (hmain := hmain m Variants.none) (hA := A_eq m) (hΦ := fun _ _ => rfl)

/-- An input is as launched after the run. -/
theorem kept {r : PUnit × MemSt nD τ sig (Elt F)}
    (h : Pipeline.RDat.FramePost (cfgs 0) (fun c => (dats (F := F) m 0 c).toRForget forgets) (V m) r) (c : Dev nD) (w : Fin 14)
    (hf : forgets w = false) (ho : (cfg0.win w).isOut = false) :
    r.2.mem ((cfg0.win w).arr.view.loc (c.tc : Thread nD τ)) = V m c (Pipeline.arrRef spec0 w) := by
  have h1 := ((h c).1 w)
  exact (((dats m 0 c).toRForget_arrAt_iff hf _ _).mp h1).trans (((dats m 0 c).arrAt_in w ho _).trans (A_eq m c w))

/-- Every argument array is as launched after the run, and every counter at zero. -/
theorem frame (hr : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨kept m h.1 c 3 rfl rfl, kept m h.1 c 4 rfl rfl, kept m h.1 c 1 rfl rfl, kept m h.1 c 5 rfl rfl,
    kept m h.1 c 2 rfl rfl, kept m h.1 c 6 rfl rfl, kept m h.1 c 7 rfl rfl, kept m h.1 c 8 rfl rfl, kept m h.1 c 9 rfl rfl, kept m h.1 c 10 rfl rfl⟩, h.2⟩)
    (run_main m ρ hr)

end Cert.KernelIdeal.Own

end
-- ==== Proof.KernelIdealRange.lean ====
/- The words of the table that bound a tile, from the precondition. -/
module

public import proofs.«01_k».proof.Defs
public import proofs.«01_k».proof.Proof.KernelIdealFrame

@[expose] public section

set_option maxRecDepth 16384

noncomputable section

namespace Cert.KernelIdeal.Own

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F] [Named F]

variable [Cert.KernelIdeal.Facts] [Cert.Pre_in_range.Facts]
open Cert.KernelIdeal.Gen

/-- Every word of the table lies in range when the precondition's function is all ones. -/
theorem rng_of {q k s3 v s5 d7 dos o l} (x : IVec Cert.Pre_in_range.S4x3584 32) (h : Cert.Pre_in_range.fn (F := F) q k s3 v s5 d7 dos o l x = fun _ => 1#1)
    (j : Cert.Pre_in_range.S4x3584.Idx) : Rng (x j) := by
  have hj := congrFun h j
  unfold Cert.Pre_in_range.fn at hj
  have e1 : BitVec.ofBool ((4294967295#32).sle (x j)) &&& BitVec.ofBool ((x j).sle 4#32) = 1#1 := hj
  generalize x j = w at e1
  unfold Rng
  obtain ⟨h1, h2⟩ : (4294967295#32).sle w = true ∧ w.sle 4#32 = true := by
    revert e1
    cases (4294967295#32).sle w <;> cases w.sle 4#32 <;> decide
  rw [BitVec.sle_iff_toInt_le] at h1 h2
  exact ⟨h1, h2⟩

variable {m : (ℓ : Loc nD τ sig) → Buf (Elt F) ℓ}

theorem inRange_of (h : ∀ (c : Dev nD) (j : S4x3584.Idx), Rng ((m ((c.tc : Thread nD τ).loc main_arg9) : S4x3584.Idx → BitVec 32) j)) : InRange m := by
  intro c t
  have hw : ∀ j : S4x3584.Idx, Rng (iblk m c 0 t j) := fun j => h c _
  exact ⟨hw _, hw _⟩

end Cert.KernelIdeal.Own

end
-- ==== Proof.ValueCast.lean ====
/- The arrays the reference's casts leave: the codes themselves, over the extended reals. -/
module

public import proofs.«01_k».proof.Proof.Gen.ReferenceIdeal.Run
public import Idealize.ShloMosaic.Lib.Pipeline.ValueKit.Basic
public import Idealize.ShloMosaic.Lib.Pointwise
public import Idealize.ShloMosaic.PureOps.Ideal

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

/-- The one point of the casts' grid. -/
def pt0 : Fin cfg0.N := ⟨0, by decide⟩

theorem out3_eq (x0 : Vec Ideal S4x5x64x32x128 .fp8e4m3) (x1 : Vec Ideal S4x5x64x32x128 .fp8e4m3) (x2 : Vec Ideal S4x3584x4096 .fp8e5m2) (y : S4x5x64x32x128.Idx) :
    (out0_3 x0 x1 x2 y : EReal) = x0 y := by
  unfold out0_3
  rw [View.canon_cons_unit_lit _ _ _ (by decide)]
  unfold k0_pay1
  rw [View.ld_unit_lit _ _ (by decide)]
  rfl
theorem in3 (t : Fin cfg0.N) (i : S4x5x64x32x128.Idx) : i ∈ (win0_3.rect t).set := by
  refine (Idealize.ShloMosaic.Pipeline.Window.mem_rect_iff (w := win0_3) t i rfl).2 ?_
  intro a
  match a with
  | ⟨0, _⟩ => have h : (i 0 : Nat) < 4 := (i 0).isLt
              show 0 * 4 ≤ (i 0 : Nat) ∧ (i 0 : Nat) < 0 * 4 + 4; omega
  | ⟨1, _⟩ => have h : (i 1 : Nat) < 5 := (i 1).isLt
              show 0 * 5 ≤ (i 1 : Nat) ∧ (i 1 : Nat) < 0 * 5 + 5; omega
  | ⟨2, _⟩ => have h : (i 2 : Nat) < 64 := (i 2).isLt
              show 0 * 64 ≤ (i 2 : Nat) ∧ (i 2 : Nat) < 0 * 64 + 64; omega
  | ⟨3, _⟩ => have h : (i 3 : Nat) < 32 := (i 3).isLt
              show 0 * 32 ≤ (i 3 : Nat) ∧ (i 3 : Nat) < 0 * 32 + 32; omega
  | ⟨4, _⟩ => have h : (i 4 : Nat) < 128 := (i 4).isLt
              show 0 * 128 ≤ (i 4 : Nat) ∧ (i 4 : Nat) < 0 * 128 + 128; omega
theorem reg3 (c : Dev nD) : (reg_main_v0_0 m c : S4x5x64x32x128.Idx → EReal) = (m ((c.tc : Thread nD τ).loc main_arg1) : S4x5x64x32x128.Idx → EReal) :=
  (dats m 0 c).arrAt_eq_of_cover 3 (m ((c.tc : Thread nD τ).loc main_arg1) : S4x5x64x32x128.Idx → EReal) (fun t _ => by
    funext y
    refine (congrFun (after0_3 m c t) ((cfg0.win 3).xinj (cfg0.grid.coords t) y)).trans ?_
    refine (out3_eq (iblk m c 0 t) (iblk m c 1 t) (iblk m c 2 t) y).trans ?_
    rfl) fun i => by
    refine ⟨pt0, flush0_3 _, ?_⟩
    show i ∈ ((View.whole main_v0_0).slice (win0_3.rect pt0)).set
    rw [View.set_slice_whole]
    exact in3 pt0 i

theorem out4_eq (x0 : Vec Ideal S4x5x64x32x128 .fp8e4m3) (x1 : Vec Ideal S4x5x64x32x128 .fp8e4m3) (x2 : Vec Ideal S4x3584x4096 .fp8e5m2) (y : S4x5x64x32x128.Idx) :
    (out0_4 x0 x1 x2 y : EReal) = x1 y := by
  unfold out0_4
  rw [View.canon_cons_unit_lit _ _ _ (by decide)]
  unfold k0_pay2
  rw [View.ld_unit_lit _ _ (by decide)]
  rfl
theorem in4 (t : Fin cfg0.N) (i : S4x5x64x32x128.Idx) : i ∈ (win0_4.rect t).set := by
  refine (Idealize.ShloMosaic.Pipeline.Window.mem_rect_iff (w := win0_4) t i rfl).2 ?_
  intro a
  match a with
  | ⟨0, _⟩ => have h : (i 0 : Nat) < 4 := (i 0).isLt
              show 0 * 4 ≤ (i 0 : Nat) ∧ (i 0 : Nat) < 0 * 4 + 4; omega
  | ⟨1, _⟩ => have h : (i 1 : Nat) < 5 := (i 1).isLt
              show 0 * 5 ≤ (i 1 : Nat) ∧ (i 1 : Nat) < 0 * 5 + 5; omega
  | ⟨2, _⟩ => have h : (i 2 : Nat) < 64 := (i 2).isLt
              show 0 * 64 ≤ (i 2 : Nat) ∧ (i 2 : Nat) < 0 * 64 + 64; omega
  | ⟨3, _⟩ => have h : (i 3 : Nat) < 32 := (i 3).isLt
              show 0 * 32 ≤ (i 3 : Nat) ∧ (i 3 : Nat) < 0 * 32 + 32; omega
  | ⟨4, _⟩ => have h : (i 4 : Nat) < 128 := (i 4).isLt
              show 0 * 128 ≤ (i 4 : Nat) ∧ (i 4 : Nat) < 0 * 128 + 128; omega
theorem reg4 (c : Dev nD) : (reg_main_v0_1 m c : S4x5x64x32x128.Idx → EReal) = (m ((c.tc : Thread nD τ).loc main_arg3) : S4x5x64x32x128.Idx → EReal) :=
  (dats m 0 c).arrAt_eq_of_cover 4 (m ((c.tc : Thread nD τ).loc main_arg3) : S4x5x64x32x128.Idx → EReal) (fun t _ => by
    funext y
    refine (congrFun (after0_4 m c t) ((cfg0.win 4).xinj (cfg0.grid.coords t) y)).trans ?_
    refine (out4_eq (iblk m c 0 t) (iblk m c 1 t) (iblk m c 2 t) y).trans ?_
    rfl) fun i => by
    refine ⟨pt0, flush0_4 _, ?_⟩
    show i ∈ ((View.whole main_v0_1).slice (win0_4.rect pt0)).set
    rw [View.set_slice_whole]
    exact in4 pt0 i

theorem out5_eq (x0 : Vec Ideal S4x5x64x32x128 .fp8e4m3) (x1 : Vec Ideal S4x5x64x32x128 .fp8e4m3) (x2 : Vec Ideal S4x3584x4096 .fp8e5m2) (y : S4x3584x4096.Idx) :
    (out0_5 x0 x1 x2 y : EReal) = x2 y := by
  unfold out0_5
  rw [View.canon_cons_unit_lit _ _ _ (by decide)]
  unfold k0_pay3
  rw [View.ld_unit_lit _ _ (by decide)]
  rfl
theorem in5 (t : Fin cfg0.N) (i : S4x3584x4096.Idx) : i ∈ (win0_5.rect t).set := by
  refine (Idealize.ShloMosaic.Pipeline.Window.mem_rect_iff (w := win0_5) t i rfl).2 ?_
  intro a
  match a with
  | ⟨0, _⟩ => have h : (i 0 : Nat) < 4 := (i 0).isLt
              show 0 * 4 ≤ (i 0 : Nat) ∧ (i 0 : Nat) < 0 * 4 + 4; omega
  | ⟨1, _⟩ => have h : (i 1 : Nat) < 3584 := (i 1).isLt
              show 0 * 3584 ≤ (i 1 : Nat) ∧ (i 1 : Nat) < 0 * 3584 + 3584; omega
  | ⟨2, _⟩ => have h : (i 2 : Nat) < 4096 := (i 2).isLt
              show 0 * 4096 ≤ (i 2 : Nat) ∧ (i 2 : Nat) < 0 * 4096 + 4096; omega
theorem reg5 (c : Dev nD) : (reg_main_v0_2 m c : S4x3584x4096.Idx → EReal) = (m ((c.tc : Thread nD τ).loc main_arg5) : S4x3584x4096.Idx → EReal) :=
  (dats m 0 c).arrAt_eq_of_cover 5 (m ((c.tc : Thread nD τ).loc main_arg5) : S4x3584x4096.Idx → EReal) (fun t _ => by
    funext y
    refine (congrFun (after0_5 m c t) ((cfg0.win 5).xinj (cfg0.grid.coords t) y)).trans ?_
    refine (out5_eq (iblk m c 0 t) (iblk m c 1 t) (iblk m c 2 t) y).trans ?_
    rfl) fun i => by
    refine ⟨pt0, flush0_5 _, ?_⟩
    show i ∈ ((View.whole main_v0_2).slice (win0_5.rect pt0)).set
    rw [View.set_slice_whole]
    exact in5 pt0 i

theorem out6_eq (x0 : Vec Ideal S4x5x64x32x128 .fp8e4m3) (x1 : Vec Ideal S4x5x64x32x128 .fp8e4m3) (x2 : Vec Ideal S4x3584x4096 .fp8e5m2) (y : S4x3584x4096.Idx) :
    (out0_6 x0 x1 x2 y : EReal) = x2 y := by
  unfold out0_6
  rw [View.canon_cons_unit_lit _ _ _ (by decide)]
  unfold k0_pay4
  rw [View.ld_unit_lit _ _ (by decide)]
  rfl
theorem in6 (t : Fin cfg0.N) (i : S4x3584x4096.Idx) : i ∈ (win0_6.rect t).set := by
  refine (Idealize.ShloMosaic.Pipeline.Window.mem_rect_iff (w := win0_6) t i rfl).2 ?_
  intro a
  match a with
  | ⟨0, _⟩ => have h : (i 0 : Nat) < 4 := (i 0).isLt
              show 0 * 4 ≤ (i 0 : Nat) ∧ (i 0 : Nat) < 0 * 4 + 4; omega
  | ⟨1, _⟩ => have h : (i 1 : Nat) < 3584 := (i 1).isLt
              show 0 * 3584 ≤ (i 1 : Nat) ∧ (i 1 : Nat) < 0 * 3584 + 3584; omega
  | ⟨2, _⟩ => have h : (i 2 : Nat) < 4096 := (i 2).isLt
              show 0 * 4096 ≤ (i 2 : Nat) ∧ (i 2 : Nat) < 0 * 4096 + 4096; omega
theorem reg6 (c : Dev nD) : (reg_main_v0_3 m c : S4x3584x4096.Idx → EReal) = (m ((c.tc : Thread nD τ).loc main_arg5) : S4x3584x4096.Idx → EReal) :=
  (dats m 0 c).arrAt_eq_of_cover 6 (m ((c.tc : Thread nD τ).loc main_arg5) : S4x3584x4096.Idx → EReal) (fun t _ => by
    funext y
    refine (congrFun (after0_6 m c t) ((cfg0.win 6).xinj (cfg0.grid.coords t) y)).trans ?_
    refine (out6_eq (iblk m c 0 t) (iblk m c 1 t) (iblk m c 2 t) y).trans ?_
    rfl) fun i => by
    refine ⟨pt0, flush0_6 _, ?_⟩
    show i ∈ ((View.whole main_v0_3).slice (win0_6.rect pt0)).set
    rw [View.set_slice_whole]
    exact in6 pt0 i

end Cert.ReferenceIdeal.Value

end
-- ==== Proof.ValuePair.lean ====
/- The values of a pair of heads, element by element, over the extended reals. -/
module

public import proofs.«01_k».proof.Proof.KernelIdealBody
public import Idealize.ShloMosaic.Lib.Pointwise
public import Idealize.ShloMosaic.PureOps.Ideal

@[expose] public section

set_option maxRecDepth 16384

noncomputable section

namespace Cert.KernelIdeal.Own

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
variable [Cert.KernelIdeal.Facts]

abbrev lf (d : Fin 128) : Fin 256 := ⟨d.val, by omega⟩
abbrev rt (d : Fin 128) : Fin 256 := ⟨128 + d.val, by omega⟩
abbrev up (m : Fin 64) : Fin 128 := ⟨m.val, by omega⟩
abbrev dn (m : Fin 64) : Fin 128 := ⟨64 + m.val, by omega⟩

theorem kDiag_apply (a b : Vec Ideal S1x64x128 .bf16) (m : Fin 128) (d : Fin 256) :
    kDiag a b (ix2 m d) = if h : m.val < 64 then (if h' : d.val < 128 then a (ix3 0 ⟨m.val, h⟩ ⟨d.val, h'⟩) else 0)
      else (if h' : d.val < 128 then 0 else b (ix3 0 ⟨m.val - 64, by omega⟩ ⟨d.val - 128, by omega⟩)) := by
  pointwise [kDiag]

theorem s0_apply (a b : Vec Ideal S1x64x128 .bf16) (q : FVec Ideal S256x256 .bf16) (m : Fin 64) (r : Fin 256) :
    rows0 (sPair (kDiag a b) q) (ix2 m r) = ∑ d : Fin 128, a (ix3 0 m d) * q (ix2 r (lf d)) := by
  pointwise [rows0, sPair, kDiag]
  simp only [zero_mul, Finset.sum_const_zero, add_zero]
theorem s1_apply (a b : Vec Ideal S1x64x128 .bf16) (q : FVec Ideal S256x256 .bf16) (m : Fin 64) (r : Fin 256) :
    rows1 (sPair (kDiag a b) q) (ix2 m r) = ∑ d : Fin 128, b (ix3 0 m d) * q (ix2 r (rt d)) := by
  pointwise [rows1, sPair, kDiag]
  simp only [zero_mul, Finset.sum_const_zero, zero_add]
theorem dp0_apply (a b : Vec Ideal S1x64x128 .fp8e4m3) (q : FVec Ideal S256x256 .fp8e5m2) (m : Fin 64) (r : Fin 256) :
    rows0 (dpPair (vDiag a b) q) (ix2 m r) = ∑ d : Fin 128, a (ix3 0 m d) * q (ix2 r (lf d)) := by
  pointwise [rows0, dpPair, vDiag]
  have z : Ideal.ofBits .fp8e4m3 0#8 = 0 := Ideal.ofBits_zero .fp8e4m3
  simp only [z, zero_mul, Finset.sum_const_zero, add_zero]
theorem dp1_apply (a b : Vec Ideal S1x64x128 .fp8e4m3) (q : FVec Ideal S256x256 .fp8e5m2) (m : Fin 64) (r : Fin 256) :
    rows1 (dpPair (vDiag a b) q) (ix2 m r) = ∑ d : Fin 128, b (ix3 0 m d) * q (ix2 r (rt d)) := by
  pointwise [rows1, dpPair, vDiag]
  have z : Ideal.ofBits .fp8e4m3 0#8 = 0 := Ideal.ofBits_zero .fp8e4m3
  simp only [z, zero_mul, Finset.sum_const_zero, zero_add]

theorem dRow_apply (g : Vec Ideal S1x256x128 .fp8e5m2) (o : Vec Ideal S1x256x128 .bf16) (r : Fin 256) :
    dRow g o (ix2 0 r) = ∑ d : Fin 128, g (ix3 0 r d) * o (ix3 0 r d) := by
  pointwise [dRow]

theorem eHead_apply (s : FVec Ideal S64x256 .f32) (ks : EReal) (l dos : Vec Ideal S1x256 .f32) (m : Fin 64) (r : Fin 256) :
    eHead s ks l dos (ix2 m r) = FloatOps.exp2 (F := Ideal) (φ := .f32) (s (ix2 m r) * (ks * cSL (F := Ideal)) - l (ix2 0 r)) * dos (ix2 0 r) := by
  pointwise [eHead]
theorem dsHead_apply (e dp : FVec Ideal S64x256 .f32) (vs : EReal) (d : FVec Ideal S1x256 .f32) (m : Fin 64) (r : Fin 256) :
    dsHead e dp vs d (ix2 m r) = e (ix2 m r) * (dp (ix2 m r) * vs - d (ix2 0 r)) := by
  pointwise [dsHead]
theorem stack_up (a b : FVec Ideal S64x256 .f32) (m : Fin 64) (r : Fin 256) : stack a b (ix2 (up m) r) = a (ix2 m r) := by
  pointwise [stack]
theorem stack_dn (a b : FVec Ideal S64x256 .f32) (m : Fin 64) (r : Fin 256) : stack a b (ix2 (dn m) r) = b (ix2 m r) := by
  pointwise [stack]
theorem dq0_apply (ds : FVec Ideal S128x256 .bf16) (k0 k1 : Vec Ideal S1x64x128 .bf16) (a b : EReal) (r : Fin 256) (d : Fin 128) :
    dqPair ds (kDiag k0 k1) a b (ix2 r (lf d)) = (∑ m : Fin 64, ds (ix2 (up m) r) * k0 (ix3 0 m d)) * (a * cSc (F := Ideal)) := by
  pointwise [dqPair, scRow, kDiag]
  simp only [mul_zero, Finset.sum_const_zero, add_zero]
theorem dq1_apply (ds : FVec Ideal S128x256 .bf16) (k0 k1 : Vec Ideal S1x64x128 .bf16) (a b : EReal) (r : Fin 256) (d : Fin 128) :
    dqPair ds (kDiag k0 k1) a b (ix2 r (rt d)) = (∑ m : Fin 64, ds (ix2 (dn m) r) * k1 (ix3 0 m d)) * (b * cSc (F := Ideal)) := by
  pointwise [dqPair, scRow, kDiag]
  simp only [mul_zero, Finset.sum_const_zero, zero_add]
theorem dk0_apply (ds : FVec Ideal S128x256 .bf16) (q : FVec Ideal S256x256 .bf16) (m : Fin 64) (d : Fin 128) :
    quad0 (dkPair ds q) (ix2 m d) = ∑ r : Fin 256, ds (ix2 (up m) r) * q (ix2 r (lf d)) := by
  pointwise [quad0, dkPair]
theorem dk1_apply (ds : FVec Ideal S128x256 .bf16) (q : FVec Ideal S256x256 .bf16) (m : Fin 64) (d : Fin 128) :
    quad1 (dkPair ds q) (ix2 m d) = ∑ r : Fin 256, ds (ix2 (dn m) r) * q (ix2 r (rt d)) := by
  pointwise [quad1, dkPair]
theorem dv0_apply (ds : FVec Ideal S128x256 .bf16) (q : FVec Ideal S256x256 .fp8e5m2) (m : Fin 64) (d : Fin 128) :
    quad0 (dvPair ds q) (ix2 m d) = ∑ r : Fin 256, ds (ix2 (up m) r) * q (ix2 r (lf d)) := by
  pointwise [quad0, dvPair]
theorem dv1_apply (ds : FVec Ideal S128x256 .bf16) (q : FVec Ideal S256x256 .fp8e5m2) (m : Fin 64) (d : Fin 128) :
    quad1 (dvPair ds q) (ix2 m d) = ∑ r : Fin 256, ds (ix2 (dn m) r) * q (ix2 r (rt d)) := by
  pointwise [quad1, dvPair]
theorem lseRows_apply (n : BitVec 32) (idx : Vec Ideal S1x256 .i32) (l : Vec Ideal S1x32x256 .f32) (h : Fin 32) (r : Fin 256) :
    lseRows n idx l (ix2 h r) = if idx (ix2 0 r) = n then l (ix3 0 h r) * cLog (F := Ideal) else ⊤ := by
  pointwise [lseRows]
  have htop : Ideal.ofBits .f32 0x7F800000#32 = ⊤ := by simp [Ideal.ofBits, Ideal.ieee]
  by_cases h : idx (ix2 0 r) = n
  · rw [if_pos h]; simp [Scalar.select, IntOp.cmpi, h]
  · rw [if_neg h]
    have hb : (idx (ix2 0 r) == n) = false := by simpa using h
    simp [Scalar.select, IntOp.cmpi, hb, htop]
theorem mat_apply {e : EltTy} (x : Vec Ideal S1x256x256 e) (r c : Fin 256) : mat x (ix2 r c) = x (ix3 0 r c) := by
  pointwise [mat]
theorem dqOut_apply (x : FVec Ideal S256x256 .bf16) (r c : Fin 256) : dqOut x (ix3 0 r c) = x (ix2 r c) := by
  pointwise [dqOut]
theorem accAdd_apply (a : Vec Ideal S1x64x128 .f32) (x : FVec Ideal S64x128 .f32) (m : Fin 64) (d : Fin 128) :
    accAdd a x (ix3 0 m d) = a (ix3 0 m d) + x (ix2 m d) := by
  pointwise [accAdd]

/-! ## Windows at an index -/

/-- The row of a scratch buffer that an image and a head have. -/
abbrev rw' (n : Fin 5) (h : Fin 32) : Fin 160 := ⟨n.val * 32 + h.val, by omega⟩
/-- The column of a head's element. -/
abbrev cl (h : Fin 32) (d : Fin 128) : Fin 4096 := ⟨128 * h.val + d.val, by omega⟩

theorem rowB_apply {e : EltTy} (x : Vec Ideal S160x64x128 e) (h : Nat) (hh : h < 160) (m : Fin 64) (d : Fin 128) :
    rowB x h hh (ix3 0 m d) = x (ix3 ⟨h, hh⟩ m d) :=
  congrArg x (funext fun a => match a with
    | 0 => Fin.ext (by show h + 1 * 0 = h; omega)
    | 1 => Fin.ext (by show 0 + 1 * m.val = m.val; omega)
    | 2 => Fin.ext (by show 0 + 1 * d.val = d.val; omega))
theorem colQ_apply {e : EltTy} (x : Vec Ideal S1x256x4096 e) (p : Nat) (hp : p < 16) (r c : Fin 256) :
    colQ x p hp (ix3 0 r c) = x (ix3 0 r ⟨256 * p + c.val, by omega⟩) :=
  congrArg x (funext fun a => match a with
    | 0 => Fin.ext (by show 0 + 1 * 0 = 0; omega)
    | 1 => Fin.ext (by show 0 + 1 * r.val = r.val; omega)
    | 2 => Fin.ext (by show 256 * p + 1 * c.val = 256 * p + c.val; omega))
theorem colH_apply {e : EltTy} (x : Vec Ideal S1x256x4096 e) (h : Nat) (hh : h < 32) (r : Fin 256) (d : Fin 128) :
    colH x h hh (ix3 0 r d) = x (ix3 0 r (cl ⟨h, hh⟩ d)) :=
  congrArg x (funext fun a => match a with
    | 0 => Fin.ext (by show 0 + 1 * 0 = 0; omega)
    | 1 => Fin.ext (by show 0 + 1 * r.val = r.val; omega)
    | 2 => Fin.ext (by show 128 * h + 1 * d.val = 128 * h + d.val; omega))
theorem rowL_apply (x : Vec Ideal S32x256 .f32) (h : Nat) (hh : h < 32) (r : Fin 256) :
    rowL x h hh (ix2 0 r) = x (ix2 ⟨h, hh⟩ r) :=
  congrArg x (funext fun a => match a with
    | 0 => Fin.ext (by show h + 1 * 0 = h; omega)
    | 1 => Fin.ext (by show 0 + 1 * r.val = r.val; omega))
theorem scl_apply (x : Vec Ideal S4x5x32 .f32) (b n h : Nat) (hb : b < 4) (hn : n < 5) (hh : h < 32) :
    scl x b n h hb hn hh = x (ix3 ⟨b, hb⟩ ⟨n, hn⟩ ⟨h, hh⟩) :=
  congrArg x (funext fun a => match a with
    | 0 => Fin.ext (by show b + 1 * 0 = b; omega)
    | 1 => Fin.ext (by show n + 1 * 0 = n; omega)
    | 2 => Fin.ext (by show h + 1 * 0 = h; omega))

theorem putR_same {e : EltTy} (x : Vec Ideal S160x64x128 e) (h : Nat) (hh : h < 160) (w : Vec Ideal S1x64x128 e) (m : Fin 64) (d : Fin 128) :
    VecWindow.put x ![h, 0, 0] S1x64x128.size w (ix3 ⟨h, hh⟩ m d) = w (ix3 0 m d) :=
  (rowB_apply (VecWindow.put x ![h, 0, 0] S1x64x128.size w) h hh m d).symm.trans
    (congrFun (VecWindow.window_put_same x ![h, 0, 0] S1x64x128.size (inbR h hh) w) (ix3 0 m d))
theorem putR_ne {e : EltTy} (x : Vec Ideal S160x64x128 e) (h : Nat) (w : Vec Ideal S1x64x128 e) (g : Fin 160) (hg : g.val ≠ h) (m : Fin 64) (d : Fin 128) :
    VecWindow.put x ![h, 0, 0] S1x64x128.size w (ix3 g m d) = x (ix3 g m d) :=
  dif_neg fun H => hg (by
    have h0 : h ≤ g.val ∧ g.val < h + 1 := H 0
    omega)
theorem putQ_same {e : EltTy} (x : Vec Ideal S1x256x4096 e) (p : Nat) (hp : p < 16) (w : Vec Ideal S1x256x256 e) (r c : Fin 256) :
    VecWindow.put x ![0, 0, 256 * p] S1x256x256.size w (ix3 0 r ⟨256 * p + c.val, by omega⟩) = w (ix3 0 r c) :=
  (colQ_apply (VecWindow.put x ![0, 0, 256 * p] S1x256x256.size w) p hp r c).symm.trans
    (congrFun (VecWindow.window_put_same x ![0, 0, 256 * p] S1x256x256.size (inbQ p hp) w) (ix3 0 r c))
theorem putQ_ne {e : EltTy} (x : Vec Ideal S1x256x4096 e) (p : Nat) (w : Vec Ideal S1x256x256 e) (r : Fin 256) (c : Fin 4096) (hc : c.val / 256 ≠ p) :
    VecWindow.put x ![0, 0, 256 * p] S1x256x256.size w (ix3 0 r c) = x (ix3 0 r c) :=
  dif_neg fun H => hc (by
    have h0 : 256 * p ≤ c.val ∧ c.val < 256 * p + 256 := H 2
    omega)

/-- An accumulator's row after a pair. -/
theorem acc2_apply (x : Vec Ideal S160x64x128 .f32) (r0 : Nat) (h0 : r0 < 160) (h1 : r0 + 1 < 160) (a b : FVec Ideal S64x128 .f32) (g : Fin 160) (m : Fin 64) (d : Fin 128) :
    acc2 x r0 (r0 + 1) h0 h1 a b (ix3 g m d) = x (ix3 g m d) + (if g.val = r0 then a (ix2 m d) else if g.val = r0 + 1 then b (ix2 m d) else 0) := by
  unfold acc2
  by_cases e1 : g.val = r0 + 1
  · obtain rfl : g = ⟨r0 + 1, h1⟩ := Fin.ext e1
    rw [putR_same _ _ h1, accAdd_apply, rowB_apply, putR_ne _ _ _ _ (by show r0 + 1 ≠ r0; omega), if_neg (by show ¬ r0 + 1 = r0; omega), if_pos rfl]
  · rw [putR_ne _ _ _ _ e1]
    by_cases e0 : g.val = r0
    · obtain rfl : g = ⟨r0, h0⟩ := Fin.ext e0
      rw [putR_same _ _ h0, accAdd_apply, rowB_apply, if_pos rfl]
    · rw [putR_ne _ _ _ _ e0, if_neg e0, if_neg e1, add_zero]

/-! ## A pair's values -/

/-- A step's batch row. -/
def bx (i : grid0.Coords) : Fin 4 := ⟨(i 0).val, (i 0).isLt⟩
/-- A score of a token and a row of an image. -/
def sS (st : St Ideal) (n : Fin 5) (h : Fin 32) (m : Fin 64) (r : Fin 256) : EReal :=
  ∑ d : Fin 128, st.x16 (ix3 (rw' n h) m d) * st.x5 (ix3 0 r (cl h d))
/-- The weight of a row of an image for a token. -/
def eS (b : Fin 4) (st : St Ideal) (n : Fin 5) (dos : Vec Ideal S1x256 .f32) (h : Fin 32) (m : Fin 64) (r : Fin 256) : EReal :=
  FloatOps.exp2 (F := Ideal) (φ := .f32) (sS st n h m r * (st.x3 (ix3 b n h) * cSL (F := Ideal)) - st.x20 (ix2 h r)) * dos (ix2 0 r)
/-- The gradient of a score. -/
def dS (b : Fin 4) (st : St Ideal) (n : Fin 5) (dos : Vec Ideal S1x256 .f32) (h : Fin 32) (m : Fin 64) (r : Fin 256) : EReal :=
  eS b st n dos h m r * ((∑ d : Fin 128, st.x17 (ix3 (rw' n h) m d) * st.x8 (ix3 0 r (cl h d))) * st.x4 (ix3 b n h)
    - ∑ d : Fin 128, st.x8 (ix3 0 r (cl h d)) * st.x10 (ix3 0 r (cl h d)))
/-- An image's share of the values' gradient. -/
def dvS (b : Fin 4) (st : St Ideal) (n : Fin 5) (dos : Vec Ideal S1x256 .f32) (h : Fin 32) (m : Fin 64) (d : Fin 128) : EReal :=
  ∑ r : Fin 256, eS b st n dos h m r * st.x8 (ix3 0 r (cl h d))
/-- An image's share of the keys' gradient. -/
def dkS (b : Fin 4) (st : St Ideal) (n : Fin 5) (dos : Vec Ideal S1x256 .f32) (h : Fin 32) (m : Fin 64) (d : Fin 128) : EReal :=
  ∑ r : Fin 256, dS b st n dos h m r * st.x5 (ix3 0 r (cl h d))
/-- An image's share of the queries' gradient. -/
def dqS (b : Fin 4) (st : St Ideal) (n : Fin 5) (dos : Vec Ideal S1x256 .f32) (h : Fin 32) (r : Fin 256) (d : Fin 128) : EReal :=
  (∑ m : Fin 64, dS b st n dos h m r * st.x16 (ix3 (rw' n h) m d)) * (st.x3 (ix3 b n h) * cSc (F := Ideal))

section
variable (i : grid0.Coords) (single : Bool) (st : St Ideal) (n : BitVec 32) (hn : n.toNat < 5) (dos : Vec Ideal S1x256 .f32) (p : Nat) (hp : p < 16)

theorem clE (x : Fin 256) (h : Fin 32) (d : Fin 128) (h1 : 256 * p + x.val < 4096) (e : 256 * p + x.val = 128 * h.val + d.val) :
    (⟨256 * p + x.val, h1⟩ : Fin 4096) = cl h d := Fin.ext e

theorem ksV_apply (h : Nat) (hh : h < 32) : ksV i st n hn h hh = st.x3 (ix3 (bx i) ⟨n.toNat, hn⟩ ⟨h, hh⟩) := scl_apply _ _ _ _ _ _ _
theorem vsV_apply (h : Nat) (hh : h < 32) : vsV i st n hn h hh = st.x4 (ix3 (bx i) ⟨n.toNat, hn⟩ ⟨h, hh⟩) := scl_apply _ _ _ _ _ _ _
theorem eV0_apply (m : Fin 64) (r : Fin 256) : eV0 i st n hn dos p hp (ix2 m r) = eS (bx i) st ⟨n.toNat, hn⟩ dos ⟨2 * p, by omega⟩ m r := by
  unfold eV0 eS sS
  rw [eHead_apply, rowL_apply]
  unfold kD
  rw [s0_apply, ksV_apply]
  simp only [rowB_apply, qM, mat_apply, colQ_apply]
  have e : ∀ d : Fin 128, (⟨256 * p + (lf d).val, by have := d.isLt; show 256 * p + d.val < 4096; omega⟩ : Fin 4096) = cl ⟨2 * p, by omega⟩ d := fun d => Fin.ext (by show 256 * p + d.val = 128 * (2 * p) + d.val; omega)
  simp only [e]
theorem eV1_apply (m : Fin 64) (r : Fin 256) : eV1 i st n hn dos p hp (ix2 m r) = eS (bx i) st ⟨n.toNat, hn⟩ dos ⟨2 * p + 1, by omega⟩ m r := by
  unfold eV1 eS sS
  rw [eHead_apply, rowL_apply]
  unfold kD
  rw [s1_apply, ksV_apply]
  simp only [rowB_apply, qM, mat_apply, colQ_apply]
  have e : ∀ d : Fin 128, (⟨256 * p + (rt d).val, by have := d.isLt; show 256 * p + (128 + d.val) < 4096; omega⟩ : Fin 4096) = cl ⟨2 * p + 1, by omega⟩ d := fun d => Fin.ext (by show 256 * p + (128 + d.val) = 128 * (2 * p + 1) + d.val; omega)
  simp only [e]
theorem dsV0_apply (m : Fin 64) (r : Fin 256) : dsV0 i st n hn dos p hp (ix2 m r) = dS (bx i) st ⟨n.toNat, hn⟩ dos ⟨2 * p, by omega⟩ m r := by
  unfold dsV0 dS
  rw [dsHead_apply, eV0_apply, dRow_apply]
  unfold vD
  rw [dp0_apply, vsV_apply]
  simp only [rowB_apply, gM, mat_apply, colQ_apply, colH_apply]
  have e : ∀ d : Fin 128, (⟨256 * p + (lf d).val, by have := d.isLt; show 256 * p + d.val < 4096; omega⟩ : Fin 4096) = cl ⟨2 * p, by omega⟩ d := fun d => Fin.ext (by show 256 * p + d.val = 128 * (2 * p) + d.val; omega)
  simp only [e]
theorem dsV1_apply (m : Fin 64) (r : Fin 256) : dsV1 i st n hn dos p hp (ix2 m r) = dS (bx i) st ⟨n.toNat, hn⟩ dos ⟨2 * p + 1, by omega⟩ m r := by
  unfold dsV1 dS
  rw [dsHead_apply, eV1_apply, dRow_apply]
  unfold vD
  rw [dp1_apply, vsV_apply]
  simp only [rowB_apply, gM, mat_apply, colQ_apply, colH_apply]
  have e : ∀ d : Fin 128, (⟨256 * p + (rt d).val, by have := d.isLt; show 256 * p + (128 + d.val) < 4096; omega⟩ : Fin 4096) = cl ⟨2 * p + 1, by omega⟩ d := fun d => Fin.ext (by show 256 * p + (128 + d.val) = 128 * (2 * p + 1) + d.val; omega)
  simp only [e]
theorem dv0V_apply (m : Fin 64) (d : Fin 128) : quad0 (dvV i st n hn dos p hp) (ix2 m d) = dvS (bx i) st ⟨n.toNat, hn⟩ dos ⟨2 * p, by omega⟩ m d := by
  unfold dvV dvS
  rw [dv0_apply]
  refine Finset.sum_congr rfl fun r _ => ?_
  unfold eV gM
  rw [stack_up, eV0_apply, mat_apply, colQ_apply, clE p (lf d) ⟨2 * p, by omega⟩ d _ (by show 256 * p + d.val = 128 * (2 * p) + d.val; omega)]
theorem dv1V_apply (m : Fin 64) (d : Fin 128) : quad1 (dvV i st n hn dos p hp) (ix2 m d) = dvS (bx i) st ⟨n.toNat, hn⟩ dos ⟨2 * p + 1, by omega⟩ m d := by
  unfold dvV dvS
  rw [dv1_apply]
  refine Finset.sum_congr rfl fun r _ => ?_
  unfold eV gM
  rw [stack_dn, eV1_apply, mat_apply, colQ_apply, clE p (rt d) ⟨2 * p + 1, by omega⟩ d _ (by show 256 * p + (128 + d.val) = 128 * (2 * p + 1) + d.val; omega)]
theorem dk0V_apply (m : Fin 64) (d : Fin 128) : quad0 (dkV i st n hn dos p hp) (ix2 m d) = dkS (bx i) st ⟨n.toNat, hn⟩ dos ⟨2 * p, by omega⟩ m d := by
  unfold dkV dkS
  rw [dk0_apply]
  refine Finset.sum_congr rfl fun r _ => ?_
  unfold dsV qM
  rw [stack_up, dsV0_apply, mat_apply, colQ_apply, clE p (lf d) ⟨2 * p, by omega⟩ d _ (by show 256 * p + d.val = 128 * (2 * p) + d.val; omega)]
theorem dk1V_apply (m : Fin 64) (d : Fin 128) : quad1 (dkV i st n hn dos p hp) (ix2 m d) = dkS (bx i) st ⟨n.toNat, hn⟩ dos ⟨2 * p + 1, by omega⟩ m d := by
  unfold dkV dkS
  rw [dk1_apply]
  refine Finset.sum_congr rfl fun r _ => ?_
  unfold dsV qM
  rw [stack_dn, dsV1_apply, mat_apply, colQ_apply, clE p (rt d) ⟨2 * p + 1, by omega⟩ d _ (by show 256 * p + (128 + d.val) = 128 * (2 * p + 1) + d.val; omega)]
theorem dq0V_apply (r : Fin 256) (d : Fin 128) : dqV i st n hn dos p hp (ix2 r (lf d)) = dqS (bx i) st ⟨n.toNat, hn⟩ dos ⟨2 * p, by omega⟩ r d := by
  unfold dqV dqS kD
  rw [dq0_apply, ksV_apply]
  refine congrArg (· * _) (Finset.sum_congr rfl fun m _ => ?_)
  unfold dsV
  rw [stack_up, dsV0_apply, rowB_apply]
theorem dq1V_apply (r : Fin 256) (d : Fin 128) : dqV i st n hn dos p hp (ix2 r (rt d)) = dqS (bx i) st ⟨n.toNat, hn⟩ dos ⟨2 * p + 1, by omega⟩ r d := by
  unfold dqV dqS kD
  rw [dq1_apply, ksV_apply]
  refine congrArg (· * _) (Finset.sum_congr rfl fun m _ => ?_)
  unfold dsV
  rw [stack_dn, dsV1_apply, rowB_apply]

theorem lt0 {p : Nat} (hp : p < 16) : 2 * p < 32 := by omega
theorem lt1 {p : Nat} (hp : p < 16) : 2 * p + 1 < 32 := by omega
/-- Two rows' shares, as the share of the row asked for. -/
theorem pick (k : Fin 5) (h : Fin 32) (f : Fin 5 → Fin 32 → EReal) :
    (if (rw' k h).val = n.toNat * 32 + 2 * p then f ⟨n.toNat, hn⟩ ⟨2 * p, by omega⟩ else if (rw' k h).val = n.toNat * 32 + 2 * p + 1 then f ⟨n.toNat, hn⟩ ⟨2 * p + 1, by omega⟩ else 0)
      = if k.val = n.toNat ∧ h.val / 2 = p then f k h else 0 := by
  by_cases hk : k.val = n.toNat
  · obtain rfl : k = ⟨n.toNat, hn⟩ := Fin.ext hk
    by_cases e : h.val / 2 = p
    · rw [if_pos (show (n.toNat = n.toNat ∧ h.val / 2 = p) from ⟨rfl, e⟩)]
      by_cases e0 : h.val = 2 * p
      · obtain rfl : h = ⟨2 * p, lt0 hp⟩ := Fin.ext e0
        rw [if_pos rfl]
      · obtain rfl : h = ⟨2 * p + 1, lt1 hp⟩ := Fin.ext (by show h.val = 2 * p + 1; omega)
        rw [if_neg (by show ¬ n.toNat * 32 + (2 * p + 1) = _; omega), if_pos (by show n.toNat * 32 + (2 * p + 1) = _; omega)]
    · rw [if_neg (show ¬ n.toNat * 32 + h.val = n.toNat * 32 + 2 * p by omega), if_neg (show ¬ n.toNat * 32 + h.val = n.toNat * 32 + 2 * p + 1 by omega), if_neg (fun H => e H.2)]
  · rw [if_neg (show ¬ k.val * 32 + h.val = n.toNat * 32 + 2 * p by have := h.isLt; omega), if_neg (show ¬ k.val * 32 + h.val = n.toNat * 32 + 2 * p + 1 by have := h.isLt; omega), if_neg (fun H => hk H.1)]

/-- What a pair adds to the values' gradient. -/
theorem pair_x19 (k : Fin 5) (h : Fin 32) (m : Fin 64) (d : Fin 128) :
    (pairEff i single st n hn dos p hp).x19 (ix3 (rw' k h) m d)
      = st.x19 (ix3 (rw' k h) m d) + (if k.val = n.toNat ∧ h.val / 2 = p then dvS (bx i) st k dos h m d else 0) := by
  refine (acc2_apply st.x19 (n.toNat * 32 + 2 * p) (by omega) (by omega) _ _ (rw' k h) m d).trans (congrArg _ ?_)
  rw [dv0V_apply, dv1V_apply]
  exact pick n hn p hp k h fun a b => dvS (bx i) st a dos b m d
/-- What a pair adds to the keys' gradient. -/
theorem pair_x18 (k : Fin 5) (h : Fin 32) (m : Fin 64) (d : Fin 128) :
    (pairEff i single st n hn dos p hp).x18 (ix3 (rw' k h) m d)
      = st.x18 (ix3 (rw' k h) m d) + (if k.val = n.toNat ∧ h.val / 2 = p then dkS (bx i) st k dos h m d else 0) := by
  refine (acc2_apply st.x18 (n.toNat * 32 + 2 * p) (by omega) (by omega) _ _ (rw' k h) m d).trans (congrArg _ ?_)
  rw [dk0V_apply, dk1V_apply]
  exact pick n hn p hp k h fun a b => dkS (bx i) st a dos b m d

/-- The queries' gradient of a pair's head, as stored. -/
theorem dqN_apply (r c : Fin 256) : dqN i single st n hn dos p hp (ix3 0 r c)
    = if single then dqV i st n hn dos p hp (ix2 r c) else dqV i st n hn dos p hp (ix2 r c) + st.x13 (ix3 0 r ⟨256 * p + c.val, by omega⟩) := by
  cases single
  · show dqOut (addf (dqV i st n hn dos p hp) (mat (colQ st.x13 p hp) : FVec Ideal S256x256 .bf16)) (ix3 0 r c) = _
    rw [dqOut_apply]
    show _ + mat (colQ st.x13 p hp) (ix2 r c) = _
    rw [mat_apply, colQ_apply]
    rfl
  · exact dqOut_apply _ r c

/-- What a pair leaves in the queries' gradient. -/
theorem pair_x13 (h : Fin 32) (r : Fin 256) (d : Fin 128) :
    (pairEff i single st n hn dos p hp).x13 (ix3 0 r (cl h d))
      = if h.val / 2 = p then (if single then dqS (bx i) st ⟨n.toNat, hn⟩ dos h r d else dqS (bx i) st ⟨n.toNat, hn⟩ dos h r d + st.x13 (ix3 0 r (cl h d)))
        else st.x13 (ix3 0 r (cl h d)) := by
  show VecWindow.put st.x13 ![0, 0, 256 * p] S1x256x256.size (dqN i single st n hn dos p hp) (ix3 0 r (cl h d)) = _
  by_cases e : h.val / 2 = p
  · rw [if_pos e]
    by_cases e0 : h.val = 2 * p
    · obtain rfl : h = ⟨2 * p, lt0 hp⟩ := Fin.ext e0
      rw [← clE p (lf d) ⟨2 * p, by omega⟩ d (by have := d.isLt; show 256 * p + d.val < 4096; omega) (by show 256 * p + d.val = 128 * (2 * p) + d.val; omega), putQ_same _ _ hp, dqN_apply, dq0V_apply]
    · obtain rfl : h = ⟨2 * p + 1, lt1 hp⟩ := Fin.ext (by show h.val = 2 * p + 1; omega)
      rw [← clE p (rt d) ⟨2 * p + 1, by omega⟩ d (by have := d.isLt; show 256 * p + (128 + d.val) < 4096; omega) (by show 256 * p + (128 + d.val) = 128 * (2 * p + 1) + d.val; omega), putQ_same _ _ hp, dqN_apply, dq1V_apply]
  · rw [if_neg e]
    exact putQ_ne _ _ _ _ _ (by show ¬ (128 * h.val + d.val) / 256 = p; have := d.isLt; omega)

end

end Cert.KernelIdeal.Own

end
-- ==== Proof.ValueTile.lean ====
/- What one tile of tokens leaves in the accumulators and in the queries' gradient, element by element, over the extended reals. -/
module

public import proofs.«01_k».proof.Proof.ValuePair
public import proofs.«01_k».proof.Proof.KernelIdealFrame
public import Idealize.ShloMosaic.Lib.Pointwise
public import Idealize.ShloMosaic.PureOps.Ideal

@[expose] public section

set_option maxRecDepth 16384

noncomputable section

namespace Cert.KernelIdeal.Own

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
variable [Cert.KernelIdeal.Facts]

/-! ## The pairs of heads of an image -/

section
variable (i : grid0.Coords) (single : Bool) (n : BitVec 32) (hn : n.toNat < 5) (dos : Vec Ideal S1x256 .f32)

theorem pairs_x19 : ∀ (j : Nat) (hj : j ≤ 16) (st : St Ideal) (k : Fin 5) (h : Fin 32) (m : Fin 64) (d : Fin 128),
    (pairsEff i single n hn dos j hj st).x19 (ix3 (rw' k h) m d) = st.x19 (ix3 (rw' k h) m d) + (if k.val = n.toNat ∧ 16 - j ≤ h.val / 2 then dvS (bx i) st k dos h m d else 0)
  | 0, _, st, k, h, m, d => by
    rw [if_neg (by have := h.isLt; omega), add_zero]; rfl
  | j + 1, hj, st, k, h, m, d => by
    refine (pairs_x19 j (by omega) _ k h m d).trans ?_
    rw [pair_x19]
    show _ + (if k.val = n.toNat ∧ 16 - j ≤ h.val / 2 then dvS (bx i) st k dos h m d else 0) = _
    by_cases hk : k.val = n.toNat
    · by_cases h1 : 16 - j ≤ h.val / 2
      · rw [if_pos (show _ ∧ _ from ⟨hk, h1⟩), if_neg (by omega), if_pos (by omega), add_zero]
      · by_cases h2 : h.val / 2 = 15 - j
        · rw [if_pos (show _ ∧ _ from ⟨hk, h2⟩), if_neg (by omega), if_pos (by omega), add_zero]
        · rw [if_neg (by omega), if_neg (by omega), if_neg (by omega), add_zero]
    · rw [if_neg (by omega), if_neg (by omega), if_neg (by omega), add_zero]
theorem pairs_x18 : ∀ (j : Nat) (hj : j ≤ 16) (st : St Ideal) (k : Fin 5) (h : Fin 32) (m : Fin 64) (d : Fin 128),
    (pairsEff i single n hn dos j hj st).x18 (ix3 (rw' k h) m d) = st.x18 (ix3 (rw' k h) m d) + (if k.val = n.toNat ∧ 16 - j ≤ h.val / 2 then dkS (bx i) st k dos h m d else 0)
  | 0, _, st, k, h, m, d => by
    rw [if_neg (by have := h.isLt; omega), add_zero]; rfl
  | j + 1, hj, st, k, h, m, d => by
    refine (pairs_x18 j (by omega) _ k h m d).trans ?_
    rw [pair_x18]
    show _ + (if k.val = n.toNat ∧ 16 - j ≤ h.val / 2 then dkS (bx i) st k dos h m d else 0) = _
    by_cases hk : k.val = n.toNat
    · by_cases h1 : 16 - j ≤ h.val / 2
      · rw [if_pos (show _ ∧ _ from ⟨hk, h1⟩), if_neg (by omega), if_pos (by omega), add_zero]
      · by_cases h2 : h.val / 2 = 15 - j
        · rw [if_pos (show _ ∧ _ from ⟨hk, h2⟩), if_neg (by omega), if_pos (by omega), add_zero]
        · rw [if_neg (by omega), if_neg (by omega), if_neg (by omega), add_zero]
    · rw [if_neg (by omega), if_neg (by omega), if_neg (by omega), add_zero]
theorem pairs_x13 : ∀ (j : Nat) (hj : j ≤ 16) (st : St Ideal) (h : Fin 32) (r : Fin 256) (d : Fin 128),
    (pairsEff i single n hn dos j hj st).x13 (ix3 0 r (cl h d)) = if 16 - j ≤ h.val / 2 then
      (if single then dqS (bx i) st ⟨n.toNat, hn⟩ dos h r d else dqS (bx i) st ⟨n.toNat, hn⟩ dos h r d + st.x13 (ix3 0 r (cl h d))) else st.x13 (ix3 0 r (cl h d))
  | 0, _, st, h, r, d => by
    rw [if_neg (by have := h.isLt; omega)]; rfl
  | j + 1, hj, st, h, r, d => by
    refine (pairs_x13 j (by omega) _ h r d).trans ?_
    rw [pair_x13]
    show (if 16 - j ≤ h.val / 2 then (if single then dqS (bx i) st ⟨n.toNat, hn⟩ dos h r d else dqS (bx i) st ⟨n.toNat, hn⟩ dos h r d + _) else _) = _
    by_cases h1 : 16 - j ≤ h.val / 2
    · rw [if_pos h1, if_neg (show ¬ h.val / 2 = 15 - j by omega), if_pos (show 16 - (j + 1) ≤ h.val / 2 by omega)]
    · rw [if_neg h1]
      by_cases h2 : h.val / 2 = 15 - j
      · rw [if_pos h2, if_pos (show 16 - (j + 1) ≤ h.val / 2 by omega)]
      · rw [if_neg h2, if_neg (show ¬ 16 - (j + 1) ≤ h.val / 2 by omega)]
theorem pairs_x16 : ∀ (j : Nat) (hj : j ≤ 16) (st : St Ideal), (pairsEff i single n hn dos j hj st).x16 = st.x16
  | 0, _, _ => rfl
  | j + 1, hj, st => pairs_x16 j (by omega) _
theorem pairs_x17 : ∀ (j : Nat) (hj : j ≤ 16) (st : St Ideal), (pairsEff i single n hn dos j hj st).x17 = st.x17
  | 0, _, _ => rfl
  | j + 1, hj, st => pairs_x17 j (by omega) _
end

/-! ## An image's share, from the tile's inputs -/

/-- A token's weight of a row of an image, from the tile's inputs: zero unless the token attends to the image. -/
def eT (b : Fin 4) (st : St Ideal) (n : Fin 5) (h : Fin 32) (m : Fin 64) (r : Fin 256) : EReal :=
  FloatOps.exp2 (F := Ideal) (φ := .f32) ((∑ d : Fin 128, st.x6 (ix5 0 n m h d) * st.x5 (ix3 0 r (cl h d))) * (st.x3 (ix3 b n h) * cSL (F := Ideal))
    - (if st.x12 (ix2 b r) = BitVec.ofNat 32 n.val then st.x11 (ix3 0 h r) * cLog (F := Ideal) else ⊤)) * st.x9 (ix2 b r)
/-- The gradient of a score, from the tile's inputs. -/
def dT (b : Fin 4) (st : St Ideal) (n : Fin 5) (h : Fin 32) (m : Fin 64) (r : Fin 256) : EReal :=
  eT b st n h m r * ((∑ d : Fin 128, st.x7 (ix5 0 n m h d) * st.x8 (ix3 0 r (cl h d))) * st.x4 (ix3 b n h)
    - ∑ d : Fin 128, st.x8 (ix3 0 r (cl h d)) * st.x10 (ix3 0 r (cl h d)))
/-- A tile's share of the values' gradient. -/
def dvT (b : Fin 4) (st : St Ideal) (n : Fin 5) (h : Fin 32) (m : Fin 64) (d : Fin 128) : EReal :=
  ∑ r : Fin 256, eT b st n h m r * st.x8 (ix3 0 r (cl h d))
/-- A tile's share of the keys' gradient. -/
def dkT (b : Fin 4) (st : St Ideal) (n : Fin 5) (h : Fin 32) (m : Fin 64) (d : Fin 128) : EReal :=
  ∑ r : Fin 256, dT b st n h m r * st.x5 (ix3 0 r (cl h d))
/-- An image's share of the tile's queries' gradient. -/
def dqT (b : Fin 4) (st : St Ideal) (n : Fin 5) (h : Fin 32) (r : Fin 256) (d : Fin 128) : EReal :=
  (∑ m : Fin 64, dT b st n h m r * st.x6 (ix5 0 n m h d)) * (st.x3 (ix3 b n h) * cSc (F := Ideal))

/-- The scratch buffers hold the batch row's keys and values. -/
def Dec (st : St Ideal) : Prop := ∀ (n : Fin 5) (h : Fin 32) (m : Fin 64) (d : Fin 128),
  st.x16 (ix3 (rw' n h) m d) = st.x6 (ix5 0 n m h d) ∧ st.x17 (ix3 (rw' n h) m d) = st.x7 (ix5 0 n m h d)

/-- Two states with the same inputs have the same shares. -/
theorem same_ins {st st' : St Ideal} (h : st.ins = st'.ins) (b : Fin 4) : eT b st = eT b st' ∧ dT b st = dT b st' ∧ dvT b st = dvT b st' ∧ dkT b st = dkT b st' ∧ dqT b st = dqT b st' := by
  obtain ⟨a2, a3, a4, a5, a6, a7, a8, a9, a10, a11, a12, a13, a14, a15, a16, a17, a18, a19, a20⟩ := st
  obtain ⟨b2, b3, b4, b5, b6, b7, b8, b9, b10, b11, b12, b13, b14, b15, b16, b17, b18, b19, b20⟩ := st'
  simp only [St.ins, Prod.mk.injEq] at h
  obtain ⟨rfl, rfl, rfl, rfl, rfl, rfl, rfl, rfl, rfl, rfl, rfl⟩ := h
  exact ⟨rfl, rfl, rfl, rfl, rfl⟩
theorem same_dec {st st' : St Ideal} (h : st.ins = st'.ins) (h16 : st'.x16 = st.x16) (h17 : st'.x17 = st.x17) (hd : Dec st) : Dec st' := by
  have e6 : st.x6 = st'.x6 := congrArg (fun x => x.2.2.2.2.1) h
  have e7 : st.x7 = st'.x7 := congrArg (fun x => x.2.2.2.2.2.1) h
  intro n h m d
  rw [h16, h17, ← e6, ← e7]
  exact hd n h m d

theorem rowV_apply {e : EltTy} (i : grid0.Coords) (x : Vec Ideal S4x256 e) (r : Fin 256) : rowV i x (ix2 0 r) = x (ix2 (bx i) r) :=
  congrArg x (funext fun a => match a with
    | 0 => Fin.ext (by show (i 0).val + 1 * 0 = (i 0).val; omega)
    | 1 => Fin.ext (by show 0 + 1 * r.val = r.val; omega))

section
variable (i : grid0.Coords) (n : BitVec 32) (hn : n.toNat < 5) (st : St Ideal)

theorem eS_img (hd : Dec st) (k : Fin 5) (hk : k.val = n.toNat) (h : Fin 32) (m : Fin 64) (r : Fin 256) :
    eS (bx i) { st with x20 := lseRows n (rowV i st.x12) st.x11 } k (rowV i st.x9) h m r = eT (bx i) st k h m r := by
  have e : n = BitVec.ofNat 32 k.val := by rw [hk]; simp
  unfold eS eT sS
  show FloatOps.exp2 (F := Ideal) (φ := .f32) ((∑ d : Fin 128, st.x16 (ix3 (rw' k h) m d) * st.x5 (ix3 0 r (cl h d))) * (st.x3 (ix3 (bx i) k h) * cSL (F := Ideal)) - lseRows n (rowV i st.x12) st.x11 (ix2 h r)) * rowV i st.x9 (ix2 0 r) = _
  rw [lseRows_apply, rowV_apply, rowV_apply, e]
  simp only [(hd _ _ _ _).1]
theorem dS_img (hd : Dec st) (k : Fin 5) (hk : k.val = n.toNat) (h : Fin 32) (m : Fin 64) (r : Fin 256) :
    dS (bx i) { st with x20 := lseRows n (rowV i st.x12) st.x11 } k (rowV i st.x9) h m r = dT (bx i) st k h m r := by
  unfold dS dT
  rw [eS_img i n st hd k hk]
  simp only [(hd _ _ _ _).2]

variable (single : Bool)
/-- The buffers after an image. -/
theorem img_eff (hd : Dec st) {st' : St Ideal} (e : st' = imgEff i single n hn (rowV i st.x9) (rowV i st.x12) st) :
    st'.ins = st.ins ∧ Dec st'
    ∧ (∀ k h m d, st'.x18 (ix3 (rw' k h) m d) = st.x18 (ix3 (rw' k h) m d) + (if k.val = n.toNat then dkT (bx i) st k h m d else 0))
    ∧ (∀ k h m d, st'.x19 (ix3 (rw' k h) m d) = st.x19 (ix3 (rw' k h) m d) + (if k.val = n.toNat then dvT (bx i) st k h m d else 0))
    ∧ (∀ h r d, st'.x13 (ix3 0 r (cl h d)) = if single then dqT (bx i) st ⟨n.toNat, hn⟩ h r d else dqT (bx i) st ⟨n.toNat, hn⟩ h r d + st.x13 (ix3 0 r (cl h d))) := by
  subst e
  have hi := imgEff_ins i single n hn (rowV i st.x9) (rowV i st.x12) st
  refine ⟨hi, same_dec hi.symm (pairs_x16 i single n hn _ 16 _ _) (pairs_x17 i single n hn _ 16 _ _) hd, fun k h m d => ?_, fun k h m d => ?_, fun h r d => ?_⟩
  · refine (pairs_x18 i single n hn _ 16 (Nat.le_refl _) _ k h m d).trans (congrArg (st.x18 (ix3 (rw' k h) m d) + ·) ?_)
    by_cases hk : k.val = n.toNat
    · rw [if_pos (show _ ∧ _ from ⟨hk, Nat.zero_le _⟩), if_pos hk]
      exact Finset.sum_congr rfl fun r _ => congrArg₂ (· * ·) (dS_img i n st hd k hk h m r) rfl
    · rw [if_neg (fun H => hk H.1), if_neg hk]
  · refine (pairs_x19 i single n hn _ 16 (Nat.le_refl _) _ k h m d).trans (congrArg (st.x19 (ix3 (rw' k h) m d) + ·) ?_)
    by_cases hk : k.val = n.toNat
    · rw [if_pos (show _ ∧ _ from ⟨hk, Nat.zero_le _⟩), if_pos hk]
      exact Finset.sum_congr rfl fun r _ => congrArg₂ (· * ·) (eS_img i n st hd k hk h m r) rfl
    · rw [if_neg (fun H => hk H.1), if_neg hk]
  · refine (pairs_x13 i single n hn _ 16 (Nat.le_refl _) _ h r d).trans ?_
    rw [if_pos (Nat.zero_le _)]
    have q : dqS (bx i) { st with x20 := lseRows n (rowV i st.x12) st.x11 } ⟨n.toNat, hn⟩ (rowV i st.x9) h r d = dqT (bx i) st ⟨n.toNat, hn⟩ h r d :=
      congrArg (· * _) (Finset.sum_congr rfl fun m _ => congrArg₂ (· * ·) (dS_img i n st hd _ rfl h m r) (hd _ _ _ _).1)
    rw [q]
end

/-! ## Several images -/

theorem sum_step (f : Fin 5 → EReal) (a j : Nat) (n : Fin 5) (hn : n.val = a + j) :
    (∑ k : Fin 5, if a ≤ k.val ∧ k.val < a + (j + 1) then f k else 0) = f n + ∑ k : Fin 5, if a ≤ k.val ∧ k.val < a + j then f k else 0 := by
  have e : f n = ∑ k : Fin 5, if k = n then f k else 0 := by rw [Finset.sum_ite_eq' Finset.univ n f, if_pos (Finset.mem_univ n)]
  rw [e, ← Finset.sum_add_distrib]
  refine Finset.sum_congr rfl fun k _ => ?_
  by_cases hk : k = n
  · subst hk
    rw [if_pos rfl, if_pos (by omega), if_neg (by omega), add_zero]
  · have hk' : k.val ≠ a + j := fun H => hk (Fin.ext (H.trans hn.symm))
    rw [if_neg hk, zero_add]
    by_cases h : a ≤ k.val ∧ k.val < a + j
    · rw [if_pos h, if_pos (by omega)]
    · rw [if_neg h, if_neg (by omega)]

section
variable (i : grid0.Coords) (lo : BitVec 32) (st : St Ideal) (a : Nat)

/-- The buffers after the first images of a tile. -/
theorem many_eff (hd : Dec st) : ∀ (j : Nat) (hj : ∀ t, t < j → (Scf.iv (loW lo) 1#32 t).toNat = a + t ∧ a + t < 5),
    (manyK i lo (rowV i st.x9) (rowV i st.x12) st j).ins = st.ins ∧ Dec (manyK i lo (rowV i st.x9) (rowV i st.x12) st j)
    ∧ (∀ k h m d, (manyK i lo (rowV i st.x9) (rowV i st.x12) st j).x18 (ix3 (rw' k h) m d) = st.x18 (ix3 (rw' k h) m d) + (if a ≤ k.val ∧ k.val < a + j then dkT (bx i) st k h m d else 0))
    ∧ (∀ k h m d, (manyK i lo (rowV i st.x9) (rowV i st.x12) st j).x19 (ix3 (rw' k h) m d) = st.x19 (ix3 (rw' k h) m d) + (if a ≤ k.val ∧ k.val < a + j then dvT (bx i) st k h m d else 0))
    ∧ (∀ h r d, (manyK i lo (rowV i st.x9) (rowV i st.x12) st j).x13 (ix3 0 r (cl h d)) = (∑ k : Fin 5, if a ≤ k.val ∧ k.val < a + j then dqT (bx i) st k h r d else 0) + st.x13 (ix3 0 r (cl h d)))
  | 0, _ => by
    refine ⟨rfl, hd, fun k h m d => ?_, fun k h m d => ?_, fun h r d => ?_⟩
    · rw [if_neg (by omega), add_zero]; rfl
    · rw [if_neg (by omega), add_zero]; rfl
    · rw [Finset.sum_eq_zero fun k _ => if_neg (by omega), zero_add]; rfl
  | j + 1, hj => by
    obtain ⟨H1, H2, H3, H4, H5⟩ := many_eff hd j fun t ht => hj t (by omega)
    obtain ⟨hv, hlt⟩ := hj j (by omega)
    have e9 : (manyK i lo (rowV i st.x9) (rowV i st.x12) st j).x9 = st.x9 := congrArg (fun x => x.2.2.2.2.2.2.2.1) H1
    have e12 : (manyK i lo (rowV i st.x9) (rowV i st.x12) st j).x12 = st.x12 := congrArg (fun x => x.2.2.2.2.2.2.2.2.2.2) H1
    have hlt' : (Scf.iv (loW lo) 1#32 j).toNat < 5 := by omega
    have es : manyK i lo (rowV i st.x9) (rowV i st.x12) st (j + 1) = imgEff i false (Scf.iv (loW lo) 1#32 j) hlt' (rowV i (manyK i lo (rowV i st.x9) (rowV i st.x12) st j).x9)
        (rowV i (manyK i lo (rowV i st.x9) (rowV i st.x12) st j).x12) (manyK i lo (rowV i st.x9) (rowV i st.x12) st j) := by
      rw [e9, e12]; exact dif_pos hlt'
    obtain ⟨G1, G2, G3, G4, G5⟩ := img_eff i (Scf.iv (loW lo) 1#32 j) hlt' (manyK i lo (rowV i st.x9) (rowV i st.x12) st j) false H2 es
    obtain ⟨-, -, sv, sk, sq⟩ := same_ins H1 (bx i)
    refine ⟨G1.trans H1, G2, fun k h m d => ?_, fun k h m d => ?_, fun h r d => ?_⟩
    · rw [G3, H3, sk, hv]
      by_cases hk : k.val = a + j
      · rw [if_neg (by omega), if_pos hk, if_pos (by omega), add_zero]
      · rw [if_neg hk, add_zero]
        by_cases hk2 : a ≤ k.val ∧ k.val < a + j
        · rw [if_pos hk2, if_pos (by omega)]
        · rw [if_neg hk2, if_neg (by omega)]
    · rw [G4, H4, sv, hv]
      by_cases hk : k.val = a + j
      · rw [if_neg (by omega), if_pos hk, if_pos (by omega), add_zero]
      · rw [if_neg hk, add_zero]
        by_cases hk2 : a ≤ k.val ∧ k.val < a + j
        · rw [if_pos hk2, if_pos (by omega)]
        · rw [if_neg hk2, if_neg (by omega)]
    · rw [G5, if_neg (by decide), H5, sq, sum_step (fun k => dqT (bx i) st k h r d) a j ⟨(Scf.iv (loW lo) 1#32 j).toNat, hlt'⟩ hv, add_assoc]
end

/-! ## Images no token attends to -/

theorem eT_zero (b : Fin 4) (st : St Ideal) (n : Fin 5) (h : Fin 32) (m : Fin 64) (r : Fin 256) (hr : st.x12 (ix2 b r) ≠ BitVec.ofNat 32 n.val) : eT b st n h m r = 0 := by
  unfold eT
  rw [if_neg hr, EReal.sub_top]
  show Ideal.exp2 ⊥ * _ = 0
  rw [Ideal.exp2_bot, zero_mul]
theorem dT_zero (b : Fin 4) (st : St Ideal) (n : Fin 5) (h : Fin 32) (m : Fin 64) (r : Fin 256) (hr : st.x12 (ix2 b r) ≠ BitVec.ofNat 32 n.val) : dT b st n h m r = 0 := by
  unfold dT
  rw [eT_zero b st n h m r hr, zero_mul]
theorem none_zero (b : Fin 4) (st : St Ideal) (n : Fin 5) (hr : ∀ r, st.x12 (ix2 b r) ≠ BitVec.ofNat 32 n.val) :
    (∀ h m d, dvT b st n h m d = 0) ∧ (∀ h m d, dkT b st n h m d = 0) ∧ (∀ h r d, dqT b st n h r d = 0) := by
  refine ⟨fun h m d => ?_, fun h m d => ?_, fun h r d => ?_⟩
  · exact Finset.sum_eq_zero fun r _ => by rw [eT_zero b st n h m r (hr r), zero_mul]
  · exact Finset.sum_eq_zero fun r _ => by rw [dT_zero b st n h m r (hr r), zero_mul]
  · unfold dqT
    rw [Finset.sum_eq_zero fun m _ => by rw [dT_zero b st n h m r (hr r), zero_mul], zero_mul]

/-! ## The tile's words -/

theorem words_one {lo hi : BitVec 32} (hl : Rng lo) (hh : Rng hi) (h : k0_cond2 lo hi = 1#1) (k : Fin 5) :
    k0_cond3 lo hi ≠ 1#1 ∧ hi.toNat < 5 ∧ (lo.toInt ≤ k.val → (k.val : Int) ≤ hi.toInt → k.val = hi.toNat) := by
  rcases hl.cases with rfl | rfl | rfl | rfl | rfl | rfl <;> rcases hh.cases with rfl | rfl | rfl | rfl | rfl | rfl <;> revert h k <;> decide
theorem words_many {lo hi : BitVec 32} (hl : Rng lo) (hh : Rng hi) (h : k0_cond2 lo hi ≠ 1#1) :
    k0_cond3 lo hi = 1#1 ∧ (∀ t, t < (k0_t3_loop lo hi).trips → (Scf.iv (loW lo) 1#32 t).toNat = (loW lo).toNat + t ∧ (loW lo).toNat + t < 5)
      ∧ ∀ k : Fin 5, lo.toInt ≤ k.val → (k.val : Int) ≤ hi.toInt → (loW lo).toNat ≤ k.val ∧ k.val < (loW lo).toNat + (k0_t3_loop lo hi).trips := by
  rcases hl.cases with rfl | rfl | rfl | rfl | rfl | rfl <;> rcases hh.cases with rfl | rfl | rfl | rfl | rfl | rfl <;> revert h <;> decide

theorem word_int (k : Fin 5) : (BitVec.ofNat 32 k.val).toInt = k.val := by revert k; decide

/-- What a tile leaves, if every token's image lies between the first token's and the last's. -/
theorem tile_eff (i : grid0.Coords) (st : St Ideal) (hd : Dec st) (hl : Rng (loV i st.x2)) (hh : Rng (hiV i st.x2))
    (hb : ∀ r : Fin 256, (loV i st.x2).toInt ≤ (st.x12 (ix2 (bx i) r) : BitVec 32).toInt ∧ (st.x12 (ix2 (bx i) r) : BitVec 32).toInt ≤ (hiV i st.x2).toInt) :
    (tileEff i st).ins = st.ins ∧ Dec (tileEff i st)
    ∧ (∀ k h m d, (tileEff i st).x18 (ix3 (rw' k h) m d) = st.x18 (ix3 (rw' k h) m d) + dkT (bx i) st k h m d)
    ∧ (∀ k h m d, (tileEff i st).x19 (ix3 (rw' k h) m d) = st.x19 (ix3 (rw' k h) m d) + dvT (bx i) st k h m d)
    ∧ (∀ h r d, (tileEff i st).x13 (ix3 0 r (cl h d)) = ∑ k : Fin 5, dqT (bx i) st k h r d) := by
  have out : ∀ k : Fin 5, ¬ ((loV i st.x2).toInt ≤ k.val ∧ (k.val : Int) ≤ (hiV i st.x2).toInt) → ∀ r, st.x12 (ix2 (bx i) r) ≠ BitVec.ofNat 32 k.val := fun k hk r H => hk (by
    have := hb r
    rw [H, word_int] at this
    exact this)
  by_cases c2 : k0_cond2 (loV i st.x2) (hiV i st.x2) = 1#1
  · have w := words_one hl hh c2
    have hlt := (w 0).2.1
    have e1 : oneEff i (loV i st.x2) (hiV i st.x2) (rowV i st.x9) (rowV i st.x12) st = imgEff i true (hiV i st.x2) hlt (rowV i st.x9) (rowV i st.x12) st := dif_pos ⟨c2, hlt⟩
    have e2 : tileEff i st = imgEff i true (hiV i st.x2) hlt (rowV i st.x9) (rowV i st.x12) st := (if_neg (w 0).1).trans e1
    obtain ⟨G1, G2, G3, G4, G5⟩ := img_eff i (hiV i st.x2) hlt st true hd e2
    have z : ∀ k : Fin 5, k.val ≠ (hiV i st.x2).toNat → _ := fun k hk => none_zero (bx i) st k (out k fun H => hk ((w k).2.2 H.1 H.2))
    refine ⟨G1, G2, fun k h m d => ?_, fun k h m d => ?_, fun h r d => ?_⟩
    · rw [G3]
      by_cases hk : k.val = (hiV i st.x2).toNat
      · rw [if_pos hk]
      · rw [if_neg hk, (z k hk).2.1]
    · rw [G4]
      by_cases hk : k.val = (hiV i st.x2).toNat
      · rw [if_pos hk]
      · rw [if_neg hk, (z k hk).1]
    · rw [G5, if_pos rfl]
      exact (Finset.sum_eq_single (⟨(hiV i st.x2).toNat, hlt⟩ : Fin 5) (fun k _ hk => (z k fun H => hk (Fin.ext H)).2.2 h r d) (fun H => (H (Finset.mem_univ _)).elim)).symm
  · obtain ⟨c3, ht, hk⟩ := words_many hl hh c2
    have e1 : oneEff i (loV i st.x2) (hiV i st.x2) (rowV i st.x9) (rowV i st.x12) st = st := dif_neg fun H => c2 H.1
    have e2 : tileEff i st = manyK i (loV i st.x2) (rowV i st.x9) (rowV i st.x12) { st with x13 := zDq } (k0_t3_loop (loV i st.x2) (hiV i st.x2)).trips := by
      show manyEff i (loV i st.x2) (hiV i st.x2) (rowV i st.x9) (rowV i st.x12) (oneEff i (loV i st.x2) (hiV i st.x2) (rowV i st.x9) (rowV i st.x12) st) = _
      rw [e1]; exact if_pos c3
    rw [e2]
    obtain ⟨G1, G2, G3, G4, G5⟩ := many_eff i (loV i st.x2) { st with x13 := zDq } (loW (loV i st.x2)).toNat hd _ ht
    have z : ∀ k : Fin 5, ¬ ((loW (loV i st.x2)).toNat ≤ k.val ∧ k.val < (loW (loV i st.x2)).toNat + (k0_t3_loop (loV i st.x2) (hiV i st.x2)).trips) → _ :=
      fun k h => none_zero (bx i) st k (out k fun H => h (hk k H.1 H.2))
    refine ⟨G1, G2, fun k h m d => ?_, fun k h m d => ?_, fun h r d => ?_⟩
    · refine (G3 k h m d).trans (congrArg (st.x18 (ix3 (rw' k h) m d) + ·) ?_)
      split
      · rfl
      · rename_i H
        exact ((z k H).2.1 h m d).symm
    · refine (G4 k h m d).trans (congrArg (st.x19 (ix3 (rw' k h) m d) + ·) ?_)
      split
      · rfl
      · rename_i H
        exact ((z k H).1 h m d).symm
    · refine (G5 h r d).trans ?_
      have z0 : (zDq : Vec Ideal S1x256x4096 .bf16) (ix3 0 r (cl h d)) = 0 := by pointwise [zDq]
      show _ + (zDq : Vec Ideal S1x256x4096 .bf16) (ix3 0 r (cl h d)) = _
      rw [z0, add_zero]
      refine Finset.sum_congr rfl fun k _ => ?_
      split
      · rfl
      · rename_i H
        exact ((z k H).2.2 h r d).symm

end Cert.KernelIdeal.Own

end
-- ==== Proof.ValueBody.lean ====
/- What the body leaves at a grid point, element by element, over the extended reals. -/
module

public import proofs.«01_k».proof.Proof.ValueTile
public import Idealize.ShloMosaic.Lib.Pointwise
public import Idealize.ShloMosaic.PureOps.Ideal

@[expose] public section

set_option maxRecDepth 16384

noncomputable section

namespace Cert.KernelIdeal.Own

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
variable [Cert.KernelIdeal.Facts]

theorem win5_apply {e : EltTy} (x : Vec Ideal S1x5x64x32x128 e) (k : Nat) (hk : k < 5) (m : Fin 64) (h : Fin 32) (d : Fin 128) :
    VecWindow.window x ![0, k, 0, 0, 0] S1x1x64x32x128.size (inbI k hk) (ix5 0 0 m h d) = x (ix5 0 ⟨k, hk⟩ m h d) :=
  congrArg x (funext fun a => match a with
    | 0 => rfl
    | 1 => Fin.ext (by show k + 1 * 0 = k; omega)
    | 2 => Fin.ext (by show 0 + 1 * m.val = m.val; omega)
    | 3 => Fin.ext (by show 0 + 1 * h.val = h.val; omega)
    | 4 => Fin.ext (by show 0 + 1 * d.val = d.val; omega))
theorem put5_same {e : EltTy} (x : Vec Ideal S1x5x64x32x128 e) (k : Nat) (hk : k < 5) (w : Vec Ideal S1x1x64x32x128 e) (m : Fin 64) (h : Fin 32) (d : Fin 128) :
    VecWindow.put x ![0, k, 0, 0, 0] S1x1x64x32x128.size w (ix5 0 ⟨k, hk⟩ m h d) = w (ix5 0 0 m h d) :=
  (win5_apply (VecWindow.put x ![0, k, 0, 0, 0] S1x1x64x32x128.size w) k hk m h d).symm.trans
    (congrFun (VecWindow.window_put_same x ![0, k, 0, 0, 0] S1x1x64x32x128.size (inbI k hk) w) (ix5 0 0 m h d))
theorem put5_ne {e : EltTy} (x : Vec Ideal S1x5x64x32x128 e) (k : Nat) (w : Vec Ideal S1x1x64x32x128 e) (n : Fin 5) (hn : n.val ≠ k) (m : Fin 64) (h : Fin 32) (d : Fin 128) :
    VecWindow.put x ![0, k, 0, 0, 0] S1x1x64x32x128.size w (ix5 0 n m h d) = x (ix5 0 n m h d) :=
  dif_neg fun H => hn (by
    have h0 : k ≤ n.val ∧ n.val < k + 1 := H 1
    omega)
theorem winK_apply {e : EltTy} (x : Vec Ideal S160x64x128 e) (k : Nat) (hk : k < 5) (h : Fin 32) (m : Fin 64) (d : Fin 128) :
    VecWindow.window x ![k * 32, 0, 0] S32x64x128.size (inbK k hk) (ix3 h m d) = x (ix3 (rw' ⟨k, hk⟩ h) m d) :=
  congrArg x (funext fun a => match a with
    | 0 => Fin.ext (by show k * 32 + 1 * h.val = k * 32 + h.val; omega)
    | 1 => Fin.ext (by show 0 + 1 * m.val = m.val; omega)
    | 2 => Fin.ext (by show 0 + 1 * d.val = d.val; omega))
theorem putK_same {e : EltTy} (x : Vec Ideal S160x64x128 e) (k : Nat) (hk : k < 5) (w : Vec Ideal S32x64x128 e) (h : Fin 32) (m : Fin 64) (d : Fin 128) :
    VecWindow.put x ![k * 32, 0, 0] S32x64x128.size w (ix3 (rw' ⟨k, hk⟩ h) m d) = w (ix3 h m d) :=
  (winK_apply (VecWindow.put x ![k * 32, 0, 0] S32x64x128.size w) k hk h m d).symm.trans
    (congrFun (VecWindow.window_put_same x ![k * 32, 0, 0] S32x64x128.size (inbK k hk) w) (ix3 h m d))
theorem putK_ne {e : EltTy} (x : Vec Ideal S160x64x128 e) (k : Nat) (w : Vec Ideal S32x64x128 e) (n : Fin 5) (hn : n.val ≠ k) (h : Fin 32) (m : Fin 64) (d : Fin 128) :
    VecWindow.put x ![k * 32, 0, 0] S32x64x128.size w (ix3 (rw' n h) m d) = x (ix3 (rw' n h) m d) :=
  dif_neg fun H => hn (by
    have h0 : k * 32 ≤ n.val * 32 + h.val ∧ n.val * 32 + h.val < k * 32 + 32 := H 0
    omega)

theorem codesK (x : FVec Ideal S1x1x64x32x128 .fp8e4m3) (h : Fin 32) (m : Fin 64) (d : Fin 128) :
    shapeCast S32x64x128 (extf .bf16 (transpose S32x64x128 [1, 0, 2] (shapeCast S64x32x128 x shapeCasts_S1x1x64x32x128_S64x32x128) transposes_S64x32x128_p1_0_2_S32x64x128 : FVec Ideal S32x64x128 .fp8e4m3) bitsLt_fp8e4m3_bf16) shapeCasts_S32x64x128_S32x64x128 (ix3 h m d) = x (ix5 0 0 m h d) := by
  pointwise
theorem codesV (x : FVec Ideal S1x1x64x32x128 .fp8e4m3) (h : Fin 32) (m : Fin 64) (d : Fin 128) :
    shapeCast S32x64x128 (transpose S32x64x128 [1, 0, 2] (shapeCast S64x32x128 x shapeCasts_S1x1x64x32x128_S64x32x128) transposes_S64x32x128_p1_0_2_S32x64x128 : FVec Ideal S32x64x128 .fp8e4m3) shapeCasts_S32x64x128_S32x64x128 (ix3 h m d) = x (ix5 0 0 m h d) := by
  pointwise
theorem outImg_apply (c : Ideal .f32) (x : Vec Ideal S32x64x128 .f32) (m : Fin 64) (h : Fin 32) (d : Fin 128) :
    outImg c x (ix5 0 0 m h d) = x (ix3 h m d) * c := by
  pointwise [outImg]

theorem keys_apply (x : Vec Ideal S1x5x64x32x128 .fp8e4m3) (y : Vec Ideal S160x64x128 .bf16) : ∀ (j : Nat) (hj : j ≤ 5) (n : Fin 5) (hn : n.val < j) (h : Fin 32) (m : Fin 64) (d : Fin 128),
    keys x y j (ix3 (rw' n h) m d) = x (ix5 0 n m h d)
  | 0, _, n, hn, _, _, _ => absurd hn (Nat.not_lt_zero _)
  | j + 1, hj, n, hn, h, m, d => by
    rw [keys, dif_pos (show j < 5 by omega)]
    by_cases e : n.val = j
    · obtain ⟨n, hlt⟩ := n
      subst e
      exact (putK_same _ n hlt _ h m d).trans ((codesK _ h m d).trans (win5_apply x n hlt m h d))
    · exact (putK_ne _ j _ n e h m d).trans (keys_apply x y j (by omega) n (by omega) h m d)
theorem vals_apply (x : Vec Ideal S1x5x64x32x128 .fp8e4m3) (y : Vec Ideal S160x64x128 .fp8e4m3) : ∀ (j : Nat) (hj : j ≤ 5) (n : Fin 5) (hn : n.val < j) (h : Fin 32) (m : Fin 64) (d : Fin 128),
    vals x y j (ix3 (rw' n h) m d) = x (ix5 0 n m h d)
  | 0, _, n, hn, _, _, _ => absurd hn (Nat.not_lt_zero _)
  | j + 1, hj, n, hn, h, m, d => by
    rw [vals, dif_pos (show j < 5 by omega)]
    by_cases e : n.val = j
    · obtain ⟨n, hlt⟩ := n
      subst e
      exact (putK_same _ n hlt _ h m d).trans ((codesV _ h m d).trans (win5_apply x n hlt m h d))
    · exact (putK_ne _ j _ n e h m d).trans (vals_apply x y j (by omega) n (by omega) h m d)
theorem outs_apply (c : Ideal .f32) (x : Vec Ideal S160x64x128 .f32) (y : Vec Ideal S1x5x64x32x128 .bf16) : ∀ (j : Nat) (hj : j ≤ 5) (n : Fin 5) (hn : n.val < j) (h : Fin 32) (m : Fin 64) (d : Fin 128),
    outs c x y j (ix5 0 n m h d) = x (ix3 (rw' n h) m d) * c
  | 0, _, n, hn, _, _, _ => absurd hn (Nat.not_lt_zero _)
  | j + 1, hj, n, hn, h, m, d => by
    rw [outs_succ _ _ _ j (by omega)]
    by_cases e : n.val = j
    · obtain ⟨n, hlt⟩ := n
      subst e
      exact (put5_same _ n hlt _ m h d).trans ((outImg_apply c _ m h d).trans (congrArg (· * c) (winK_apply x n hlt h m d)))
    · exact (put5_ne _ j _ n e m h d).trans (outs_apply c x y j (by omega) n (by omega) h m d)
theorem zAcc_apply (i : S160x64x128.Idx) : zAcc (F := Ideal) i = 0 := Ideal.ofBits_zero .f32

theorem cond1_iff (i : grid0.Coords) : k0_cond1 i = 1#1 ↔ (i 1).val = 0 := by
  have : ∀ x : Fin 14, Scalar.cmpi .ne (Scalar.extui (Scalar.cmpi .eq (BitVec.ofNat 32 x.val) 0#32) : BitVec 32) 0#32 = 1#1 ↔ x.val = 0 := by decide
  exact this (i 1)
theorem cond4_iff (i : grid0.Coords) : k0_cond4 i = 1#1 ↔ (i 1).val = 13 := by
  have : ∀ x : Fin 14, Scalar.cmpi .ne (Scalar.extui (Scalar.cmpi .eq (BitVec.ofNat 32 x.val) 13#32) : BitVec 32) 0#32 = 1#1 ↔ x.val = 13 := by decide
  exact this (i 1)

/-- The two accumulators of a batch row and its unpacked keys and values, before a tile. -/
def Acc (st : St Ideal) (ak av : Fin 5 → Fin 32 → Fin 64 → Fin 128 → EReal) : Prop :=
  Dec st ∧ ∀ k h m d, st.x18 (ix3 (rw' k h) m d) = ak k h m d ∧ st.x19 (ix3 (rw' k h) m d) = av k h m d

theorem start_eff (i : grid0.Coords) (st : St Ideal) (ak av : Fin 5 → Fin 32 → Fin 64 → Fin 128 → EReal)
    (h0 : (i 1).val = 0 → ∀ k h m d, ak k h m d = 0 ∧ av k h m d = 0) (h1 : (i 1).val ≠ 0 → Acc st ak av) :
    (startEff i st).ins = st.ins ∧ (startEff i st).x14 = st.x14 ∧ (startEff i st).x15 = st.x15 ∧ Acc (startEff i st) ak av := by
  unfold startEff
  by_cases hc : k0_cond1 i = 1#1
  · rw [if_pos hc]
    have z := h0 ((cond1_iff i).1 hc)
    refine ⟨rfl, rfl, rfl, fun n h m d => ⟨?_, ?_⟩, fun k h m d => ⟨?_, ?_⟩⟩
    · exact keys_apply st.x6 st.x16 5 (Nat.le_refl 5) n n.isLt h m d
    · exact vals_apply st.x7 st.x17 5 (Nat.le_refl 5) n n.isLt h m d
    · exact (zAcc_apply (ix3 (rw' k h) m d)).trans (z k h m d).1.symm
    · exact (zAcc_apply (ix3 (rw' k h) m d)).trans (z k h m d).2.symm
  · rw [if_neg hc]
    exact ⟨rfl, rfl, rfl, h1 fun e => hc ((cond1_iff i).2 e)⟩

theorem pairsEff_out (i : grid0.Coords) (single : Bool) (n : BitVec 32) (hn : n.toNat < 5) (dos : Vec Ideal S1x256 .f32) (idx : Vec Ideal S1x256 .i32) :
    ∀ (j : Nat) (h : j ≤ 16) (st : St Ideal), (pairsEff i single n hn dos j h st).x14 = st.x14 ∧ (pairsEff i single n hn dos j h st).x15 = st.x15
  | 0, _, _ => ⟨rfl, rfl⟩
  | j + 1, h, st => by rw [pairsEff]; exact pairsEff_out i single n hn dos idx j _ _
theorem imgEff_out (i : grid0.Coords) (single : Bool) (n : BitVec 32) (hn : n.toNat < 5) (dos : Vec Ideal S1x256 .f32) (idx : Vec Ideal S1x256 .i32) (st : St Ideal) :
    (imgEff i single n hn dos idx st).x14 = st.x14 ∧ (imgEff i single n hn dos idx st).x15 = st.x15 := by
  rw [imgEff]
  have := pairsEff_out i single n hn dos idx 16 (Nat.le_refl 16)
  exact ⟨(this _).1, (this _).2⟩
theorem manyK_out (i : grid0.Coords) (lo : BitVec 32) (dos : Vec Ideal S1x256 .f32) (idx : Vec Ideal S1x256 .i32) (st : St Ideal) :
    ∀ k, (manyK i lo dos idx st k).x14 = st.x14 ∧ (manyK i lo dos idx st k).x15 = st.x15
  | 0 => ⟨rfl, rfl⟩
  | k + 1 => by
    have ih := manyK_out i lo dos idx st k
    rw [manyK]; split
    · rw [(imgEff_out ..).1, (imgEff_out ..).2]; exact ih
    · exact ih
theorem tile_out (i : grid0.Coords) (s : St Ideal) : (tileEff i s).x14 = s.x14 ∧ (tileEff i s).x15 = s.x15 := by
  have h1 : ∀ lo hi dos idx, (oneEff i lo hi dos idx s).x14 = s.x14 ∧ (oneEff i lo hi dos idx s).x15 = s.x15 := fun lo hi dos idx => by
    unfold oneEff; split
    · exact imgEff_out ..
    · exact ⟨rfl, rfl⟩
  unfold tileEff manyEff; split
  · rw [(manyK_out ..).1, (manyK_out ..).2]; exact h1 ..
  · exact h1 ..

/-- What the body leaves at a grid point. -/
theorem body_eff (i : grid0.Coords) (st : St Ideal) (ak av : Fin 5 → Fin 32 → Fin 64 → Fin 128 → EReal)
    (h0 : (i 1).val = 0 → ∀ k h m d, ak k h m d = 0 ∧ av k h m d = 0) (h1 : (i 1).val ≠ 0 → Acc st ak av)
    (hl : Rng (loV i st.x2)) (hh : Rng (hiV i st.x2))
    (hb : ∀ r : Fin 256, (loV i st.x2).toInt ≤ (st.x12 (ix2 (bx i) r) : BitVec 32).toInt ∧ (st.x12 (ix2 (bx i) r) : BitVec 32).toInt ≤ (hiV i st.x2).toInt) :
    Acc (bodyEff i st) (fun k h m d => ak k h m d + dkT (bx i) st k h m d) (fun k h m d => av k h m d + dvT (bx i) st k h m d)
    ∧ (∀ h r d, (bodyEff i st).x13 (ix3 0 r (cl h d)) = ∑ k : Fin 5, dqT (bx i) st k h r d)
    ∧ ((i 1).val = 13 → ∀ k h m d, (bodyEff i st).x14 (ix5 0 k m h d) = (ak k h m d + dkT (bx i) st k h m d) * (Scalar.ofBits .f32 0x3DB504F3#32 : Ideal .f32)
        ∧ (bodyEff i st).x15 (ix5 0 k m h d) = (av k h m d + dvT (bx i) st k h m d) * (Scalar.ofBits .f32 0x3F800000#32 : Ideal .f32))
    ∧ ((i 1).val ≠ 13 → (bodyEff i st).x14 = st.x14 ∧ (bodyEff i st).x15 = st.x15) := by
  obtain ⟨s1, s2, s3, s4⟩ := start_eff i st ak av h0 h1
  have e2 : (startEff i st).x2 = st.x2 := startEff_x2 i st
  have e12 : (startEff i st).x12 = st.x12 := congrArg (fun x => x.2.2.2.2.2.2.2.2.2.2) s1
  obtain ⟨t1, t2, t3, t4, t5⟩ := tile_eff i (startEff i st) s4.1 (e2 ▸ hl) (e2 ▸ hh) (by rw [e2, e12]; exact hb)
  obtain ⟨t6, t7⟩ := tile_out i (startEff i st)
  obtain ⟨-, -, qv, qk, qq⟩ := same_ins s1 (bx i)
  rw [qk] at t3
  rw [qv] at t4
  rw [qq] at t5
  unfold bodyEff
  generalize tileEff i (startEff i st) = s at *
  have A : Acc s (fun k h m d => ak k h m d + dkT (bx i) st k h m d) (fun k h m d => av k h m d + dvT (bx i) st k h m d) :=
    ⟨t2, fun k h m d => ⟨(t3 k h m d).trans (congrArg (· + _) (s4.2 k h m d).1), (t4 k h m d).trans (congrArg (· + _) (s4.2 k h m d).2)⟩⟩
  unfold endEff
  by_cases hc : k0_cond4 i = 1#1
  · rw [if_pos hc]
    have h13 := (cond4_iff i).1 hc
    refine ⟨A, t5, fun _ k h m d => ⟨?_, ?_⟩, fun hne => absurd h13 hne⟩
    · exact (outs_apply _ s.x18 s.x14 5 (Nat.le_refl 5) k k.isLt h m d).trans (congrArg (· * _) (A.2 k h m d).1)
    · exact (outs_apply _ s.x19 s.x15 5 (Nat.le_refl 5) k k.isLt h m d).trans (congrArg (· * _) (A.2 k h m d).2)
  · rw [if_neg hc]
    exact ⟨A, t5, fun e => absurd ((cond4_iff i).2 e) hc, fun _ => ⟨t6.trans s2, t7.trans s3⟩⟩

end Cert.KernelIdeal.Own

end
-- ==== Proof.ValueBlocks.lean ====
/- The blocks of the inputs at a grid point, as parts of the whole arrays, and the gradients as sums over the tiles. -/
module

public import proofs.«01_k».proof.Proof.ValueBody
public import Idealize.ShloMosaic.Lib.Pointwise
public import Idealize.ShloMosaic.PureOps.Ideal

@[expose] public section

set_option maxRecDepth 16384

noncomputable section

namespace Cert.KernelIdeal.Own

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
variable [Cert.KernelIdeal.Facts]

open Cert.KernelIdeal.Gen

/-- The ten argument arrays of a core. -/
structure Arrs where
  q : Vec Ideal S4x3584x4096 .bf16
  k : Vec Ideal S4x5x64x32x128 .fp8e4m3
  ks : Vec Ideal S4x5x32 .f32
  v : Vec Ideal S4x5x64x32x128 .fp8e4m3
  vs : Vec Ideal S4x5x32 .f32
  g : Vec Ideal S4x3584x4096 .fp8e5m2
  gs : Vec Ideal S4x3584 .f32
  o : Vec Ideal S4x3584x4096 .bf16
  lse : Vec Ideal S4x32x3584 .f32
  idx : Vec Ideal S4x3584 .i32

/-- A tile's token. -/
def tk (τ : Nat) (r : Fin 256) : Fin 3584 := ⟨(τ * 256 + r.val) % 3584, Nat.mod_lt _ (by decide)⟩

/-- A token's weight of a row of an image times the scale of its cotangent: zero unless it attends to the image. -/
def eG (a : Arrs) (b : Fin 4) (n : Fin 5) (h : Fin 32) (m : Fin 64) (t : Fin 3584) : EReal :=
  FloatOps.exp2 (F := Ideal) (φ := .f32) ((∑ d : Fin 128, a.k (ix5 b n m h d) * a.q (ix3 b t (cl h d))) * (a.ks (ix3 b n h) * cSL (F := Ideal))
    - (if a.idx (ix2 b t) = BitVec.ofNat 32 n.val then a.lse (ix3 b h t) * cLog (F := Ideal) else ⊤)) * a.gs (ix2 b t)
/-- The gradient of a score. -/
def dG (a : Arrs) (b : Fin 4) (n : Fin 5) (h : Fin 32) (m : Fin 64) (t : Fin 3584) : EReal :=
  eG a b n h m t * ((∑ d : Fin 128, a.v (ix5 b n m h d) * a.g (ix3 b t (cl h d))) * a.vs (ix3 b n h)
    - ∑ d : Fin 128, a.g (ix3 b t (cl h d)) * a.o (ix3 b t (cl h d)))
/-- The share of one tile in the keys' gradient. -/
def dkG (a : Arrs) (b : Fin 4) (τ : Nat) (n : Fin 5) (h : Fin 32) (m : Fin 64) (d : Fin 128) : EReal :=
  ∑ r : Fin 256, dG a b n h m (tk τ r) * a.q (ix3 b (tk τ r) (cl h d))
/-- The share of one tile in the values' gradient. -/
def dvG (a : Arrs) (b : Fin 4) (τ : Nat) (n : Fin 5) (h : Fin 32) (m : Fin 64) (d : Fin 128) : EReal :=
  ∑ r : Fin 256, eG a b n h m (tk τ r) * a.g (ix3 b (tk τ r) (cl h d))
/-- The queries' gradient. -/
def dqG (a : Arrs) (b : Fin 4) (t : Fin 3584) (h : Fin 32) (d : Fin 128) : EReal :=
  ∑ n : Fin 5, (∑ m : Fin 64, dG a b n h m t * a.k (ix5 b n m h d)) * (a.ks (ix3 b n h) * cSc (F := Ideal))
/-- The keys' gradient before its scale, over the first tiles. -/
def dkA (a : Arrs) (b : Fin 4) (τ : Nat) (n : Fin 5) (h : Fin 32) (m : Fin 64) (d : Fin 128) : EReal := ∑ s ∈ Finset.range τ, dkG a b s n h m d
/-- The values' gradient over the first tiles. -/
def dvA (a : Arrs) (b : Fin 4) (τ : Nat) (n : Fin 5) (h : Fin 32) (m : Fin 64) (d : Fin 128) : EReal := ∑ s ∈ Finset.range τ, dvG a b s n h m d

variable (m : (ℓ : Loc nD τ sig) → Buf (Elt Ideal) ℓ)

def arrs (c : Dev nD) : Arrs :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8), m ((c.tc : Thread nD τ).loc main_arg9)⟩

/-- The batch row and the tile of a point. -/
abbrev bt (t : Fin cfg0.N) : Fin 4 := bx (grid0.coords t)
abbrev tt (t : Fin cfg0.N) : Nat := (grid0.coords t 1).val

theorem tt_lt (t : Fin cfg0.N) : tt t < 14 := (grid0.coords t 1).isLt
theorem bw (t : Fin cfg0.N) : (BitVec.ofNat 32 (grid0.coords t 0).val).toNat = (bt t).val := by
  have : (grid0.coords t 0).val < 4 := (grid0.coords t 0).isLt
  rw [BitVec.toNat_ofNat]; exact Nat.mod_eq_of_lt (by omega)
theorem tw (t : Fin cfg0.N) : (BitVec.ofNat 32 (grid0.coords t 1).val).toNat = tt t := by
  have : (grid0.coords t 1).val < 14 := (grid0.coords t 1).isLt
  rw [BitVec.toNat_ofNat]; exact Nat.mod_eq_of_lt (by omega)
theorem tk_val (t : Fin cfg0.N) (r : Fin 256) : (tk (tt t) r).val = tt t * 256 + r.val := by
  have := tt_lt t; have := r.isLt
  exact Nat.mod_eq_of_lt (by omega)
theorem bt_val (t : Fin cfg0.N) : (bt t).val = t.val / 14 := by
  have h : t.val < 56 := t.isLt
  have e := Pipeline.Grid.coords_val (G := grid0) t 0 (S := 14) (B := 4) rfl rfl
  have : (bt t).val = (grid0.coords t 0).val := rfl
  rw [this, e]; omega
theorem tt_val (t : Fin cfg0.N) : tt t = t.val % 14 := by
  have e := Pipeline.Grid.coords_val (G := grid0) t 1 (S := 1) (B := 14) rfl rfl
  show (grid0.coords t 1).val = _
  rw [e]; omega

theorem blk3 (c : Dev nD) (t : Fin cfg0.N) (r : Fin 256) (x : Fin 4096) :
    (iblk m c 3 t : Vec Ideal S1x256x4096 .bf16) (ix3 0 r x) = (arrs m c).q (ix3 (bt t) (tk (tt t) r) x) := by
  unfold iblk; rw [View.read_apply]
  exact congrArg (m ((c.tc : Thread nD τ).loc main_arg0)) (funext fun a => match a with
    | ⟨0, _⟩ => Fin.ext (by show (BitVec.ofNat 32 (grid0.coords t 0).val).toNat * 1 + 1 * 0 = (bt t).val; rw [bw]; omega)
    | ⟨1, _⟩ => Fin.ext (by show (BitVec.ofNat 32 (grid0.coords t 1).val).toNat * 256 + 1 * r.val = (tk (tt t) r).val; rw [tw, tk_val]; omega)
    | ⟨2, _⟩ => Fin.ext (by show 0 * 4096 + 1 * x.val = x.val; omega))
theorem blk4 (c : Dev nD) (t : Fin cfg0.N) (n : Fin 5) (j : Fin 64) (h : Fin 32) (d : Fin 128) :
    (iblk m c 4 t : Vec Ideal S1x5x64x32x128 .fp8e4m3) (ix5 0 n j h d) = (arrs m c).k (ix5 (bt t) n j h d) := by
  unfold iblk; rw [View.read_apply]
  exact congrArg (m ((c.tc : Thread nD τ).loc main_arg1)) (funext fun a => match a with
    | ⟨0, _⟩ => Fin.ext (by show (BitVec.ofNat 32 (grid0.coords t 0).val).toNat * 1 + 1 * 0 = (bt t).val; rw [bw]; omega)
    | ⟨1, _⟩ => Fin.ext (by show 0 * 5 + 1 * n.val = n.val; omega)
    | ⟨2, _⟩ => Fin.ext (by show 0 * 64 + 1 * j.val = j.val; omega)
    | ⟨3, _⟩ => Fin.ext (by show 0 * 32 + 1 * h.val = h.val; omega)
    | ⟨4, _⟩ => Fin.ext (by show 0 * 128 + 1 * d.val = d.val; omega))
theorem blk5 (c : Dev nD) (t : Fin cfg0.N) (n : Fin 5) (j : Fin 64) (h : Fin 32) (d : Fin 128) :
    (iblk m c 5 t : Vec Ideal S1x5x64x32x128 .fp8e4m3) (ix5 0 n j h d) = (arrs m c).v (ix5 (bt t) n j h d) := by
  unfold iblk; rw [View.read_apply]
  exact congrArg (m ((c.tc : Thread nD τ).loc main_arg3)) (funext fun a => match a with
    | ⟨0, _⟩ => Fin.ext (by show (BitVec.ofNat 32 (grid0.coords t 0).val).toNat * 1 + 1 * 0 = (bt t).val; rw [bw]; omega)
    | ⟨1, _⟩ => Fin.ext (by show 0 * 5 + 1 * n.val = n.val; omega)
    | ⟨2, _⟩ => Fin.ext (by show 0 * 64 + 1 * j.val = j.val; omega)
    | ⟨3, _⟩ => Fin.ext (by show 0 * 32 + 1 * h.val = h.val; omega)
    | ⟨4, _⟩ => Fin.ext (by show 0 * 128 + 1 * d.val = d.val; omega))
theorem blk6 (c : Dev nD) (t : Fin cfg0.N) (r : Fin 256) (x : Fin 4096) :
    (iblk m c 6 t : Vec Ideal S1x256x4096 .fp8e5m2) (ix3 0 r x) = (arrs m c).g (ix3 (bt t) (tk (tt t) r) x) := by
  unfold iblk; rw [View.read_apply]
  exact congrArg (m ((c.tc : Thread nD τ).loc main_arg5)) (funext fun a => match a with
    | ⟨0, _⟩ => Fin.ext (by show (BitVec.ofNat 32 (grid0.coords t 0).val).toNat * 1 + 1 * 0 = (bt t).val; rw [bw]; omega)
    | ⟨1, _⟩ => Fin.ext (by show (BitVec.ofNat 32 (grid0.coords t 1).val).toNat * 256 + 1 * r.val = (tk (tt t) r).val; rw [tw, tk_val]; omega)
    | ⟨2, _⟩ => Fin.ext (by show 0 * 4096 + 1 * x.val = x.val; omega))
theorem blk7 (c : Dev nD) (t : Fin cfg0.N) (b : Fin 4) (r : Fin 256) :
    (iblk m c 7 t : Vec Ideal S4x256 .f32) (ix2 b r) = (arrs m c).gs (ix2 b (tk (tt t) r)) := by
  unfold iblk; rw [View.read_apply]
  exact congrArg (m ((c.tc : Thread nD τ).loc main_arg6)) (funext fun a => match a with
    | ⟨0, _⟩ => Fin.ext (by show 0 * 4 + 1 * b.val = b.val; omega)
    | ⟨1, _⟩ => Fin.ext (by show (BitVec.ofNat 32 (grid0.coords t 1).val).toNat * 256 + 1 * r.val = (tk (tt t) r).val; rw [tw, tk_val]; omega))
theorem blk8 (c : Dev nD) (t : Fin cfg0.N) (r : Fin 256) (x : Fin 4096) :
    (iblk m c 8 t : Vec Ideal S1x256x4096 .bf16) (ix3 0 r x) = (arrs m c).o (ix3 (bt t) (tk (tt t) r) x) := by
  unfold iblk; rw [View.read_apply]
  exact congrArg (m ((c.tc : Thread nD τ).loc main_arg7)) (funext fun a => match a with
    | ⟨0, _⟩ => Fin.ext (by show (BitVec.ofNat 32 (grid0.coords t 0).val).toNat * 1 + 1 * 0 = (bt t).val; rw [bw]; omega)
    | ⟨1, _⟩ => Fin.ext (by show (BitVec.ofNat 32 (grid0.coords t 1).val).toNat * 256 + 1 * r.val = (tk (tt t) r).val; rw [tw, tk_val]; omega)
    | ⟨2, _⟩ => Fin.ext (by show 0 * 4096 + 1 * x.val = x.val; omega))
theorem blk9 (c : Dev nD) (t : Fin cfg0.N) (h : Fin 32) (r : Fin 256) :
    (iblk m c 9 t : Vec Ideal S1x32x256 .f32) (ix3 0 h r) = (arrs m c).lse (ix3 (bt t) h (tk (tt t) r)) := by
  unfold iblk; rw [View.read_apply]
  exact congrArg (m ((c.tc : Thread nD τ).loc main_arg8)) (funext fun a => match a with
    | ⟨0, _⟩ => Fin.ext (by show (BitVec.ofNat 32 (grid0.coords t 0).val).toNat * 1 + 1 * 0 = (bt t).val; rw [bw]; omega)
    | ⟨1, _⟩ => Fin.ext (by show 0 * 32 + 1 * h.val = h.val; omega)
    | ⟨2, _⟩ => Fin.ext (by show (BitVec.ofNat 32 (grid0.coords t 1).val).toNat * 256 + 1 * r.val = (tk (tt t) r).val; rw [tw, tk_val]; omega))
theorem blk10 (c : Dev nD) (t : Fin cfg0.N) (b : Fin 4) (r : Fin 256) :
    (iblk m c 10 t : Vec Ideal S4x256 .i32) (ix2 b r) = (arrs m c).idx (ix2 b (tk (tt t) r)) := by
  unfold iblk; rw [View.read_apply]
  exact congrArg (m ((c.tc : Thread nD τ).loc main_arg9)) (funext fun a => match a with
    | ⟨0, _⟩ => Fin.ext (by show 0 * 4 + 1 * b.val = b.val; omega)
    | ⟨1, _⟩ => Fin.ext (by show (BitVec.ofNat 32 (grid0.coords t 1).val).toNat * 256 + 1 * r.val = (tk (tt t) r).val; rw [tw, tk_val]; omega))
theorem blk1 (c : Dev nD) (t : Fin cfg0.N) (b : Fin 4) (n : Fin 5) (h : Fin 32) :
    (iblk m c 1 t : Vec Ideal S4x5x32 .f32) (ix3 b n h) = (arrs m c).ks (ix3 b n h) := by
  unfold iblk; rw [View.read_apply]
  exact congrArg (m ((c.tc : Thread nD τ).loc main_arg2)) (funext fun a => match a with
    | ⟨0, _⟩ => Fin.ext (by show 0 * 4 + 1 * b.val = b.val; omega)
    | ⟨1, _⟩ => Fin.ext (by show 0 * 5 + 1 * n.val = n.val; omega)
    | ⟨2, _⟩ => Fin.ext (by show 0 * 32 + 1 * h.val = h.val; omega))
theorem blk2 (c : Dev nD) (t : Fin cfg0.N) (b : Fin 4) (n : Fin 5) (h : Fin 32) :
    (iblk m c 2 t : Vec Ideal S4x5x32 .f32) (ix3 b n h) = (arrs m c).vs (ix3 b n h) := by
  unfold iblk; rw [View.read_apply]
  exact congrArg (m ((c.tc : Thread nD τ).loc main_arg4)) (funext fun a => match a with
    | ⟨0, _⟩ => Fin.ext (by show 0 * 4 + 1 * b.val = b.val; omega)
    | ⟨1, _⟩ => Fin.ext (by show 0 * 5 + 1 * n.val = n.val; omega)
    | ⟨2, _⟩ => Fin.ext (by show 0 * 32 + 1 * h.val = h.val; omega))
theorem blk0 (c : Dev nD) (t : Fin cfg0.N) (b : Fin 4) (x : Fin 3584) :
    (iblk m c 0 t : Vec Ideal S4x3584 .i32) (ix2 b x) = (arrs m c).idx (ix2 b x) := by
  unfold iblk; rw [View.read_apply]
  exact congrArg (m ((c.tc : Thread nD τ).loc main_arg9)) (funext fun a => match a with
    | ⟨0, _⟩ => Fin.ext (by show 0 * 4 + 1 * b.val = b.val; omega)
    | ⟨1, _⟩ => Fin.ext (by show 0 * 3584 + 1 * x.val = x.val; omega))

/-- The state at a point: the blocks of the inputs, and any contents of the rest. -/
def at' (c : Dev nD) (t : Fin cfg0.N) (x13 : Vec Ideal S1x256x4096 .bf16) (x14 x15 : Vec Ideal S1x5x64x32x128 .bf16)
    (x16 : Vec Ideal S160x64x128 .bf16) (x17 : Vec Ideal S160x64x128 .fp8e4m3) (x18 x19 : Vec Ideal S160x64x128 .f32) (x20 : Vec Ideal S32x256 .f32) : St Ideal :=
  ⟨iblk m c 0 t, iblk m c 1 t, iblk m c 2 t, iblk m c 3 t, iblk m c 4 t, iblk m c 5 t, iblk m c 6 t, iblk m c 7 t, iblk m c 8 t, iblk m c 9 t, iblk m c 10 t, x13, x14, x15, x16, x17, x18, x19, x20⟩

section
variable (c : Dev nD) (t : Fin cfg0.N) (x13 : Vec Ideal S1x256x4096 .bf16) (x14 x15 : Vec Ideal S1x5x64x32x128 .bf16)
    (x16 : Vec Ideal S160x64x128 .bf16) (x17 : Vec Ideal S160x64x128 .fp8e4m3) (x18 x19 : Vec Ideal S160x64x128 .f32) (x20 : Vec Ideal S32x256 .f32)

theorem eT_at (n : Fin 5) (h : Fin 32) (j : Fin 64) (r : Fin 256) : eT (bt t) (at' m c t x13 x14 x15 x16 x17 x18 x19 x20) n h j r = eG (arrs m c) (bt t) n h j (tk (tt t) r) := by
  unfold eT eG at'
  dsimp only
  simp only [blk1 m c t, blk3 m c t, blk4 m c t, blk7 m c t, blk9 m c t, blk10 m c t]
theorem dT_at (n : Fin 5) (h : Fin 32) (j : Fin 64) (r : Fin 256) : dT (bt t) (at' m c t x13 x14 x15 x16 x17 x18 x19 x20) n h j r = dG (arrs m c) (bt t) n h j (tk (tt t) r) := by
  unfold dT dG
  rw [eT_at]
  unfold at'
  dsimp only
  simp only [blk2 m c t, blk5 m c t, blk6 m c t, blk8 m c t]
theorem dvT_at (n : Fin 5) (h : Fin 32) (j : Fin 64) (d : Fin 128) : dvT (bt t) (at' m c t x13 x14 x15 x16 x17 x18 x19 x20) n h j d = dvG (arrs m c) (bt t) (tt t) n h j d := by
  unfold dvT dvG
  simp only [eT_at]
  unfold at'
  dsimp only
  simp only [blk6 m c t]
theorem dkT_at (n : Fin 5) (h : Fin 32) (j : Fin 64) (d : Fin 128) : dkT (bt t) (at' m c t x13 x14 x15 x16 x17 x18 x19 x20) n h j d = dkG (arrs m c) (bt t) (tt t) n h j d := by
  unfold dkT dkG
  simp only [dT_at]
  unfold at'
  dsimp only
  simp only [blk3 m c t]
theorem dqT_at (h : Fin 32) (r : Fin 256) (d : Fin 128) : ∑ n : Fin 5, dqT (bt t) (at' m c t x13 x14 x15 x16 x17 x18 x19 x20) n h r d = dqG (arrs m c) (bt t) (tk (tt t) r) h d := by
  unfold dqT dqG
  simp only [dT_at]
  unfold at'
  dsimp only
  simp only [blk1 m c t, blk4 m c t]
end

end Cert.KernelIdeal.Own

end
-- ==== Proof.ValueRun.lean ====
/- The run of the kernel with the contents of its three results named, over the extended reals. -/
module

public import proofs.«01_k».proof.Proof.ValueBlocks
public import Idealize.ShloMosaic.Lib.Pointwise
public import Idealize.ShloMosaic.PureOps.Ideal

@[expose] public section

set_option maxRecDepth 16384

noncomputable section

namespace Cert.KernelIdeal.Own.Exact

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
variable [Cert.KernelIdeal.Facts]

open Cert.KernelIdeal.Gen Cert.KernelIdeal.Own

local notation "𝕄" => MT nD τ sig Unit (Elt Ideal) ℕ (UR sig nD τ) ℕ

variable (m : (ℓ : Loc nD τ sig) → Buf (Elt Ideal) ℓ) (ρ : Dev nD → PrngReg)

/-! ## The results -/

/-- A column's head. -/
def hd (x : Fin 4096) : Fin 32 := ⟨x.val / 128, by omega⟩
/-- A column's place within its head. -/
def cd (x : Fin 4096) : Fin 128 := ⟨x.val % 128, by omega⟩
theorem hd_cl (h : Fin 32) (d : Fin 128) : hd (cl h d) = h := Fin.ext (by show (128 * h.val + d.val) / 128 = h.val; omega)
theorem cd_cl (h : Fin 32) (d : Fin 128) : cd (cl h d) = d := Fin.ext (by show (128 * h.val + d.val) % 128 = d.val; omega)

/-- The queries' gradient. -/
def gDq (a : Arrs) : Vec Ideal S4x3584x4096 .bf16 := fun j => dqG a (j 0) (j 1) (hd (j 2)) (cd (j 2))
/-- The keys' gradient. -/
def gDk (a : Arrs) : Vec Ideal S4x5x64x32x128 .bf16 := fun j => dkA a (j 0) 14 (j 1) (j 3) (j 2) (j 4) * (Scalar.ofBits .f32 0x3DB504F3#32 : Ideal .f32)
/-- The values' gradient. -/
def gDv (a : Arrs) : Vec Ideal S4x5x64x32x128 .bf16 := fun j => dvA a (j 0) 14 (j 1) (j 3) (j 2) (j 4) * (Scalar.ofBits .f32 0x3F800000#32 : Ideal .f32)

theorem idx_dq (j : S1x256x4096.Idx) : ∃ (r : Fin 256) (h : Fin 32) (d : Fin 128), j = ix3 0 r (cl h d) :=
  ⟨j 1, hd (j 2), cd (j 2), funext fun a => match a with
    | ⟨0, _⟩ => Subsingleton.elim (α := Fin 1) _ _
    | ⟨1, _⟩ => rfl
    | ⟨2, _⟩ => Fin.ext (Nat.div_add_mod (j 2).val 128).symm⟩
theorem idx_kv (j : S1x5x64x32x128.Idx) : ∃ (n : Fin 5) (x : Fin 64) (h : Fin 32) (d : Fin 128), j = ix5 0 n x h d :=
  ⟨j 1, j 2, j 3, j 4, funext fun a => match a with
    | ⟨0, _⟩ => Subsingleton.elim (α := Fin 1) _ _
    | ⟨1, _⟩ => rfl
    | ⟨2, _⟩ => rfl
    | ⟨3, _⟩ => rfl
    | ⟨4, _⟩ => rfl⟩

def oblk11 (c : Dev nD) (t : Fin cfg0.N) : Vec Ideal S1x256x4096 .bf16 := ((cfg0.win 11).blk t).view.read (Elt Ideal) (gDq (arrs m c))
def oblk12 (c : Dev nD) (t : Fin cfg0.N) : Vec Ideal S1x5x64x32x128 .bf16 := ((cfg0.win 12).blk t).view.read (Elt Ideal) (gDk (arrs m c))
def oblk13 (c : Dev nD) (t : Fin cfg0.N) : Vec Ideal S1x5x64x32x128 .bf16 := ((cfg0.win 13).blk t).view.read (Elt Ideal) (gDv (arrs m c))

theorem oblk11_apply (c : Dev nD) (t : Fin cfg0.N) (r : Fin 256) (h : Fin 32) (d : Fin 128) :
    oblk11 m c t (ix3 0 r (cl h d)) = dqG (arrs m c) (bt t) (tk (tt t) r) h d := by
  have e : oblk11 m c t (ix3 0 r (cl h d)) = gDq (arrs m c) (ix3 (bt t) (tk (tt t) r) (cl h d)) := by
    exact congrArg (gDq (arrs m c)) (funext fun a => match a with
      | ⟨0, _⟩ => Fin.ext (by show (BitVec.ofNat 32 (grid0.coords t 0).val).toNat * 1 + 1 * 0 = (bt t).val; rw [bw]; omega)
      | ⟨1, _⟩ => Fin.ext (by show (BitVec.ofNat 32 (grid0.coords t 1).val).toNat * 256 + 1 * r.val = (tk (tt t) r).val; rw [tw, tk_val]; omega)
      | ⟨2, _⟩ => Fin.ext (by show 0 * 4096 + 1 * (cl h d).val = (cl h d).val; omega))
  rw [e]
  show dqG (arrs m c) (bt t) (tk (tt t) r) (hd (cl h d)) (cd (cl h d)) = _
  rw [hd_cl, cd_cl]
theorem oblk12_apply (c : Dev nD) (t : Fin cfg0.N) (n : Fin 5) (x : Fin 64) (h : Fin 32) (d : Fin 128) :
    oblk12 m c t (ix5 0 n x h d) = dkA (arrs m c) (bt t) 14 n h x d * (Scalar.ofBits .f32 0x3DB504F3#32 : Ideal .f32) := by
  have e : oblk12 m c t (ix5 0 n x h d) = gDk (arrs m c) (ix5 (bt t) n x h d) :=
    congrArg (gDk (arrs m c)) (funext fun a => match a with
      | ⟨0, _⟩ => Fin.ext (by show (BitVec.ofNat 32 (grid0.coords t 0).val).toNat * 1 + 1 * 0 = (bt t).val; rw [bw]; omega)
      | ⟨1, _⟩ => Fin.ext (by show 0 * 5 + 1 * n.val = n.val; omega)
      | ⟨2, _⟩ => Fin.ext (by show 0 * 64 + 1 * x.val = x.val; omega)
      | ⟨3, _⟩ => Fin.ext (by show 0 * 32 + 1 * h.val = h.val; omega)
      | ⟨4, _⟩ => Fin.ext (by show 0 * 128 + 1 * d.val = d.val; omega))
  exact e
theorem oblk13_apply (c : Dev nD) (t : Fin cfg0.N) (n : Fin 5) (x : Fin 64) (h : Fin 32) (d : Fin 128) :
    oblk13 m c t (ix5 0 n x h d) = dvA (arrs m c) (bt t) 14 n h x d * (Scalar.ofBits .f32 0x3F800000#32 : Ideal .f32) := by
  have e : oblk13 m c t (ix5 0 n x h d) = gDv (arrs m c) (ix5 (bt t) n x h d) :=
    congrArg (gDv (arrs m c)) (funext fun a => match a with
      | ⟨0, _⟩ => Fin.ext (by show (BitVec.ofNat 32 (grid0.coords t 0).val).toNat * 1 + 1 * 0 = (bt t).val; rw [bw]; omega)
      | ⟨1, _⟩ => Fin.ext (by show 0 * 5 + 1 * n.val = n.val; omega)
      | ⟨2, _⟩ => Fin.ext (by show 0 * 64 + 1 * x.val = x.val; omega)
      | ⟨3, _⟩ => Fin.ext (by show 0 * 32 + 1 * h.val = h.val; omega)
      | ⟨4, _⟩ => Fin.ext (by show 0 * 128 + 1 * d.val = d.val; omega))
  exact e

/-! ## The invariant -/

/-- The unpacked codes and the accumulators of a batch row after the first tiles. -/
def AccA (a : Arrs) (b : Fin 4) (τ : Nat) (s16 : Vec Ideal S160x64x128 .bf16) (s17 : Vec Ideal S160x64x128 .fp8e4m3) (s18 s19 : Vec Ideal S160x64x128 .f32) : Prop :=
  (∀ (n : Fin 5) (h : Fin 32) (x : Fin 64) (d : Fin 128), s16 (ix3 (rw' n h) x d) = a.k (ix5 b n x h d) ∧ s17 (ix3 (rw' n h) x d) = a.v (ix5 b n x h d))
  ∧ ∀ (n : Fin 5) (h : Fin 32) (x : Fin 64) (d : Fin 128), s18 (ix3 (rw' n h) x d) = dkA a b τ n h x d ∧ s19 (ix3 (rw' n h) x d) = dvA a b τ n h x d

/-- What the scratch buffers hold before the point with the given number. -/
def Inv (c : Dev nD) (t : Nat) (s16 : Vec Ideal S160x64x128 .bf16) (s17 : Vec Ideal S160x64x128 .fp8e4m3) (s18 s19 : Vec Ideal S160x64x128 .f32) : Prop :=
  t % 14 ≠ 0 → AccA (arrs m c) ⟨t / 14 % 4, Nat.mod_lt _ (by decide)⟩ (t % 14) s16 s17 s18 s19

/-- Every token's image lies between the images of the first and the last token of its tile. -/
def Between : Prop := ∀ (c : Dev nD) (t : Fin cfg0.N) (r : Fin 256),
  (loV (F := Ideal) (grid0.coords t) (iblk m c 0 t)).toInt ≤ ((arrs m c).idx (ix2 (bt t) (tk (tt t) r)) : BitVec 32).toInt
  ∧ ((arrs m c).idx (ix2 (bt t) (tk (tt t) r)) : BitVec 32).toInt ≤ (hiV (F := Ideal) (grid0.coords t) (iblk m c 0 t)).toInt

theorem row_eq (t : Fin cfg0.N) : (⟨t.val / 14 % 4, Nat.mod_lt _ (by decide)⟩ : Fin 4) = bt t := Fin.ext (by
  show t.val / 14 % 4 = (bt t).val
  rw [← bt_val]; have := (bt t).isLt; omega)

theorem point_eff (hr : InRange m) (hb : Between m) (c : Dev nD) (t : Fin cfg0.N) (x13 : Vec Ideal S1x256x4096 .bf16) (x14 x15 : Vec Ideal S1x5x64x32x128 .bf16)
    (x16 : Vec Ideal S160x64x128 .bf16) (x17 : Vec Ideal S160x64x128 .fp8e4m3) (x18 x19 : Vec Ideal S160x64x128 .f32) (x20 : Vec Ideal S32x256 .f32)
    (hi : Inv m c t.val x16 x17 x18 x19) (s' : St Ideal) (es : s' = bodyEff (grid0.coords t) (at' m c t x13 x14 x15 x16 x17 x18 x19 x20)) :
    Inv m c (t.val + 1) s'.x16 s'.x17 s'.x18 s'.x19 ∧ s'.x13 = oblk11 m c t
    ∧ (tt t = 13 → s'.x14 = oblk12 m c t ∧ s'.x15 = oblk13 m c t)
    ∧ (tt t ≠ 13 → s'.x14 = x14 ∧ s'.x15 = x15) := by
  have hv := tt_val t
  have hlt := tt_lt t
  have key := body_eff (grid0.coords t) (at' m c t x13 x14 x15 x16 x17 x18 x19 x20) (dkA (arrs m c) (bt t) (tt t)) (dvA (arrs m c) (bt t) (tt t))
    (fun h0 k h x d => by
      have h0 : tt t = 0 := h0
      unfold dkA dvA; rw [h0]; exact ⟨rfl, rfl⟩)
    (fun h1 => by
      have h1 : tt t ≠ 0 := h1
      have := hi (by omega)
      rw [row_eq, ← hv] at this
      exact ⟨fun n h x d => ⟨(this.1 n h x d).1.trans (blk4 m c t n x h d).symm, (this.1 n h x d).2.trans (blk5 m c t n x h d).symm⟩, this.2⟩)
    (hr c t).1 (hr c t).2
    (fun r => by
      have e := blk10 m c t (bt t) r
      have := hb c t r
      rw [← e] at this
      exact this)
  rw [← es] at key
  have hins : s'.ins = (at' m c t x13 x14 x15 x16 x17 x18 x19 x20).ins := by rw [es]; exact bodyEff_ins _ _
  have e6 : s'.x6 = iblk m c 4 t := congrArg (fun x => x.2.2.2.2.1) hins
  have e7 : s'.x7 = iblk m c 5 t := congrArg (fun x => x.2.2.2.2.2.1) hins
  clear es hins
  obtain ⟨⟨k1, k2⟩, k3, k4, k5⟩ := key
  have sk : ∀ (n : Fin 5) (h : Fin 32) (x : Fin 64) (d : Fin 128), dkA (arrs m c) (bt t) (tt t) n h x d + dkT (bx (grid0.coords t)) (at' m c t x13 x14 x15 x16 x17 x18 x19 x20) n h x d
      = dkA (arrs m c) (bt t) (tt t + 1) n h x d := fun n h x d => by
    rw [dkT_at]; unfold dkA; rw [Finset.sum_range_succ]
  have sv : ∀ (n : Fin 5) (h : Fin 32) (x : Fin 64) (d : Fin 128), dvA (arrs m c) (bt t) (tt t) n h x d + dvT (bx (grid0.coords t)) (at' m c t x13 x14 x15 x16 x17 x18 x19 x20) n h x d
      = dvA (arrs m c) (bt t) (tt t + 1) n h x d := fun n h x d => by
    rw [dvT_at]; unfold dvA; rw [Finset.sum_range_succ]
  refine ⟨fun hne => ?_, funext fun j => ?_, fun h13 => ⟨funext fun j => ?_, funext fun j => ?_⟩, k5⟩
  · have eb : (⟨(t.val + 1) / 14 % 4, Nat.mod_lt _ (by decide)⟩ : Fin 4) = bt t := (Fin.ext (by show (t.val + 1) / 14 % 4 = t.val / 14 % 4; omega)).trans (row_eq t)
    have et : (t.val + 1) % 14 = tt t + 1 := by omega
    rw [eb, et]
    refine ⟨fun n h x d => ⟨?_, ?_⟩, fun n h x d => ⟨(k2 n h x d).1.trans (sk n h x d), (k2 n h x d).2.trans (sv n h x d)⟩⟩
    · exact (k1 n h x d).1.trans ((congrFun e6 _).trans (blk4 m c t n x h d))
    · exact (k1 n h x d).2.trans ((congrFun e7 _).trans (blk5 m c t n x h d))
  · obtain ⟨r, h, d, rfl⟩ := idx_dq j
    exact (k3 h r d).trans ((dqT_at m c t x13 x14 x15 x16 x17 x18 x19 x20 h r d).trans (oblk11_apply m c t r h d).symm)
  · obtain ⟨n, x, h, d, rfl⟩ := idx_kv j
    refine ((k4 h13 n h x d).1.trans ?_).trans (oblk12_apply m c t n x h d).symm
    rw [sk, h13]
  · obtain ⟨n, x, h, d, rfl⟩ := idx_kv j
    refine ((k4 h13 n h x d).2.trans ?_).trans (oblk13_apply m c t n x h d).symm
    rw [sv, h13]

/-- The scratch buffers before a point. -/
def ΦV (c : Dev nD) (t : Nat) : sProp 𝕄 :=
  iprop((∃ s16, ∃ s17, ∃ s18, ∃ s19, ⌜Inv m c t s16 s17 s18 s19⌝ ∗ owns (c : Thread nD τ) (Memref.whole cc0_scratch0) fullShare s16 ∗ owns (c : Thread nD τ) (Memref.whole cc0_scratch1) fullShare s17
    ∗ owns (c : Thread nD τ) (Memref.whole cc0_scratch2) fullShare s18 ∗ owns (c : Thread nD τ) (Memref.whole cc0_scratch3) fullShare s19 ∗ (∃ f, owns (c : Thread nD τ) (Memref.whole cc0_scratch4) fullShare f)) ∗ ∃ r, prngReg c r)

/-- The proof data on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => oblk11 m c t
    | ⟨12, _⟩ => oblk12 m c t
    | ⟨13, _⟩ => oblk13 m c t
  Φ t := ΦV m c t.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = iblk m c 7 t := rfl
theorem after_8 (c : Dev nD) (t : Fin cfg0.N) : (dats m 0 c).after 8 t = iblk m c 8 t := rfl
theorem after_9 (c : Dev nD) (t : Fin cfg0.N) : (dats m 0 c).after 9 t = iblk m c 9 t := rfl
theorem after_10 (c : Dev nD) (t : Fin cfg0.N) : (dats m 0 c).after 10 t = iblk m c 10 t := rfl
theorem after_11 (c : Dev nD) (t : Fin cfg0.N) : (dats m 0 c).after 11 t = oblk11 m c t := rfl
theorem after_12 (c : Dev nD) (t : Fin cfg0.N) : (dats m 0 c).after 12 t = oblk12 m c t := rfl
theorem after_13 (c : Dev nD) (t : Fin cfg0.N) : (dats m 0 c).after 13 t = oblk13 m c t := rfl
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

def post12 (c : Dev nD) (t : Fin cfg0.N) : sProp 𝕄 :=
  match cfg0.idle 12 (cfg0.grid.coords t) with
  | true => match (cfg0.win 12).flush t with
    | false => iprop(∃ d, owns (c : Thread nD τ) (st0_12 t) fullShare ((dats m 0 c).before 12 t d))
    | true => owns (c : Thread nD τ) (st0_12 t) fullShare ((dats m 0 c).after 12 t)
  | false => owns (c : Thread nD τ) (st0_12 t) fullShare ((dats m 0 c).after 12 t)
theorem post12_last (c : Dev nD) (t : Fin cfg0.N) (h : tt t = 13) : post12 m c t = owns (c : Thread nD τ) (st0_12 t) fullShare (oblk12 m c t) := by
  have e : cfg0.idle 12 (cfg0.grid.coords t) = false := by
    show (!(k0_cond4 (grid0.coords t) == 1#1)) = false
    rw [(cond4_iff (grid0.coords t)).2 h]; rfl
  unfold post12; rw [e]
  show owns (c : Thread nD τ) (st0_12 t) fullShare ((dats m 0 c).after 12 t) = _
  rw [after_12]
theorem post12_else (c : Dev nD) (t : Fin cfg0.N) (h : tt t ≠ 13) : post12 m c t = iprop(∃ d, owns (c : Thread nD τ) (st0_12 t) fullShare ((dats m 0 c).before 12 t d)) := by
  have hc : k0_cond4 (grid0.coords t) ≠ 1#1 := fun e => h ((cond4_iff (grid0.coords t)).1 e)
  have e : cfg0.idle 12 (cfg0.grid.coords t) = true := by
    show (!(k0_cond4 (grid0.coords t) == 1#1)) = true
    rw [beq_false_of_ne hc]; rfl
  have f : (cfg0.win 12).flush t = false := Bool.eq_false_iff.2 fun e => h ((tt_val t).trans ((flush0_12 t).1 e))
  unfold post12; rw [e, f]

def post13 (c : Dev nD) (t : Fin cfg0.N) : sProp 𝕄 :=
  match cfg0.idle 13 (cfg0.grid.coords t) with
  | true => match (cfg0.win 13).flush t with
    | false => iprop(∃ d, owns (c : Thread nD τ) (st0_13 t) fullShare ((dats m 0 c).before 13 t d))
    | true => owns (c : Thread nD τ) (st0_13 t) fullShare ((dats m 0 c).after 13 t)
  | false => owns (c : Thread nD τ) (st0_13 t) fullShare ((dats m 0 c).after 13 t)
theorem post13_last (c : Dev nD) (t : Fin cfg0.N) (h : tt t = 13) : post13 m c t = owns (c : Thread nD τ) (st0_13 t) fullShare (oblk13 m c t) := by
  have e : cfg0.idle 13 (cfg0.grid.coords t) = false := by
    show (!(k0_cond4 (grid0.coords t) == 1#1)) = false
    rw [(cond4_iff (grid0.coords t)).2 h]; rfl
  unfold post13; rw [e]
  show owns (c : Thread nD τ) (st0_13 t) fullShare ((dats m 0 c).after 13 t) = _
  rw [after_13]
theorem post13_else (c : Dev nD) (t : Fin cfg0.N) (h : tt t ≠ 13) : post13 m c t = iprop(∃ d, owns (c : Thread nD τ) (st0_13 t) fullShare ((dats m 0 c).before 13 t d)) := by
  have hc : k0_cond4 (grid0.coords t) ≠ 1#1 := fun e => h ((cond4_iff (grid0.coords t)).1 e)
  have e : cfg0.idle 13 (cfg0.grid.coords t) = true := by
    show (!(k0_cond4 (grid0.coords t) == 1#1)) = true
    rw [beq_false_of_ne hc]; rfl
  have f : (cfg0.win 13).flush t = false := Bool.eq_false_iff.2 fun e => h ((tt_val t).trans ((flush0_13 t).1 e))
  unfold post13; rw [e, f]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ post12 m c t
    ∗ post13 m c t)

set_option maxHeartbeats 1600000 in
theorem sound_body (hr : InRange m) (hb : Between m) (c : Dev nD) (t : Fin cfg0.N) :
    bodyPre m c t ⊢ wp Idealize.ShloMosaic.frame (wpE (defs₀ (F := Ideal)) Variants.none c none) Set.univ (bodyAt0 t) (fun _ => bodyPost m c t) := by
  unfold bodyPre bodyPost
  simp only [before_0, before_1, before_2, before_3, before_4, before_5, before_6, before_7, before_8, before_9, before_10]
  rw [show (dats m 0 c).Φ t.succ = ΦV m c (t.val + 1) from rfl, show (dats m 0 c).Φ t.castSucc = ΦV m c t.val from rfl,
    show (dats m 0 c).owesAt () t.succ = (dats m 0 c).owesAt () t.castSucc from rfl,
    after_0, after_1, after_2, after_3, after_4, after_5, after_6, after_7, after_8, after_9, after_10, after_11]
  unfold ΦV
  iintro ⟨⟨⟨%s0, %s1, %s2, %s3, %hi, S0, S1, S2, S3, ⟨%s4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have key := body_point c t (at' m c t ((dats m 0 c).before 11 t d11) ((dats m 0 c).before 12 t d12) ((dats m 0 c).before 13 t d13) s0 s1 s2 s3 s4) (hr c t).1 (hr c t).2
  have hins := bodyEff_ins (grid0.coords t) (at' m c t ((dats m 0 c).before 11 t d11) ((dats m 0 c).before 12 t d12) ((dats m 0 c).before 13 t d13) s0 s1 s2 s3 s4)
  have hp := point_eff m hr hb c t ((dats m 0 c).before 11 t d11) ((dats m 0 c).before 12 t d12) ((dats m 0 c).before 13 t d13) s0 s1 s2 s3 s4 hi _ rfl
  generalize bodyEff (F := Ideal) (grid0.coords t) _ = s' at key hins hp
  simp only [St.ins, Prod.mk.injEq] at hins
  obtain ⟨e0, e1, e2, e3, e4, e5, e6, e7, e8, e9, e10⟩ := hins
  obtain ⟨p1, p2, p3, p4⟩ := hp
  rw [held_bufs, held_bufs, e0, e1, e2, e3, e4, e5, e6, e7, e8, e9, e10, p2] at key
  dsimp only [at'] at key
  iapply (wp_wand_r Idealize.ShloMosaic.frame (wpE (defs₀ (F := Ideal)) Variants.none (c : Thread nD τ) none) Set.univ)
  isplitl [H0 H1 H2 H3 H4 H5 H6 H7 H8 H9 H10 H11 H12 H13 S0 S1 S2 S3 S4]
  · iapply key
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    iexact S4
  iintro %_ ⟨H0, H1, H2, H3, H4, H5, H6, H7, H8, H9, H10, H11, H12, H13, S0, S1, S2, S3, S4⟩
  isplitl [S0 S1 S2 S3 S4 Hg]
  · isplitl [S0 S1 S2 S3 S4]
    · iexists s'.x16
      iexists s'.x17
      iexists s'.x18
      iexists s'.x19
      isplitr
      · ipureintro; exact p1
      isplitl [S0]; · iexact S0
      isplitl [S1]; · iexact S1
      isplitl [S2]; · iexact S2
      isplitl [S3]; · iexact S3
      iexists _; iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  by_cases h13 : tt t = 13
  · rw [post12_last m c t h13, post13_last m c t h13, ← (p3 h13).1, ← (p3 h13).2]
    isplitl [H12]; · iexact H12
    iexact H13
  · rw [post12_else m c t h13, post13_else m c t h13]
    rw [(p4 h13).1, (p4 h13).2]
    isplitl [H12]; · iexists d12; iexact H12
    iexists d13; iexact H13

theorem body_obligation (hr : InRange m) (hb : Between m) (c : Dev nD) :
    BodyObligation (dats m 0 c) (defs₀ (F := Ideal)) Variants.none () Set.univ := fun t => by
  rw [bigSep_W0, bigSep_W0, defs₀_row]
  exact triple_restated (sound_body m hr hb c t) rfl .rfl fun _ => .rfl

theorem enter (c : Dev nD) : (Pipeline.ΦA (Val := Elt Ideal) (U := UR sig nD τ) spec0 c : sProp 𝕄) ⊢ ΦV m c 0 := by
  rw [scratch_eq]
  unfold ΦV
  iintro ⟨⟨⟨%s0, S0⟩, ⟨%s1, S1⟩, ⟨%s2, S2⟩, ⟨%s3, S3⟩, S4⟩, Hg⟩
  isplitr [Hg]
  · iexists s0
    iexists s1
    iexists s2
    iexists s3
    isplitr
    · ipureintro; exact fun h => absurd rfl h
    isplitl [S0]; · iexact S0
    isplitl [S1]; · iexact S1
    isplitl [S2]; · iexact S2
    isplitl [S3]; · iexact S3
    iexact S4
  iexact Hg
theorem leave (c : Dev nD) (t : Nat) : ΦV m c t ⊢ (Pipeline.ΦA (Val := Elt Ideal) (U := UR sig nD τ) spec0 c : sProp 𝕄) := by
  rw [scratch_eq]
  unfold ΦV
  iintro ⟨⟨%s0, %s1, %s2, %s3, %hi, S0, S1, S2, S3, S4⟩, Hg⟩
  isplitr [Hg]
  · isplitl [S0]; · iexists s0; iexact S0
    isplitl [S1]; · iexists s1; iexact S1
    isplitl [S2]; · iexists s2; iexact S2
    isplitl [S3]; · iexists s3; iexact S3
    iexact S4
  iexact Hg

set_option backward.isDefEq.respectTransparency.types false in
set_option maxHeartbeats 800000 in
theorem run_main (hr : InRange m) (hb : Between m) :
    θ_run defs (onTc (τ := τ) (main (F := Ideal))) (s₀ m ρ)
      (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m hr hb c).loose) (hq := fun _ _ _ => rfl)
    (howed := fun _ _ => rfl) (V := V m) (hmain := hmain m Variants.none) (hA := A_eq m)
    (hin := fun c => enter m c) (hout := fun c => leave m c _)

end Cert.KernelIdeal.Own.Exact

end
-- ==== Proof.ValueAlg.lean ====
/- The gradients as the kernel adds them up equal the gradients as the reference adds them up, over the extended reals, where the two
   scales that move through sums are non-negative and finite. -/
module

public import proofs.«01_k».proof.Proof.ValueRun
public import Idealize.ShloMosaic.Lib.Pointwise
public import Idealize.ShloMosaic.Lib.IdealHost
public import Idealize.ShloMosaic.PureOps.Ideal

@[expose] public section

set_option maxRecDepth 16384

noncomputable section

namespace Cert.KernelIdeal.Own.Exact

open Cert.KernelIdeal Cert.KernelIdeal.Own
open Idealize.ShloMosaic

/-- The score scale. -/
def cC : EReal := Ideal.ofBits .f32 0x3DB504F3#32
theorem cC_eq : cC = (((11863283 / 134217728 : ℝ)) : EReal) := by
  unfold cC
  simp [Ideal.ofBits, Ideal.ieee, -EReal.coe_mul]; norm_num
theorem cC_nonneg : 0 ≤ cC := by
  rw [cC_eq]; exact EReal.coe_nonneg.mpr (by norm_num)
theorem cC_ne_top : cC ≠ ⊤ := by
  rw [cC_eq]; exact EReal.coe_ne_top _
/-- The reciprocal of the natural logarithm of two. -/
def cL : EReal := (((Real.log 2)⁻¹ : ℝ) : EReal)
theorem cL_pos : (0 : ℝ) < (Real.log 2)⁻¹ := inv_pos.mpr (Real.log_pos (by norm_num))
theorem cL_nonneg : 0 ≤ cL := EReal.coe_nonneg.mpr cL_pos.le
theorem cL_ne_top : cL ≠ ⊤ := EReal.coe_ne_top _
theorem cLog_eq : (cLog (F := Ideal) : EReal) = cL := rfl
theorem cSc_eq : (cSc (F := Ideal) : EReal) = cC := rfl
theorem cSL_eq : (cSL (F := Ideal) : EReal) = cC * cL := by
  rw [cC_eq]
  show ((((11863283 / 134217728) * (Real.log 2)⁻¹ : ℝ)) : EReal) = (((11863283 / 134217728 : ℝ)) : EReal) * (((Real.log 2)⁻¹ : ℝ) : EReal)
  rw [EReal.coe_mul]

/-- A power of two of a number over the logarithm of two is the exponential. -/
theorem exp2_mul (y : EReal) : Ideal.exp2 (y * cL) = Ideal.exp y := by
  unfold cL
  induction y using EReal.rec with
  | bot => rw [EReal.bot_mul_coe_of_pos cL_pos]; rfl
  | top => rw [EReal.top_mul_coe_of_pos cL_pos]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num : (0 : ℝ) < 2)]
    congr 1
    have : Real.log 2 ≠ 0 := (Real.log_pos (by norm_num)).ne'
    field_simp

theorem mul_sum' {ι : Type} (s : Finset ι) (f : ι → EReal) (c : EReal) (h0 : 0 ≤ c) (h1 : c ≠ ⊤) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

theorem sum_mul' {ι : Type} (s : Finset ι) (f : ι → EReal) (c : EReal) (h0 : 0 ≤ c) (h1 : c ≠ ⊤) : (∑ i ∈ s, f i) * c = ∑ i ∈ s, f i * c := by
  rw [mul_comm, mul_sum' s f c h0 h1]; exact Finset.sum_congr rfl fun i _ => mul_comm _ _

/-- The weight of a row of an image for a token, as the reference has it. -/
def pR (a : Arrs) (b : Fin 4) (n : Fin 5) (h : Fin 32) (m : Fin 64) (t : Fin 3584) : EReal :=
  if a.idx (ix2 b t) = BitVec.ofNat 32 n.val then
    Ideal.exp ((∑ d : Fin 128, (a.q (ix3 b t (cl h d)) : EReal) * a.k (ix5 b n m h d)) * a.ks (ix3 b n h) * cC - a.lse (ix3 b h t)) else 0
/-- The gradient of a score, as the reference has it. -/
def sR (a : Arrs) (b : Fin 4) (n : Fin 5) (h : Fin 32) (m : Fin 64) (t : Fin 3584) : EReal :=
  pR a b n h m t * ((∑ d : Fin 128, (a.g (ix3 b t (cl h d)) : EReal) * a.v (ix5 b n m h d)) * a.gs (ix2 b t) * a.vs (ix3 b n h)
    - ∑ d : Fin 128, (a.g (ix3 b t (cl h d)) : EReal) * a.gs (ix2 b t) * a.o (ix3 b t (cl h d)))

variable (a : Arrs)

theorem eG_eq (b : Fin 4) (n : Fin 5) (h : Fin 32) (m : Fin 64) (t : Fin 3584) : eG a b n h m t = pR a b n h m t * (a.gs (ix2 b t) : EReal) := by
  unfold eG pR
  congr 1
  show Ideal.exp2 _ = _
  by_cases e : a.idx (ix2 b t) = BitVec.ofNat 32 n.val
  · rw [if_pos e, if_pos e, cSL_eq, cLog_eq, ← exp2_mul, EReal.sub_mul_of_nonneg_of_ne_top cL_nonneg cL_ne_top]
    have : (∑ d : Fin 128, (a.k (ix5 b n m h d) : EReal) * a.q (ix3 b t (cl h d))) = ∑ d : Fin 128, (a.q (ix3 b t (cl h d)) : EReal) * a.k (ix5 b n m h d) :=
      Finset.sum_congr rfl fun d _ => mul_comm _ _
    rw [this, ← mul_assoc, ← mul_assoc]
  · rw [if_neg e, if_neg e]
    rw [sub_eq_add_neg, EReal.neg_top, EReal.add_bot]
    rfl

theorem dG_eq (hg : ∀ b t, 0 ≤ (a.gs (ix2 b t) : EReal) ∧ (a.gs (ix2 b t) : EReal) ≠ ⊤) (b : Fin 4) (n : Fin 5) (h : Fin 32) (m : Fin 64) (t : Fin 3584) :
    dG a b n h m t = sR a b n h m t := by
  obtain ⟨h0, h1⟩ := hg b t
  unfold dG sR
  rw [eG_eq, mul_assoc, EReal.mul_sub_of_nonneg_of_ne_top h0 h1, mul_sum' _ _ _ h0 h1]
  congr 1
  congr 1
  · have : (∑ d : Fin 128, (a.v (ix5 b n m h d) : EReal) * a.g (ix3 b t (cl h d))) = ∑ d : Fin 128, (a.g (ix3 b t (cl h d)) : EReal) * a.v (ix5 b n m h d) :=
      Finset.sum_congr rfl fun d _ => mul_comm _ _
    rw [this, ← mul_assoc, mul_comm (a.gs (ix2 b t) : EReal)]
  · refine Finset.sum_congr rfl fun d _ => ?_
    rw [← mul_assoc, mul_comm (a.gs (ix2 b t) : EReal)]

/-- A sum over the tiles' tokens is a sum over the tokens. -/
theorem sum_tiles (f : Fin 3584 → EReal) : ∑ s ∈ Finset.range 14, ∑ r : Fin 256, f (tk s r) = ∑ t : Fin 3584, f t := by
  rw [Finset.sum_range]
  rw [← Fintype.sum_prod_type' (f := fun (s : Fin 14) (r : Fin 256) => f (tk s.val r))]
  refine Fintype.sum_equiv (finProdFinEquiv (m := 14) (n := 256)) _ _ fun p => ?_
  congr 1
  refine Fin.ext ?_
  show (p.1.val * 256 + p.2.val) % 3584 = p.2.val + 256 * p.1.val
  have := p.1.isLt; have := p.2.isLt; omega

/-- A row of the keys: its image. -/
def im (x : Fin 320) : Fin 5 := ⟨x.val / 64, by omega⟩
/-- A row of the keys: its place within its image. -/
def ro (x : Fin 320) : Fin 64 := ⟨x.val % 64, by omega⟩

/-- A sum over the images' rows is a sum over the rows. -/
theorem sum_rows (f : Fin 5 → Fin 64 → EReal) : ∑ n : Fin 5, ∑ m : Fin 64, f n m = ∑ x : Fin 320, f (im x) (ro x) := by
  rw [← Fintype.sum_prod_type' (f := f)]
  refine (Fintype.sum_equiv (finProdFinEquiv (m := 5) (n := 64)).symm (fun x : Fin 320 => f (im x) (ro x)) _ fun x => ?_).symm
  rfl

/-- The values' gradient. -/
theorem dv_eq (b : Fin 4) (n : Fin 5) (h : Fin 32) (m : Fin 64) (d : Fin 128) :
    dvA a b 14 n h m d * (Scalar.ofBits .f32 0x3F800000#32 : Ideal .f32)
      = ∑ t : Fin 3584, (a.g (ix3 b t (cl h d)) : EReal) * (pR a b n h m t * a.gs (ix2 b t)) := by
  rw [show (Scalar.ofBits .f32 0x3F800000#32 : Ideal .f32) = (1 : EReal) from Ideal.ofBits_one_f32]
  unfold dvA dvG
  rw [sum_tiles fun t => eG a b n h m t * a.g (ix3 b t (cl h d))]
  refine (mul_one _).trans (Finset.sum_congr rfl fun t _ => ?_)
  rw [eG_eq]; exact mul_comm _ _

/-- The keys' gradient. -/
theorem dk_eq (hg : ∀ b t, 0 ≤ (a.gs (ix2 b t) : EReal) ∧ (a.gs (ix2 b t) : EReal) ≠ ⊤) (b : Fin 4) (n : Fin 5) (h : Fin 32) (m : Fin 64) (d : Fin 128) :
    dkA a b 14 n h m d * (Scalar.ofBits .f32 0x3DB504F3#32 : Ideal .f32)
      = cC * ∑ t : Fin 3584, (a.q (ix3 b t (cl h d)) : EReal) * sR a b n h m t := by
  unfold dkA dkG
  rw [sum_tiles fun t => dG a b n h m t * a.q (ix3 b t (cl h d))]
  refine (mul_comm _ _).trans (congrArg (cC * ·) (Finset.sum_congr rfl fun t _ => ?_))
  rw [dG_eq a hg]; exact mul_comm _ _

/-- The queries' gradient. -/
theorem dq_eq (hg : ∀ b t, 0 ≤ (a.gs (ix2 b t) : EReal) ∧ (a.gs (ix2 b t) : EReal) ≠ ⊤)
    (hk : ∀ b n h, 0 ≤ (a.ks (ix3 b n h) : EReal) ∧ (a.ks (ix3 b n h) : EReal) ≠ ⊤) (b : Fin 4) (t : Fin 3584) (h : Fin 32) (d : Fin 128) :
    dqG a b t h d = cC * ∑ x : Fin 320, (a.k (ix5 b (im x) (ro x) h d) : EReal) * (sR a b (im x) h (ro x) t * a.ks (ix3 b (im x) h)) := by
  unfold dqG
  rw [mul_sum' _ _ _ cC_nonneg cC_ne_top,
    ← sum_rows fun n m => cC * ((a.k (ix5 b n m h d) : EReal) * (sR a b n h m t * a.ks (ix3 b n h)))]
  refine Finset.sum_congr rfl fun n _ => ?_
  obtain ⟨k0, k1⟩ := hk b n h
  rw [cSc_eq]
  have p0 : 0 ≤ (a.ks (ix3 b n h) : EReal) * cC := mul_nonneg k0 cC_nonneg
  have p1 : (a.ks (ix3 b n h) : EReal) * cC ≠ ⊤ := by
    lift (a.ks (ix3 b n h) : EReal) to ℝ using ⟨k1, (lt_of_lt_of_le EReal.bot_lt_zero k0).ne'⟩ with r
    rw [cC_eq, ← EReal.coe_mul]; exact EReal.coe_ne_top _
  rw [sum_mul' _ _ _ p0 p1]
  refine Finset.sum_congr rfl fun m _ => ?_
  rw [dG_eq a hg]
  generalize sR a b n h m t = u
  generalize (a.k (ix5 b n m h d) : EReal) = v
  generalize (a.ks (ix3 b n h) : EReal) = w
  rw [mul_comm u v, mul_assoc, mul_comm w cC, ← mul_assoc u, mul_comm u cC, mul_assoc cC, mul_left_comm v]

end Cert.KernelIdeal.Own.Exact

end
-- ==== Proof.ValueRef.lean ====
/- The reference's results read at an index, over the extended reals. -/
module

public import proofs.«01_k».proof.Proof.ValueCast
public import proofs.«01_k».proof.Proof.ValueAlg

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.KernelIdeal.Own (cl)
open Cert.KernelIdeal.Own.Exact (pR sR cC im ro)

/-- The arrays a valuation holds. -/
def arrsV (V0 : Valuation τ sig (Elt Ideal)) : Cert.KernelIdeal.Own.Arrs :=
  ⟨V0 (Proc.devRef .tc main_arg0), V0 (Proc.devRef .tc main_v0_0), V0 (Proc.devRef .tc main_arg2),
   V0 (Proc.devRef .tc main_v0_1), V0 (Proc.devRef .tc main_arg4), V0 (Proc.devRef .tc main_v0_2),
   V0 (Proc.devRef .tc main_arg6), V0 (Proc.devRef .tc main_arg7), V0 (Proc.devRef .tc main_arg8), V0 (Proc.devRef .tc main_arg9)⟩

theorem cl_eq (h : Fin 32) (d : Fin 128) (p : h.val * 128 + d.val < 4096) : (⟨h.val * 128 + d.val, p⟩ : Fin 4096) = cl h d :=
  Fin.ext (by show h.val * 128 + d.val = 128 * h.val + d.val; omega)

theorem v33_at (V0 : Valuation τ sig (Elt Ideal)) (b : Fin 4) (h : Fin 32) (t : Fin 3584) (j : Fin 320) :
    (res_main_v33 V0 : Vec Ideal S4x32x3584x320 .f32) (ix4 b h t j) = pR (arrsV V0) b (im j) h (ro j) t := by
  pointwise [res_main_v33, res_main_v3, res_main_v1, res_main_v9]
  simp only [cl_eq]
  unfold pR
  have z : (id (constant (F := Ideal) S_ FTy.f32 0#32) ix0 : EReal) = 0 := Ideal.ofBits_zero .f32
  rw [z]
  unfold Scalar.select IntOp.cmpi
  show (if BitVec.ofBool ((arrsV V0).idx (ix2 b t) == BitVec.ofNat 32 (im j).val) = 1 then _ else _) = _
  by_cases e : (arrsV V0).idx (ix2 b t) = BitVec.ofNat 32 (im j).val
  · rw [if_pos e, if_pos (by rw [beq_iff_eq.2 e]; rfl)]; rfl
  · rw [if_neg e, if_neg (by rw [beq_eq_false_iff_ne.2 e]; decide)]

theorem v50_at (V0 : Valuation τ sig (Elt Ideal)) (e3 : (V0 (Proc.devRef .tc main_v0_3) : S4x3584x4096.Idx → EReal) = (V0 (Proc.devRef .tc main_v0_2) : S4x3584x4096.Idx → EReal))
    (b : Fin 4) (h : Fin 32) (t : Fin 3584) (j : Fin 320) :
    (res_main_v50 V0 : Vec Ideal S4x32x3584x320 .f32) (ix4 b h t j) = sR (arrsV V0) b (im j) h (ro j) t := by
  pointwise [res_main_v50, res_main_v4, res_main_v14]
  simp only [cl_eq]
  rw [v33_at]
  have e3' : ∀ j, (V0 (Proc.devRef .tc main_v0_3) j : EReal) = V0 (Proc.devRef .tc main_v0_2) j := fun j => congrFun e3 j
  unfold sR
  refine congrArg (pR (arrsV V0) b (im j) h (ro j) t * ·) (congrArg₂ (fun x y : EReal => x - y) rfl (Finset.sum_congr rfl fun d _ => ?_))
  exact congrArg (fun x : EReal => x * _ * _) (e3' _)

theorem im_rw (n : Fin 5) (x : Fin 64) (p : n.val * 64 + x.val < 320) : im ⟨n.val * 64 + x.val, p⟩ = n :=
  Fin.ext (by show (n.val * 64 + x.val) / 64 = n.val; omega)
theorem ro_rw (n : Fin 5) (x : Fin 64) (p : n.val * 64 + x.val < 320) : ro ⟨n.val * 64 + x.val, p⟩ = x :=
  Fin.ext (by show (n.val * 64 + x.val) % 64 = x.val; omega)

variable [Facts]

theorem dv_at (V0 : Valuation τ sig (Elt Ideal)) (b : Fin 4) (n : Fin 5) (x : Fin 64) (h : Fin 32) (d : Fin 128) :
   (shapeCast _ (truncf .bf16 (transpose S4x320x32x128 [0, 3, 1, 2] (Host.dotGeneral dot_S4x3584x32x128_S4x32x3584x320_S4x32x128x320_1_2_3_3_02_01 none (res_main_v4 V0) (truncf .bf16 (mulf (res_main_v33 V0) (broadcastInDim S4x32x3584x320 ![0, 1, 2, 3] bcast_S4x1x3584x1_S4x32x3584x320_0_1_2_3 (res_main_v14 V0))) bitsLt_bf16_f32)) transposes_S4x32x128x320_S4x320x32x128_0_3_1_2) bitsLt_bf16_f32) shapeCasts_S4x320x32x128_S4x5x64x32x128 : Vec Ideal S4x5x64x32x128 .bf16) (ix5 b n x h d)
     = ∑ t : Fin 3584, ((arrsV V0).g (ix3 b t (cl h d)) : EReal) * (pR (arrsV V0) b n h x t * (arrsV V0).gs (ix2 b t)) := by
  pointwise [res_main_v4, res_main_v14]
  simp only [cl_eq, v33_at, im_rw, ro_rw]
  rfl
theorem dk_at (V0 : Valuation τ sig (Elt Ideal)) (e3 : (V0 (Proc.devRef .tc main_v0_3) : S4x3584x4096.Idx → EReal) = (V0 (Proc.devRef .tc main_v0_2) : S4x3584x4096.Idx → EReal))
    (b : Fin 4) (n : Fin 5) (x : Fin 64) (h : Fin 32) (d : Fin 128) :
   (shapeCast _ (truncf .bf16 (mulf (broadcastInDim S4x320x32x128 ![] bcast_S_S4x320x32x128 (constant S_ .f32 0x3DB504F3#32)) (transpose S4x320x32x128 [0, 3, 1, 2] (Host.dotGeneral dot_S4x3584x32x128_S4x32x3584x320_S4x32x128x320_1_2_3_3_02_01 none (res_main_v3 V0) (truncf .bf16 (res_main_v50 V0) bitsLt_bf16_f32)) transposes_S4x32x128x320_S4x320x32x128_0_3_1_2)) bitsLt_bf16_f32) shapeCasts_S4x320x32x128_S4x5x64x32x128 : Vec Ideal S4x5x64x32x128 .bf16) (ix5 b n x h d)
     = cC * ∑ t : Fin 3584, ((arrsV V0).q (ix3 b t (cl h d)) : EReal) * sR (arrsV V0) b n h x t := by
  pointwise [res_main_v3]
  simp only [cl_eq, v50_at V0 e3, im_rw, ro_rw]
  rfl
theorem dq_at (V0 : Valuation τ sig (Elt Ideal)) (e3 : (V0 (Proc.devRef .tc main_v0_3) : S4x3584x4096.Idx → EReal) = (V0 (Proc.devRef .tc main_v0_2) : S4x3584x4096.Idx → EReal))
    (b : Fin 4) (t : Fin 3584) (c : Fin 4096) :
   (shapeCast _ (truncf .bf16 (mulf (broadcastInDim S4x3584x32x128 ![] bcast_S_S4x3584x32x128 (constant S_ .f32 0x3DB504F3#32)) (transpose S4x3584x32x128 [0, 3, 1, 2] (Host.dotGeneral dot_S4x320x32x128_S4x32x3584x320_S4x32x128x3584_1_3_3_2_02_01 none (res_main_v1 V0) (truncf .bf16 (mulf (res_main_v50 V0) (broadcastInDim S4x32x3584x320 ![0, 1, 2, 3] bcast_S4x32x1x320_S4x32x3584x320_0_1_2_3 (res_main_v9 V0))) bitsLt_bf16_f32)) transposes_S4x32x128x3584_S4x3584x32x128_0_3_1_2)) bitsLt_bf16_f32) shapeCasts_S4x3584x32x128_S4x3584x4096 : Vec Ideal S4x3584x4096 .bf16) (ix3 b t c)
     = cC * ∑ x : Fin 320, ((arrsV V0).k (ix5 b (im x) (ro x) (Cert.KernelIdeal.Own.Exact.hd c) (Cert.KernelIdeal.Own.Exact.cd c)) : EReal)
        * (sR (arrsV V0) b (im x) (Cert.KernelIdeal.Own.Exact.hd c) (ro x) t * (arrsV V0).ks (ix3 b (im x) (Cert.KernelIdeal.Own.Exact.hd c))) := by
  pointwise [res_main_v1, res_main_v9]
  simp only [v50_at V0 e3]
  rfl

end Cert.ReferenceIdeal.Value

end
-- ==== Proof.ValueFinal.lean ====
/- The end of the kernel's run, with the contents of its three results named, over the extended reals. -/
module

public import proofs.«01_k».proof.Proof.ValueRun
public import Idealize.ShloMosaic.Lib.Pipeline.ValueKit.Basic
public import Idealize.ShloMosaic.Lib.Pointwise
public import Idealize.ShloMosaic.PureOps.Ideal

@[expose] public section

set_option maxRecDepth 16384

noncomputable section

namespace Cert.KernelIdeal.Own.Exact

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
variable [Cert.KernelIdeal.Facts]

open Cert.KernelIdeal.Gen Cert.KernelIdeal.Own

variable (m : (ℓ : Loc nD τ sig) → Buf (Elt Ideal) ℓ) (ρ : Dev nD → PrngReg)

theorem tt_mk (b : Fin 4) (s : Fin 14) : tt ⟨14 * b.val + s.val, by have : cfg0.N = 56 := rfl; omega⟩ = s.val := by
  rw [tt_val]; show (14 * b.val + s.val) % 14 = s.val; omega
theorem bt_mk (b : Fin 4) (s : Fin 14) : (bt ⟨14 * b.val + s.val, by have : cfg0.N = 56 := rfl; omega⟩).val = b.val := by
  rw [bt_val]; show (14 * b.val + s.val) / 14 = b.val; omega

theorem in11 (i : S4x3584x4096.Idx) (t : Fin cfg0.N) (eb : (bt t).val = (i 0 : Nat)) (et : tt t = (i 1 : Nat) / 256) : i ∈ (win0_11.rect t).set := by
    have h0 : (i 0 : Nat) < 4 := (i 0).isLt
    have h1 : (i 1 : Nat) < 3584 := (i 1).isLt
    have h2 : (i 2 : Nat) < 4096 := (i 2).isLt
    refine (Idealize.ShloMosaic.Pipeline.Window.mem_rect_iff (w := win0_11) t i rfl).2 ?_
    intro a
    match a with
    | ⟨0, _⟩ => show (BitVec.ofNat 32 (grid0.coords t 0).val).toNat * 1 ≤ (i 0 : Nat) ∧ (i 0 : Nat) < (BitVec.ofNat 32 (grid0.coords t 0).val).toNat * 1 + 1
                rw [bw, eb]; show (i 0 : Nat) * 1 ≤ (i 0 : Nat) ∧ (i 0 : Nat) < (i 0 : Nat) * 1 + 1; omega
    | ⟨1, _⟩ => show (BitVec.ofNat 32 (grid0.coords t 1).val).toNat * 256 ≤ (i 1 : Nat) ∧ (i 1 : Nat) < (BitVec.ofNat 32 (grid0.coords t 1).val).toNat * 256 + 256
                rw [tw, et]; show (i 1 : Nat) / 256 * 256 ≤ (i 1 : Nat) ∧ (i 1 : Nat) < (i 1 : Nat) / 256 * 256 + 256; omega
    | ⟨2, _⟩ => show 0 * 4096 ≤ (i 2 : Nat) ∧ (i 2 : Nat) < 0 * 4096 + 4096
                omega
theorem cover11 (i : S4x3584x4096.Idx) : ∃ t : Fin cfg0.N, (cfg0.win 11).flush t = true ∧ i ∈ (win0_11.rect t).set := by
    have h0 : (i 0 : Nat) < 4 := (i 0).isLt
    have h1 : (i 1 : Nat) < 3584 := (i 1).isLt
    have h2 : (i 2 : Nat) < 4096 := (i 2).isLt
    exact ⟨(⟨14 * (⟨(i 0 : Nat), h0⟩ : Fin 4).val + (⟨(i 1 : Nat) / 256, by omega⟩ : Fin 14).val, by have : cfg0.N = 56 := rfl; omega⟩ : Fin cfg0.N), flush0_11 _, in11 i _ (bt_mk ⟨(i 0 : Nat), h0⟩ ⟨(i 1 : Nat) / 256, by omega⟩) (tt_mk ⟨(i 0 : Nat), h0⟩ ⟨(i 1 : Nat) / 256, by omega⟩)⟩
theorem final11 (c : Dev nD) : (dats m 0 c).arrAt 11 cfg0.N = gDq (arrs m c) :=
  (dats m 0 c).arrAt_eq_of_cover 11 (gDq (arrs m c)) (fun t _ => rfl) fun i => by
    obtain ⟨t, hf, hi⟩ := cover11 i
    refine ⟨t, hf, ?_⟩
    show i ∈ ((View.whole main_v0_0).slice (win0_11.rect t)).set
    rw [View.set_slice_whole]
    exact hi

theorem in12 (i : S4x5x64x32x128.Idx) (t : Fin cfg0.N) (eb : (bt t).val = (i 0 : Nat)) : i ∈ (win0_12.rect t).set := by
    have h0 : (i 0 : Nat) < 4 := (i 0).isLt
    have h1 : (i 1 : Nat) < 5 := (i 1).isLt
    have h2 : (i 2 : Nat) < 64 := (i 2).isLt
    have h3 : (i 3 : Nat) < 32 := (i 3).isLt
    have h4 : (i 4 : Nat) < 128 := (i 4).isLt
    refine (Idealize.ShloMosaic.Pipeline.Window.mem_rect_iff (w := win0_12) t i rfl).2 ?_
    intro a
    match a with
    | ⟨0, _⟩ => show (BitVec.ofNat 32 (grid0.coords t 0).val).toNat * 1 ≤ (i 0 : Nat) ∧ (i 0 : Nat) < (BitVec.ofNat 32 (grid0.coords t 0).val).toNat * 1 + 1
                rw [bw, eb]; show (i 0 : Nat) * 1 ≤ (i 0 : Nat) ∧ (i 0 : Nat) < (i 0 : Nat) * 1 + 1; omega
    | ⟨1, _⟩ => show 0 * 5 ≤ (i 1 : Nat) ∧ (i 1 : Nat) < 0 * 5 + 5
                omega
    | ⟨2, _⟩ => show 0 * 64 ≤ (i 2 : Nat) ∧ (i 2 : Nat) < 0 * 64 + 64
                omega
    | ⟨3, _⟩ => show 0 * 32 ≤ (i 3 : Nat) ∧ (i 3 : Nat) < 0 * 32 + 32
                omega
    | ⟨4, _⟩ => show 0 * 128 ≤ (i 4 : Nat) ∧ (i 4 : Nat) < 0 * 128 + 128
                omega
theorem cover12 (i : S4x5x64x32x128.Idx) : ∃ t : Fin cfg0.N, (cfg0.win 12).flush t = true ∧ i ∈ (win0_12.rect t).set := by
    have h0 : (i 0 : Nat) < 4 := (i 0).isLt
    have h1 : (i 1 : Nat) < 5 := (i 1).isLt
    have h2 : (i 2 : Nat) < 64 := (i 2).isLt
    have h3 : (i 3 : Nat) < 32 := (i 3).isLt
    have h4 : (i 4 : Nat) < 128 := (i 4).isLt
    refine ⟨(⟨14 * (⟨(i 0 : Nat), h0⟩ : Fin 4).val + (13 : Fin 14).val, by have : cfg0.N = 56 := rfl; have : (13 : Fin 14).val = 13 := rfl; omega⟩ : Fin cfg0.N), (flush0_12 _).2 ?_, in12 i _ (bt_mk ⟨(i 0 : Nat), h0⟩ 13)⟩
    show (14 * (i 0 : Nat) + 13) % 14 = 13; omega
theorem final12 (c : Dev nD) : (dats m 0 c).arrAt 12 cfg0.N = gDk (arrs m c) :=
  (dats m 0 c).arrAt_eq_of_cover 12 (gDk (arrs m c)) (fun t _ => rfl) fun i => by
    obtain ⟨t, hf, hi⟩ := cover12 i
    refine ⟨t, hf, ?_⟩
    show i ∈ ((View.whole main_v0_1).slice (win0_12.rect t)).set
    rw [View.set_slice_whole]
    exact hi

theorem in13 (i : S4x5x64x32x128.Idx) (t : Fin cfg0.N) (eb : (bt t).val = (i 0 : Nat)) : i ∈ (win0_13.rect t).set := by
    have h0 : (i 0 : Nat) < 4 := (i 0).isLt
    have h1 : (i 1 : Nat) < 5 := (i 1).isLt
    have h2 : (i 2 : Nat) < 64 := (i 2).isLt
    have h3 : (i 3 : Nat) < 32 := (i 3).isLt
    have h4 : (i 4 : Nat) < 128 := (i 4).isLt
    refine (Idealize.ShloMosaic.Pipeline.Window.mem_rect_iff (w := win0_13) t i rfl).2 ?_
    intro a
    match a with
    | ⟨0, _⟩ => show (BitVec.ofNat 32 (grid0.coords t 0).val).toNat * 1 ≤ (i 0 : Nat) ∧ (i 0 : Nat) < (BitVec.ofNat 32 (grid0.coords t 0).val).toNat * 1 + 1
                rw [bw, eb]; show (i 0 : Nat) * 1 ≤ (i 0 : Nat) ∧ (i 0 : Nat) < (i 0 : Nat) * 1 + 1; omega
    | ⟨1, _⟩ => show 0 * 5 ≤ (i 1 : Nat) ∧ (i 1 : Nat) < 0 * 5 + 5
                omega
    | ⟨2, _⟩ => show 0 * 64 ≤ (i 2 : Nat) ∧ (i 2 : Nat) < 0 * 64 + 64
                omega
    | ⟨3, _⟩ => show 0 * 32 ≤ (i 3 : Nat) ∧ (i 3 : Nat) < 0 * 32 + 32
                omega
    | ⟨4, _⟩ => show 0 * 128 ≤ (i 4 : Nat) ∧ (i 4 : Nat) < 0 * 128 + 128
                omega
theorem cover13 (i : S4x5x64x32x128.Idx) : ∃ t : Fin cfg0.N, (cfg0.win 13).flush t = true ∧ i ∈ (win0_13.rect t).set := by
    have h0 : (i 0 : Nat) < 4 := (i 0).isLt
    have h1 : (i 1 : Nat) < 5 := (i 1).isLt
    have h2 : (i 2 : Nat) < 64 := (i 2).isLt
    have h3 : (i 3 : Nat) < 32 := (i 3).isLt
    have h4 : (i 4 : Nat) < 128 := (i 4).isLt
    refine ⟨(⟨14 * (⟨(i 0 : Nat), h0⟩ : Fin 4).val + (13 : Fin 14).val, by have : cfg0.N = 56 := rfl; have : (13 : Fin 14).val = 13 := rfl; omega⟩ : Fin cfg0.N), (flush0_13 _).2 ?_, in13 i _ (bt_mk ⟨(i 0 : Nat), h0⟩ 13)⟩
    show (14 * (i 0 : Nat) + 13) % 14 = 13; omega
theorem final13 (c : Dev nD) : (dats m 0 c).arrAt 13 cfg0.N = gDv (arrs m c) :=
  (dats m 0 c).arrAt_eq_of_cover 13 (gDv (arrs m c)) (fun t _ => rfl) fun i => by
    obtain ⟨t, hf, hi⟩ := cover13 i
    refine ⟨t, hf, ?_⟩
    show i ∈ ((View.whole main_v0_2).slice (win0_13.rect t)).set
    rw [View.set_slice_whole]
    exact hi

/-- Every result of the kernel, named, and every argument as launched. -/
theorem run (hr : InRange m) (hb : Between m) : θ_run defs (onTc (τ := τ) (main (F := Ideal))) ⟨m, fun _ => 0, ρ⟩ (fun r => ∀ c : Dev nD,
      r.2.mem ((c.tc : Thread nD τ).loc main_v0_0) = gDq (arrs m c)
      ∧ r.2.mem ((c.tc : Thread nD τ).loc main_v0_1) = gDk (arrs m c)
      ∧ r.2.mem ((c.tc : Thread nD τ).loc main_v0_2) = gDv (arrs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h.1 c).1 11).trans (final11 m c), ((h.1 c).1 12).trans (final12 m c), ((h.1 c).1 13).trans (final13 m c),
    ((h.1 c).1 3).trans (((dats m 0 c).arrAt_in 3 rfl _).trans (A_eq m c 3)),
    ((h.1 c).1 4).trans (((dats m 0 c).arrAt_in 4 rfl _).trans (A_eq m c 4)),
    ((h.1 c).1 1).trans (((dats m 0 c).arrAt_in 1 rfl _).trans (A_eq m c 1)),
    ((h.1 c).1 5).trans (((dats m 0 c).arrAt_in 5 rfl _).trans (A_eq m c 5)),
    ((h.1 c).1 2).trans (((dats m 0 c).arrAt_in 2 rfl _).trans (A_eq m c 2)),
    ((h.1 c).1 6).trans (((dats m 0 c).arrAt_in 6 rfl _).trans (A_eq m c 6)),
    ((h.1 c).1 7).trans (((dats m 0 c).arrAt_in 7 rfl _).trans (A_eq m c 7)),
    ((h.1 c).1 8).trans (((dats m 0 c).arrAt_in 8 rfl _).trans (A_eq m c 8)),
    ((h.1 c).1 9).trans (((dats m 0 c).arrAt_in 9 rfl _).trans (A_eq m c 9)),
    ((h.1 c).1 10).trans (((dats m 0 c).arrAt_in 10 rfl _).trans (A_eq m c 10))⟩)
    (run_main m ρ hr hb)

end Cert.KernelIdeal.Own.Exact

end
-- ==== Proof.ValueRange.lean ====
/- What the precondition of the value claim says of the table of images and of the scales, and so of the tiles. -/
module

public import proofs.«01_k».proof.Defs
public import proofs.«01_k».proof.Proof.KernelIdealRange
public import proofs.«01_k».proof.Proof.ValueFinal
public import Idealize.ShloMosaic.Lib.Pointwise
public import Idealize.ShloMosaic.PureOps.Ideal

@[expose] public section

set_option maxRecDepth 16384

noncomputable section

namespace Cert.KernelIdeal.Own.Exact

open Cert.KernelIdeal Cert.KernelIdeal.Own
open Idealize.ShloMosaic Idealize.ShloMosaic.TcCoe
open Idealize.SL.Sem

section
variable [Cert.Pre_sorted_and_scaled.Facts]

theorem rng_of' {q k s3 v s5 d7 dos o l} (x : IVec Cert.Pre_sorted_and_scaled.S4x3584 32)
    (h : (Cert.Pre_sorted_and_scaled.fn (F := Ideal) q k s3 v s5 d7 dos o l x).1 = fun _ => 1#1) (j : S4x3584.Idx) : Rng (x j) := by
  have hj := congrFun h j
  unfold Cert.Pre_sorted_and_scaled.fn at hj
  have e1 : BitVec.ofBool ((4294967295#32).sle (x j)) &&& BitVec.ofBool ((x j).sle 4#32) = 1#1 := hj
  generalize x j = w at e1
  unfold Rng
  obtain ⟨h1, h2⟩ : (4294967295#32).sle w = true ∧ w.sle 4#32 = true := by
    revert e1
    cases (4294967295#32).sle w <;> cases w.sle 4#32 <;> decide
  rw [BitVec.sle_iff_toInt_le] at h1 h2
  exact ⟨h1, h2⟩

/-- A token's image never comes after the next token's. -/
theorem step_of {q k s3 v s5 d7 dos o l} (x : IVec Cert.Pre_sorted_and_scaled.S4x3584 32)
    (h : (Cert.Pre_sorted_and_scaled.fn (F := Ideal) q k s3 v s5 d7 dos o l x).2.1 = fun _ => 1#1) (b : Fin 4) (t : Nat) (ht : t + 1 < 3584) :
    (x (ix2 b (⟨t, by omega⟩ : Fin 3584)) : BitVec 32).toInt ≤ (x (ix2 b (⟨t + 1, ht⟩ : Fin 3584)) : BitVec 32).toInt := by
  have hj := congrFun h (ix2 b (⟨t, by omega⟩ : Fin 3583))
  unfold Cert.Pre_sorted_and_scaled.fn at hj
  have e1 : BitVec.ofBool ((x (ix2 b (⟨t, by omega⟩ : Fin 3584)) : BitVec 32).sle (x (ix2 b (⟨t + 1, ht⟩ : Fin 3584)) : BitVec 32)) = 1#1 := by
    refine Eq.trans ?_ hj
    pointwise
    simp only [Nat.add_comm 1 t]
    rfl
  have h2 : (x (ix2 b (⟨t, by omega⟩ : Fin 3584)) : BitVec 32).sle (x (ix2 b (⟨t + 1, ht⟩ : Fin 3584)) : BitVec 32) = true := by
    revert e1
    cases (x (ix2 b (⟨t, by omega⟩ : Fin 3584)) : BitVec 32).sle (x (ix2 b (⟨t + 1, ht⟩ : Fin 3584)) : BitVec 32) <;> decide
  rwa [BitVec.sle_iff_toInt_le] at h2

theorem scale_of {q k s3 v s5 d7 dos o l} {x : IVec Cert.Pre_sorted_and_scaled.S4x3584 32}
    (h : (Cert.Pre_sorted_and_scaled.fn (F := Ideal) q k s3 v s5 d7 dos o l x).2.2.1 = fun _ => 1#1) (j : S4x5x32.Idx) : 0 ≤ (s3 j : EReal) ∧ (s3 j : EReal) ≠ ⊤ := by
  have hj := congrFun h j
  unfold Cert.Pre_sorted_and_scaled.fn at hj
  have e1 : BitVec.ofBool (decide (Ideal.ofBits .f32 0x00000000#32 ≤ s3 j)) &&& BitVec.ofBool (decide ((s3 j : EReal) < Ideal.ofBits .f32 0x7F800000#32)) = 1#1 := hj
  rw [Ideal.ofBits_zero .f32] at e1
  generalize (s3 j : EReal) = w at e1
  obtain ⟨h1, h2⟩ : decide (0 ≤ w) = true ∧ decide (w < Ideal.ofBits .f32 0x7F800000#32) = true := by
    revert e1
    cases decide (0 ≤ w) <;> cases decide (w < Ideal.ofBits .f32 0x7F800000#32) <;> decide
  exact ⟨of_decide_eq_true h1, (of_decide_eq_true h2).ne_top⟩

theorem gscale_of {q k s3 v s5 d7 dos o l} {x : IVec Cert.Pre_sorted_and_scaled.S4x3584 32}
    (h : (Cert.Pre_sorted_and_scaled.fn (F := Ideal) q k s3 v s5 d7 dos o l x).2.2.2 = fun _ => 1#1) (j : S4x3584.Idx) : 0 ≤ (dos j : EReal) ∧ (dos j : EReal) ≠ ⊤ := by
  have hj := congrFun h j
  unfold Cert.Pre_sorted_and_scaled.fn at hj
  have e1 : BitVec.ofBool (decide (Ideal.ofBits .f32 0x00000000#32 ≤ dos j)) &&& BitVec.ofBool (decide ((dos j : EReal) < Ideal.ofBits .f32 0x7F800000#32)) = 1#1 := hj
  rw [Ideal.ofBits_zero .f32] at e1
  generalize (dos j : EReal) = w at e1
  obtain ⟨h1, h2⟩ : decide (0 ≤ w) = true ∧ decide (w < Ideal.ofBits .f32 0x7F800000#32) = true := by
    revert e1
    cases decide (0 ≤ w) <;> cases decide (w < Ideal.ofBits .f32 0x7F800000#32) <;> decide
  exact ⟨of_decide_eq_true h1, (of_decide_eq_true h2).ne_top⟩
end

section
variable [Cert.KernelIdeal.Facts]
open Cert.KernelIdeal.Gen
variable (m : (ℓ : Loc nD τ sig) → Buf (Elt Ideal) ℓ)

theorem tk_val (τ : Nat) (hτ : τ < 14) (r : Fin 256) : (tk τ r).val = τ * 256 + r.val := by
  show (τ * 256 + r.val) % 3584 = _
  have := r.isLt; omega

theorem lo_eq (c : Dev nD) (t : Fin cfg0.N) : loV (F := Ideal) (grid0.coords t) (iblk m c 0 t) = (arrs m c).idx (ix2 (bt t) (tk (tt t) 0)) := by
  refine Eq.trans (congrArg (iblk m c 0 t : Vec Ideal S4x3584 .i32) (funext fun a => ?_)) (blk0 m c t (bt t) (tk (tt t) 0))
  match a with
  | ⟨0, _⟩ => exact Fin.ext (by show (grid0.coords t 0).val + 0 = (bt t).val; rfl)
  | ⟨1, _⟩ => exact Fin.ext (by show (grid0.coords t 1).val * 256 + 0 + 0 = (tk (tt t) 0).val; rw [tk_val _ (tt_lt t)]; rfl)
theorem hi_eq (c : Dev nD) (t : Fin cfg0.N) : hiV (F := Ideal) (grid0.coords t) (iblk m c 0 t) = (arrs m c).idx (ix2 (bt t) (tk (tt t) 255)) := by
  refine Eq.trans (congrArg (iblk m c 0 t : Vec Ideal S4x3584 .i32) (funext fun a => ?_)) (blk0 m c t (bt t) (tk (tt t) 255))
  match a with
  | ⟨0, _⟩ => exact Fin.ext (by show (grid0.coords t 0).val + 0 = (bt t).val; rfl)
  | ⟨1, _⟩ => exact Fin.ext (by show (grid0.coords t 1).val * 256 + 255 + 0 = (tk (tt t) 255).val; rw [tk_val _ (tt_lt t)]; rfl)

/-- With the images in order along the tokens, every token of a tile lies between its first and its last. -/
theorem between_of (h : ∀ (c : Dev nD) (b : Fin 4) (t : Nat) (ht : t + 1 < 3584),
      ((arrs m c).idx (ix2 b (⟨t, by omega⟩ : Fin 3584)) : BitVec 32).toInt ≤ ((arrs m c).idx (ix2 b (⟨t + 1, ht⟩ : Fin 3584)) : BitVec 32).toInt) : Between m := by
  intro c t r
  have mono : ∀ (b : Fin 4) (k s : Nat) (hk : s + k < 3584), ((arrs m c).idx (ix2 b (⟨s, by omega⟩ : Fin 3584)) : BitVec 32).toInt ≤ ((arrs m c).idx (ix2 b (⟨s + k, hk⟩ : Fin 3584)) : BitVec 32).toInt := by
    intro b k
    induction k with
    | zero => intro s hk; exact le_refl _
    | succ k ih => intro s hk; exact (ih s (by omega)).trans (h c b (s + k) hk)
  have mono' : ∀ (b : Fin 4) (s u : Fin 3584), s.val ≤ u.val → ((arrs m c).idx (ix2 b s) : BitVec 32).toInt ≤ ((arrs m c).idx (ix2 b u) : BitVec 32).toInt := by
    intro b s u hs
    have := mono b (u.val - s.val) s.val (by omega)
    have e : (⟨s.val + (u.val - s.val), by omega⟩ : Fin 3584) = u := Fin.ext (by show s.val + (u.val - s.val) = u.val; omega)
    rw [e] at this
    exact this
  have ht := tt_lt t
  rw [lo_eq, hi_eq]
  refine ⟨mono' _ _ _ ?_, mono' _ _ _ ?_⟩
  · rw [tk_val _ ht, tk_val _ ht]; have : (0 : Fin 256).val = 0 := rfl; omega
  · rw [tk_val _ ht, tk_val _ ht]; have : (255 : Fin 256).val = 255 := rfl; omega
end

end Cert.KernelIdeal.Own.Exact

end
-- ==== Proof.ValueMain.lean ====
/- The value claim: every result of the kernel is the reference's, over the extended reals. -/
module

public import proofs.«01_k».proof.Defs
public import proofs.«01_k».proof.Proof.ValueRef
public import proofs.«01_k».proof.Proof.ValueRange

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.KernelIdeal.Own (cl Arrs)
open Cert.KernelIdeal.Own.Exact (pR sR cC im ro hd cd gDq gDk gDv)

theorem mk_eq {a0 b0 a1 b1 a2 b2 a3 b3 a4 b4 a5 b5 a6 b6 a7 b7 a8 b8 a9 b9} (h0 : a0 = b0) (h1 : a1 = b1) (h2 : a2 = b2) (h3 : a3 = b3) (h4 : a4 = b4)
    (h5 : a5 = b5) (h6 : a6 = b6) (h7 : a7 = b7) (h8 : a8 = b8) (h9 : a9 = b9) : Arrs.mk a0 a1 a2 a3 a4 a5 a6 a7 a8 a9 = Arrs.mk b0 b1 b2 b3 b4 b5 b6 b7 b8 b9 := by
  subst h0 h1 h2 h3 h4 h5 h6 h7 h8 h9; rfl

variable (m : (ℓ : Loc nD τ sig) → Buf (Elt Ideal) ℓ)

/-- The arguments, as launched. -/
def arrsM (c : Dev nD) : Arrs :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8), m ((c.tc : Thread nD τ).loc main_arg9)⟩

theorem arrsV_exit (c : Dev nD) : arrsV (exitV m c) = arrsM m c :=
  mk_eq (exit_main_arg0 m c) ((exit_main_v0_0 m c).trans (reg3 m c)) (exit_main_arg2 m c) ((exit_main_v0_1 m c).trans (reg4 m c)) (exit_main_arg4 m c)
    ((exit_main_v0_2 m c).trans (reg5 m c)) (exit_main_arg6 m c) (exit_main_arg7 m c) (exit_main_arg8 m c) (exit_main_arg9 m c)

theorem exit_e3 (c : Dev nD) : (exitV m c (Proc.devRef .tc main_v0_3) : S4x3584x4096.Idx → EReal) = (exitV m c (Proc.devRef .tc main_v0_2) : S4x3584x4096.Idx → EReal) :=
  ((exit_main_v0_3 m c).trans (reg6 m c)).trans ((exit_main_v0_2 m c).trans (reg5 m c)).symm

theorem eta3 (j : S4x3584x4096.Idx) : j = ix3 (j 0 : Fin 4) (j 1 : Fin 3584) (j 2 : Fin 4096) := funext fun a => match a with
  | ⟨0, _⟩ => rfl
  | ⟨1, _⟩ => rfl
  | ⟨2, _⟩ => rfl
theorem eta5 (j : S4x5x64x32x128.Idx) : j = ix5 (j 0 : Fin 4) (j 1 : Fin 5) (j 2 : Fin 64) (j 3 : Fin 32) (j 4 : Fin 128) := funext fun a => match a with
  | ⟨0, _⟩ => rfl
  | ⟨1, _⟩ => rfl
  | ⟨2, _⟩ => rfl
  | ⟨3, _⟩ => rfl
  | ⟨4, _⟩ => rfl

variable (ρ : Dev nD → PrngReg)

/-- The reference's run, with every result as the kernel's formulas have it. -/
theorem run_eq (hg : ∀ c b t, 0 ≤ ((arrsM m c).gs (ix2 b t) : EReal) ∧ ((arrsM m c).gs (ix2 b t) : EReal) ≠ ⊤)
    (hk : ∀ c b n h, 0 ≤ ((arrsM m c).ks (ix3 b n h) : EReal) ∧ ((arrsM m c).ks (ix3 b n h) : EReal) ≠ ⊤) :
    θ_run defs (onTc (τ := τ) (main (F := Ideal))) ⟨m, fun _ => 0, ρ⟩ fun r => ∀ c : Dev nD,
      r.2.mem ((c.tc : Thread nD τ).loc main_v71) = gDq (arrsM m c)
      ∧ r.2.mem ((c.tc : Thread nD τ).loc main_v72) = gDk (arrsM m c)
      ∧ r.2.mem ((c.tc : Thread nD τ).loc main_v73) = gDv (arrsM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨(h c).1.trans ?_, (h c).2.1.trans ?_, (h c).2.2.1.trans ?_, (h c).2.2.2⟩) (run m ρ)
  · funext j
    obtain ⟨b, t, x, rfl⟩ : ∃ (b : Fin 4) (t : Fin 3584) (x : Fin 4096), j = ix3 b t x := ⟨_, _, _, eta3 j⟩
    refine (dq_at (exitV m c) (exit_e3 m c) b t x).trans ?_
    rw [arrsV_exit]
    exact (Cert.KernelIdeal.Own.Exact.dq_eq (arrsM m c) (hg c) (hk c) b t (hd x) (cd x)).symm
  · funext j
    obtain ⟨b, n, x, y, z, rfl⟩ : ∃ (b : Fin 4) (n : Fin 5) (x : Fin 64) (y : Fin 32) (z : Fin 128), j = ix5 b n x y z := ⟨_, _, _, _, _, eta5 j⟩
    refine (dk_at (exitV m c) (exit_e3 m c) b n x y z).trans ?_
    rw [arrsV_exit]
    exact (Cert.KernelIdeal.Own.Exact.dk_eq (arrsM m c) (hg c) b n y x z).symm
  · funext j
    obtain ⟨b, n, x, y, z, rfl⟩ : ∃ (b : Fin 4) (n : Fin 5) (x : Fin 64) (y : Fin 32) (z : Fin 128), j = ix5 b n x y z := ⟨_, _, _, _, _, eta5 j⟩
    refine (dv_at (exitV m c) b n x y z).trans ?_
    rw [arrsV_exit]
    exact (Cert.KernelIdeal.Own.Exact.dv_eq (arrsM m c) b n y x z).symm

end Cert.ReferenceIdeal.Value

namespace Cert.KernelIdeal.Own.Exact

open Idealize.ShloMosaic Idealize.ShloMosaic.TcCoe Idealize.SL.Sem
variable [Cert.KernelIdeal.Facts] [Cert.ReferenceIdeal.Facts] [Cert.Pre_in_range.Facts] [Cert.Pre_sorted_and_scaled.Facts]

/-- Every result of the kernel is the reference's. -/
theorem algebraic : Cert.algebraic_KernelIdeal_ReferenceIdeal_pre_sorted_and_scaled := by
  intro m g m' g' hp hag
  have hr : Own.InRange m := Own.inRange_of fun c j => rng_of' _ (hp c).1 j
  have hb := between_of m fun c b t ht => step_of _ (hp c).2.1 b t ht
  have ea : ∀ c, Cert.ReferenceIdeal.Value.arrsM m' c = arrs m c := fun c => by
    obtain ⟨h0, h1, h2, h3, h4, h5, h6, h7, h8, h9⟩ := hag c
    exact Cert.ReferenceIdeal.Value.mk_eq h0 h1 h2 h3 h4 h5 h6 h7 h8 h9
  refine ⟨fun c => gDq (arrs m c), fun c => gDk (arrs m c), fun c => gDv (arrs m c), run m g hr hb, ?_⟩
  refine (θ_run _ _ _).mono (fun r h c => ?_) (Cert.ReferenceIdeal.Value.run_eq m' g' (fun c b t => ?_) (fun c b n h => ?_))
  · have hc := h c
    rw [ea c] at hc
    exact hc
  · rw [ea c]; exact gscale_of (hp c).2.2.2 _
  · rw [ea c]; exact scale_of (hp c).2.2.1 _

end Cert.KernelIdeal.Own.Exact

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Frame
public import proofs.«01_k».proof.Proof.Gen.ReferenceIdeal.Run
public import proofs.«01_k».proof.Proof.Gen.Pre_in_range
public import proofs.«01_k».proof.Proof.Gen.Pre_sorted_and_scaled
public import proofs.«01_k».proof.Proof.KernelRange
public import proofs.«01_k».proof.Proof.KernelIdealRange
public import proofs.«01_k».proof.Proof.ValueMain

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_range.Gen.facts,
  Cert.Pre_sorted_and_scaled.Gen.facts,
  fun m ρ h => Cert.Kernel.Own.frame m ρ (Cert.Kernel.Own.inRange_of fun c => Cert.Kernel.Own.rng_of _ (h c)),
  fun m ρ h => Cert.KernelIdeal.Own.frame m ρ (Cert.KernelIdeal.Own.inRange_of fun c => Cert.KernelIdeal.Own.rng_of _ (h c)),
  fun m ρ h => Cert.KernelIdeal.Own.frame m ρ (Cert.KernelIdeal.Own.inRange_of fun c => Cert.KernelIdeal.Own.Exact.rng_of' _ (h c).1),
  fun m ρ _ => Cert.ReferenceIdeal.Gen.frame m ρ,
  fun m ρ _ => Cert.ReferenceIdeal.Gen.frame m ρ,
  ⟨IdealRules.named_const.statement Cert.KernelIdeal.κ "log2e" .f32 0x3FB8AA3B#32 _ rfl,
    IdealRules.named_const.statement Cert.KernelIdeal.κ "scale_log2e" .f32 0x3E0293EE#32 _ rfl⟩,
  Cert.KernelIdeal.Own.Exact.algebraic⟩

end Cert.Proof

end
